-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2 = (fun _ => 1#1)

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputRefIdeal (m : (ℓ : Loc Cert.InputRefIdeal.nD Cert.InputRefIdeal.τ Cert.InputRefIdeal.sig) → Buf (Elt Ideal) ℓ) : Prop :=
  True

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightRefIdeal (m : (ℓ : Loc Cert.InWeightRefIdeal.nD Cert.InWeightRefIdeal.τ Cert.InWeightRefIdeal.sig) → Buf (Elt Ideal) ℓ) : Prop :=
  True

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightRefIdeal (m : (ℓ : Loc Cert.DownWeightRefIdeal.nD Cert.DownWeightRefIdeal.τ Cert.DownWeightRefIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightRefIdeal (m : (ℓ : Loc Cert.OutWeightRefIdeal.nD Cert.OutWeightRefIdeal.τ Cert.OutWeightRefIdeal.sig) → Buf (Elt Ideal) ℓ) : Prop :=
  True

def Pre_OutInput (m : (ℓ : Loc Cert.OutInput.nD Cert.OutInput.τ Cert.OutInput.sig) → Buf (Elt Bits) ℓ) : Prop :=
  True

def Pre_OutInputIdeal (m : (ℓ : Loc Cert.OutInputIdeal.nD Cert.OutInputIdeal.τ Cert.OutInputIdeal.sig) → Buf (Elt Ideal) ℓ) : Prop :=
  True

def Pre_OutInputRefIdeal (m : (ℓ : Loc Cert.OutInputRefIdeal.nD Cert.OutInputRefIdeal.τ Cert.OutInputRefIdeal.sig) → Buf (Elt Ideal) ℓ) : Prop :=
  True

def Pre_MixInput (m : (ℓ : Loc Cert.MixInput.nD Cert.MixInput.τ Cert.MixInput.sig) → Buf (Elt Bits) ℓ) : Prop :=
  True

def Pre_MixInputIdeal (m : (ℓ : Loc Cert.MixInputIdeal.nD Cert.MixInputIdeal.τ Cert.MixInputIdeal.sig) → Buf (Elt Ideal) ℓ) : Prop :=
  True

def Pre_MixInputRefIdeal (m : (ℓ : Loc Cert.MixInputRefIdeal.nD Cert.MixInputRefIdeal.τ Cert.MixInputRefIdeal.sig) → Buf (Elt Ideal) ℓ) : Prop :=
  True

def Pre_ConvInput (m : (ℓ : Loc Cert.ConvInput.nD Cert.ConvInput.τ Cert.ConvInput.sig) → Buf (Elt Bits) ℓ) : Prop :=
  True

def Pre_ConvInputIdeal (m : (ℓ : Loc Cert.ConvInputIdeal.nD Cert.ConvInputIdeal.τ Cert.ConvInputIdeal.sig) → Buf (Elt Ideal) ℓ) : Prop :=
  True

def Pre_ConvInputRefIdeal (m : (ℓ : Loc Cert.ConvInputRefIdeal.nD Cert.ConvInputRefIdeal.τ Cert.ConvInputRefIdeal.sig) → Buf (Elt Ideal) ℓ) : Prop :=
  True

def Pre_ConvWeight (m : (ℓ : Loc Cert.ConvWeight.nD Cert.ConvWeight.τ Cert.ConvWeight.sig) → Buf (Elt Bits) ℓ) : Prop :=
  True

def Pre_ConvWeightIdeal (m : (ℓ : Loc Cert.ConvWeightIdeal.nD Cert.ConvWeightIdeal.τ Cert.ConvWeightIdeal.sig) → Buf (Elt Ideal) ℓ) : Prop :=
  True

def Pre_ConvWeightRefIdeal (m : (ℓ : Loc Cert.ConvWeightRefIdeal.nD Cert.ConvWeightRefIdeal.τ Cert.ConvWeightRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_NormBack (m : (ℓ : Loc Cert.NormBack.nD Cert.NormBack.τ Cert.NormBack.sig) → Buf (Elt Bits) ℓ) : Prop :=
  True

def Pre_NormBackIdeal (m : (ℓ : Loc Cert.NormBackIdeal.nD Cert.NormBackIdeal.τ Cert.NormBackIdeal.sig) → Buf (Elt Ideal) ℓ) : Prop :=
  True

def Pre_NormBackIdeal_norm_finite [hPre_norm_finite : Cert.Pre_norm_finite.Facts] (m : (ℓ : Loc Cert.NormBackIdeal.nD Cert.NormBackIdeal.τ Cert.NormBackIdeal.sig) → Buf (Elt Ideal) ℓ) : Prop :=
  ∀ c : Dev Cert.NormBackIdeal.nD,
    (Cert.Pre_norm_finite.fn (F := Ideal) (m ((c.tc : Thread Cert.NormBackIdeal.nD Cert.NormBackIdeal.τ).loc Cert.NormBackIdeal.main_arg0)) (m ((c.tc : Thread Cert.NormBackIdeal.nD Cert.NormBackIdeal.τ).loc Cert.NormBackIdeal.main_arg1)) (m ((c.tc : Thread Cert.NormBackIdeal.nD Cert.NormBackIdeal.τ).loc Cert.NormBackIdeal.main_arg2)) (m ((c.tc : Thread Cert.NormBackIdeal.nD Cert.NormBackIdeal.τ).loc Cert.NormBackIdeal.main_arg3)) (m ((c.tc : Thread Cert.NormBackIdeal.nD Cert.NormBackIdeal.τ).loc Cert.NormBackIdeal.main_arg4)) (m ((c.tc : Thread Cert.NormBackIdeal.nD Cert.NormBackIdeal.τ).loc Cert.NormBackIdeal.main_arg5)) (m ((c.tc : Thread Cert.NormBackIdeal.nD Cert.NormBackIdeal.τ).loc Cert.NormBackIdeal.main_arg6))).1 = (fun _ => 1#1)
    ∧ (Cert.Pre_norm_finite.fn (F := Ideal) (m ((c.tc : Thread Cert.NormBackIdeal.nD Cert.NormBackIdeal.τ).loc Cert.NormBackIdeal.main_arg0)) (m ((c.tc : Thread Cert.NormBackIdeal.nD Cert.NormBackIdeal.τ).loc Cert.NormBackIdeal.main_arg1)) (m ((c.tc : Thread Cert.NormBackIdeal.nD Cert.NormBackIdeal.τ).loc Cert.NormBackIdeal.main_arg2)) (m ((c.tc : Thread Cert.NormBackIdeal.nD Cert.NormBackIdeal.τ).loc Cert.NormBackIdeal.main_arg3)) (m ((c.tc : Thread Cert.NormBackIdeal.nD Cert.NormBackIdeal.τ).loc Cert.NormBackIdeal.main_arg4)) (m ((c.tc : Thread Cert.NormBackIdeal.nD Cert.NormBackIdeal.τ).loc Cert.NormBackIdeal.main_arg5)) (m ((c.tc : Thread Cert.NormBackIdeal.nD Cert.NormBackIdeal.τ).loc Cert.NormBackIdeal.main_arg6))).2.1 = (fun _ => 1#1)
    ∧ (Cert.Pre_norm_finite.fn (F := Ideal) (m ((c.tc : Thread Cert.NormBackIdeal.nD Cert.NormBackIdeal.τ).loc Cert.NormBackIdeal.main_arg0)) (m ((c.tc : Thread Cert.NormBackIdeal.nD Cert.NormBackIdeal.τ).loc Cert.NormBackIdeal.main_arg1)) (m ((c.tc : Thread Cert.NormBackIdeal.nD Cert.NormBackIdeal.τ).loc Cert.NormBackIdeal.main_arg2)) (m ((c.tc : Thread Cert.NormBackIdeal.nD Cert.NormBackIdeal.τ).loc Cert.NormBackIdeal.main_arg3)) (m ((c.tc : Thread Cert.NormBackIdeal.nD Cert.NormBackIdeal.τ).loc Cert.NormBackIdeal.main_arg4)) (m ((c.tc : Thread Cert.NormBackIdeal.nD Cert.NormBackIdeal.τ).loc Cert.NormBackIdeal.main_arg5)) (m ((c.tc : Thread Cert.NormBackIdeal.nD Cert.NormBackIdeal.τ).loc Cert.NormBackIdeal.main_arg6))).2.2 = (fun _ => 1#1)

def Pre_NormBackRefIdeal (m : (ℓ : Loc Cert.NormBackRefIdeal.nD Cert.NormBackRefIdeal.τ Cert.NormBackRefIdeal.sig) → Buf (Elt Ideal) ℓ) : Prop :=
  True

def Pre_NormBackRefIdeal_norm_finite [hPre_norm_finite : Cert.Pre_norm_finite.Facts] (m : (ℓ : Loc Cert.NormBackRefIdeal.nD Cert.NormBackRefIdeal.τ Cert.NormBackRefIdeal.sig) → Buf (Elt Ideal) ℓ) : Prop :=
  ∀ c : Dev Cert.NormBackRefIdeal.nD,
    (Cert.Pre_norm_finite.fn (F := Ideal) (m ((c.tc : Thread Cert.NormBackRefIdeal.nD Cert.NormBackRefIdeal.τ).loc Cert.NormBackRefIdeal.main_arg0)) (m ((c.tc : Thread Cert.NormBackRefIdeal.nD Cert.NormBackRefIdeal.τ).loc Cert.NormBackRefIdeal.main_arg1)) (m ((c.tc : Thread Cert.NormBackRefIdeal.nD Cert.NormBackRefIdeal.τ).loc Cert.NormBackRefIdeal.main_arg2)) (m ((c.tc : Thread Cert.NormBackRefIdeal.nD Cert.NormBackRefIdeal.τ).loc Cert.NormBackRefIdeal.main_arg3)) (m ((c.tc : Thread Cert.NormBackRefIdeal.nD Cert.NormBackRefIdeal.τ).loc Cert.NormBackRefIdeal.main_arg4)) (m ((c.tc : Thread Cert.NormBackRefIdeal.nD Cert.NormBackRefIdeal.τ).loc Cert.NormBackRefIdeal.main_arg5)) (m ((c.tc : Thread Cert.NormBackRefIdeal.nD Cert.NormBackRefIdeal.τ).loc Cert.NormBackRefIdeal.main_arg6))).1 = (fun _ => 1#1)
    ∧ (Cert.Pre_norm_finite.fn (F := Ideal) (m ((c.tc : Thread Cert.NormBackRefIdeal.nD Cert.NormBackRefIdeal.τ).loc Cert.NormBackRefIdeal.main_arg0)) (m ((c.tc : Thread Cert.NormBackRefIdeal.nD Cert.NormBackRefIdeal.τ).loc Cert.NormBackRefIdeal.main_arg1)) (m ((c.tc : Thread Cert.NormBackRefIdeal.nD Cert.NormBackRefIdeal.τ).loc Cert.NormBackRefIdeal.main_arg2)) (m ((c.tc : Thread Cert.NormBackRefIdeal.nD Cert.NormBackRefIdeal.τ).loc Cert.NormBackRefIdeal.main_arg3)) (m ((c.tc : Thread Cert.NormBackRefIdeal.nD Cert.NormBackRefIdeal.τ).loc Cert.NormBackRefIdeal.main_arg4)) (m ((c.tc : Thread Cert.NormBackRefIdeal.nD Cert.NormBackRefIdeal.τ).loc Cert.NormBackRefIdeal.main_arg5)) (m ((c.tc : Thread Cert.NormBackRefIdeal.nD Cert.NormBackRefIdeal.τ).loc Cert.NormBackRefIdeal.main_arg6))).2.1 = (fun _ => 1#1)
    ∧ (Cert.Pre_norm_finite.fn (F := Ideal) (m ((c.tc : Thread Cert.NormBackRefIdeal.nD Cert.NormBackRefIdeal.τ).loc Cert.NormBackRefIdeal.main_arg0)) (m ((c.tc : Thread Cert.NormBackRefIdeal.nD Cert.NormBackRefIdeal.τ).loc Cert.NormBackRefIdeal.main_arg1)) (m ((c.tc : Thread Cert.NormBackRefIdeal.nD Cert.NormBackRefIdeal.τ).loc Cert.NormBackRefIdeal.main_arg2)) (m ((c.tc : Thread Cert.NormBackRefIdeal.nD Cert.NormBackRefIdeal.τ).loc Cert.NormBackRefIdeal.main_arg3)) (m ((c.tc : Thread Cert.NormBackRefIdeal.nD Cert.NormBackRefIdeal.τ).loc Cert.NormBackRefIdeal.main_arg4)) (m ((c.tc : Thread Cert.NormBackRefIdeal.nD Cert.NormBackRefIdeal.τ).loc Cert.NormBackRefIdeal.main_arg5)) (m ((c.tc : Thread Cert.NormBackRefIdeal.nD Cert.NormBackRefIdeal.τ).loc Cert.NormBackRefIdeal.main_arg6))).2.2 = (fun _ => 1#1)

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_SpatialBack (m : (ℓ : Loc Cert.SpatialBack.nD Cert.SpatialBack.τ Cert.SpatialBack.sig) → Buf (Elt Bits) ℓ) : Prop :=
  True

def Pre_SpatialBackIdeal (m : (ℓ : Loc Cert.SpatialBackIdeal.nD Cert.SpatialBackIdeal.τ Cert.SpatialBackIdeal.sig) → Buf (Elt Ideal) ℓ) : Prop :=
  True

def Pre_SpatialBackIdeal_spatial_finite [hPre_spatial_finite : Cert.Pre_spatial_finite.Facts] (m : (ℓ : Loc Cert.SpatialBackIdeal.nD Cert.SpatialBackIdeal.τ Cert.SpatialBackIdeal.sig) → Buf (Elt Ideal) ℓ) : Prop :=
  ∀ c : Dev Cert.SpatialBackIdeal.nD,
    (Cert.Pre_spatial_finite.fn (F := Ideal) (m ((c.tc : Thread Cert.SpatialBackIdeal.nD Cert.SpatialBackIdeal.τ).loc Cert.SpatialBackIdeal.main_arg0)) (m ((c.tc : Thread Cert.SpatialBackIdeal.nD Cert.SpatialBackIdeal.τ).loc Cert.SpatialBackIdeal.main_arg1)) (m ((c.tc : Thread Cert.SpatialBackIdeal.nD Cert.SpatialBackIdeal.τ).loc Cert.SpatialBackIdeal.main_arg2)) (m ((c.tc : Thread Cert.SpatialBackIdeal.nD Cert.SpatialBackIdeal.τ).loc Cert.SpatialBackIdeal.main_arg3))).1 = (fun _ => 1#1)
    ∧ (Cert.Pre_spatial_finite.fn (F := Ideal) (m ((c.tc : Thread Cert.SpatialBackIdeal.nD Cert.SpatialBackIdeal.τ).loc Cert.SpatialBackIdeal.main_arg0)) (m ((c.tc : Thread Cert.SpatialBackIdeal.nD Cert.SpatialBackIdeal.τ).loc Cert.SpatialBackIdeal.main_arg1)) (m ((c.tc : Thread Cert.SpatialBackIdeal.nD Cert.SpatialBackIdeal.τ).loc Cert.SpatialBackIdeal.main_arg2)) (m ((c.tc : Thread Cert.SpatialBackIdeal.nD Cert.SpatialBackIdeal.τ).loc Cert.SpatialBackIdeal.main_arg3))).2.1 = (fun _ => 1#1)
    ∧ (Cert.Pre_spatial_finite.fn (F := Ideal) (m ((c.tc : Thread Cert.SpatialBackIdeal.nD Cert.SpatialBackIdeal.τ).loc Cert.SpatialBackIdeal.main_arg0)) (m ((c.tc : Thread Cert.SpatialBackIdeal.nD Cert.SpatialBackIdeal.τ).loc Cert.SpatialBackIdeal.main_arg1)) (m ((c.tc : Thread Cert.SpatialBackIdeal.nD Cert.SpatialBackIdeal.τ).loc Cert.SpatialBackIdeal.main_arg2)) (m ((c.tc : Thread Cert.SpatialBackIdeal.nD Cert.SpatialBackIdeal.τ).loc Cert.SpatialBackIdeal.main_arg3))).2.2.1 = (fun _ => 1#1)
    ∧ (Cert.Pre_spatial_finite.fn (F := Ideal) (m ((c.tc : Thread Cert.SpatialBackIdeal.nD Cert.SpatialBackIdeal.τ).loc Cert.SpatialBackIdeal.main_arg0)) (m ((c.tc : Thread Cert.SpatialBackIdeal.nD Cert.SpatialBackIdeal.τ).loc Cert.SpatialBackIdeal.main_arg1)) (m ((c.tc : Thread Cert.SpatialBackIdeal.nD Cert.SpatialBackIdeal.τ).loc Cert.SpatialBackIdeal.main_arg2)) (m ((c.tc : Thread Cert.SpatialBackIdeal.nD Cert.SpatialBackIdeal.τ).loc Cert.SpatialBackIdeal.main_arg3))).2.2.2 = (fun _ => 1#1)

def Pre_SpatialBackRefIdeal (m : (ℓ : Loc Cert.SpatialBackRefIdeal.nD Cert.SpatialBackRefIdeal.τ Cert.SpatialBackRefIdeal.sig) → Buf (Elt Ideal) ℓ) : Prop :=
  True

def Pre_SpatialBackRefIdeal_spatial_finite [hPre_spatial_finite : Cert.Pre_spatial_finite.Facts] (m : (ℓ : Loc Cert.SpatialBackRefIdeal.nD Cert.SpatialBackRefIdeal.τ Cert.SpatialBackRefIdeal.sig) → Buf (Elt Ideal) ℓ) : Prop :=
  ∀ c : Dev Cert.SpatialBackRefIdeal.nD,
    (Cert.Pre_spatial_finite.fn (F := Ideal) (m ((c.tc : Thread Cert.SpatialBackRefIdeal.nD Cert.SpatialBackRefIdeal.τ).loc Cert.SpatialBackRefIdeal.main_arg0)) (m ((c.tc : Thread Cert.SpatialBackRefIdeal.nD Cert.SpatialBackRefIdeal.τ).loc Cert.SpatialBackRefIdeal.main_arg1)) (m ((c.tc : Thread Cert.SpatialBackRefIdeal.nD Cert.SpatialBackRefIdeal.τ).loc Cert.SpatialBackRefIdeal.main_arg2)) (m ((c.tc : Thread Cert.SpatialBackRefIdeal.nD Cert.SpatialBackRefIdeal.τ).loc Cert.SpatialBackRefIdeal.main_arg3))).1 = (fun _ => 1#1)
    ∧ (Cert.Pre_spatial_finite.fn (F := Ideal) (m ((c.tc : Thread Cert.SpatialBackRefIdeal.nD Cert.SpatialBackRefIdeal.τ).loc Cert.SpatialBackRefIdeal.main_arg0)) (m ((c.tc : Thread Cert.SpatialBackRefIdeal.nD Cert.SpatialBackRefIdeal.τ).loc Cert.SpatialBackRefIdeal.main_arg1)) (m ((c.tc : Thread Cert.SpatialBackRefIdeal.nD Cert.SpatialBackRefIdeal.τ).loc Cert.SpatialBackRefIdeal.main_arg2)) (m ((c.tc : Thread Cert.SpatialBackRefIdeal.nD Cert.SpatialBackRefIdeal.τ).loc Cert.SpatialBackRefIdeal.main_arg3))).2.1 = (fun _ => 1#1)
    ∧ (Cert.Pre_spatial_finite.fn (F := Ideal) (m ((c.tc : Thread Cert.SpatialBackRefIdeal.nD Cert.SpatialBackRefIdeal.τ).loc Cert.SpatialBackRefIdeal.main_arg0)) (m ((c.tc : Thread Cert.SpatialBackRefIdeal.nD Cert.SpatialBackRefIdeal.τ).loc Cert.SpatialBackRefIdeal.main_arg1)) (m ((c.tc : Thread Cert.SpatialBackRefIdeal.nD Cert.SpatialBackRefIdeal.τ).loc Cert.SpatialBackRefIdeal.main_arg2)) (m ((c.tc : Thread Cert.SpatialBackRefIdeal.nD Cert.SpatialBackRefIdeal.τ).loc Cert.SpatialBackRefIdeal.main_arg3))).2.2.1 = (fun _ => 1#1)
    ∧ (Cert.Pre_spatial_finite.fn (F := Ideal) (m ((c.tc : Thread Cert.SpatialBackRefIdeal.nD Cert.SpatialBackRefIdeal.τ).loc Cert.SpatialBackRefIdeal.main_arg0)) (m ((c.tc : Thread Cert.SpatialBackRefIdeal.nD Cert.SpatialBackRefIdeal.τ).loc Cert.SpatialBackRefIdeal.main_arg1)) (m ((c.tc : Thread Cert.SpatialBackRefIdeal.nD Cert.SpatialBackRefIdeal.τ).loc Cert.SpatialBackRefIdeal.main_arg2)) (m ((c.tc : Thread Cert.SpatialBackRefIdeal.nD Cert.SpatialBackRefIdeal.τ).loc Cert.SpatialBackRefIdeal.main_arg3))).2.2.2 = (fun _ => 1#1)

def Pre_Spatial (m : (ℓ : Loc Cert.Spatial.nD Cert.Spatial.τ Cert.Spatial.sig) → Buf (Elt Bits) ℓ) : Prop :=
  True

def Pre_SpatialIdeal (m : (ℓ : Loc Cert.SpatialIdeal.nD Cert.SpatialIdeal.τ Cert.SpatialIdeal.sig) → Buf (Elt Ideal) ℓ) : Prop :=
  True

def Pre_SpatialRefIdeal (m : (ℓ : Loc Cert.SpatialRefIdeal.nD Cert.SpatialRefIdeal.τ Cert.SpatialRefIdeal.sig) → Buf (Elt Ideal) ℓ) : Prop :=
  True

def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvRefIdeal (m : (ℓ : Loc Cert.ShortConvRefIdeal.nD Cert.ShortConvRefIdeal.τ Cert.ShortConvRefIdeal.sig) → Buf (Elt Ideal) ℓ) : Prop :=
  True

def Pre_NormFirst (m : (ℓ : Loc Cert.NormFirst.nD Cert.NormFirst.τ Cert.NormFirst.sig) → Buf (Elt Bits) ℓ) : Prop :=
  True

def Pre_NormFirstIdeal (m : (ℓ : Loc Cert.NormFirstIdeal.nD Cert.NormFirstIdeal.τ Cert.NormFirstIdeal.sig) → Buf (Elt Ideal) ℓ) : Prop :=
  True

def Pre_NormFirstIdeal_norm_first_finite [hPre_norm_first_finite : Cert.Pre_norm_first_finite.Facts] (m : (ℓ : Loc Cert.NormFirstIdeal.nD Cert.NormFirstIdeal.τ Cert.NormFirstIdeal.sig) → Buf (Elt Ideal) ℓ) : Prop :=
  ∀ c : Dev Cert.NormFirstIdeal.nD,
    (Cert.Pre_norm_first_finite.fn (F := Ideal) (m ((c.tc : Thread Cert.NormFirstIdeal.nD Cert.NormFirstIdeal.τ).loc Cert.NormFirstIdeal.main_arg0)) (m ((c.tc : Thread Cert.NormFirstIdeal.nD Cert.NormFirstIdeal.τ).loc Cert.NormFirstIdeal.main_arg1)) (m ((c.tc : Thread Cert.NormFirstIdeal.nD Cert.NormFirstIdeal.τ).loc Cert.NormFirstIdeal.main_arg2)) (m ((c.tc : Thread Cert.NormFirstIdeal.nD Cert.NormFirstIdeal.τ).loc Cert.NormFirstIdeal.main_arg3)) (m ((c.tc : Thread Cert.NormFirstIdeal.nD Cert.NormFirstIdeal.τ).loc Cert.NormFirstIdeal.main_arg4))).1 = (fun _ => 1#1)
    ∧ (Cert.Pre_norm_first_finite.fn (F := Ideal) (m ((c.tc : Thread Cert.NormFirstIdeal.nD Cert.NormFirstIdeal.τ).loc Cert.NormFirstIdeal.main_arg0)) (m ((c.tc : Thread Cert.NormFirstIdeal.nD Cert.NormFirstIdeal.τ).loc Cert.NormFirstIdeal.main_arg1)) (m ((c.tc : Thread Cert.NormFirstIdeal.nD Cert.NormFirstIdeal.τ).loc Cert.NormFirstIdeal.main_arg2)) (m ((c.tc : Thread Cert.NormFirstIdeal.nD Cert.NormFirstIdeal.τ).loc Cert.NormFirstIdeal.main_arg3)) (m ((c.tc : Thread Cert.NormFirstIdeal.nD Cert.NormFirstIdeal.τ).loc Cert.NormFirstIdeal.main_arg4))).2.1 = (fun _ => 1#1)
    ∧ (Cert.Pre_norm_first_finite.fn (F := Ideal) (m ((c.tc : Thread Cert.NormFirstIdeal.nD Cert.NormFirstIdeal.τ).loc Cert.NormFirstIdeal.main_arg0)) (m ((c.tc : Thread Cert.NormFirstIdeal.nD Cert.NormFirstIdeal.τ).loc Cert.NormFirstIdeal.main_arg1)) (m ((c.tc : Thread Cert.NormFirstIdeal.nD Cert.NormFirstIdeal.τ).loc Cert.NormFirstIdeal.main_arg2)) (m ((c.tc : Thread Cert.NormFirstIdeal.nD Cert.NormFirstIdeal.τ).loc Cert.NormFirstIdeal.main_arg3)) (m ((c.tc : Thread Cert.NormFirstIdeal.nD Cert.NormFirstIdeal.τ).loc Cert.NormFirstIdeal.main_arg4))).2.2 = (fun _ => 1#1)

def Pre_NormFirstRefIdeal (m : (ℓ : Loc Cert.NormFirstRefIdeal.nD Cert.NormFirstRefIdeal.τ Cert.NormFirstRefIdeal.sig) → Buf (Elt Ideal) ℓ) : Prop :=
  True

def Pre_NormFirstRefIdeal_norm_first_finite [hPre_norm_first_finite : Cert.Pre_norm_first_finite.Facts] (m : (ℓ : Loc Cert.NormFirstRefIdeal.nD Cert.NormFirstRefIdeal.τ Cert.NormFirstRefIdeal.sig) → Buf (Elt Ideal) ℓ) : Prop :=
  ∀ c : Dev Cert.NormFirstRefIdeal.nD,
    (Cert.Pre_norm_first_finite.fn (F := Ideal) (m ((c.tc : Thread Cert.NormFirstRefIdeal.nD Cert.NormFirstRefIdeal.τ).loc Cert.NormFirstRefIdeal.main_arg0)) (m ((c.tc : Thread Cert.NormFirstRefIdeal.nD Cert.NormFirstRefIdeal.τ).loc Cert.NormFirstRefIdeal.main_arg1)) (m ((c.tc : Thread Cert.NormFirstRefIdeal.nD Cert.NormFirstRefIdeal.τ).loc Cert.NormFirstRefIdeal.main_arg2)) (m ((c.tc : Thread Cert.NormFirstRefIdeal.nD Cert.NormFirstRefIdeal.τ).loc Cert.NormFirstRefIdeal.main_arg3)) (m ((c.tc : Thread Cert.NormFirstRefIdeal.nD Cert.NormFirstRefIdeal.τ).loc Cert.NormFirstRefIdeal.main_arg4))).1 = (fun _ => 1#1)
    ∧ (Cert.Pre_norm_first_finite.fn (F := Ideal) (m ((c.tc : Thread Cert.NormFirstRefIdeal.nD Cert.NormFirstRefIdeal.τ).loc Cert.NormFirstRefIdeal.main_arg0)) (m ((c.tc : Thread Cert.NormFirstRefIdeal.nD Cert.NormFirstRefIdeal.τ).loc Cert.NormFirstRefIdeal.main_arg1)) (m ((c.tc : Thread Cert.NormFirstRefIdeal.nD Cert.NormFirstRefIdeal.τ).loc Cert.NormFirstRefIdeal.main_arg2)) (m ((c.tc : Thread Cert.NormFirstRefIdeal.nD Cert.NormFirstRefIdeal.τ).loc Cert.NormFirstRefIdeal.main_arg3)) (m ((c.tc : Thread Cert.NormFirstRefIdeal.nD Cert.NormFirstRefIdeal.τ).loc Cert.NormFirstRefIdeal.main_arg4))).2.1 = (fun _ => 1#1)
    ∧ (Cert.Pre_norm_first_finite.fn (F := Ideal) (m ((c.tc : Thread Cert.NormFirstRefIdeal.nD Cert.NormFirstRefIdeal.τ).loc Cert.NormFirstRefIdeal.main_arg0)) (m ((c.tc : Thread Cert.NormFirstRefIdeal.nD Cert.NormFirstRefIdeal.τ).loc Cert.NormFirstRefIdeal.main_arg1)) (m ((c.tc : Thread Cert.NormFirstRefIdeal.nD Cert.NormFirstRefIdeal.τ).loc Cert.NormFirstRefIdeal.main_arg2)) (m ((c.tc : Thread Cert.NormFirstRefIdeal.nD Cert.NormFirstRefIdeal.τ).loc Cert.NormFirstRefIdeal.main_arg3)) (m ((c.tc : Thread Cert.NormFirstRefIdeal.nD Cert.NormFirstRefIdeal.τ).loc Cert.NormFirstRefIdeal.main_arg4))).2.2 = (fun _ => 1#1)

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3)
      ∧ r.2.mem ((c.tc : Thread Cert.Input.nD Cert.Input.τ).loc Cert.Input.main_arg4) = m ((c.tc : Thread Cert.Input.nD Cert.Input.τ).loc Cert.Input.main_arg4))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ r.2.sem = fun _ => 0)

def quiescent_InputRefIdeal [hInputRefIdeal : Cert.InputRefIdeal.Facts] : Prop :=
  ∀ (m : (ℓ : Loc Cert.InputRefIdeal.nD Cert.InputRefIdeal.τ Cert.InputRefIdeal.sig) → Buf (Elt Ideal) ℓ) (g : Dev Cert.InputRefIdeal.nD → PrngReg), Pre_InputRefIdeal m →
    θ_run (Cert.InputRefIdeal.defs (F := Ideal)) (onTc (τ := Cert.InputRefIdeal.τ) (Cert.InputRefIdeal.main (F := Ideal))) ⟨m, fun _ => 0, g⟩ (fun r => (∀ c : Dev Cert.InputRefIdeal.nD,
      r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1)
      ∧ r.2.mem ((c.tc : Thread Cert.InputRefIdeal.nD Cert.InputRefIdeal.τ).loc Cert.InputRefIdeal.main_arg2) = m ((c.tc : Thread Cert.InputRefIdeal.nD Cert.InputRefIdeal.τ).loc Cert.InputRefIdeal.main_arg2)
      ∧ r.2.mem ((c.tc : Thread Cert.InputRefIdeal.nD Cert.InputRefIdeal.τ).loc Cert.InputRefIdeal.main_arg3) = m ((c.tc : Thread Cert.InputRefIdeal.nD Cert.InputRefIdeal.τ).loc Cert.InputRefIdeal.main_arg3)
      ∧ r.2.mem ((c.tc : Thread Cert.InputRefIdeal.nD Cert.InputRefIdeal.τ).loc Cert.InputRefIdeal.main_arg4) = m ((c.tc : Thread Cert.InputRefIdeal.nD Cert.InputRefIdeal.τ).loc Cert.InputRefIdeal.main_arg4))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ r.2.sem = fun _ => 0)

def quiescent_InWeightRefIdeal [hInWeightRefIdeal : Cert.InWeightRefIdeal.Facts] : Prop :=
  ∀ (m : (ℓ : Loc Cert.InWeightRefIdeal.nD Cert.InWeightRefIdeal.τ Cert.InWeightRefIdeal.sig) → Buf (Elt Ideal) ℓ) (g : Dev Cert.InWeightRefIdeal.nD → PrngReg), Pre_InWeightRefIdeal m →
    θ_run (Cert.InWeightRefIdeal.defs (F := Ideal)) (onTc (τ := Cert.InWeightRefIdeal.τ) (Cert.InWeightRefIdeal.main (F := Ideal))) ⟨m, fun _ => 0, g⟩ (fun r => (∀ c : Dev Cert.InWeightRefIdeal.nD,
      r.2.mem ((c.tc : Thread Cert.InWeightRefIdeal.nD Cert.InWeightRefIdeal.τ).loc Cert.InWeightRefIdeal.main_arg0) = m ((c.tc : Thread Cert.InWeightRefIdeal.nD Cert.InWeightRefIdeal.τ).loc Cert.InWeightRefIdeal.main_arg0)
      ∧ r.2.mem ((c.tc : Thread Cert.InWeightRefIdeal.nD Cert.InWeightRefIdeal.τ).loc Cert.InWeightRefIdeal.main_arg1) = m ((c.tc : Thread Cert.InWeightRefIdeal.nD Cert.InWeightRefIdeal.τ).loc Cert.InWeightRefIdeal.main_arg1))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ r.2.sem = fun _ => 0)

def quiescent_DownWeightRefIdeal [hDownWeightRefIdeal : Cert.DownWeightRefIdeal.Facts] : Prop :=
  ∀ (m : (ℓ : Loc Cert.DownWeightRefIdeal.nD Cert.DownWeightRefIdeal.τ Cert.DownWeightRefIdeal.sig) → Buf (Elt Ideal) ℓ) (g : Dev Cert.DownWeightRefIdeal.nD → PrngReg), Pre_DownWeightRefIdeal m →
    θ_run (Cert.DownWeightRefIdeal.defs (F := Ideal)) (onTc (τ := Cert.DownWeightRefIdeal.τ) (Cert.DownWeightRefIdeal.main (F := Ideal))) ⟨m, fun _ => 0, g⟩ (fun r => (∀ c : Dev Cert.DownWeightRefIdeal.nD,
      r.2.mem ((c.tc : Thread Cert.DownWeightRefIdeal.nD Cert.DownWeightRefIdeal.τ).loc Cert.DownWeightRefIdeal.main_arg0) = m ((c.tc : Thread Cert.DownWeightRefIdeal.nD Cert.DownWeightRefIdeal.τ).loc Cert.DownWeightRefIdeal.main_arg0)
      ∧ r.2.mem ((c.tc : Thread Cert.DownWeightRefIdeal.nD Cert.DownWeightRefIdeal.τ).loc Cert.DownWeightRefIdeal.main_arg1) = m ((c.tc : Thread Cert.DownWeightRefIdeal.nD Cert.DownWeightRefIdeal.τ).loc Cert.DownWeightRefIdeal.main_arg1))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightRefIdeal [hOutWeightRefIdeal : Cert.OutWeightRefIdeal.Facts] : Prop :=
  ∀ (m : (ℓ : Loc Cert.OutWeightRefIdeal.nD Cert.OutWeightRefIdeal.τ Cert.OutWeightRefIdeal.sig) → Buf (Elt Ideal) ℓ) (g : Dev Cert.OutWeightRefIdeal.nD → PrngReg), Pre_OutWeightRefIdeal m →
    θ_run (Cert.OutWeightRefIdeal.defs (F := Ideal)) (onTc (τ := Cert.OutWeightRefIdeal.τ) (Cert.OutWeightRefIdeal.main (F := Ideal))) ⟨m, fun _ => 0, g⟩ (fun r => (∀ c : Dev Cert.OutWeightRefIdeal.nD,
      r.2.mem ((c.tc : Thread Cert.OutWeightRefIdeal.nD Cert.OutWeightRefIdeal.τ).loc Cert.OutWeightRefIdeal.main_arg0) = m ((c.tc : Thread Cert.OutWeightRefIdeal.nD Cert.OutWeightRefIdeal.τ).loc Cert.OutWeightRefIdeal.main_arg0)
      ∧ r.2.mem ((c.tc : Thread Cert.OutWeightRefIdeal.nD Cert.OutWeightRefIdeal.τ).loc Cert.OutWeightRefIdeal.main_arg1) = m ((c.tc : Thread Cert.OutWeightRefIdeal.nD Cert.OutWeightRefIdeal.τ).loc Cert.OutWeightRefIdeal.main_arg1))
      ∧ r.2.sem = fun _ => 0)

def quiescent_OutInput [hOutInput : Cert.OutInput.Facts] : Prop :=
  ∀ (m : (ℓ : Loc Cert.OutInput.nD Cert.OutInput.τ Cert.OutInput.sig) → Buf (Elt Bits) ℓ) (g : Dev Cert.OutInput.nD → PrngReg), Pre_OutInput m →
    θ_run (Cert.OutInput.defs (F := Bits)) (onTc (τ := Cert.OutInput.τ) (Cert.OutInput.main (F := Bits))) ⟨m, fun _ => 0, g⟩ (fun r => (∀ c : Dev Cert.OutInput.nD,
      r.2.mem ((c.tc : Thread Cert.OutInput.nD Cert.OutInput.τ).loc Cert.OutInput.main_arg0) = m ((c.tc : Thread Cert.OutInput.nD Cert.OutInput.τ).loc Cert.OutInput.main_arg0)
      ∧ r.2.mem ((c.tc : Thread Cert.OutInput.nD Cert.OutInput.τ).loc Cert.OutInput.main_arg1) = m ((c.tc : Thread Cert.OutInput.nD Cert.OutInput.τ).loc Cert.OutInput.main_arg1))
      ∧ r.2.sem = fun _ => 0)

def quiescent_OutInputIdeal [hOutInputIdeal : Cert.OutInputIdeal.Facts] : Prop :=
  ∀ (m : (ℓ : Loc Cert.OutInputIdeal.nD Cert.OutInputIdeal.τ Cert.OutInputIdeal.sig) → Buf (Elt Ideal) ℓ) (g : Dev Cert.OutInputIdeal.nD → PrngReg), Pre_OutInputIdeal m →
    θ_run (Cert.OutInputIdeal.defs (F := Ideal)) (onTc (τ := Cert.OutInputIdeal.τ) (Cert.OutInputIdeal.main (F := Ideal))) ⟨m, fun _ => 0, g⟩ (fun r => (∀ c : Dev Cert.OutInputIdeal.nD,
      r.2.mem ((c.tc : Thread Cert.OutInputIdeal.nD Cert.OutInputIdeal.τ).loc Cert.OutInputIdeal.main_arg0) = m ((c.tc : Thread Cert.OutInputIdeal.nD Cert.OutInputIdeal.τ).loc Cert.OutInputIdeal.main_arg0)
      ∧ r.2.mem ((c.tc : Thread Cert.OutInputIdeal.nD Cert.OutInputIdeal.τ).loc Cert.OutInputIdeal.main_arg1) = m ((c.tc : Thread Cert.OutInputIdeal.nD Cert.OutInputIdeal.τ).loc Cert.OutInputIdeal.main_arg1))
      ∧ r.2.sem = fun _ => 0)

def quiescent_OutInputRefIdeal [hOutInputRefIdeal : Cert.OutInputRefIdeal.Facts] : Prop :=
  ∀ (m : (ℓ : Loc Cert.OutInputRefIdeal.nD Cert.OutInputRefIdeal.τ Cert.OutInputRefIdeal.sig) → Buf (Elt Ideal) ℓ) (g : Dev Cert.OutInputRefIdeal.nD → PrngReg), Pre_OutInputRefIdeal m →
    θ_run (Cert.OutInputRefIdeal.defs (F := Ideal)) (onTc (τ := Cert.OutInputRefIdeal.τ) (Cert.OutInputRefIdeal.main (F := Ideal))) ⟨m, fun _ => 0, g⟩ (fun r => (∀ c : Dev Cert.OutInputRefIdeal.nD,
      r.2.mem ((c.tc : Thread Cert.OutInputRefIdeal.nD Cert.OutInputRefIdeal.τ).loc Cert.OutInputRefIdeal.main_arg0) = m ((c.tc : Thread Cert.OutInputRefIdeal.nD Cert.OutInputRefIdeal.τ).loc Cert.OutInputRefIdeal.main_arg0)
      ∧ r.2.mem ((c.tc : Thread Cert.OutInputRefIdeal.nD Cert.OutInputRefIdeal.τ).loc Cert.OutInputRefIdeal.main_arg1) = m ((c.tc : Thread Cert.OutInputRefIdeal.nD Cert.OutInputRefIdeal.τ).loc Cert.OutInputRefIdeal.main_arg1))
      ∧ r.2.sem = fun _ => 0)

def quiescent_MixInput [hMixInput : Cert.MixInput.Facts] : Prop :=
  ∀ (m : (ℓ : Loc Cert.MixInput.nD Cert.MixInput.τ Cert.MixInput.sig) → Buf (Elt Bits) ℓ) (g : Dev Cert.MixInput.nD → PrngReg), Pre_MixInput m →
    θ_run (Cert.MixInput.defs (F := Bits)) (onTc (τ := Cert.MixInput.τ) (Cert.MixInput.main (F := Bits))) ⟨m, fun _ => 0, g⟩ (fun r => (∀ c : Dev Cert.MixInput.nD,
      r.2.mem ((c.tc : Thread Cert.MixInput.nD Cert.MixInput.τ).loc Cert.MixInput.main_arg0) = m ((c.tc : Thread Cert.MixInput.nD Cert.MixInput.τ).loc Cert.MixInput.main_arg0)
      ∧ r.2.mem ((c.tc : Thread Cert.MixInput.nD Cert.MixInput.τ).loc Cert.MixInput.main_arg1) = m ((c.tc : Thread Cert.MixInput.nD Cert.MixInput.τ).loc Cert.MixInput.main_arg1))
      ∧ r.2.sem = fun _ => 0)

def quiescent_MixInputIdeal [hMixInputIdeal : Cert.MixInputIdeal.Facts] : Prop :=
  ∀ (m : (ℓ : Loc Cert.MixInputIdeal.nD Cert.MixInputIdeal.τ Cert.MixInputIdeal.sig) → Buf (Elt Ideal) ℓ) (g : Dev Cert.MixInputIdeal.nD → PrngReg), Pre_MixInputIdeal m →
    θ_run (Cert.MixInputIdeal.defs (F := Ideal)) (onTc (τ := Cert.MixInputIdeal.τ) (Cert.MixInputIdeal.main (F := Ideal))) ⟨m, fun _ => 0, g⟩ (fun r => (∀ c : Dev Cert.MixInputIdeal.nD,
      r.2.mem ((c.tc : Thread Cert.MixInputIdeal.nD Cert.MixInputIdeal.τ).loc Cert.MixInputIdeal.main_arg0) = m ((c.tc : Thread Cert.MixInputIdeal.nD Cert.MixInputIdeal.τ).loc Cert.MixInputIdeal.main_arg0)
      ∧ r.2.mem ((c.tc : Thread Cert.MixInputIdeal.nD Cert.MixInputIdeal.τ).loc Cert.MixInputIdeal.main_arg1) = m ((c.tc : Thread Cert.MixInputIdeal.nD Cert.MixInputIdeal.τ).loc Cert.MixInputIdeal.main_arg1))
      ∧ r.2.sem = fun _ => 0)

def quiescent_MixInputRefIdeal [hMixInputRefIdeal : Cert.MixInputRefIdeal.Facts] : Prop :=
  ∀ (m : (ℓ : Loc Cert.MixInputRefIdeal.nD Cert.MixInputRefIdeal.τ Cert.MixInputRefIdeal.sig) → Buf (Elt Ideal) ℓ) (g : Dev Cert.MixInputRefIdeal.nD → PrngReg), Pre_MixInputRefIdeal m →
    θ_run (Cert.MixInputRefIdeal.defs (F := Ideal)) (onTc (τ := Cert.MixInputRefIdeal.τ) (Cert.MixInputRefIdeal.main (F := Ideal))) ⟨m, fun _ => 0, g⟩ (fun r => (∀ c : Dev Cert.MixInputRefIdeal.nD,
      r.2.mem ((c.tc : Thread Cert.MixInputRefIdeal.nD Cert.MixInputRefIdeal.τ).loc Cert.MixInputRefIdeal.main_arg0) = m ((c.tc : Thread Cert.MixInputRefIdeal.nD Cert.MixInputRefIdeal.τ).loc Cert.MixInputRefIdeal.main_arg0)
      ∧ r.2.mem ((c.tc : Thread Cert.MixInputRefIdeal.nD Cert.MixInputRefIdeal.τ).loc Cert.MixInputRefIdeal.main_arg1) = m ((c.tc : Thread Cert.MixInputRefIdeal.nD Cert.MixInputRefIdeal.τ).loc Cert.MixInputRefIdeal.main_arg1))
      ∧ r.2.sem = fun _ => 0)

def quiescent_ConvInput [hConvInput : Cert.ConvInput.Facts] : Prop :=
  ∀ (m : (ℓ : Loc Cert.ConvInput.nD Cert.ConvInput.τ Cert.ConvInput.sig) → Buf (Elt Bits) ℓ) (g : Dev Cert.ConvInput.nD → PrngReg), Pre_ConvInput m →
    θ_run (Cert.ConvInput.defs (F := Bits)) (onTc (τ := Cert.ConvInput.τ) (Cert.ConvInput.main (F := Bits))) ⟨m, fun _ => 0, g⟩ (fun r => (∀ c : Dev Cert.ConvInput.nD,
      r.2.mem ((c.tc : Thread Cert.ConvInput.nD Cert.ConvInput.τ).loc Cert.ConvInput.main_arg0) = m ((c.tc : Thread Cert.ConvInput.nD Cert.ConvInput.τ).loc Cert.ConvInput.main_arg0)
      ∧ r.2.mem ((c.tc : Thread Cert.ConvInput.nD Cert.ConvInput.τ).loc Cert.ConvInput.main_arg1) = m ((c.tc : Thread Cert.ConvInput.nD Cert.ConvInput.τ).loc Cert.ConvInput.main_arg1))
      ∧ r.2.sem = fun _ => 0)

def quiescent_ConvInputIdeal [hConvInputIdeal : Cert.ConvInputIdeal.Facts] : Prop :=
  ∀ (m : (ℓ : Loc Cert.ConvInputIdeal.nD Cert.ConvInputIdeal.τ Cert.ConvInputIdeal.sig) → Buf (Elt Ideal) ℓ) (g : Dev Cert.ConvInputIdeal.nD → PrngReg), Pre_ConvInputIdeal m →
    θ_run (Cert.ConvInputIdeal.defs (F := Ideal)) (onTc (τ := Cert.ConvInputIdeal.τ) (Cert.ConvInputIdeal.main (F := Ideal))) ⟨m, fun _ => 0, g⟩ (fun r => (∀ c : Dev Cert.ConvInputIdeal.nD,
      r.2.mem ((c.tc : Thread Cert.ConvInputIdeal.nD Cert.ConvInputIdeal.τ).loc Cert.ConvInputIdeal.main_arg0) = m ((c.tc : Thread Cert.ConvInputIdeal.nD Cert.ConvInputIdeal.τ).loc Cert.ConvInputIdeal.main_arg0)
      ∧ r.2.mem ((c.tc : Thread Cert.ConvInputIdeal.nD Cert.ConvInputIdeal.τ).loc Cert.ConvInputIdeal.main_arg1) = m ((c.tc : Thread Cert.ConvInputIdeal.nD Cert.ConvInputIdeal.τ).loc Cert.ConvInputIdeal.main_arg1))
      ∧ r.2.sem = fun _ => 0)

def quiescent_ConvInputRefIdeal [hConvInputRefIdeal : Cert.ConvInputRefIdeal.Facts] : Prop :=
  ∀ (m : (ℓ : Loc Cert.ConvInputRefIdeal.nD Cert.ConvInputRefIdeal.τ Cert.ConvInputRefIdeal.sig) → Buf (Elt Ideal) ℓ) (g : Dev Cert.ConvInputRefIdeal.nD → PrngReg), Pre_ConvInputRefIdeal m →
    θ_run (Cert.ConvInputRefIdeal.defs (F := Ideal)) (onTc (τ := Cert.ConvInputRefIdeal.τ) (Cert.ConvInputRefIdeal.main (F := Ideal))) ⟨m, fun _ => 0, g⟩ (fun r => (∀ c : Dev Cert.ConvInputRefIdeal.nD,
      r.2.mem ((c.tc : Thread Cert.ConvInputRefIdeal.nD Cert.ConvInputRefIdeal.τ).loc Cert.ConvInputRefIdeal.main_arg0) = m ((c.tc : Thread Cert.ConvInputRefIdeal.nD Cert.ConvInputRefIdeal.τ).loc Cert.ConvInputRefIdeal.main_arg0)
      ∧ r.2.mem ((c.tc : Thread Cert.ConvInputRefIdeal.nD Cert.ConvInputRefIdeal.τ).loc Cert.ConvInputRefIdeal.main_arg1) = m ((c.tc : Thread Cert.ConvInputRefIdeal.nD Cert.ConvInputRefIdeal.τ).loc Cert.ConvInputRefIdeal.main_arg1))
      ∧ r.2.sem = fun _ => 0)

def quiescent_ConvWeight [hConvWeight : Cert.ConvWeight.Facts] : Prop :=
  ∀ (m : (ℓ : Loc Cert.ConvWeight.nD Cert.ConvWeight.τ Cert.ConvWeight.sig) → Buf (Elt Bits) ℓ) (g : Dev Cert.ConvWeight.nD → PrngReg), Pre_ConvWeight m →
    θ_run (Cert.ConvWeight.defs (F := Bits)) (onTc (τ := Cert.ConvWeight.τ) (Cert.ConvWeight.main (F := Bits))) ⟨m, fun _ => 0, g⟩ (fun r => (∀ c : Dev Cert.ConvWeight.nD,
      r.2.mem ((c.tc : Thread Cert.ConvWeight.nD Cert.ConvWeight.τ).loc Cert.ConvWeight.main_arg0) = m ((c.tc : Thread Cert.ConvWeight.nD Cert.ConvWeight.τ).loc Cert.ConvWeight.main_arg0)
      ∧ r.2.mem ((c.tc : Thread Cert.ConvWeight.nD Cert.ConvWeight.τ).loc Cert.ConvWeight.main_arg1) = m ((c.tc : Thread Cert.ConvWeight.nD Cert.ConvWeight.τ).loc Cert.ConvWeight.main_arg1))
      ∧ r.2.sem = fun _ => 0)

def quiescent_ConvWeightIdeal [hConvWeightIdeal : Cert.ConvWeightIdeal.Facts] : Prop :=
  ∀ (m : (ℓ : Loc Cert.ConvWeightIdeal.nD Cert.ConvWeightIdeal.τ Cert.ConvWeightIdeal.sig) → Buf (Elt Ideal) ℓ) (g : Dev Cert.ConvWeightIdeal.nD → PrngReg), Pre_ConvWeightIdeal m →
    θ_run (Cert.ConvWeightIdeal.defs (F := Ideal)) (onTc (τ := Cert.ConvWeightIdeal.τ) (Cert.ConvWeightIdeal.main (F := Ideal))) ⟨m, fun _ => 0, g⟩ (fun r => (∀ c : Dev Cert.ConvWeightIdeal.nD,
      r.2.mem ((c.tc : Thread Cert.ConvWeightIdeal.nD Cert.ConvWeightIdeal.τ).loc Cert.ConvWeightIdeal.main_arg0) = m ((c.tc : Thread Cert.ConvWeightIdeal.nD Cert.ConvWeightIdeal.τ).loc Cert.ConvWeightIdeal.main_arg0)
      ∧ r.2.mem ((c.tc : Thread Cert.ConvWeightIdeal.nD Cert.ConvWeightIdeal.τ).loc Cert.ConvWeightIdeal.main_arg1) = m ((c.tc : Thread Cert.ConvWeightIdeal.nD Cert.ConvWeightIdeal.τ).loc Cert.ConvWeightIdeal.main_arg1))
      ∧ r.2.sem = fun _ => 0)

def quiescent_ConvWeightRefIdeal [hConvWeightRefIdeal : Cert.ConvWeightRefIdeal.Facts] : Prop :=
  ∀ (m : (ℓ : Loc Cert.ConvWeightRefIdeal.nD Cert.ConvWeightRefIdeal.τ Cert.ConvWeightRefIdeal.sig) → Buf (Elt Ideal) ℓ) (g : Dev Cert.ConvWeightRefIdeal.nD → PrngReg), Pre_ConvWeightRefIdeal m →
    θ_run (Cert.ConvWeightRefIdeal.defs (F := Ideal)) (onTc (τ := Cert.ConvWeightRefIdeal.τ) (Cert.ConvWeightRefIdeal.main (F := Ideal))) ⟨m, fun _ => 0, g⟩ (fun r => (∀ c : Dev Cert.ConvWeightRefIdeal.nD,
      r.2.mem ((c.tc : Thread Cert.ConvWeightRefIdeal.nD Cert.ConvWeightRefIdeal.τ).loc Cert.ConvWeightRefIdeal.main_arg0) = m ((c.tc : Thread Cert.ConvWeightRefIdeal.nD Cert.ConvWeightRefIdeal.τ).loc Cert.ConvWeightRefIdeal.main_arg0)
      ∧ r.2.mem ((c.tc : Thread Cert.ConvWeightRefIdeal.nD Cert.ConvWeightRefIdeal.τ).loc Cert.ConvWeightRefIdeal.main_arg1) = m ((c.tc : Thread Cert.ConvWeightRefIdeal.nD Cert.ConvWeightRefIdeal.τ).loc Cert.ConvWeightRefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6))
      ∧ r.2.sem = fun _ => 0)

def quiescent_NormBack [hNormBack : Cert.NormBack.Facts] : Prop :=
  ∀ (m : (ℓ : Loc Cert.NormBack.nD Cert.NormBack.τ Cert.NormBack.sig) → Buf (Elt Bits) ℓ) (g : Dev Cert.NormBack.nD → PrngReg), Pre_NormBack m →
    θ_run (Cert.NormBack.defs (F := Bits)) (onTc (τ := Cert.NormBack.τ) (Cert.NormBack.main (F := Bits))) ⟨m, fun _ => 0, g⟩ (fun r => (∀ c : Dev Cert.NormBack.nD,
      r.2.mem ((c.tc : Thread Cert.NormBack.nD Cert.NormBack.τ).loc Cert.NormBack.main_arg0) = m ((c.tc : Thread Cert.NormBack.nD Cert.NormBack.τ).loc Cert.NormBack.main_arg0)
      ∧ r.2.mem ((c.tc : Thread Cert.NormBack.nD Cert.NormBack.τ).loc Cert.NormBack.main_arg1) = m ((c.tc : Thread Cert.NormBack.nD Cert.NormBack.τ).loc Cert.NormBack.main_arg1)
      ∧ r.2.mem ((c.tc : Thread Cert.NormBack.nD Cert.NormBack.τ).loc Cert.NormBack.main_arg2) = m ((c.tc : Thread Cert.NormBack.nD Cert.NormBack.τ).loc Cert.NormBack.main_arg2)
      ∧ r.2.mem ((c.tc : Thread Cert.NormBack.nD Cert.NormBack.τ).loc Cert.NormBack.main_arg3) = m ((c.tc : Thread Cert.NormBack.nD Cert.NormBack.τ).loc Cert.NormBack.main_arg3)
      ∧ r.2.mem ((c.tc : Thread Cert.NormBack.nD Cert.NormBack.τ).loc Cert.NormBack.main_arg4) = m ((c.tc : Thread Cert.NormBack.nD Cert.NormBack.τ).loc Cert.NormBack.main_arg4)
      ∧ r.2.mem ((c.tc : Thread Cert.NormBack.nD Cert.NormBack.τ).loc Cert.NormBack.main_arg5) = m ((c.tc : Thread Cert.NormBack.nD Cert.NormBack.τ).loc Cert.NormBack.main_arg5)
      ∧ r.2.mem ((c.tc : Thread Cert.NormBack.nD Cert.NormBack.τ).loc Cert.NormBack.main_arg6) = m ((c.tc : Thread Cert.NormBack.nD Cert.NormBack.τ).loc Cert.NormBack.main_arg6))
      ∧ r.2.sem = fun _ => 0)

def quiescent_NormBackIdeal [hNormBackIdeal : Cert.NormBackIdeal.Facts] : Prop :=
  ∀ (m : (ℓ : Loc Cert.NormBackIdeal.nD Cert.NormBackIdeal.τ Cert.NormBackIdeal.sig) → Buf (Elt Ideal) ℓ) (g : Dev Cert.NormBackIdeal.nD → PrngReg), Pre_NormBackIdeal m →
    θ_run (Cert.NormBackIdeal.defs (F := Ideal)) (onTc (τ := Cert.NormBackIdeal.τ) (Cert.NormBackIdeal.main (F := Ideal))) ⟨m, fun _ => 0, g⟩ (fun r => (∀ c : Dev Cert.NormBackIdeal.nD,
      r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
      ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
      ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
      ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3)
      ∧ r.2.mem ((c.tc : Thread Cert.NormBackIdeal.nD Cert.NormBackIdeal.τ).loc Cert.NormBackIdeal.main_arg4) = m ((c.tc : Thread Cert.NormBackIdeal.nD Cert.NormBackIdeal.τ).loc Cert.NormBackIdeal.main_arg4)
      ∧ r.2.mem ((c.tc : Thread Cert.NormBackIdeal.nD Cert.NormBackIdeal.τ).loc Cert.NormBackIdeal.main_arg5) = m ((c.tc : Thread Cert.NormBackIdeal.nD Cert.NormBackIdeal.τ).loc Cert.NormBackIdeal.main_arg5)
      ∧ r.2.mem ((c.tc : Thread Cert.NormBackIdeal.nD Cert.NormBackIdeal.τ).loc Cert.NormBackIdeal.main_arg6) = m ((c.tc : Thread Cert.NormBackIdeal.nD Cert.NormBackIdeal.τ).loc Cert.NormBackIdeal.main_arg6))
      ∧ r.2.sem = fun _ => 0)

def quiescent_NormBackIdeal_pre_norm_finite [hNormBackIdeal : Cert.NormBackIdeal.Facts] [hPre_norm_finite : Cert.Pre_norm_finite.Facts] : Prop :=
  ∀ (m : (ℓ : Loc Cert.NormBackIdeal.nD Cert.NormBackIdeal.τ Cert.NormBackIdeal.sig) → Buf (Elt Ideal) ℓ) (g : Dev Cert.NormBackIdeal.nD → PrngReg), Pre_NormBackIdeal_norm_finite m →
    θ_run (Cert.NormBackIdeal.defs (F := Ideal)) (onTc (τ := Cert.NormBackIdeal.τ) (Cert.NormBackIdeal.main (F := Ideal))) ⟨m, fun _ => 0, g⟩ (fun r => (∀ c : Dev Cert.NormBackIdeal.nD,
      r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
      ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
      ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
      ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3)
      ∧ r.2.mem ((c.tc : Thread Cert.NormBackIdeal.nD Cert.NormBackIdeal.τ).loc Cert.NormBackIdeal.main_arg4) = m ((c.tc : Thread Cert.NormBackIdeal.nD Cert.NormBackIdeal.τ).loc Cert.NormBackIdeal.main_arg4)
      ∧ r.2.mem ((c.tc : Thread Cert.NormBackIdeal.nD Cert.NormBackIdeal.τ).loc Cert.NormBackIdeal.main_arg5) = m ((c.tc : Thread Cert.NormBackIdeal.nD Cert.NormBackIdeal.τ).loc Cert.NormBackIdeal.main_arg5)
      ∧ r.2.mem ((c.tc : Thread Cert.NormBackIdeal.nD Cert.NormBackIdeal.τ).loc Cert.NormBackIdeal.main_arg6) = m ((c.tc : Thread Cert.NormBackIdeal.nD Cert.NormBackIdeal.τ).loc Cert.NormBackIdeal.main_arg6))
      ∧ r.2.sem = fun _ => 0)

def quiescent_NormBackRefIdeal [hNormBackRefIdeal : Cert.NormBackRefIdeal.Facts] : Prop :=
  ∀ (m : (ℓ : Loc Cert.NormBackRefIdeal.nD Cert.NormBackRefIdeal.τ Cert.NormBackRefIdeal.sig) → Buf (Elt Ideal) ℓ) (g : Dev Cert.NormBackRefIdeal.nD → PrngReg), Pre_NormBackRefIdeal m →
    θ_run (Cert.NormBackRefIdeal.defs (F := Ideal)) (onTc (τ := Cert.NormBackRefIdeal.τ) (Cert.NormBackRefIdeal.main (F := Ideal))) ⟨m, fun _ => 0, g⟩ (fun r => (∀ c : Dev Cert.NormBackRefIdeal.nD,
      r.2.mem ((c.tc : Thread Cert.NormBackRefIdeal.nD Cert.NormBackRefIdeal.τ).loc Cert.NormBackRefIdeal.main_arg0) = m ((c.tc : Thread Cert.NormBackRefIdeal.nD Cert.NormBackRefIdeal.τ).loc Cert.NormBackRefIdeal.main_arg0)
      ∧ r.2.mem ((c.tc : Thread Cert.NormBackRefIdeal.nD Cert.NormBackRefIdeal.τ).loc Cert.NormBackRefIdeal.main_arg1) = m ((c.tc : Thread Cert.NormBackRefIdeal.nD Cert.NormBackRefIdeal.τ).loc Cert.NormBackRefIdeal.main_arg1)
      ∧ r.2.mem ((c.tc : Thread Cert.NormBackRefIdeal.nD Cert.NormBackRefIdeal.τ).loc Cert.NormBackRefIdeal.main_arg2) = m ((c.tc : Thread Cert.NormBackRefIdeal.nD Cert.NormBackRefIdeal.τ).loc Cert.NormBackRefIdeal.main_arg2)
      ∧ r.2.mem ((c.tc : Thread Cert.NormBackRefIdeal.nD Cert.NormBackRefIdeal.τ).loc Cert.NormBackRefIdeal.main_arg3) = m ((c.tc : Thread Cert.NormBackRefIdeal.nD Cert.NormBackRefIdeal.τ).loc Cert.NormBackRefIdeal.main_arg3)
      ∧ r.2.mem ((c.tc : Thread Cert.NormBackRefIdeal.nD Cert.NormBackRefIdeal.τ).loc Cert.NormBackRefIdeal.main_arg4) = m ((c.tc : Thread Cert.NormBackRefIdeal.nD Cert.NormBackRefIdeal.τ).loc Cert.NormBackRefIdeal.main_arg4)
      ∧ r.2.mem ((c.tc : Thread Cert.NormBackRefIdeal.nD Cert.NormBackRefIdeal.τ).loc Cert.NormBackRefIdeal.main_arg5) = m ((c.tc : Thread Cert.NormBackRefIdeal.nD Cert.NormBackRefIdeal.τ).loc Cert.NormBackRefIdeal.main_arg5)
      ∧ r.2.mem ((c.tc : Thread Cert.NormBackRefIdeal.nD Cert.NormBackRefIdeal.τ).loc Cert.NormBackRefIdeal.main_arg6) = m ((c.tc : Thread Cert.NormBackRefIdeal.nD Cert.NormBackRefIdeal.τ).loc Cert.NormBackRefIdeal.main_arg6))
      ∧ r.2.sem = fun _ => 0)

def quiescent_NormBackRefIdeal_pre_norm_finite [hNormBackRefIdeal : Cert.NormBackRefIdeal.Facts] [hPre_norm_finite : Cert.Pre_norm_finite.Facts] : Prop :=
  ∀ (m : (ℓ : Loc Cert.NormBackRefIdeal.nD Cert.NormBackRefIdeal.τ Cert.NormBackRefIdeal.sig) → Buf (Elt Ideal) ℓ) (g : Dev Cert.NormBackRefIdeal.nD → PrngReg), Pre_NormBackRefIdeal_norm_finite m →
    θ_run (Cert.NormBackRefIdeal.defs (F := Ideal)) (onTc (τ := Cert.NormBackRefIdeal.τ) (Cert.NormBackRefIdeal.main (F := Ideal))) ⟨m, fun _ => 0, g⟩ (fun r => (∀ c : Dev Cert.NormBackRefIdeal.nD,
      r.2.mem ((c.tc : Thread Cert.NormBackRefIdeal.nD Cert.NormBackRefIdeal.τ).loc Cert.NormBackRefIdeal.main_arg0) = m ((c.tc : Thread Cert.NormBackRefIdeal.nD Cert.NormBackRefIdeal.τ).loc Cert.NormBackRefIdeal.main_arg0)
      ∧ r.2.mem ((c.tc : Thread Cert.NormBackRefIdeal.nD Cert.NormBackRefIdeal.τ).loc Cert.NormBackRefIdeal.main_arg1) = m ((c.tc : Thread Cert.NormBackRefIdeal.nD Cert.NormBackRefIdeal.τ).loc Cert.NormBackRefIdeal.main_arg1)
      ∧ r.2.mem ((c.tc : Thread Cert.NormBackRefIdeal.nD Cert.NormBackRefIdeal.τ).loc Cert.NormBackRefIdeal.main_arg2) = m ((c.tc : Thread Cert.NormBackRefIdeal.nD Cert.NormBackRefIdeal.τ).loc Cert.NormBackRefIdeal.main_arg2)
      ∧ r.2.mem ((c.tc : Thread Cert.NormBackRefIdeal.nD Cert.NormBackRefIdeal.τ).loc Cert.NormBackRefIdeal.main_arg3) = m ((c.tc : Thread Cert.NormBackRefIdeal.nD Cert.NormBackRefIdeal.τ).loc Cert.NormBackRefIdeal.main_arg3)
      ∧ r.2.mem ((c.tc : Thread Cert.NormBackRefIdeal.nD Cert.NormBackRefIdeal.τ).loc Cert.NormBackRefIdeal.main_arg4) = m ((c.tc : Thread Cert.NormBackRefIdeal.nD Cert.NormBackRefIdeal.τ).loc Cert.NormBackRefIdeal.main_arg4)
      ∧ r.2.mem ((c.tc : Thread Cert.NormBackRefIdeal.nD Cert.NormBackRefIdeal.τ).loc Cert.NormBackRefIdeal.main_arg5) = m ((c.tc : Thread Cert.NormBackRefIdeal.nD Cert.NormBackRefIdeal.τ).loc Cert.NormBackRefIdeal.main_arg5)
      ∧ r.2.mem ((c.tc : Thread Cert.NormBackRefIdeal.nD Cert.NormBackRefIdeal.τ).loc Cert.NormBackRefIdeal.main_arg6) = m ((c.tc : Thread Cert.NormBackRefIdeal.nD Cert.NormBackRefIdeal.τ).loc Cert.NormBackRefIdeal.main_arg6))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3))
      ∧ r.2.sem = fun _ => 0)

def quiescent_SpatialBack [hSpatialBack : Cert.SpatialBack.Facts] : Prop :=
  ∀ (m : (ℓ : Loc Cert.SpatialBack.nD Cert.SpatialBack.τ Cert.SpatialBack.sig) → Buf (Elt Bits) ℓ) (g : Dev Cert.SpatialBack.nD → PrngReg), Pre_SpatialBack m →
    θ_run (Cert.SpatialBack.defs (F := Bits)) (onTc (τ := Cert.SpatialBack.τ) (Cert.SpatialBack.main (F := Bits))) ⟨m, fun _ => 0, g⟩ (fun r => (∀ c : Dev Cert.SpatialBack.nD,
      r.2.mem ((c.tc : Thread Cert.SpatialBack.nD Cert.SpatialBack.τ).loc Cert.SpatialBack.main_arg0) = m ((c.tc : Thread Cert.SpatialBack.nD Cert.SpatialBack.τ).loc Cert.SpatialBack.main_arg0)
      ∧ r.2.mem ((c.tc : Thread Cert.SpatialBack.nD Cert.SpatialBack.τ).loc Cert.SpatialBack.main_arg1) = m ((c.tc : Thread Cert.SpatialBack.nD Cert.SpatialBack.τ).loc Cert.SpatialBack.main_arg1)
      ∧ r.2.mem ((c.tc : Thread Cert.SpatialBack.nD Cert.SpatialBack.τ).loc Cert.SpatialBack.main_arg2) = m ((c.tc : Thread Cert.SpatialBack.nD Cert.SpatialBack.τ).loc Cert.SpatialBack.main_arg2)
      ∧ r.2.mem ((c.tc : Thread Cert.SpatialBack.nD Cert.SpatialBack.τ).loc Cert.SpatialBack.main_arg3) = m ((c.tc : Thread Cert.SpatialBack.nD Cert.SpatialBack.τ).loc Cert.SpatialBack.main_arg3))
      ∧ r.2.sem = fun _ => 0)

def quiescent_SpatialBackIdeal [hSpatialBackIdeal : Cert.SpatialBackIdeal.Facts] : Prop :=
  ∀ (m : (ℓ : Loc Cert.SpatialBackIdeal.nD Cert.SpatialBackIdeal.τ Cert.SpatialBackIdeal.sig) → Buf (Elt Ideal) ℓ) (g : Dev Cert.SpatialBackIdeal.nD → PrngReg), Pre_SpatialBackIdeal m →
    θ_run (Cert.SpatialBackIdeal.defs (F := Ideal)) (onTc (τ := Cert.SpatialBackIdeal.τ) (Cert.SpatialBackIdeal.main (F := Ideal))) ⟨m, fun _ => 0, g⟩ (fun r => (∀ c : Dev Cert.SpatialBackIdeal.nD,
      r.2.mem ((c.tc : Thread Cert.SpatialBackIdeal.nD Cert.SpatialBackIdeal.τ).loc Cert.SpatialBackIdeal.main_arg0) = m ((c.tc : Thread Cert.SpatialBackIdeal.nD Cert.SpatialBackIdeal.τ).loc Cert.SpatialBackIdeal.main_arg0)
      ∧ r.2.mem ((c.tc : Thread Cert.SpatialBackIdeal.nD Cert.SpatialBackIdeal.τ).loc Cert.SpatialBackIdeal.main_arg1) = m ((c.tc : Thread Cert.SpatialBackIdeal.nD Cert.SpatialBackIdeal.τ).loc Cert.SpatialBackIdeal.main_arg1)
      ∧ r.2.mem ((c.tc : Thread Cert.SpatialBackIdeal.nD Cert.SpatialBackIdeal.τ).loc Cert.SpatialBackIdeal.main_arg2) = m ((c.tc : Thread Cert.SpatialBackIdeal.nD Cert.SpatialBackIdeal.τ).loc Cert.SpatialBackIdeal.main_arg2)
      ∧ r.2.mem ((c.tc : Thread Cert.SpatialBackIdeal.nD Cert.SpatialBackIdeal.τ).loc Cert.SpatialBackIdeal.main_arg3) = m ((c.tc : Thread Cert.SpatialBackIdeal.nD Cert.SpatialBackIdeal.τ).loc Cert.SpatialBackIdeal.main_arg3))
      ∧ r.2.sem = fun _ => 0)

def quiescent_SpatialBackIdeal_pre_spatial_finite [hSpatialBackIdeal : Cert.SpatialBackIdeal.Facts] [hPre_spatial_finite : Cert.Pre_spatial_finite.Facts] : Prop :=
  ∀ (m : (ℓ : Loc Cert.SpatialBackIdeal.nD Cert.SpatialBackIdeal.τ Cert.SpatialBackIdeal.sig) → Buf (Elt Ideal) ℓ) (g : Dev Cert.SpatialBackIdeal.nD → PrngReg), Pre_SpatialBackIdeal_spatial_finite m →
    θ_run (Cert.SpatialBackIdeal.defs (F := Ideal)) (onTc (τ := Cert.SpatialBackIdeal.τ) (Cert.SpatialBackIdeal.main (F := Ideal))) ⟨m, fun _ => 0, g⟩ (fun r => (∀ c : Dev Cert.SpatialBackIdeal.nD,
      r.2.mem ((c.tc : Thread Cert.SpatialBackIdeal.nD Cert.SpatialBackIdeal.τ).loc Cert.SpatialBackIdeal.main_arg0) = m ((c.tc : Thread Cert.SpatialBackIdeal.nD Cert.SpatialBackIdeal.τ).loc Cert.SpatialBackIdeal.main_arg0)
      ∧ r.2.mem ((c.tc : Thread Cert.SpatialBackIdeal.nD Cert.SpatialBackIdeal.τ).loc Cert.SpatialBackIdeal.main_arg1) = m ((c.tc : Thread Cert.SpatialBackIdeal.nD Cert.SpatialBackIdeal.τ).loc Cert.SpatialBackIdeal.main_arg1)
      ∧ r.2.mem ((c.tc : Thread Cert.SpatialBackIdeal.nD Cert.SpatialBackIdeal.τ).loc Cert.SpatialBackIdeal.main_arg2) = m ((c.tc : Thread Cert.SpatialBackIdeal.nD Cert.SpatialBackIdeal.τ).loc Cert.SpatialBackIdeal.main_arg2)
      ∧ r.2.mem ((c.tc : Thread Cert.SpatialBackIdeal.nD Cert.SpatialBackIdeal.τ).loc Cert.SpatialBackIdeal.main_arg3) = m ((c.tc : Thread Cert.SpatialBackIdeal.nD Cert.SpatialBackIdeal.τ).loc Cert.SpatialBackIdeal.main_arg3))
      ∧ r.2.sem = fun _ => 0)

def quiescent_SpatialBackRefIdeal [hSpatialBackRefIdeal : Cert.SpatialBackRefIdeal.Facts] : Prop :=
  ∀ (m : (ℓ : Loc Cert.SpatialBackRefIdeal.nD Cert.SpatialBackRefIdeal.τ Cert.SpatialBackRefIdeal.sig) → Buf (Elt Ideal) ℓ) (g : Dev Cert.SpatialBackRefIdeal.nD → PrngReg), Pre_SpatialBackRefIdeal m →
    θ_run (Cert.SpatialBackRefIdeal.defs (F := Ideal)) (onTc (τ := Cert.SpatialBackRefIdeal.τ) (Cert.SpatialBackRefIdeal.main (F := Ideal))) ⟨m, fun _ => 0, g⟩ (fun r => (∀ c : Dev Cert.SpatialBackRefIdeal.nD,
      r.2.mem ((c.tc : Thread Cert.SpatialBackRefIdeal.nD Cert.SpatialBackRefIdeal.τ).loc Cert.SpatialBackRefIdeal.main_arg0) = m ((c.tc : Thread Cert.SpatialBackRefIdeal.nD Cert.SpatialBackRefIdeal.τ).loc Cert.SpatialBackRefIdeal.main_arg0)
      ∧ r.2.mem ((c.tc : Thread Cert.SpatialBackRefIdeal.nD Cert.SpatialBackRefIdeal.τ).loc Cert.SpatialBackRefIdeal.main_arg1) = m ((c.tc : Thread Cert.SpatialBackRefIdeal.nD Cert.SpatialBackRefIdeal.τ).loc Cert.SpatialBackRefIdeal.main_arg1)
      ∧ r.2.mem ((c.tc : Thread Cert.SpatialBackRefIdeal.nD Cert.SpatialBackRefIdeal.τ).loc Cert.SpatialBackRefIdeal.main_arg2) = m ((c.tc : Thread Cert.SpatialBackRefIdeal.nD Cert.SpatialBackRefIdeal.τ).loc Cert.SpatialBackRefIdeal.main_arg2)
      ∧ r.2.mem ((c.tc : Thread Cert.SpatialBackRefIdeal.nD Cert.SpatialBackRefIdeal.τ).loc Cert.SpatialBackRefIdeal.main_arg3) = m ((c.tc : Thread Cert.SpatialBackRefIdeal.nD Cert.SpatialBackRefIdeal.τ).loc Cert.SpatialBackRefIdeal.main_arg3))
      ∧ r.2.sem = fun _ => 0)

def quiescent_SpatialBackRefIdeal_pre_spatial_finite [hSpatialBackRefIdeal : Cert.SpatialBackRefIdeal.Facts] [hPre_spatial_finite : Cert.Pre_spatial_finite.Facts] : Prop :=
  ∀ (m : (ℓ : Loc Cert.SpatialBackRefIdeal.nD Cert.SpatialBackRefIdeal.τ Cert.SpatialBackRefIdeal.sig) → Buf (Elt Ideal) ℓ) (g : Dev Cert.SpatialBackRefIdeal.nD → PrngReg), Pre_SpatialBackRefIdeal_spatial_finite m →
    θ_run (Cert.SpatialBackRefIdeal.defs (F := Ideal)) (onTc (τ := Cert.SpatialBackRefIdeal.τ) (Cert.SpatialBackRefIdeal.main (F := Ideal))) ⟨m, fun _ => 0, g⟩ (fun r => (∀ c : Dev Cert.SpatialBackRefIdeal.nD,
      r.2.mem ((c.tc : Thread Cert.SpatialBackRefIdeal.nD Cert.SpatialBackRefIdeal.τ).loc Cert.SpatialBackRefIdeal.main_arg0) = m ((c.tc : Thread Cert.SpatialBackRefIdeal.nD Cert.SpatialBackRefIdeal.τ).loc Cert.SpatialBackRefIdeal.main_arg0)
      ∧ r.2.mem ((c.tc : Thread Cert.SpatialBackRefIdeal.nD Cert.SpatialBackRefIdeal.τ).loc Cert.SpatialBackRefIdeal.main_arg1) = m ((c.tc : Thread Cert.SpatialBackRefIdeal.nD Cert.SpatialBackRefIdeal.τ).loc Cert.SpatialBackRefIdeal.main_arg1)
      ∧ r.2.mem ((c.tc : Thread Cert.SpatialBackRefIdeal.nD Cert.SpatialBackRefIdeal.τ).loc Cert.SpatialBackRefIdeal.main_arg2) = m ((c.tc : Thread Cert.SpatialBackRefIdeal.nD Cert.SpatialBackRefIdeal.τ).loc Cert.SpatialBackRefIdeal.main_arg2)
      ∧ r.2.mem ((c.tc : Thread Cert.SpatialBackRefIdeal.nD Cert.SpatialBackRefIdeal.τ).loc Cert.SpatialBackRefIdeal.main_arg3) = m ((c.tc : Thread Cert.SpatialBackRefIdeal.nD Cert.SpatialBackRefIdeal.τ).loc Cert.SpatialBackRefIdeal.main_arg3))
      ∧ r.2.sem = fun _ => 0)

def quiescent_Spatial [hSpatial : Cert.Spatial.Facts] : Prop :=
  ∀ (m : (ℓ : Loc Cert.Spatial.nD Cert.Spatial.τ Cert.Spatial.sig) → Buf (Elt Bits) ℓ) (g : Dev Cert.Spatial.nD → PrngReg), Pre_Spatial m →
    θ_run (Cert.Spatial.defs (F := Bits)) (onTc (τ := Cert.Spatial.τ) (Cert.Spatial.main (F := Bits))) ⟨m, fun _ => 0, g⟩ (fun r => (∀ c : Dev Cert.Spatial.nD,
      r.2.mem ((c.tc : Thread Cert.Spatial.nD Cert.Spatial.τ).loc Cert.Spatial.main_arg0) = m ((c.tc : Thread Cert.Spatial.nD Cert.Spatial.τ).loc Cert.Spatial.main_arg0)
      ∧ r.2.mem ((c.tc : Thread Cert.Spatial.nD Cert.Spatial.τ).loc Cert.Spatial.main_arg1) = m ((c.tc : Thread Cert.Spatial.nD Cert.Spatial.τ).loc Cert.Spatial.main_arg1)
      ∧ r.2.mem ((c.tc : Thread Cert.Spatial.nD Cert.Spatial.τ).loc Cert.Spatial.main_arg2) = m ((c.tc : Thread Cert.Spatial.nD Cert.Spatial.τ).loc Cert.Spatial.main_arg2))
      ∧ r.2.sem = fun _ => 0)

def quiescent_SpatialIdeal [hSpatialIdeal : Cert.SpatialIdeal.Facts] : Prop :=
  ∀ (m : (ℓ : Loc Cert.SpatialIdeal.nD Cert.SpatialIdeal.τ Cert.SpatialIdeal.sig) → Buf (Elt Ideal) ℓ) (g : Dev Cert.SpatialIdeal.nD → PrngReg), Pre_SpatialIdeal m →
    θ_run (Cert.SpatialIdeal.defs (F := Ideal)) (onTc (τ := Cert.SpatialIdeal.τ) (Cert.SpatialIdeal.main (F := Ideal))) ⟨m, fun _ => 0, g⟩ (fun r => (∀ c : Dev Cert.SpatialIdeal.nD,
      r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
      ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
      ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2))
      ∧ r.2.sem = fun _ => 0)

def quiescent_SpatialRefIdeal [hSpatialRefIdeal : Cert.SpatialRefIdeal.Facts] : Prop :=
  ∀ (m : (ℓ : Loc Cert.SpatialRefIdeal.nD Cert.SpatialRefIdeal.τ Cert.SpatialRefIdeal.sig) → Buf (Elt Ideal) ℓ) (g : Dev Cert.SpatialRefIdeal.nD → PrngReg), Pre_SpatialRefIdeal m →
    θ_run (Cert.SpatialRefIdeal.defs (F := Ideal)) (onTc (τ := Cert.SpatialRefIdeal.τ) (Cert.SpatialRefIdeal.main (F := Ideal))) ⟨m, fun _ => 0, g⟩ (fun r => (∀ c : Dev Cert.SpatialRefIdeal.nD,
      r.2.mem ((c.tc : Thread Cert.SpatialRefIdeal.nD Cert.SpatialRefIdeal.τ).loc Cert.SpatialRefIdeal.main_arg0) = m ((c.tc : Thread Cert.SpatialRefIdeal.nD Cert.SpatialRefIdeal.τ).loc Cert.SpatialRefIdeal.main_arg0)
      ∧ r.2.mem ((c.tc : Thread Cert.SpatialRefIdeal.nD Cert.SpatialRefIdeal.τ).loc Cert.SpatialRefIdeal.main_arg1) = m ((c.tc : Thread Cert.SpatialRefIdeal.nD Cert.SpatialRefIdeal.τ).loc Cert.SpatialRefIdeal.main_arg1)
      ∧ r.2.mem ((c.tc : Thread Cert.SpatialRefIdeal.nD Cert.SpatialRefIdeal.τ).loc Cert.SpatialRefIdeal.main_arg2) = m ((c.tc : Thread Cert.SpatialRefIdeal.nD Cert.SpatialRefIdeal.τ).loc Cert.SpatialRefIdeal.main_arg2))
      ∧ r.2.sem = fun _ => 0)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1))
      ∧ r.2.sem = fun _ => 0)

def quiescent_ShortConvRefIdeal [hShortConvRefIdeal : Cert.ShortConvRefIdeal.Facts] : Prop :=
  ∀ (m : (ℓ : Loc Cert.ShortConvRefIdeal.nD Cert.ShortConvRefIdeal.τ Cert.ShortConvRefIdeal.sig) → Buf (Elt Ideal) ℓ) (g : Dev Cert.ShortConvRefIdeal.nD → PrngReg), Pre_ShortConvRefIdeal m →
    θ_run (Cert.ShortConvRefIdeal.defs (F := Ideal)) (onTc (τ := Cert.ShortConvRefIdeal.τ) (Cert.ShortConvRefIdeal.main (F := Ideal))) ⟨m, fun _ => 0, g⟩ (fun r => (∀ c : Dev Cert.ShortConvRefIdeal.nD,
      r.2.mem ((c.tc : Thread Cert.ShortConvRefIdeal.nD Cert.ShortConvRefIdeal.τ).loc Cert.ShortConvRefIdeal.main_arg0) = m ((c.tc : Thread Cert.ShortConvRefIdeal.nD Cert.ShortConvRefIdeal.τ).loc Cert.ShortConvRefIdeal.main_arg0)
      ∧ r.2.mem ((c.tc : Thread Cert.ShortConvRefIdeal.nD Cert.ShortConvRefIdeal.τ).loc Cert.ShortConvRefIdeal.main_arg1) = m ((c.tc : Thread Cert.ShortConvRefIdeal.nD Cert.ShortConvRefIdeal.τ).loc Cert.ShortConvRefIdeal.main_arg1))
      ∧ r.2.sem = fun _ => 0)

def quiescent_NormFirst [hNormFirst : Cert.NormFirst.Facts] : Prop :=
  ∀ (m : (ℓ : Loc Cert.NormFirst.nD Cert.NormFirst.τ Cert.NormFirst.sig) → Buf (Elt Bits) ℓ) (g : Dev Cert.NormFirst.nD → PrngReg), Pre_NormFirst m →
    θ_run (Cert.NormFirst.defs (F := Bits)) (onTc (τ := Cert.NormFirst.τ) (Cert.NormFirst.main (F := Bits))) ⟨m, fun _ => 0, g⟩ (fun r => (∀ c : Dev Cert.NormFirst.nD,
      r.2.mem ((c.tc : Thread Cert.NormFirst.nD Cert.NormFirst.τ).loc Cert.NormFirst.main_arg0) = m ((c.tc : Thread Cert.NormFirst.nD Cert.NormFirst.τ).loc Cert.NormFirst.main_arg0)
      ∧ r.2.mem ((c.tc : Thread Cert.NormFirst.nD Cert.NormFirst.τ).loc Cert.NormFirst.main_arg1) = m ((c.tc : Thread Cert.NormFirst.nD Cert.NormFirst.τ).loc Cert.NormFirst.main_arg1)
      ∧ r.2.mem ((c.tc : Thread Cert.NormFirst.nD Cert.NormFirst.τ).loc Cert.NormFirst.main_arg2) = m ((c.tc : Thread Cert.NormFirst.nD Cert.NormFirst.τ).loc Cert.NormFirst.main_arg2)
      ∧ r.2.mem ((c.tc : Thread Cert.NormFirst.nD Cert.NormFirst.τ).loc Cert.NormFirst.main_arg3) = m ((c.tc : Thread Cert.NormFirst.nD Cert.NormFirst.τ).loc Cert.NormFirst.main_arg3)
      ∧ r.2.mem ((c.tc : Thread Cert.NormFirst.nD Cert.NormFirst.τ).loc Cert.NormFirst.main_arg4) = m ((c.tc : Thread Cert.NormFirst.nD Cert.NormFirst.τ).loc Cert.NormFirst.main_arg4))
      ∧ r.2.sem = fun _ => 0)

def quiescent_NormFirstIdeal [hNormFirstIdeal : Cert.NormFirstIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg), Pre_NormFirstIdeal m →
    θ_run (Cert.NormFirstIdeal.defs (F := Ideal)) (onTc (τ := Cert.NormFirstIdeal.τ) (Cert.NormFirstIdeal.main (F := Ideal))) ⟨m, fun _ => 0, g⟩ (fun r => (∀ c : Dev Cert.NormFirstIdeal.nD,
      r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
      ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
      ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
      ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3)
      ∧ r.2.mem ((c.tc : Thread Cert.NormFirstIdeal.nD Cert.NormFirstIdeal.τ).loc Cert.NormFirstIdeal.main_arg4) = m ((c.tc : Thread Cert.NormFirstIdeal.nD Cert.NormFirstIdeal.τ).loc Cert.NormFirstIdeal.main_arg4))
      ∧ r.2.sem = fun _ => 0)

def quiescent_NormFirstIdeal_pre_norm_first_finite [hNormFirstIdeal : Cert.NormFirstIdeal.Facts] [hPre_norm_first_finite : Cert.Pre_norm_first_finite.Facts] : Prop :=
  ∀ (m : (ℓ : Loc Cert.NormFirstIdeal.nD Cert.NormFirstIdeal.τ Cert.NormFirstIdeal.sig) → Buf (Elt Ideal) ℓ) (g : Dev Cert.NormFirstIdeal.nD → PrngReg), Pre_NormFirstIdeal_norm_first_finite m →
    θ_run (Cert.NormFirstIdeal.defs (F := Ideal)) (onTc (τ := Cert.NormFirstIdeal.τ) (Cert.NormFirstIdeal.main (F := Ideal))) ⟨m, fun _ => 0, g⟩ (fun r => (∀ c : Dev Cert.NormFirstIdeal.nD,
      r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
      ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
      ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
      ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3)
      ∧ r.2.mem ((c.tc : Thread Cert.NormFirstIdeal.nD Cert.NormFirstIdeal.τ).loc Cert.NormFirstIdeal.main_arg4) = m ((c.tc : Thread Cert.NormFirstIdeal.nD Cert.NormFirstIdeal.τ).loc Cert.NormFirstIdeal.main_arg4))
      ∧ r.2.sem = fun _ => 0)

def quiescent_NormFirstRefIdeal [hNormFirstRefIdeal : Cert.NormFirstRefIdeal.Facts] : Prop :=
  ∀ (m : (ℓ : Loc Cert.NormFirstRefIdeal.nD Cert.NormFirstRefIdeal.τ Cert.NormFirstRefIdeal.sig) → Buf (Elt Ideal) ℓ) (g : Dev Cert.NormFirstRefIdeal.nD → PrngReg), Pre_NormFirstRefIdeal m →
    θ_run (Cert.NormFirstRefIdeal.defs (F := Ideal)) (onTc (τ := Cert.NormFirstRefIdeal.τ) (Cert.NormFirstRefIdeal.main (F := Ideal))) ⟨m, fun _ => 0, g⟩ (fun r => (∀ c : Dev Cert.NormFirstRefIdeal.nD,
      r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0)
      ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1)
      ∧ r.2.mem ((c.tc : Thread Cert.NormFirstRefIdeal.nD Cert.NormFirstRefIdeal.τ).loc Cert.NormFirstRefIdeal.main_arg2) = m ((c.tc : Thread Cert.NormFirstRefIdeal.nD Cert.NormFirstRefIdeal.τ).loc Cert.NormFirstRefIdeal.main_arg2)
      ∧ r.2.mem ((c.tc : Thread Cert.NormFirstRefIdeal.nD Cert.NormFirstRefIdeal.τ).loc Cert.NormFirstRefIdeal.main_arg3) = m ((c.tc : Thread Cert.NormFirstRefIdeal.nD Cert.NormFirstRefIdeal.τ).loc Cert.NormFirstRefIdeal.main_arg3)
      ∧ r.2.mem ((c.tc : Thread Cert.NormFirstRefIdeal.nD Cert.NormFirstRefIdeal.τ).loc Cert.NormFirstRefIdeal.main_arg4) = m ((c.tc : Thread Cert.NormFirstRefIdeal.nD Cert.NormFirstRefIdeal.τ).loc Cert.NormFirstRefIdeal.main_arg4))
      ∧ r.2.sem = fun _ => 0)

def quiescent_NormFirstRefIdeal_pre_norm_first_finite [hNormFirstRefIdeal : Cert.NormFirstRefIdeal.Facts] [hPre_norm_first_finite : Cert.Pre_norm_first_finite.Facts] : Prop :=
  ∀ (m : (ℓ : Loc Cert.NormFirstRefIdeal.nD Cert.NormFirstRefIdeal.τ Cert.NormFirstRefIdeal.sig) → Buf (Elt Ideal) ℓ) (g : Dev Cert.NormFirstRefIdeal.nD → PrngReg), Pre_NormFirstRefIdeal_norm_first_finite m →
    θ_run (Cert.NormFirstRefIdeal.defs (F := Ideal)) (onTc (τ := Cert.NormFirstRefIdeal.τ) (Cert.NormFirstRefIdeal.main (F := Ideal))) ⟨m, fun _ => 0, g⟩ (fun r => (∀ c : Dev Cert.NormFirstRefIdeal.nD,
      r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0)
      ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1)
      ∧ r.2.mem ((c.tc : Thread Cert.NormFirstRefIdeal.nD Cert.NormFirstRefIdeal.τ).loc Cert.NormFirstRefIdeal.main_arg2) = m ((c.tc : Thread Cert.NormFirstRefIdeal.nD Cert.NormFirstRefIdeal.τ).loc Cert.NormFirstRefIdeal.main_arg2)
      ∧ r.2.mem ((c.tc : Thread Cert.NormFirstRefIdeal.nD Cert.NormFirstRefIdeal.τ).loc Cert.NormFirstRefIdeal.main_arg3) = m ((c.tc : Thread Cert.NormFirstRefIdeal.nD Cert.NormFirstRefIdeal.τ).loc Cert.NormFirstRefIdeal.main_arg3)
      ∧ r.2.mem ((c.tc : Thread Cert.NormFirstRefIdeal.nD Cert.NormFirstRefIdeal.τ).loc Cert.NormFirstRefIdeal.main_arg4) = m ((c.tc : Thread Cert.NormFirstRefIdeal.nD Cert.NormFirstRefIdeal.τ).loc Cert.NormFirstRefIdeal.main_arg4))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v71) = v0 c
          ∧ r.2.mem ((c.tc : Thread Cert.ConvRefIdeal.nD Cert.ConvRefIdeal.τ).loc Cert.ConvRefIdeal.main_v65) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v12) = v0 c
          ∧ r.2.mem ((c.tc : Thread Cert.GateRefIdeal.nD Cert.GateRefIdeal.τ).loc Cert.GateRefIdeal.main_v10) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Input_InputIdeal : Prop :=
  True

def algebraic_InputIdeal_InputRefIdeal [hInputIdeal : Cert.InputIdeal.Facts] [hInputRefIdeal : Cert.InputRefIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputRefIdeal.nD Cert.InputRefIdeal.τ Cert.InputRefIdeal.sig) → Buf (Elt Ideal) ℓ) (g' : Dev Cert.InputRefIdeal.nD → PrngReg), Pre_InputIdeal m →
    (∀ c : Dev Cert.InputIdeal.nD,
      m' ((c.tc : Thread Cert.InputRefIdeal.nD Cert.InputRefIdeal.τ).loc Cert.InputRefIdeal.main_arg0) = m ((c.tc : Thread Cert.InputIdeal.nD Cert.InputIdeal.τ).loc Cert.InputIdeal.main_arg0)
      ∧ m' ((c.tc : Thread Cert.InputRefIdeal.nD Cert.InputRefIdeal.τ).loc Cert.InputRefIdeal.main_arg1) = m ((c.tc : Thread Cert.InputIdeal.nD Cert.InputIdeal.τ).loc Cert.InputIdeal.main_arg1)
      ∧ m' ((c.tc : Thread Cert.InputRefIdeal.nD Cert.InputRefIdeal.τ).loc Cert.InputRefIdeal.main_arg2) = m ((c.tc : Thread Cert.InputIdeal.nD Cert.InputIdeal.τ).loc Cert.InputIdeal.main_arg2)
      ∧ m' ((c.tc : Thread Cert.InputRefIdeal.nD Cert.InputRefIdeal.τ).loc Cert.InputRefIdeal.main_arg3) = m ((c.tc : Thread Cert.InputIdeal.nD Cert.InputIdeal.τ).loc Cert.InputIdeal.main_arg3)
      ∧ m' ((c.tc : Thread Cert.InputRefIdeal.nD Cert.InputRefIdeal.τ).loc Cert.InputRefIdeal.main_arg4) = m ((c.tc : Thread Cert.InputIdeal.nD Cert.InputIdeal.τ).loc Cert.InputIdeal.main_arg4)) →
    ∃ (v0 : (c : Dev Cert.InputIdeal.nD) → Buf (Elt Ideal) ((c.tc : Thread Cert.InputIdeal.nD Cert.InputIdeal.τ).loc Cert.InputIdeal.main_v4)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v4) = v0 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
          ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ θ_run (Cert.InputRefIdeal.defs (F := Ideal)) (onTc (τ := Cert.InputRefIdeal.τ) (Cert.InputRefIdeal.main (F := Ideal))) ⟨m', fun _ => 0, g'⟩ (fun r => ∀ c : Dev Cert.InputRefIdeal.nD,
          r.2.mem ((c.tc : Thread Cert.InputRefIdeal.nD Cert.InputRefIdeal.τ).loc Cert.InputRefIdeal.main_v15) = v0 c
          ∧ r.2.mem ((c.tc : Thread Cert.InputRefIdeal.nD Cert.InputRefIdeal.τ).loc Cert.InputRefIdeal.main_arg0) = m' ((c.tc : Thread Cert.InputRefIdeal.nD Cert.InputRefIdeal.τ).loc Cert.InputRefIdeal.main_arg0)
          ∧ r.2.mem ((c.tc : Thread Cert.InputRefIdeal.nD Cert.InputRefIdeal.τ).loc Cert.InputRefIdeal.main_arg1) = m' ((c.tc : Thread Cert.InputRefIdeal.nD Cert.InputRefIdeal.τ).loc Cert.InputRefIdeal.main_arg1)
          ∧ r.2.mem ((c.tc : Thread Cert.InputRefIdeal.nD Cert.InputRefIdeal.τ).loc Cert.InputRefIdeal.main_arg2) = m' ((c.tc : Thread Cert.InputRefIdeal.nD Cert.InputRefIdeal.τ).loc Cert.InputRefIdeal.main_arg2)
          ∧ r.2.mem ((c.tc : Thread Cert.InputRefIdeal.nD Cert.InputRefIdeal.τ).loc Cert.InputRefIdeal.main_arg3) = m' ((c.tc : Thread Cert.InputRefIdeal.nD Cert.InputRefIdeal.τ).loc Cert.InputRefIdeal.main_arg3)
          ∧ r.2.mem ((c.tc : Thread Cert.InputRefIdeal.nD Cert.InputRefIdeal.τ).loc Cert.InputRefIdeal.main_arg4) = m' ((c.tc : Thread Cert.InputRefIdeal.nD Cert.InputRefIdeal.τ).loc Cert.InputRefIdeal.main_arg4))

def preserves_InWeight_InWeightIdeal : Prop :=
  True

def algebraic_InWeightIdeal_InWeightRefIdeal [hInWeightIdeal : Cert.InWeightIdeal.Facts] [hInWeightRefIdeal : Cert.InWeightRefIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightRefIdeal.nD Cert.InWeightRefIdeal.τ Cert.InWeightRefIdeal.sig) → Buf (Elt Ideal) ℓ) (g' : Dev Cert.InWeightRefIdeal.nD → PrngReg), Pre_InWeightIdeal m →
    (∀ c : Dev Cert.InWeightIdeal.nD,
      m' ((c.tc : Thread Cert.InWeightRefIdeal.nD Cert.InWeightRefIdeal.τ).loc Cert.InWeightRefIdeal.main_arg0) = m ((c.tc : Thread Cert.InWeightIdeal.nD Cert.InWeightIdeal.τ).loc Cert.InWeightIdeal.main_arg0)
      ∧ m' ((c.tc : Thread Cert.InWeightRefIdeal.nD Cert.InWeightRefIdeal.τ).loc Cert.InWeightRefIdeal.main_arg1) = m ((c.tc : Thread Cert.InWeightIdeal.nD Cert.InWeightIdeal.τ).loc Cert.InWeightIdeal.main_arg1)) →
    ∃ (v0 : (c : Dev Cert.InWeightIdeal.nD) → Buf (Elt Ideal) ((c.tc : Thread Cert.InWeightIdeal.nD Cert.InWeightIdeal.τ).loc Cert.InWeightIdeal.main_v0)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v0) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ θ_run (Cert.InWeightRefIdeal.defs (F := Ideal)) (onTc (τ := Cert.InWeightRefIdeal.τ) (Cert.InWeightRefIdeal.main (F := Ideal))) ⟨m', fun _ => 0, g'⟩ (fun r => ∀ c : Dev Cert.InWeightRefIdeal.nD,
          r.2.mem ((c.tc : Thread Cert.InWeightRefIdeal.nD Cert.InWeightRefIdeal.τ).loc Cert.InWeightRefIdeal.main_v9) = v0 c
          ∧ r.2.mem ((c.tc : Thread Cert.InWeightRefIdeal.nD Cert.InWeightRefIdeal.τ).loc Cert.InWeightRefIdeal.main_arg0) = m' ((c.tc : Thread Cert.InWeightRefIdeal.nD Cert.InWeightRefIdeal.τ).loc Cert.InWeightRefIdeal.main_arg0)
          ∧ r.2.mem ((c.tc : Thread Cert.InWeightRefIdeal.nD Cert.InWeightRefIdeal.τ).loc Cert.InWeightRefIdeal.main_arg1) = m' ((c.tc : Thread Cert.InWeightRefIdeal.nD Cert.InWeightRefIdeal.τ).loc Cert.InWeightRefIdeal.main_arg1))

def preserves_DownWeight_DownWeightIdeal : Prop :=
  True

def algebraic_DownWeightIdeal_DownWeightRefIdeal [hDownWeightIdeal : Cert.DownWeightIdeal.Facts] [hDownWeightRefIdeal : Cert.DownWeightRefIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightRefIdeal.nD Cert.DownWeightRefIdeal.τ Cert.DownWeightRefIdeal.sig) → Buf (Elt Ideal) ℓ) (g' : Dev Cert.DownWeightRefIdeal.nD → PrngReg), Pre_DownWeightIdeal m →
    (∀ c : Dev Cert.DownWeightIdeal.nD,
      m' ((c.tc : Thread Cert.DownWeightRefIdeal.nD Cert.DownWeightRefIdeal.τ).loc Cert.DownWeightRefIdeal.main_arg0) = m ((c.tc : Thread Cert.DownWeightIdeal.nD Cert.DownWeightIdeal.τ).loc Cert.DownWeightIdeal.main_arg0)
      ∧ m' ((c.tc : Thread Cert.DownWeightRefIdeal.nD Cert.DownWeightRefIdeal.τ).loc Cert.DownWeightRefIdeal.main_arg1) = m ((c.tc : Thread Cert.DownWeightIdeal.nD Cert.DownWeightIdeal.τ).loc Cert.DownWeightIdeal.main_arg1)) →
    ∃ (v0 : (c : Dev Cert.DownWeightIdeal.nD) → Buf (Elt Ideal) ((c.tc : Thread Cert.DownWeightIdeal.nD Cert.DownWeightIdeal.τ).loc Cert.DownWeightIdeal.main_v0)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v0) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ θ_run (Cert.DownWeightRefIdeal.defs (F := Ideal)) (onTc (τ := Cert.DownWeightRefIdeal.τ) (Cert.DownWeightRefIdeal.main (F := Ideal))) ⟨m', fun _ => 0, g'⟩ (fun r => ∀ c : Dev Cert.DownWeightRefIdeal.nD,
          r.2.mem ((c.tc : Thread Cert.DownWeightRefIdeal.nD Cert.DownWeightRefIdeal.τ).loc Cert.DownWeightRefIdeal.main_v7) = v0 c
          ∧ r.2.mem ((c.tc : Thread Cert.DownWeightRefIdeal.nD Cert.DownWeightRefIdeal.τ).loc Cert.DownWeightRefIdeal.main_arg0) = m' ((c.tc : Thread Cert.DownWeightRefIdeal.nD Cert.DownWeightRefIdeal.τ).loc Cert.DownWeightRefIdeal.main_arg0)
          ∧ r.2.mem ((c.tc : Thread Cert.DownWeightRefIdeal.nD Cert.DownWeightRefIdeal.τ).loc Cert.DownWeightRefIdeal.main_arg1) = m' ((c.tc : Thread Cert.DownWeightRefIdeal.nD Cert.DownWeightRefIdeal.τ).loc Cert.DownWeightRefIdeal.main_arg1))

def preserves_OutWeight_OutWeightIdeal : Prop :=
  True

def algebraic_OutWeightIdeal_OutWeightRefIdeal [hOutWeightIdeal : Cert.OutWeightIdeal.Facts] [hOutWeightRefIdeal : Cert.OutWeightRefIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightRefIdeal.nD Cert.OutWeightRefIdeal.τ Cert.OutWeightRefIdeal.sig) → Buf (Elt Ideal) ℓ) (g' : Dev Cert.OutWeightRefIdeal.nD → PrngReg), Pre_OutWeightIdeal m →
    (∀ c : Dev Cert.OutWeightIdeal.nD,
      m' ((c.tc : Thread Cert.OutWeightRefIdeal.nD Cert.OutWeightRefIdeal.τ).loc Cert.OutWeightRefIdeal.main_arg0) = m ((c.tc : Thread Cert.OutWeightIdeal.nD Cert.OutWeightIdeal.τ).loc Cert.OutWeightIdeal.main_arg0)
      ∧ m' ((c.tc : Thread Cert.OutWeightRefIdeal.nD Cert.OutWeightRefIdeal.τ).loc Cert.OutWeightRefIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v0)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v0) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightRefIdeal.defs (F := Ideal)) (onTc (τ := Cert.OutWeightRefIdeal.τ) (Cert.OutWeightRefIdeal.main (F := Ideal))) ⟨m', fun _ => 0, g'⟩ (fun r => ∀ c : Dev Cert.OutWeightRefIdeal.nD,
          r.2.mem ((c.tc : Thread Cert.OutWeightRefIdeal.nD Cert.OutWeightRefIdeal.τ).loc Cert.OutWeightRefIdeal.main_v7) = v0 c
          ∧ r.2.mem ((c.tc : Thread Cert.OutWeightRefIdeal.nD Cert.OutWeightRefIdeal.τ).loc Cert.OutWeightRefIdeal.main_arg0) = m' ((c.tc : Thread Cert.OutWeightRefIdeal.nD Cert.OutWeightRefIdeal.τ).loc Cert.OutWeightRefIdeal.main_arg0)
          ∧ r.2.mem ((c.tc : Thread Cert.OutWeightRefIdeal.nD Cert.OutWeightRefIdeal.τ).loc Cert.OutWeightRefIdeal.main_arg1) = m' ((c.tc : Thread Cert.OutWeightRefIdeal.nD Cert.OutWeightRefIdeal.τ).loc Cert.OutWeightRefIdeal.main_arg1))

def preserves_OutInput_OutInputIdeal : Prop :=
  True

def algebraic_OutInputIdeal_OutInputRefIdeal [hOutInputIdeal : Cert.OutInputIdeal.Facts] [hOutInputRefIdeal : Cert.OutInputRefIdeal.Facts] : Prop :=
  ∀ (m : (ℓ : Loc Cert.OutInputIdeal.nD Cert.OutInputIdeal.τ Cert.OutInputIdeal.sig) → Buf (Elt Ideal) ℓ) (g : Dev Cert.OutInputIdeal.nD → PrngReg)
    (m' : (ℓ : Loc Cert.OutInputRefIdeal.nD Cert.OutInputRefIdeal.τ Cert.OutInputRefIdeal.sig) → Buf (Elt Ideal) ℓ) (g' : Dev Cert.OutInputRefIdeal.nD → PrngReg), Pre_OutInputIdeal m →
    (∀ c : Dev Cert.OutInputIdeal.nD,
      m' ((c.tc : Thread Cert.OutInputRefIdeal.nD Cert.OutInputRefIdeal.τ).loc Cert.OutInputRefIdeal.main_arg0) = m ((c.tc : Thread Cert.OutInputIdeal.nD Cert.OutInputIdeal.τ).loc Cert.OutInputIdeal.main_arg0)
      ∧ m' ((c.tc : Thread Cert.OutInputRefIdeal.nD Cert.OutInputRefIdeal.τ).loc Cert.OutInputRefIdeal.main_arg1) = m ((c.tc : Thread Cert.OutInputIdeal.nD Cert.OutInputIdeal.τ).loc Cert.OutInputIdeal.main_arg1)) →
    ∃ (v0 : (c : Dev Cert.OutInputIdeal.nD) → Buf (Elt Ideal) ((c.tc : Thread Cert.OutInputIdeal.nD Cert.OutInputIdeal.τ).loc Cert.OutInputIdeal.main_v0)),
      θ_run (Cert.OutInputIdeal.defs (F := Ideal)) (onTc (τ := Cert.OutInputIdeal.τ) (Cert.OutInputIdeal.main (F := Ideal))) ⟨m, fun _ => 0, g⟩ (fun r => ∀ c : Dev Cert.OutInputIdeal.nD,
          r.2.mem ((c.tc : Thread Cert.OutInputIdeal.nD Cert.OutInputIdeal.τ).loc Cert.OutInputIdeal.main_v0) = v0 c
          ∧ r.2.mem ((c.tc : Thread Cert.OutInputIdeal.nD Cert.OutInputIdeal.τ).loc Cert.OutInputIdeal.main_arg0) = m ((c.tc : Thread Cert.OutInputIdeal.nD Cert.OutInputIdeal.τ).loc Cert.OutInputIdeal.main_arg0)
          ∧ r.2.mem ((c.tc : Thread Cert.OutInputIdeal.nD Cert.OutInputIdeal.τ).loc Cert.OutInputIdeal.main_arg1) = m ((c.tc : Thread Cert.OutInputIdeal.nD Cert.OutInputIdeal.τ).loc Cert.OutInputIdeal.main_arg1))
      ∧ θ_run (Cert.OutInputRefIdeal.defs (F := Ideal)) (onTc (τ := Cert.OutInputRefIdeal.τ) (Cert.OutInputRefIdeal.main (F := Ideal))) ⟨m', fun _ => 0, g'⟩ (fun r => ∀ c : Dev Cert.OutInputRefIdeal.nD,
          r.2.mem ((c.tc : Thread Cert.OutInputRefIdeal.nD Cert.OutInputRefIdeal.τ).loc Cert.OutInputRefIdeal.main_v6) = v0 c
          ∧ r.2.mem ((c.tc : Thread Cert.OutInputRefIdeal.nD Cert.OutInputRefIdeal.τ).loc Cert.OutInputRefIdeal.main_arg0) = m' ((c.tc : Thread Cert.OutInputRefIdeal.nD Cert.OutInputRefIdeal.τ).loc Cert.OutInputRefIdeal.main_arg0)
          ∧ r.2.mem ((c.tc : Thread Cert.OutInputRefIdeal.nD Cert.OutInputRefIdeal.τ).loc Cert.OutInputRefIdeal.main_arg1) = m' ((c.tc : Thread Cert.OutInputRefIdeal.nD Cert.OutInputRefIdeal.τ).loc Cert.OutInputRefIdeal.main_arg1))

def preserves_MixInput_MixInputIdeal : Prop :=
  True

def algebraic_MixInputIdeal_MixInputRefIdeal [hMixInputIdeal : Cert.MixInputIdeal.Facts] [hMixInputRefIdeal : Cert.MixInputRefIdeal.Facts] : Prop :=
  ∀ (m : (ℓ : Loc Cert.MixInputIdeal.nD Cert.MixInputIdeal.τ Cert.MixInputIdeal.sig) → Buf (Elt Ideal) ℓ) (g : Dev Cert.MixInputIdeal.nD → PrngReg)
    (m' : (ℓ : Loc Cert.MixInputRefIdeal.nD Cert.MixInputRefIdeal.τ Cert.MixInputRefIdeal.sig) → Buf (Elt Ideal) ℓ) (g' : Dev Cert.MixInputRefIdeal.nD → PrngReg), Pre_MixInputIdeal m →
    (∀ c : Dev Cert.MixInputIdeal.nD,
      m' ((c.tc : Thread Cert.MixInputRefIdeal.nD Cert.MixInputRefIdeal.τ).loc Cert.MixInputRefIdeal.main_arg0) = m ((c.tc : Thread Cert.MixInputIdeal.nD Cert.MixInputIdeal.τ).loc Cert.MixInputIdeal.main_arg0)
      ∧ m' ((c.tc : Thread Cert.MixInputRefIdeal.nD Cert.MixInputRefIdeal.τ).loc Cert.MixInputRefIdeal.main_arg1) = m ((c.tc : Thread Cert.MixInputIdeal.nD Cert.MixInputIdeal.τ).loc Cert.MixInputIdeal.main_arg1)) →
    ∃ (v0 : (c : Dev Cert.MixInputIdeal.nD) → Buf (Elt Ideal) ((c.tc : Thread Cert.MixInputIdeal.nD Cert.MixInputIdeal.τ).loc Cert.MixInputIdeal.main_v0)),
      θ_run (Cert.MixInputIdeal.defs (F := Ideal)) (onTc (τ := Cert.MixInputIdeal.τ) (Cert.MixInputIdeal.main (F := Ideal))) ⟨m, fun _ => 0, g⟩ (fun r => ∀ c : Dev Cert.MixInputIdeal.nD,
          r.2.mem ((c.tc : Thread Cert.MixInputIdeal.nD Cert.MixInputIdeal.τ).loc Cert.MixInputIdeal.main_v0) = v0 c
          ∧ r.2.mem ((c.tc : Thread Cert.MixInputIdeal.nD Cert.MixInputIdeal.τ).loc Cert.MixInputIdeal.main_arg0) = m ((c.tc : Thread Cert.MixInputIdeal.nD Cert.MixInputIdeal.τ).loc Cert.MixInputIdeal.main_arg0)
          ∧ r.2.mem ((c.tc : Thread Cert.MixInputIdeal.nD Cert.MixInputIdeal.τ).loc Cert.MixInputIdeal.main_arg1) = m ((c.tc : Thread Cert.MixInputIdeal.nD Cert.MixInputIdeal.τ).loc Cert.MixInputIdeal.main_arg1))
      ∧ θ_run (Cert.MixInputRefIdeal.defs (F := Ideal)) (onTc (τ := Cert.MixInputRefIdeal.τ) (Cert.MixInputRefIdeal.main (F := Ideal))) ⟨m', fun _ => 0, g'⟩ (fun r => ∀ c : Dev Cert.MixInputRefIdeal.nD,
          r.2.mem ((c.tc : Thread Cert.MixInputRefIdeal.nD Cert.MixInputRefIdeal.τ).loc Cert.MixInputRefIdeal.main_v7) = v0 c
          ∧ r.2.mem ((c.tc : Thread Cert.MixInputRefIdeal.nD Cert.MixInputRefIdeal.τ).loc Cert.MixInputRefIdeal.main_arg0) = m' ((c.tc : Thread Cert.MixInputRefIdeal.nD Cert.MixInputRefIdeal.τ).loc Cert.MixInputRefIdeal.main_arg0)
          ∧ r.2.mem ((c.tc : Thread Cert.MixInputRefIdeal.nD Cert.MixInputRefIdeal.τ).loc Cert.MixInputRefIdeal.main_arg1) = m' ((c.tc : Thread Cert.MixInputRefIdeal.nD Cert.MixInputRefIdeal.τ).loc Cert.MixInputRefIdeal.main_arg1))

def preserves_ConvInput_ConvInputIdeal : Prop :=
  True

def algebraic_ConvInputIdeal_ConvInputRefIdeal [hConvInputIdeal : Cert.ConvInputIdeal.Facts] [hConvInputRefIdeal : Cert.ConvInputRefIdeal.Facts] : Prop :=
  ∀ (m : (ℓ : Loc Cert.ConvInputIdeal.nD Cert.ConvInputIdeal.τ Cert.ConvInputIdeal.sig) → Buf (Elt Ideal) ℓ) (g : Dev Cert.ConvInputIdeal.nD → PrngReg)
    (m' : (ℓ : Loc Cert.ConvInputRefIdeal.nD Cert.ConvInputRefIdeal.τ Cert.ConvInputRefIdeal.sig) → Buf (Elt Ideal) ℓ) (g' : Dev Cert.ConvInputRefIdeal.nD → PrngReg), Pre_ConvInputIdeal m →
    (∀ c : Dev Cert.ConvInputIdeal.nD,
      m' ((c.tc : Thread Cert.ConvInputRefIdeal.nD Cert.ConvInputRefIdeal.τ).loc Cert.ConvInputRefIdeal.main_arg0) = m ((c.tc : Thread Cert.ConvInputIdeal.nD Cert.ConvInputIdeal.τ).loc Cert.ConvInputIdeal.main_arg0)
      ∧ m' ((c.tc : Thread Cert.ConvInputRefIdeal.nD Cert.ConvInputRefIdeal.τ).loc Cert.ConvInputRefIdeal.main_arg1) = m ((c.tc : Thread Cert.ConvInputIdeal.nD Cert.ConvInputIdeal.τ).loc Cert.ConvInputIdeal.main_arg1)) →
    ∃ (v0 : (c : Dev Cert.ConvInputIdeal.nD) → Buf (Elt Ideal) ((c.tc : Thread Cert.ConvInputIdeal.nD Cert.ConvInputIdeal.τ).loc Cert.ConvInputIdeal.main_v0)),
      θ_run (Cert.ConvInputIdeal.defs (F := Ideal)) (onTc (τ := Cert.ConvInputIdeal.τ) (Cert.ConvInputIdeal.main (F := Ideal))) ⟨m, fun _ => 0, g⟩ (fun r => ∀ c : Dev Cert.ConvInputIdeal.nD,
          r.2.mem ((c.tc : Thread Cert.ConvInputIdeal.nD Cert.ConvInputIdeal.τ).loc Cert.ConvInputIdeal.main_v0) = v0 c
          ∧ r.2.mem ((c.tc : Thread Cert.ConvInputIdeal.nD Cert.ConvInputIdeal.τ).loc Cert.ConvInputIdeal.main_arg0) = m ((c.tc : Thread Cert.ConvInputIdeal.nD Cert.ConvInputIdeal.τ).loc Cert.ConvInputIdeal.main_arg0)
          ∧ r.2.mem ((c.tc : Thread Cert.ConvInputIdeal.nD Cert.ConvInputIdeal.τ).loc Cert.ConvInputIdeal.main_arg1) = m ((c.tc : Thread Cert.ConvInputIdeal.nD Cert.ConvInputIdeal.τ).loc Cert.ConvInputIdeal.main_arg1))
      ∧ θ_run (Cert.ConvInputRefIdeal.defs (F := Ideal)) (onTc (τ := Cert.ConvInputRefIdeal.τ) (Cert.ConvInputRefIdeal.main (F := Ideal))) ⟨m', fun _ => 0, g'⟩ (fun r => ∀ c : Dev Cert.ConvInputRefIdeal.nD,
          r.2.mem ((c.tc : Thread Cert.ConvInputRefIdeal.nD Cert.ConvInputRefIdeal.τ).loc Cert.ConvInputRefIdeal.main_v7) = v0 c
          ∧ r.2.mem ((c.tc : Thread Cert.ConvInputRefIdeal.nD Cert.ConvInputRefIdeal.τ).loc Cert.ConvInputRefIdeal.main_arg0) = m' ((c.tc : Thread Cert.ConvInputRefIdeal.nD Cert.ConvInputRefIdeal.τ).loc Cert.ConvInputRefIdeal.main_arg0)
          ∧ r.2.mem ((c.tc : Thread Cert.ConvInputRefIdeal.nD Cert.ConvInputRefIdeal.τ).loc Cert.ConvInputRefIdeal.main_arg1) = m' ((c.tc : Thread Cert.ConvInputRefIdeal.nD Cert.ConvInputRefIdeal.τ).loc Cert.ConvInputRefIdeal.main_arg1))

def preserves_ConvWeight_ConvWeightIdeal : Prop :=
  True

def algebraic_ConvWeightIdeal_ConvWeightRefIdeal [hConvWeightIdeal : Cert.ConvWeightIdeal.Facts] [hConvWeightRefIdeal : Cert.ConvWeightRefIdeal.Facts] : Prop :=
  ∀ (m : (ℓ : Loc Cert.ConvWeightIdeal.nD Cert.ConvWeightIdeal.τ Cert.ConvWeightIdeal.sig) → Buf (Elt Ideal) ℓ) (g : Dev Cert.ConvWeightIdeal.nD → PrngReg)
    (m' : (ℓ : Loc Cert.ConvWeightRefIdeal.nD Cert.ConvWeightRefIdeal.τ Cert.ConvWeightRefIdeal.sig) → Buf (Elt Ideal) ℓ) (g' : Dev Cert.ConvWeightRefIdeal.nD → PrngReg), Pre_ConvWeightIdeal m →
    (∀ c : Dev Cert.ConvWeightIdeal.nD,
      m' ((c.tc : Thread Cert.ConvWeightRefIdeal.nD Cert.ConvWeightRefIdeal.τ).loc Cert.ConvWeightRefIdeal.main_arg0) = m ((c.tc : Thread Cert.ConvWeightIdeal.nD Cert.ConvWeightIdeal.τ).loc Cert.ConvWeightIdeal.main_arg0)
      ∧ m' ((c.tc : Thread Cert.ConvWeightRefIdeal.nD Cert.ConvWeightRefIdeal.τ).loc Cert.ConvWeightRefIdeal.main_arg1) = m ((c.tc : Thread Cert.ConvWeightIdeal.nD Cert.ConvWeightIdeal.τ).loc Cert.ConvWeightIdeal.main_arg1)) →
    ∃ (v0 : (c : Dev Cert.ConvWeightIdeal.nD) → Buf (Elt Ideal) ((c.tc : Thread Cert.ConvWeightIdeal.nD Cert.ConvWeightIdeal.τ).loc Cert.ConvWeightIdeal.main_v0)),
      θ_run (Cert.ConvWeightIdeal.defs (F := Ideal)) (onTc (τ := Cert.ConvWeightIdeal.τ) (Cert.ConvWeightIdeal.main (F := Ideal))) ⟨m, fun _ => 0, g⟩ (fun r => ∀ c : Dev Cert.ConvWeightIdeal.nD,
          r.2.mem ((c.tc : Thread Cert.ConvWeightIdeal.nD Cert.ConvWeightIdeal.τ).loc Cert.ConvWeightIdeal.main_v0) = v0 c
          ∧ r.2.mem ((c.tc : Thread Cert.ConvWeightIdeal.nD Cert.ConvWeightIdeal.τ).loc Cert.ConvWeightIdeal.main_arg0) = m ((c.tc : Thread Cert.ConvWeightIdeal.nD Cert.ConvWeightIdeal.τ).loc Cert.ConvWeightIdeal.main_arg0)
          ∧ r.2.mem ((c.tc : Thread Cert.ConvWeightIdeal.nD Cert.ConvWeightIdeal.τ).loc Cert.ConvWeightIdeal.main_arg1) = m ((c.tc : Thread Cert.ConvWeightIdeal.nD Cert.ConvWeightIdeal.τ).loc Cert.ConvWeightIdeal.main_arg1))
      ∧ θ_run (Cert.ConvWeightRefIdeal.defs (F := Ideal)) (onTc (τ := Cert.ConvWeightRefIdeal.τ) (Cert.ConvWeightRefIdeal.main (F := Ideal))) ⟨m', fun _ => 0, g'⟩ (fun r => ∀ c : Dev Cert.ConvWeightRefIdeal.nD,
          r.2.mem ((c.tc : Thread Cert.ConvWeightRefIdeal.nD Cert.ConvWeightRefIdeal.τ).loc Cert.ConvWeightRefIdeal.main_v9) = v0 c
          ∧ r.2.mem ((c.tc : Thread Cert.ConvWeightRefIdeal.nD Cert.ConvWeightRefIdeal.τ).loc Cert.ConvWeightRefIdeal.main_arg0) = m' ((c.tc : Thread Cert.ConvWeightRefIdeal.nD Cert.ConvWeightRefIdeal.τ).loc Cert.ConvWeightRefIdeal.main_arg0)
          ∧ r.2.mem ((c.tc : Thread Cert.ConvWeightRefIdeal.nD Cert.ConvWeightRefIdeal.τ).loc Cert.ConvWeightRefIdeal.main_arg1) = m' ((c.tc : Thread Cert.ConvWeightRefIdeal.nD Cert.ConvWeightRefIdeal.τ).loc Cert.ConvWeightRefIdeal.main_arg1))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v0_0)) (v1 : (c : Dev Cert.ActIdeal.nD) → Buf (Elt Ideal) ((c.tc : Thread Cert.ActIdeal.nD Cert.ActIdeal.τ).loc Cert.ActIdeal.main_v0_1)) (v2 : (c : Dev Cert.ActIdeal.nD) → Buf (Elt Ideal) ((c.tc : Thread Cert.ActIdeal.nD Cert.ActIdeal.τ).loc Cert.ActIdeal.main_v0_2)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0_0) = v0 c
          ∧ r.2.mem ((c.tc : Thread Cert.ActIdeal.nD Cert.ActIdeal.τ).loc Cert.ActIdeal.main_v0_1) = v1 c
          ∧ r.2.mem ((c.tc : Thread Cert.ActIdeal.nD Cert.ActIdeal.τ).loc Cert.ActIdeal.main_v0_2) = v2 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v8) = v0 c
          ∧ r.2.mem ((c.tc : Thread Cert.ActRefIdeal.nD Cert.ActRefIdeal.τ).loc Cert.ActRefIdeal.main_v9) = v1 c
          ∧ r.2.mem ((c.tc : Thread Cert.ActRefIdeal.nD Cert.ActRefIdeal.τ).loc Cert.ActRefIdeal.main_v12) = v2 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_v6) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v4) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)) →
    ∃ (v0 : (c : Dev Cert.ConvInIdeal.nD) → Buf (Elt Ideal) ((c.tc : Thread Cert.ConvInIdeal.nD Cert.ConvInIdeal.τ).loc Cert.ConvInIdeal.main_v0)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v0) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v4) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)) (v2 : (c : Dev Cert.MixOutIdeal.nD) → Buf (Elt Ideal) ((c.tc : Thread Cert.MixOutIdeal.nD Cert.MixOutIdeal.τ).loc Cert.MixOutIdeal.main_v0_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_v0_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v5) = v0 c
          ∧ r.2.mem ((c.tc : Thread Cert.MixOutRefIdeal.nD Cert.MixOutRefIdeal.τ).loc Cert.MixOutRefIdeal.main_v6) = v1 c
          ∧ r.2.mem ((c.tc : Thread Cert.MixOutRefIdeal.nD Cert.MixOutRefIdeal.τ).loc Cert.MixOutRefIdeal.main_v25) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6))

def preserves_NormBack_NormBackIdeal : Prop :=
  True

def algebraic_NormBackIdeal_NormBackRefIdeal_pre_norm_finite [hNormBackIdeal : Cert.NormBackIdeal.Facts] [hNormBackRefIdeal : Cert.NormBackRefIdeal.Facts] [hPre_norm_finite : Cert.Pre_norm_finite.Facts] : Prop :=
  ∀ (m : (ℓ : Loc Cert.NormBackIdeal.nD Cert.NormBackIdeal.τ Cert.NormBackIdeal.sig) → Buf (Elt Ideal) ℓ) (g : Dev Cert.NormBackIdeal.nD → PrngReg)
    (m' : (ℓ : Loc Cert.NormBackRefIdeal.nD Cert.NormBackRefIdeal.τ Cert.NormBackRefIdeal.sig) → Buf (Elt Ideal) ℓ) (g' : Dev Cert.NormBackRefIdeal.nD → PrngReg), Pre_NormBackIdeal_norm_finite m →
    (∀ c : Dev Cert.NormBackIdeal.nD,
      m' ((c.tc : Thread Cert.NormBackRefIdeal.nD Cert.NormBackRefIdeal.τ).loc Cert.NormBackRefIdeal.main_arg0) = m ((c.tc : Thread Cert.NormBackIdeal.nD Cert.NormBackIdeal.τ).loc Cert.NormBackIdeal.main_arg0)
      ∧ m' ((c.tc : Thread Cert.NormBackRefIdeal.nD Cert.NormBackRefIdeal.τ).loc Cert.NormBackRefIdeal.main_arg1) = m ((c.tc : Thread Cert.NormBackIdeal.nD Cert.NormBackIdeal.τ).loc Cert.NormBackIdeal.main_arg1)
      ∧ m' ((c.tc : Thread Cert.NormBackRefIdeal.nD Cert.NormBackRefIdeal.τ).loc Cert.NormBackRefIdeal.main_arg2) = m ((c.tc : Thread Cert.NormBackIdeal.nD Cert.NormBackIdeal.τ).loc Cert.NormBackIdeal.main_arg2)
      ∧ m' ((c.tc : Thread Cert.NormBackRefIdeal.nD Cert.NormBackRefIdeal.τ).loc Cert.NormBackRefIdeal.main_arg3) = m ((c.tc : Thread Cert.NormBackIdeal.nD Cert.NormBackIdeal.τ).loc Cert.NormBackIdeal.main_arg3)
      ∧ m' ((c.tc : Thread Cert.NormBackRefIdeal.nD Cert.NormBackRefIdeal.τ).loc Cert.NormBackRefIdeal.main_arg4) = m ((c.tc : Thread Cert.NormBackIdeal.nD Cert.NormBackIdeal.τ).loc Cert.NormBackIdeal.main_arg4)
      ∧ m' ((c.tc : Thread Cert.NormBackRefIdeal.nD Cert.NormBackRefIdeal.τ).loc Cert.NormBackRefIdeal.main_arg5) = m ((c.tc : Thread Cert.NormBackIdeal.nD Cert.NormBackIdeal.τ).loc Cert.NormBackIdeal.main_arg5)
      ∧ m' ((c.tc : Thread Cert.NormBackRefIdeal.nD Cert.NormBackRefIdeal.τ).loc Cert.NormBackRefIdeal.main_arg6) = m ((c.tc : Thread Cert.NormBackIdeal.nD Cert.NormBackIdeal.τ).loc Cert.NormBackIdeal.main_arg6)) →
    ∃ (v0 : (c : Dev Cert.NormBackIdeal.nD) → Buf (Elt Ideal) ((c.tc : Thread Cert.NormBackIdeal.nD Cert.NormBackIdeal.τ).loc Cert.NormBackIdeal.main_v0_0)) (v1 : (c : Dev Cert.NormBackIdeal.nD) → Buf (Elt Ideal) ((c.tc : Thread Cert.NormBackIdeal.nD Cert.NormBackIdeal.τ).loc Cert.NormBackIdeal.main_v0_1)) (v2 : (c : Dev Cert.NormBackIdeal.nD) → Buf (Elt Ideal) ((c.tc : Thread Cert.NormBackIdeal.nD Cert.NormBackIdeal.τ).loc Cert.NormBackIdeal.main_v0_2)) (v3 : (c : Dev Cert.NormBackIdeal.nD) → Buf (Elt Ideal) ((c.tc : Thread Cert.NormBackIdeal.nD Cert.NormBackIdeal.τ).loc Cert.NormBackIdeal.main_v0_3)) (v4 : (c : Dev Cert.NormBackIdeal.nD) → Buf (Elt Ideal) ((c.tc : Thread Cert.NormBackIdeal.nD Cert.NormBackIdeal.τ).loc Cert.NormBackIdeal.main_v0_4)) (v5 : (c : Dev Cert.NormBackIdeal.nD) → Buf (Elt Ideal) ((c.tc : Thread Cert.NormBackIdeal.nD Cert.NormBackIdeal.τ).loc Cert.NormBackIdeal.main_v0_5)),
      θ_run (Cert.NormBackIdeal.defs (F := Ideal)) (onTc (τ := Cert.NormBackIdeal.τ) (Cert.NormBackIdeal.main (F := Ideal))) ⟨m, fun _ => 0, g⟩ (fun r => ∀ c : Dev Cert.NormBackIdeal.nD,
          r.2.mem ((c.tc : Thread Cert.NormBackIdeal.nD Cert.NormBackIdeal.τ).loc Cert.NormBackIdeal.main_v0_0) = v0 c
          ∧ r.2.mem ((c.tc : Thread Cert.NormBackIdeal.nD Cert.NormBackIdeal.τ).loc Cert.NormBackIdeal.main_v0_1) = v1 c
          ∧ r.2.mem ((c.tc : Thread Cert.NormBackIdeal.nD Cert.NormBackIdeal.τ).loc Cert.NormBackIdeal.main_v0_2) = v2 c
          ∧ r.2.mem ((c.tc : Thread Cert.NormBackIdeal.nD Cert.NormBackIdeal.τ).loc Cert.NormBackIdeal.main_v0_3) = v3 c
          ∧ r.2.mem ((c.tc : Thread Cert.NormBackIdeal.nD Cert.NormBackIdeal.τ).loc Cert.NormBackIdeal.main_v0_4) = v4 c
          ∧ r.2.mem ((c.tc : Thread Cert.NormBackIdeal.nD Cert.NormBackIdeal.τ).loc Cert.NormBackIdeal.main_v0_5) = v5 c
          ∧ r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
          ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
          ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
          ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3)
          ∧ r.2.mem ((c.tc : Thread Cert.NormBackIdeal.nD Cert.NormBackIdeal.τ).loc Cert.NormBackIdeal.main_arg4) = m ((c.tc : Thread Cert.NormBackIdeal.nD Cert.NormBackIdeal.τ).loc Cert.NormBackIdeal.main_arg4)
          ∧ r.2.mem ((c.tc : Thread Cert.NormBackIdeal.nD Cert.NormBackIdeal.τ).loc Cert.NormBackIdeal.main_arg5) = m ((c.tc : Thread Cert.NormBackIdeal.nD Cert.NormBackIdeal.τ).loc Cert.NormBackIdeal.main_arg5)
          ∧ r.2.mem ((c.tc : Thread Cert.NormBackIdeal.nD Cert.NormBackIdeal.τ).loc Cert.NormBackIdeal.main_arg6) = m ((c.tc : Thread Cert.NormBackIdeal.nD Cert.NormBackIdeal.τ).loc Cert.NormBackIdeal.main_arg6))
      ∧ θ_run (Cert.NormBackRefIdeal.defs (F := Ideal)) (onTc (τ := Cert.NormBackRefIdeal.τ) (Cert.NormBackRefIdeal.main (F := Ideal))) ⟨m', fun _ => 0, g'⟩ (fun r => ∀ c : Dev Cert.NormBackRefIdeal.nD,
          r.2.mem ((c.tc : Thread Cert.NormBackRefIdeal.nD Cert.NormBackRefIdeal.τ).loc Cert.NormBackRefIdeal.main_v50) = v0 c
          ∧ r.2.mem ((c.tc : Thread Cert.NormBackRefIdeal.nD Cert.NormBackRefIdeal.τ).loc Cert.NormBackRefIdeal.main_v59) = v1 c
          ∧ r.2.mem ((c.tc : Thread Cert.NormBackRefIdeal.nD Cert.NormBackRefIdeal.τ).loc Cert.NormBackRefIdeal.main_v25) = v2 c
          ∧ r.2.mem ((c.tc : Thread Cert.NormBackRefIdeal.nD Cert.NormBackRefIdeal.τ).loc Cert.NormBackRefIdeal.main_v28) = v3 c
          ∧ r.2.mem ((c.tc : Thread Cert.NormBackRefIdeal.nD Cert.NormBackRefIdeal.τ).loc Cert.NormBackRefIdeal.main_v33) = v4 c
          ∧ r.2.mem ((c.tc : Thread Cert.NormBackRefIdeal.nD Cert.NormBackRefIdeal.τ).loc Cert.NormBackRefIdeal.main_v58) = v5 c
          ∧ r.2.mem ((c.tc : Thread Cert.NormBackRefIdeal.nD Cert.NormBackRefIdeal.τ).loc Cert.NormBackRefIdeal.main_arg0) = m' ((c.tc : Thread Cert.NormBackRefIdeal.nD Cert.NormBackRefIdeal.τ).loc Cert.NormBackRefIdeal.main_arg0)
          ∧ r.2.mem ((c.tc : Thread Cert.NormBackRefIdeal.nD Cert.NormBackRefIdeal.τ).loc Cert.NormBackRefIdeal.main_arg1) = m' ((c.tc : Thread Cert.NormBackRefIdeal.nD Cert.NormBackRefIdeal.τ).loc Cert.NormBackRefIdeal.main_arg1)
          ∧ r.2.mem ((c.tc : Thread Cert.NormBackRefIdeal.nD Cert.NormBackRefIdeal.τ).loc Cert.NormBackRefIdeal.main_arg2) = m' ((c.tc : Thread Cert.NormBackRefIdeal.nD Cert.NormBackRefIdeal.τ).loc Cert.NormBackRefIdeal.main_arg2)
          ∧ r.2.mem ((c.tc : Thread Cert.NormBackRefIdeal.nD Cert.NormBackRefIdeal.τ).loc Cert.NormBackRefIdeal.main_arg3) = m' ((c.tc : Thread Cert.NormBackRefIdeal.nD Cert.NormBackRefIdeal.τ).loc Cert.NormBackRefIdeal.main_arg3)
          ∧ r.2.mem ((c.tc : Thread Cert.NormBackRefIdeal.nD Cert.NormBackRefIdeal.τ).loc Cert.NormBackRefIdeal.main_arg4) = m' ((c.tc : Thread Cert.NormBackRefIdeal.nD Cert.NormBackRefIdeal.τ).loc Cert.NormBackRefIdeal.main_arg4)
          ∧ r.2.mem ((c.tc : Thread Cert.NormBackRefIdeal.nD Cert.NormBackRefIdeal.τ).loc Cert.NormBackRefIdeal.main_arg5) = m' ((c.tc : Thread Cert.NormBackRefIdeal.nD Cert.NormBackRefIdeal.τ).loc Cert.NormBackRefIdeal.main_arg5)
          ∧ r.2.mem ((c.tc : Thread Cert.NormBackRefIdeal.nD Cert.NormBackRefIdeal.τ).loc Cert.NormBackRefIdeal.main_arg6) = m' ((c.tc : Thread Cert.NormBackRefIdeal.nD Cert.NormBackRefIdeal.τ).loc Cert.NormBackRefIdeal.main_arg6))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)
      ∧ m' ((c.tc : Thread Cert.NormInRefIdeal.nD Cert.NormInRefIdeal.τ).loc Cert.NormInRefIdeal.main_arg3) = m ((c.tc : Thread Cert.NormInIdeal.nD Cert.NormInIdeal.τ).loc Cert.NormInIdeal.main_arg3)) →
    ∃ (v0 : (c : Dev Cert.NormInIdeal.nD) → Buf (Elt Ideal) ((c.tc : Thread Cert.NormInIdeal.nD Cert.NormInIdeal.τ).loc Cert.NormInIdeal.main_v0)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v18) = v0 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2)
          ∧ r.2.mem ((c.tc : Thread Cert.NormInRefIdeal.nD Cert.NormInRefIdeal.τ).loc Cert.NormInRefIdeal.main_arg3) = m' ((c.tc : Thread Cert.NormInRefIdeal.nD Cert.NormInRefIdeal.τ).loc Cert.NormInRefIdeal.main_arg3))

def preserves_SpatialBack_SpatialBackIdeal : Prop :=
  IdealRules.named_const.Statement Cert.SpatialBackIdeal.κ "c" .f32 0x3D372713#32 ((8943 / 200000 : ℝ) : EReal)
  ∧ IdealRules.named_const.Statement Cert.SpatialBackIdeal.κ "c3" .f32 0x3E095D4F#32 ((26829 / 200000 : ℝ) : EReal)

def algebraic_SpatialBackIdeal_SpatialBackRefIdeal_pre_spatial_finite [hSpatialBackIdeal : Cert.SpatialBackIdeal.Facts] [hSpatialBackRefIdeal : Cert.SpatialBackRefIdeal.Facts] [hPre_spatial_finite : Cert.Pre_spatial_finite.Facts] : Prop :=
  ∀ (m : (ℓ : Loc Cert.SpatialBackIdeal.nD Cert.SpatialBackIdeal.τ Cert.SpatialBackIdeal.sig) → Buf (Elt Ideal) ℓ) (g : Dev Cert.SpatialBackIdeal.nD → PrngReg)
    (m' : (ℓ : Loc Cert.SpatialBackRefIdeal.nD Cert.SpatialBackRefIdeal.τ Cert.SpatialBackRefIdeal.sig) → Buf (Elt Ideal) ℓ) (g' : Dev Cert.SpatialBackRefIdeal.nD → PrngReg), Pre_SpatialBackIdeal_spatial_finite m →
    (∀ c : Dev Cert.SpatialBackIdeal.nD,
      m' ((c.tc : Thread Cert.SpatialBackRefIdeal.nD Cert.SpatialBackRefIdeal.τ).loc Cert.SpatialBackRefIdeal.main_arg0) = m ((c.tc : Thread Cert.SpatialBackIdeal.nD Cert.SpatialBackIdeal.τ).loc Cert.SpatialBackIdeal.main_arg0)
      ∧ m' ((c.tc : Thread Cert.SpatialBackRefIdeal.nD Cert.SpatialBackRefIdeal.τ).loc Cert.SpatialBackRefIdeal.main_arg1) = m ((c.tc : Thread Cert.SpatialBackIdeal.nD Cert.SpatialBackIdeal.τ).loc Cert.SpatialBackIdeal.main_arg1)
      ∧ m' ((c.tc : Thread Cert.SpatialBackRefIdeal.nD Cert.SpatialBackRefIdeal.τ).loc Cert.SpatialBackRefIdeal.main_arg2) = m ((c.tc : Thread Cert.SpatialBackIdeal.nD Cert.SpatialBackIdeal.τ).loc Cert.SpatialBackIdeal.main_arg2)
      ∧ m' ((c.tc : Thread Cert.SpatialBackRefIdeal.nD Cert.SpatialBackRefIdeal.τ).loc Cert.SpatialBackRefIdeal.main_arg3) = m ((c.tc : Thread Cert.SpatialBackIdeal.nD Cert.SpatialBackIdeal.τ).loc Cert.SpatialBackIdeal.main_arg3)) →
    ∃ (v0 : (c : Dev Cert.SpatialBackIdeal.nD) → Buf (Elt Ideal) ((c.tc : Thread Cert.SpatialBackIdeal.nD Cert.SpatialBackIdeal.τ).loc Cert.SpatialBackIdeal.main_v2_0)) (v1 : (c : Dev Cert.SpatialBackIdeal.nD) → Buf (Elt Ideal) ((c.tc : Thread Cert.SpatialBackIdeal.nD Cert.SpatialBackIdeal.τ).loc Cert.SpatialBackIdeal.main_v2_1)) (v2 : (c : Dev Cert.SpatialBackIdeal.nD) → Buf (Elt Ideal) ((c.tc : Thread Cert.SpatialBackIdeal.nD Cert.SpatialBackIdeal.τ).loc Cert.SpatialBackIdeal.main_v2_2)) (v3 : (c : Dev Cert.SpatialBackIdeal.nD) → Buf (Elt Ideal) ((c.tc : Thread Cert.SpatialBackIdeal.nD Cert.SpatialBackIdeal.τ).loc Cert.SpatialBackIdeal.main_v2_3)),
      θ_run (Cert.SpatialBackIdeal.defs (F := Ideal)) (onTc (τ := Cert.SpatialBackIdeal.τ) (Cert.SpatialBackIdeal.main (F := Ideal))) ⟨m, fun _ => 0, g⟩ (fun r => ∀ c : Dev Cert.SpatialBackIdeal.nD,
          r.2.mem ((c.tc : Thread Cert.SpatialBackIdeal.nD Cert.SpatialBackIdeal.τ).loc Cert.SpatialBackIdeal.main_v2_0) = v0 c
          ∧ r.2.mem ((c.tc : Thread Cert.SpatialBackIdeal.nD Cert.SpatialBackIdeal.τ).loc Cert.SpatialBackIdeal.main_v2_1) = v1 c
          ∧ r.2.mem ((c.tc : Thread Cert.SpatialBackIdeal.nD Cert.SpatialBackIdeal.τ).loc Cert.SpatialBackIdeal.main_v2_2) = v2 c
          ∧ r.2.mem ((c.tc : Thread Cert.SpatialBackIdeal.nD Cert.SpatialBackIdeal.τ).loc Cert.SpatialBackIdeal.main_v2_3) = v3 c
          ∧ r.2.mem ((c.tc : Thread Cert.SpatialBackIdeal.nD Cert.SpatialBackIdeal.τ).loc Cert.SpatialBackIdeal.main_arg0) = m ((c.tc : Thread Cert.SpatialBackIdeal.nD Cert.SpatialBackIdeal.τ).loc Cert.SpatialBackIdeal.main_arg0)
          ∧ r.2.mem ((c.tc : Thread Cert.SpatialBackIdeal.nD Cert.SpatialBackIdeal.τ).loc Cert.SpatialBackIdeal.main_arg1) = m ((c.tc : Thread Cert.SpatialBackIdeal.nD Cert.SpatialBackIdeal.τ).loc Cert.SpatialBackIdeal.main_arg1)
          ∧ r.2.mem ((c.tc : Thread Cert.SpatialBackIdeal.nD Cert.SpatialBackIdeal.τ).loc Cert.SpatialBackIdeal.main_arg2) = m ((c.tc : Thread Cert.SpatialBackIdeal.nD Cert.SpatialBackIdeal.τ).loc Cert.SpatialBackIdeal.main_arg2)
          ∧ r.2.mem ((c.tc : Thread Cert.SpatialBackIdeal.nD Cert.SpatialBackIdeal.τ).loc Cert.SpatialBackIdeal.main_arg3) = m ((c.tc : Thread Cert.SpatialBackIdeal.nD Cert.SpatialBackIdeal.τ).loc Cert.SpatialBackIdeal.main_arg3))
      ∧ θ_run (Cert.SpatialBackRefIdeal.defs (F := Ideal)) (onTc (τ := Cert.SpatialBackRefIdeal.τ) (Cert.SpatialBackRefIdeal.main (F := Ideal))) ⟨m', fun _ => 0, g'⟩ (fun r => ∀ c : Dev Cert.SpatialBackRefIdeal.nD,
          r.2.mem ((c.tc : Thread Cert.SpatialBackRefIdeal.nD Cert.SpatialBackRefIdeal.τ).loc Cert.SpatialBackRefIdeal.main_v114) = v0 c
          ∧ r.2.mem ((c.tc : Thread Cert.SpatialBackRefIdeal.nD Cert.SpatialBackRefIdeal.τ).loc Cert.SpatialBackRefIdeal.main_v98) = v1 c
          ∧ r.2.mem ((c.tc : Thread Cert.SpatialBackRefIdeal.nD Cert.SpatialBackRefIdeal.τ).loc Cert.SpatialBackRefIdeal.main_v82) = v2 c
          ∧ r.2.mem ((c.tc : Thread Cert.SpatialBackRefIdeal.nD Cert.SpatialBackRefIdeal.τ).loc Cert.SpatialBackRefIdeal.main_v116) = v3 c
          ∧ r.2.mem ((c.tc : Thread Cert.SpatialBackRefIdeal.nD Cert.SpatialBackRefIdeal.τ).loc Cert.SpatialBackRefIdeal.main_arg0) = m' ((c.tc : Thread Cert.SpatialBackRefIdeal.nD Cert.SpatialBackRefIdeal.τ).loc Cert.SpatialBackRefIdeal.main_arg0)
          ∧ r.2.mem ((c.tc : Thread Cert.SpatialBackRefIdeal.nD Cert.SpatialBackRefIdeal.τ).loc Cert.SpatialBackRefIdeal.main_arg1) = m' ((c.tc : Thread Cert.SpatialBackRefIdeal.nD Cert.SpatialBackRefIdeal.τ).loc Cert.SpatialBackRefIdeal.main_arg1)
          ∧ r.2.mem ((c.tc : Thread Cert.SpatialBackRefIdeal.nD Cert.SpatialBackRefIdeal.τ).loc Cert.SpatialBackRefIdeal.main_arg2) = m' ((c.tc : Thread Cert.SpatialBackRefIdeal.nD Cert.SpatialBackRefIdeal.τ).loc Cert.SpatialBackRefIdeal.main_arg2)
          ∧ r.2.mem ((c.tc : Thread Cert.SpatialBackRefIdeal.nD Cert.SpatialBackRefIdeal.τ).loc Cert.SpatialBackRefIdeal.main_arg3) = m' ((c.tc : Thread Cert.SpatialBackRefIdeal.nD Cert.SpatialBackRefIdeal.τ).loc Cert.SpatialBackRefIdeal.main_arg3))

def preserves_Spatial_SpatialIdeal : Prop :=
  True

def algebraic_SpatialIdeal_SpatialRefIdeal [hSpatialIdeal : Cert.SpatialIdeal.Facts] [hSpatialRefIdeal : Cert.SpatialRefIdeal.Facts] : Prop :=
  ∀ (m : (ℓ : Loc Cert.SpatialIdeal.nD Cert.SpatialIdeal.τ Cert.SpatialIdeal.sig) → Buf (Elt Ideal) ℓ) (g : Dev Cert.SpatialIdeal.nD → PrngReg)
    (m' : (ℓ : Loc Cert.SpatialRefIdeal.nD Cert.SpatialRefIdeal.τ Cert.SpatialRefIdeal.sig) → Buf (Elt Ideal) ℓ) (g' : Dev Cert.SpatialRefIdeal.nD → PrngReg), Pre_SpatialIdeal m →
    (∀ c : Dev Cert.SpatialIdeal.nD,
      m' ((c.tc : Thread Cert.SpatialRefIdeal.nD Cert.SpatialRefIdeal.τ).loc Cert.SpatialRefIdeal.main_arg0) = m ((c.tc : Thread Cert.SpatialIdeal.nD Cert.SpatialIdeal.τ).loc Cert.SpatialIdeal.main_arg0)
      ∧ m' ((c.tc : Thread Cert.SpatialRefIdeal.nD Cert.SpatialRefIdeal.τ).loc Cert.SpatialRefIdeal.main_arg1) = m ((c.tc : Thread Cert.SpatialIdeal.nD Cert.SpatialIdeal.τ).loc Cert.SpatialIdeal.main_arg1)
      ∧ m' ((c.tc : Thread Cert.SpatialRefIdeal.nD Cert.SpatialRefIdeal.τ).loc Cert.SpatialRefIdeal.main_arg2) = m ((c.tc : Thread Cert.SpatialIdeal.nD Cert.SpatialIdeal.τ).loc Cert.SpatialIdeal.main_arg2)) →
    ∃ (v0 : (c : Dev Cert.SpatialIdeal.nD) → Buf (Elt Ideal) ((c.tc : Thread Cert.SpatialIdeal.nD Cert.SpatialIdeal.τ).loc Cert.SpatialIdeal.main_v2)),
      θ_run (Cert.SpatialIdeal.defs (F := Ideal)) (onTc (τ := Cert.SpatialIdeal.τ) (Cert.SpatialIdeal.main (F := Ideal))) ⟨m, fun _ => 0, g⟩ (fun r => ∀ c : Dev Cert.SpatialIdeal.nD,
          r.2.mem ((c.tc : Thread Cert.SpatialIdeal.nD Cert.SpatialIdeal.τ).loc Cert.SpatialIdeal.main_v2) = v0 c
          ∧ r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
          ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
          ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2))
      ∧ θ_run (Cert.SpatialRefIdeal.defs (F := Ideal)) (onTc (τ := Cert.SpatialRefIdeal.τ) (Cert.SpatialRefIdeal.main (F := Ideal))) ⟨m', fun _ => 0, g'⟩ (fun r => ∀ c : Dev Cert.SpatialRefIdeal.nD,
          r.2.mem ((c.tc : Thread Cert.SpatialRefIdeal.nD Cert.SpatialRefIdeal.τ).loc Cert.SpatialRefIdeal.main_v46) = v0 c
          ∧ r.2.mem ((c.tc : Thread Cert.SpatialRefIdeal.nD Cert.SpatialRefIdeal.τ).loc Cert.SpatialRefIdeal.main_arg0) = m' ((c.tc : Thread Cert.SpatialRefIdeal.nD Cert.SpatialRefIdeal.τ).loc Cert.SpatialRefIdeal.main_arg0)
          ∧ r.2.mem ((c.tc : Thread Cert.SpatialRefIdeal.nD Cert.SpatialRefIdeal.τ).loc Cert.SpatialRefIdeal.main_arg1) = m' ((c.tc : Thread Cert.SpatialRefIdeal.nD Cert.SpatialRefIdeal.τ).loc Cert.SpatialRefIdeal.main_arg1)
          ∧ r.2.mem ((c.tc : Thread Cert.SpatialRefIdeal.nD Cert.SpatialRefIdeal.τ).loc Cert.SpatialRefIdeal.main_arg2) = m' ((c.tc : Thread Cert.SpatialRefIdeal.nD Cert.SpatialRefIdeal.τ).loc Cert.SpatialRefIdeal.main_arg2))

def preserves_ShortConv_ShortConvIdeal : Prop :=
  True

def algebraic_ShortConvIdeal_ShortConvRefIdeal [hShortConvIdeal : Cert.ShortConvIdeal.Facts] [hShortConvRefIdeal : Cert.ShortConvRefIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvRefIdeal.nD Cert.ShortConvRefIdeal.τ Cert.ShortConvRefIdeal.sig) → Buf (Elt Ideal) ℓ) (g' : Dev Cert.ShortConvRefIdeal.nD → PrngReg), Pre_ShortConvIdeal m →
    (∀ c : Dev Cert.ShortConvIdeal.nD,
      m' ((c.tc : Thread Cert.ShortConvRefIdeal.nD Cert.ShortConvRefIdeal.τ).loc Cert.ShortConvRefIdeal.main_arg0) = m ((c.tc : Thread Cert.ShortConvIdeal.nD Cert.ShortConvIdeal.τ).loc Cert.ShortConvIdeal.main_arg0)
      ∧ m' ((c.tc : Thread Cert.ShortConvRefIdeal.nD Cert.ShortConvRefIdeal.τ).loc Cert.ShortConvRefIdeal.main_arg1) = m ((c.tc : Thread Cert.ShortConvIdeal.nD Cert.ShortConvIdeal.τ).loc Cert.ShortConvIdeal.main_arg1)) →
    ∃ (v0 : (c : Dev Cert.ShortConvIdeal.nD) → Buf (Elt Ideal) ((c.tc : Thread Cert.ShortConvIdeal.nD Cert.ShortConvIdeal.τ).loc Cert.ShortConvIdeal.main_v0)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v0) = v0 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1))
      ∧ θ_run (Cert.ShortConvRefIdeal.defs (F := Ideal)) (onTc (τ := Cert.ShortConvRefIdeal.τ) (Cert.ShortConvRefIdeal.main (F := Ideal))) ⟨m', fun _ => 0, g'⟩ (fun r => ∀ c : Dev Cert.ShortConvRefIdeal.nD,
          r.2.mem ((c.tc : Thread Cert.ShortConvRefIdeal.nD Cert.ShortConvRefIdeal.τ).loc Cert.ShortConvRefIdeal.main_v30) = v0 c
          ∧ r.2.mem ((c.tc : Thread Cert.ShortConvRefIdeal.nD Cert.ShortConvRefIdeal.τ).loc Cert.ShortConvRefIdeal.main_arg0) = m' ((c.tc : Thread Cert.ShortConvRefIdeal.nD Cert.ShortConvRefIdeal.τ).loc Cert.ShortConvRefIdeal.main_arg0)
          ∧ r.2.mem ((c.tc : Thread Cert.ShortConvRefIdeal.nD Cert.ShortConvRefIdeal.τ).loc Cert.ShortConvRefIdeal.main_arg1) = m' ((c.tc : Thread Cert.ShortConvRefIdeal.nD Cert.ShortConvRefIdeal.τ).loc Cert.ShortConvRefIdeal.main_arg1))

def preserves_NormFirst_NormFirstIdeal : Prop :=
  True

def algebraic_NormFirstIdeal_NormFirstRefIdeal_pre_norm_first_finite [hNormFirstIdeal : Cert.NormFirstIdeal.Facts] [hNormFirstRefIdeal : Cert.NormFirstRefIdeal.Facts] [hPre_norm_first_finite : Cert.Pre_norm_first_finite.Facts] : Prop :=
  ∀ (m : (ℓ : Loc Cert.NormFirstIdeal.nD Cert.NormFirstIdeal.τ Cert.NormFirstIdeal.sig) → Buf (Elt Ideal) ℓ) (g : Dev Cert.NormFirstIdeal.nD → PrngReg)
    (m' : (ℓ : Loc Cert.NormFirstRefIdeal.nD Cert.NormFirstRefIdeal.τ Cert.NormFirstRefIdeal.sig) → Buf (Elt Ideal) ℓ) (g' : Dev Cert.NormFirstRefIdeal.nD → PrngReg), Pre_NormFirstIdeal_norm_first_finite m →
    (∀ c : Dev Cert.NormFirstIdeal.nD,
      m' ((c.tc : Thread Cert.NormFirstRefIdeal.nD Cert.NormFirstRefIdeal.τ).loc Cert.NormFirstRefIdeal.main_arg0) = m ((c.tc : Thread Cert.NormFirstIdeal.nD Cert.NormFirstIdeal.τ).loc Cert.NormFirstIdeal.main_arg0)
      ∧ m' ((c.tc : Thread Cert.NormFirstRefIdeal.nD Cert.NormFirstRefIdeal.τ).loc Cert.NormFirstRefIdeal.main_arg1) = m ((c.tc : Thread Cert.NormFirstIdeal.nD Cert.NormFirstIdeal.τ).loc Cert.NormFirstIdeal.main_arg1)
      ∧ m' ((c.tc : Thread Cert.NormFirstRefIdeal.nD Cert.NormFirstRefIdeal.τ).loc Cert.NormFirstRefIdeal.main_arg2) = m ((c.tc : Thread Cert.NormFirstIdeal.nD Cert.NormFirstIdeal.τ).loc Cert.NormFirstIdeal.main_arg2)
      ∧ m' ((c.tc : Thread Cert.NormFirstRefIdeal.nD Cert.NormFirstRefIdeal.τ).loc Cert.NormFirstRefIdeal.main_arg3) = m ((c.tc : Thread Cert.NormFirstIdeal.nD Cert.NormFirstIdeal.τ).loc Cert.NormFirstIdeal.main_arg3)
      ∧ m' ((c.tc : Thread Cert.NormFirstRefIdeal.nD Cert.NormFirstRefIdeal.τ).loc Cert.NormFirstRefIdeal.main_arg4) = m ((c.tc : Thread Cert.NormFirstIdeal.nD Cert.NormFirstIdeal.τ).loc Cert.NormFirstIdeal.main_arg4)) →
    ∃ (v0 : (c : Dev Cert.NormFirstIdeal.nD) → Buf (Elt Ideal) ((c.tc : Thread Cert.NormFirstIdeal.nD Cert.NormFirstIdeal.τ).loc Cert.NormFirstIdeal.main_v0_0)) (v1 : (c : Dev Cert.NormFirstIdeal.nD) → Buf (Elt Ideal) ((c.tc : Thread Cert.NormFirstIdeal.nD Cert.NormFirstIdeal.τ).loc Cert.NormFirstIdeal.main_v0_1)) (v2 : (c : Dev Cert.NormFirstIdeal.nD) → Buf (Elt Ideal) ((c.tc : Thread Cert.NormFirstIdeal.nD Cert.NormFirstIdeal.τ).loc Cert.NormFirstIdeal.main_v0_2)) (v3 : (c : Dev Cert.NormFirstIdeal.nD) → Buf (Elt Ideal) ((c.tc : Thread Cert.NormFirstIdeal.nD Cert.NormFirstIdeal.τ).loc Cert.NormFirstIdeal.main_v0_3)),
      θ_run (Cert.NormFirstIdeal.defs (F := Ideal)) (onTc (τ := Cert.NormFirstIdeal.τ) (Cert.NormFirstIdeal.main (F := Ideal))) ⟨m, fun _ => 0, g⟩ (fun r => ∀ c : Dev Cert.NormFirstIdeal.nD,
          r.2.mem ((c.tc : Thread Cert.NormFirstIdeal.nD Cert.NormFirstIdeal.τ).loc Cert.NormFirstIdeal.main_v0_0) = v0 c
          ∧ r.2.mem ((c.tc : Thread Cert.NormFirstIdeal.nD Cert.NormFirstIdeal.τ).loc Cert.NormFirstIdeal.main_v0_1) = v1 c
          ∧ r.2.mem ((c.tc : Thread Cert.NormFirstIdeal.nD Cert.NormFirstIdeal.τ).loc Cert.NormFirstIdeal.main_v0_2) = v2 c
          ∧ r.2.mem ((c.tc : Thread Cert.NormFirstIdeal.nD Cert.NormFirstIdeal.τ).loc Cert.NormFirstIdeal.main_v0_3) = v3 c
          ∧ r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
          ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
          ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
          ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3)
          ∧ r.2.mem ((c.tc : Thread Cert.NormFirstIdeal.nD Cert.NormFirstIdeal.τ).loc Cert.NormFirstIdeal.main_arg4) = m ((c.tc : Thread Cert.NormFirstIdeal.nD Cert.NormFirstIdeal.τ).loc Cert.NormFirstIdeal.main_arg4))
      ∧ θ_run (Cert.NormFirstRefIdeal.defs (F := Ideal)) (onTc (τ := Cert.NormFirstRefIdeal.τ) (Cert.NormFirstRefIdeal.main (F := Ideal))) ⟨m', fun _ => 0, g'⟩ (fun r => ∀ c : Dev Cert.NormFirstRefIdeal.nD,
          r.2.mem ((c.tc : Thread Cert.NormFirstRefIdeal.nD Cert.NormFirstRefIdeal.τ).loc Cert.NormFirstRefIdeal.main_v50) = v0 c
          ∧ r.2.mem ((c.tc : Thread Cert.NormFirstRefIdeal.nD Cert.NormFirstRefIdeal.τ).loc Cert.NormFirstRefIdeal.main_v25) = v1 c
          ∧ r.2.mem ((c.tc : Thread Cert.NormFirstRefIdeal.nD Cert.NormFirstRefIdeal.τ).loc Cert.NormFirstRefIdeal.main_v28) = v2 c
          ∧ r.2.mem ((c.tc : Thread Cert.NormFirstRefIdeal.nD Cert.NormFirstRefIdeal.τ).loc Cert.NormFirstRefIdeal.main_v33) = v3 c
          ∧ r.2.mem ((c.tc : Thread Cert.NormFirstRefIdeal.nD Cert.NormFirstRefIdeal.τ).loc Cert.NormFirstRefIdeal.main_arg0) = m' ((c.tc : Thread Cert.NormFirstRefIdeal.nD Cert.NormFirstRefIdeal.τ).loc Cert.NormFirstRefIdeal.main_arg0)
          ∧ r.2.mem ((c.tc : Thread Cert.NormFirstRefIdeal.nD Cert.NormFirstRefIdeal.τ).loc Cert.NormFirstRefIdeal.main_arg1) = m' ((c.tc : Thread Cert.NormFirstRefIdeal.nD Cert.NormFirstRefIdeal.τ).loc Cert.NormFirstRefIdeal.main_arg1)
          ∧ r.2.mem ((c.tc : Thread Cert.NormFirstRefIdeal.nD Cert.NormFirstRefIdeal.τ).loc Cert.NormFirstRefIdeal.main_arg2) = m' ((c.tc : Thread Cert.NormFirstRefIdeal.nD Cert.NormFirstRefIdeal.τ).loc Cert.NormFirstRefIdeal.main_arg2)
          ∧ r.2.mem ((c.tc : Thread Cert.NormFirstRefIdeal.nD Cert.NormFirstRefIdeal.τ).loc Cert.NormFirstRefIdeal.main_arg3) = m' ((c.tc : Thread Cert.NormFirstRefIdeal.nD Cert.NormFirstRefIdeal.τ).loc Cert.NormFirstRefIdeal.main_arg3)
          ∧ r.2.mem ((c.tc : Thread Cert.NormFirstRefIdeal.nD Cert.NormFirstRefIdeal.τ).loc Cert.NormFirstRefIdeal.main_arg4) = m' ((c.tc : Thread Cert.NormFirstRefIdeal.nD Cert.NormFirstRefIdeal.τ).loc Cert.NormFirstRefIdeal.main_arg4))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)) (v3 : (c : Dev Cert.AdamNormIdeal.nD) → Buf (Elt Ideal) ((c.tc : Thread Cert.AdamNormIdeal.nD Cert.AdamNormIdeal.τ).loc Cert.AdamNormIdeal.main_v0_3)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_v0_3) = v3 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v0) = v0 c
          ∧ r.2.mem ((c.tc : Thread Cert.AdamNormRefIdeal.nD Cert.AdamNormRefIdeal.τ).loc Cert.AdamNormRefIdeal.main_v24) = v1 c
          ∧ r.2.mem ((c.tc : Thread Cert.AdamNormRefIdeal.nD Cert.AdamNormRefIdeal.τ).loc Cert.AdamNormRefIdeal.main_v5) = v2 c
          ∧ r.2.mem ((c.tc : Thread Cert.AdamNormRefIdeal.nD Cert.AdamNormRefIdeal.τ).loc Cert.AdamNormRefIdeal.main_v11) = v3 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def Claim : Prop :=
  ∃ (hConv : Cert.Conv.Facts) (hConvIdeal : Cert.ConvIdeal.Facts) (hConvRefIdeal : Cert.ConvRefIdeal.Facts) (hGate : Cert.Gate.Facts) (hGateIdeal : Cert.GateIdeal.Facts) (hGateRefIdeal : Cert.GateRefIdeal.Facts) (hInput : Cert.Input.Facts) (hInputIdeal : Cert.InputIdeal.Facts) (hInputRefIdeal : Cert.InputRefIdeal.Facts) (hInWeight : Cert.InWeight.Facts) (hInWeightIdeal : Cert.InWeightIdeal.Facts) (hInWeightRefIdeal : Cert.InWeightRefIdeal.Facts) (hDownWeight : Cert.DownWeight.Facts) (hDownWeightIdeal : Cert.DownWeightIdeal.Facts) (hDownWeightRefIdeal : Cert.DownWeightRefIdeal.Facts) (hOutWeight : Cert.OutWeight.Facts) (hOutWeightIdeal : Cert.OutWeightIdeal.Facts) (hOutWeightRefIdeal : Cert.OutWeightRefIdeal.Facts) (hOutInput : Cert.OutInput.Facts) (hOutInputIdeal : Cert.OutInputIdeal.Facts) (hOutInputRefIdeal : Cert.OutInputRefIdeal.Facts) (hMixInput : Cert.MixInput.Facts) (hMixInputIdeal : Cert.MixInputIdeal.Facts) (hMixInputRefIdeal : Cert.MixInputRefIdeal.Facts) (hConvInput : Cert.ConvInput.Facts) (hConvInputIdeal : Cert.ConvInputIdeal.Facts) (hConvInputRefIdeal : Cert.ConvInputRefIdeal.Facts) (hConvWeight : Cert.ConvWeight.Facts) (hConvWeightIdeal : Cert.ConvWeightIdeal.Facts) (hConvWeightRefIdeal : Cert.ConvWeightRefIdeal.Facts) (hAct : Cert.Act.Facts) (hActIdeal : Cert.ActIdeal.Facts) (hActRefIdeal : Cert.ActRefIdeal.Facts) (hDown : Cert.Down.Facts) (hDownIdeal : Cert.DownIdeal.Facts) (hDownRefIdeal : Cert.DownRefIdeal.Facts) (hMixIn : Cert.MixIn.Facts) (hMixInIdeal : Cert.MixInIdeal.Facts) (hMixInRefIdeal : Cert.MixInRefIdeal.Facts) (hConvIn : Cert.ConvIn.Facts) (hConvInIdeal : Cert.ConvInIdeal.Facts) (hConvInRefIdeal : Cert.ConvInRefIdeal.Facts) (hMixOut : Cert.MixOut.Facts) (hMixOutIdeal : Cert.MixOutIdeal.Facts) (hMixOutRefIdeal : Cert.MixOutRefIdeal.Facts) (hNormBack : Cert.NormBack.Facts) (hNormBackIdeal : Cert.NormBackIdeal.Facts) (hNormBackRefIdeal : Cert.NormBackRefIdeal.Facts) (hNormIn : Cert.NormIn.Facts) (hNormInIdeal : Cert.NormInIdeal.Facts) (hNormInRefIdeal : Cert.NormInRefIdeal.Facts) (hSpatialBack : Cert.SpatialBack.Facts) (hSpatialBackIdeal : Cert.SpatialBackIdeal.Facts) (hSpatialBackRefIdeal : Cert.SpatialBackRefIdeal.Facts) (hSpatial : Cert.Spatial.Facts) (hSpatialIdeal : Cert.SpatialIdeal.Facts) (hSpatialRefIdeal : Cert.SpatialRefIdeal.Facts) (hShortConv : Cert.ShortConv.Facts) (hShortConvIdeal : Cert.ShortConvIdeal.Facts) (hShortConvRefIdeal : Cert.ShortConvRefIdeal.Facts) (hNormFirst : Cert.NormFirst.Facts) (hNormFirstIdeal : Cert.NormFirstIdeal.Facts) (hNormFirstRefIdeal : Cert.NormFirstRefIdeal.Facts) (hAdam : Cert.Adam.Facts) (hAdamIdeal : Cert.AdamIdeal.Facts) (hAdamRefIdeal : Cert.AdamRefIdeal.Facts) (hAdamOut : Cert.AdamOut.Facts) (hAdamOutIdeal : Cert.AdamOutIdeal.Facts) (hAdamOutRefIdeal : Cert.AdamOutRefIdeal.Facts) (hAdamNorm : Cert.AdamNorm.Facts) (hAdamNormIdeal : Cert.AdamNormIdeal.Facts) (hAdamNormRefIdeal : Cert.AdamNormRefIdeal.Facts) (hPre_gate_finite : Cert.Pre_gate_finite.Facts) (hPre_norm_finite : Cert.Pre_norm_finite.Facts) (hPre_spatial_finite : Cert.Pre_spatial_finite.Facts) (hPre_norm_first_finite : Cert.Pre_norm_first_finite.Facts),
    quiescent_Conv (hConv := hConv)
    ∧ quiescent_ConvIdeal (hConvIdeal := hConvIdeal)
    ∧ quiescent_ConvRefIdeal (hConvRefIdeal := hConvRefIdeal)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Input (hInput := hInput)
    ∧ quiescent_InputIdeal (hInputIdeal := hInputIdeal)
    ∧ quiescent_InputRefIdeal (hInputRefIdeal := hInputRefIdeal)
    ∧ quiescent_InWeight (hInWeight := hInWeight)
    ∧ quiescent_InWeightIdeal (hInWeightIdeal := hInWeightIdeal)
    ∧ quiescent_InWeightRefIdeal (hInWeightRefIdeal := hInWeightRefIdeal)
    ∧ quiescent_DownWeight (hDownWeight := hDownWeight)
    ∧ quiescent_DownWeightIdeal (hDownWeightIdeal := hDownWeightIdeal)
    ∧ quiescent_DownWeightRefIdeal (hDownWeightRefIdeal := hDownWeightRefIdeal)
    ∧ quiescent_OutWeight (hOutWeight := hOutWeight)
    ∧ quiescent_OutWeightIdeal (hOutWeightIdeal := hOutWeightIdeal)
    ∧ quiescent_OutWeightRefIdeal (hOutWeightRefIdeal := hOutWeightRefIdeal)
    ∧ quiescent_OutInput (hOutInput := hOutInput)
    ∧ quiescent_OutInputIdeal (hOutInputIdeal := hOutInputIdeal)
    ∧ quiescent_OutInputRefIdeal (hOutInputRefIdeal := hOutInputRefIdeal)
    ∧ quiescent_MixInput (hMixInput := hMixInput)
    ∧ quiescent_MixInputIdeal (hMixInputIdeal := hMixInputIdeal)
    ∧ quiescent_MixInputRefIdeal (hMixInputRefIdeal := hMixInputRefIdeal)
    ∧ quiescent_ConvInput (hConvInput := hConvInput)
    ∧ quiescent_ConvInputIdeal (hConvInputIdeal := hConvInputIdeal)
    ∧ quiescent_ConvInputRefIdeal (hConvInputRefIdeal := hConvInputRefIdeal)
    ∧ quiescent_ConvWeight (hConvWeight := hConvWeight)
    ∧ quiescent_ConvWeightIdeal (hConvWeightIdeal := hConvWeightIdeal)
    ∧ quiescent_ConvWeightRefIdeal (hConvWeightRefIdeal := hConvWeightRefIdeal)
    ∧ quiescent_Act (hAct := hAct)
    ∧ quiescent_ActIdeal (hActIdeal := hActIdeal)
    ∧ quiescent_ActRefIdeal (hActRefIdeal := hActRefIdeal)
    ∧ quiescent_Down (hDown := hDown)
    ∧ quiescent_DownIdeal (hDownIdeal := hDownIdeal)
    ∧ quiescent_DownRefIdeal (hDownRefIdeal := hDownRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_NormBack (hNormBack := hNormBack)
    ∧ quiescent_NormBackIdeal (hNormBackIdeal := hNormBackIdeal)
    ∧ quiescent_NormBackIdeal_pre_norm_finite (hNormBackIdeal := hNormBackIdeal) (hPre_norm_finite := hPre_norm_finite)
    ∧ quiescent_NormBackRefIdeal (hNormBackRefIdeal := hNormBackRefIdeal)
    ∧ quiescent_NormBackRefIdeal_pre_norm_finite (hNormBackRefIdeal := hNormBackRefIdeal) (hPre_norm_finite := hPre_norm_finite)
    ∧ quiescent_NormIn (hNormIn := hNormIn)
    ∧ quiescent_NormInIdeal (hNormInIdeal := hNormInIdeal)
    ∧ quiescent_NormInRefIdeal (hNormInRefIdeal := hNormInRefIdeal)
    ∧ quiescent_SpatialBack (hSpatialBack := hSpatialBack)
    ∧ quiescent_SpatialBackIdeal (hSpatialBackIdeal := hSpatialBackIdeal)
    ∧ quiescent_SpatialBackIdeal_pre_spatial_finite (hSpatialBackIdeal := hSpatialBackIdeal) (hPre_spatial_finite := hPre_spatial_finite)
    ∧ quiescent_SpatialBackRefIdeal (hSpatialBackRefIdeal := hSpatialBackRefIdeal)
    ∧ quiescent_SpatialBackRefIdeal_pre_spatial_finite (hSpatialBackRefIdeal := hSpatialBackRefIdeal) (hPre_spatial_finite := hPre_spatial_finite)
    ∧ quiescent_Spatial (hSpatial := hSpatial)
    ∧ quiescent_SpatialIdeal (hSpatialIdeal := hSpatialIdeal)
    ∧ quiescent_SpatialRefIdeal (hSpatialRefIdeal := hSpatialRefIdeal)
    ∧ quiescent_ShortConv (hShortConv := hShortConv)
    ∧ quiescent_ShortConvIdeal (hShortConvIdeal := hShortConvIdeal)
    ∧ quiescent_ShortConvRefIdeal (hShortConvRefIdeal := hShortConvRefIdeal)
    ∧ quiescent_NormFirst (hNormFirst := hNormFirst)
    ∧ quiescent_NormFirstIdeal (hNormFirstIdeal := hNormFirstIdeal)
    ∧ quiescent_NormFirstIdeal_pre_norm_first_finite (hNormFirstIdeal := hNormFirstIdeal) (hPre_norm_first_finite := hPre_norm_first_finite)
    ∧ quiescent_NormFirstRefIdeal (hNormFirstRefIdeal := hNormFirstRefIdeal)
    ∧ quiescent_NormFirstRefIdeal_pre_norm_first_finite (hNormFirstRefIdeal := hNormFirstRefIdeal) (hPre_norm_first_finite := hPre_norm_first_finite)
    ∧ quiescent_Adam (hAdam := hAdam)
    ∧ quiescent_AdamIdeal (hAdamIdeal := hAdamIdeal)
    ∧ quiescent_AdamRefIdeal (hAdamRefIdeal := hAdamRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ preserves_Conv_ConvIdeal
    ∧ algebraic_ConvIdeal_ConvRefIdeal (hConvIdeal := hConvIdeal) (hConvRefIdeal := hConvRefIdeal)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Input_InputIdeal
    ∧ algebraic_InputIdeal_InputRefIdeal (hInputIdeal := hInputIdeal) (hInputRefIdeal := hInputRefIdeal)
    ∧ preserves_InWeight_InWeightIdeal
    ∧ algebraic_InWeightIdeal_InWeightRefIdeal (hInWeightIdeal := hInWeightIdeal) (hInWeightRefIdeal := hInWeightRefIdeal)
    ∧ preserves_DownWeight_DownWeightIdeal
    ∧ algebraic_DownWeightIdeal_DownWeightRefIdeal (hDownWeightIdeal := hDownWeightIdeal) (hDownWeightRefIdeal := hDownWeightRefIdeal)
    ∧ preserves_OutWeight_OutWeightIdeal
    ∧ algebraic_OutWeightIdeal_OutWeightRefIdeal (hOutWeightIdeal := hOutWeightIdeal) (hOutWeightRefIdeal := hOutWeightRefIdeal)
    ∧ preserves_OutInput_OutInputIdeal
    ∧ algebraic_OutInputIdeal_OutInputRefIdeal (hOutInputIdeal := hOutInputIdeal) (hOutInputRefIdeal := hOutInputRefIdeal)
    ∧ preserves_MixInput_MixInputIdeal
    ∧ algebraic_MixInputIdeal_MixInputRefIdeal (hMixInputIdeal := hMixInputIdeal) (hMixInputRefIdeal := hMixInputRefIdeal)
    ∧ preserves_ConvInput_ConvInputIdeal
    ∧ algebraic_ConvInputIdeal_ConvInputRefIdeal (hConvInputIdeal := hConvInputIdeal) (hConvInputRefIdeal := hConvInputRefIdeal)
    ∧ preserves_ConvWeight_ConvWeightIdeal
    ∧ algebraic_ConvWeightIdeal_ConvWeightRefIdeal (hConvWeightIdeal := hConvWeightIdeal) (hConvWeightRefIdeal := hConvWeightRefIdeal)
    ∧ preserves_Act_ActIdeal
    ∧ algebraic_ActIdeal_ActRefIdeal (hActIdeal := hActIdeal) (hActRefIdeal := hActRefIdeal)
    ∧ preserves_Down_DownIdeal
    ∧ algebraic_DownIdeal_DownRefIdeal (hDownIdeal := hDownIdeal) (hDownRefIdeal := hDownRefIdeal)
    ∧ preserves_MixIn_MixInIdeal
    ∧ algebraic_MixInIdeal_MixInRefIdeal (hMixInIdeal := hMixInIdeal) (hMixInRefIdeal := hMixInRefIdeal)
    ∧ preserves_ConvIn_ConvInIdeal
    ∧ algebraic_ConvInIdeal_ConvInRefIdeal (hConvInIdeal := hConvInIdeal) (hConvInRefIdeal := hConvInRefIdeal)
    ∧ preserves_MixOut_MixOutIdeal
    ∧ algebraic_MixOutIdeal_MixOutRefIdeal (hMixOutIdeal := hMixOutIdeal) (hMixOutRefIdeal := hMixOutRefIdeal)
    ∧ preserves_NormBack_NormBackIdeal
    ∧ algebraic_NormBackIdeal_NormBackRefIdeal_pre_norm_finite (hNormBackIdeal := hNormBackIdeal) (hNormBackRefIdeal := hNormBackRefIdeal) (hPre_norm_finite := hPre_norm_finite)
    ∧ preserves_NormIn_NormInIdeal
    ∧ algebraic_NormInIdeal_NormInRefIdeal (hNormInIdeal := hNormInIdeal) (hNormInRefIdeal := hNormInRefIdeal)
    ∧ preserves_SpatialBack_SpatialBackIdeal
    ∧ algebraic_SpatialBackIdeal_SpatialBackRefIdeal_pre_spatial_finite (hSpatialBackIdeal := hSpatialBackIdeal) (hSpatialBackRefIdeal := hSpatialBackRefIdeal) (hPre_spatial_finite := hPre_spatial_finite)
    ∧ preserves_Spatial_SpatialIdeal
    ∧ algebraic_SpatialIdeal_SpatialRefIdeal (hSpatialIdeal := hSpatialIdeal) (hSpatialRefIdeal := hSpatialRefIdeal)
    ∧ preserves_ShortConv_ShortConvIdeal
    ∧ algebraic_ShortConvIdeal_ShortConvRefIdeal (hShortConvIdeal := hShortConvIdeal) (hShortConvRefIdeal := hShortConvRefIdeal)
    ∧ preserves_NormFirst_NormFirstIdeal
    ∧ algebraic_NormFirstIdeal_NormFirstRefIdeal_pre_norm_first_finite (hNormFirstIdeal := hNormFirstIdeal) (hNormFirstRefIdeal := hNormFirstRefIdeal) (hPre_norm_first_finite := hPre_norm_first_finite)
    ∧ preserves_Adam_AdamIdeal
    ∧ algebraic_AdamIdeal_AdamRefIdeal (hAdamIdeal := hAdamIdeal) (hAdamRefIdeal := hAdamRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamNorm_AdamNormIdeal
    ∧ algebraic_AdamNormIdeal_AdamNormRefIdeal (hAdamNormIdeal := hAdamNormIdeal) (hAdamNormRefIdeal := hAdamNormRefIdeal)
-- ==== Pre_gate_finite.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S5632x2048 : S_.BroadcastsInDim S5632x2048 (![] : Fin 0 → Fin S5632x2048.rank)
  bcast_S_S8192x5632 : S_.BroadcastsInDim S8192x5632 (![] : Fin 0 → Fin S8192x5632.rank)

variable [Facts]

def fn {F : FTy → Type} [FloatOps F] (main_arg0 : FVec F S8192x2048 .bf16) (main_arg1 : FVec F S5632x2048 .bf16) (main_arg2 : FVec F S8192x5632 .bf16) (main_arg3 : FVec F S8192x5632 .bf16) : IVec S8192x2048 1 × IVec S5632x2048 1 × IVec S8192x5632 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S8192x5632 .f32 := (extf .f32 · bitsLt_bf16_f32) main_arg3
  let main_v9 : FVec F S8192x5632 .f32 := Host.absf main_v8
  let main_cst_1 : FVec F S_ .f32 := constant S_ .f32 0x7F800000#32
  let main_v10 : FVec F S8192x5632 .f32 := broadcastInDim S8192x5632 ![] bcast_S_S8192x5632 main_cst_1
  let main_v11 : IVec S8192x5632 1 := cmpf .olt main_v9 main_v10
  (main_v3, main_v7, main_v11)
-- ==== Pre_norm_finite.lean ====
abbrev S8192x2048 : Shape := ⟨2, ![8192, 2048]⟩
abbrev S1x2048 : Shape := ⟨2, ![1, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S8192x2048 .bf16) (main_arg2 : FVec F S1x2048 .f32) (main_arg3 : FVec F S1x2048 .f32) (main_arg4 : FVec F S8192x2048 .f32) (main_arg5 : FVec F S8192x2048 .bf16) (main_arg6 : FVec F S1x2048 .f32) : IVec S8192x2048 1 × IVec S1x2048 1 × IVec S1x2048 1 :=
  let main_v0 : FVec F S8192x2048 .f32 := (extf .f32 · bitsLt_bf16_f32) main_arg1
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S1x2048 .f32 := Host.absf main_arg2
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_v7 : FVec F S1x2048 .f32 := Host.absf main_arg3
  let main_cst_1 : FVec F S_ .f32 := constant S_ .f32 0x7F800000#32
  let main_v8 : FVec F S1x2048 .f32 := broadcastInDim S1x2048 ![] bcast_S_S1x2048 main_cst_1
  let main_v9 : IVec S1x2048 1 := cmpf .olt main_v7 main_v8
  (main_v3, main_v6, main_v9)
-- ==== Pre_norm_first_finite.lean ====
abbrev S8192x2048 : Shape := ⟨2, ![8192, 2048]⟩
abbrev S1x2048 : Shape := ⟨2, ![1, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S8192x2048 .bf16) (main_arg2 : FVec F S1x2048 .f32) (main_arg3 : FVec F S1x2048 .f32) (main_arg4 : FVec F S8192x2048 .f32) : IVec S8192x2048 1 × IVec S1x2048 1 × IVec S1x2048 1 :=
  let main_v0 : FVec F S8192x2048 .f32 := (extf .f32 · bitsLt_bf16_f32) main_arg1
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S1x2048 .f32 := Host.absf main_arg2
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_v7 : FVec F S1x2048 .f32 := Host.absf main_arg3
  let main_cst_1 : FVec F S_ .f32 := constant S_ .f32 0x7F800000#32
  let main_v8 : FVec F S1x2048 .f32 := broadcastInDim S1x2048 ![] bcast_S_S1x2048 main_cst_1
  let main_v9 : IVec S1x2048 1 := cmpf .olt main_v7 main_v8
  (main_v3, main_v6, main_v9)
-- ==== Pre_spatial_finite.lean ====
abbrev S8192x5632 : Shape := ⟨2, ![8192, 5632]⟩
abbrev S4x128x128 : Shape := ⟨3, ![4, 128, 128]⟩
abbrev S4x128 : Shape := ⟨2, ![4, 128]⟩
abbrev S8192x2048 : Shape := ⟨2, ![8192, 2048]⟩
abbrev S8192x1024 : Shape := ⟨2, ![8192, 1024]⟩
abbrev S8192x512 : Shape := ⟨2, ![8192, 512]⟩
abbrev S_ : Shape := ⟨0, ![]⟩

class Facts : Prop where
  slices_S8192x5632_S8192x1024_0_4608 : S8192x5632.Slices ![0, 4608] S8192x1024
  slices_S8192x2048_S8192x512_0_1536 : S8192x2048.Slices ![0, 1536] S8192x512
  bitsLt_bf16_f32 : FTy.bits .bf16 < FTy.bits .f32
  bcast_S_S8192x1024 : S_.BroadcastsInDim S8192x1024 (![] : Fin 0 → Fin S8192x1024.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S8192x512 : S_.BroadcastsInDim S8192x512 (![] : Fin 0 → Fin S8192x512.rank)

variable [Facts]

def fn {F : FTy → Type} [FloatOps F] (main_arg0 : FVec F S8192x5632 .bf16) (main_arg1 : FVec F S4x128x128 .f32) (main_arg2 : FVec F S4x128 .f32) (main_arg3 : FVec F S8192x2048 .bf16) : IVec S8192x1024 1 × IVec S4x128x128 1 × IVec S4x128 1 × IVec S8192x512 1 :=
  let main_v0 : FVec F S8192x1024 .bf16 := (extractStridedSlice S8192x1024 ![0, 4608] · slices_S8192x5632_S8192x1024_0_4608) main_arg0
  let main_v1 : FVec F S8192x512 .bf16 := (extractStridedSlice S8192x512 ![0, 1536] · slices_S8192x2048_S8192x512_0_1536) main_arg3
  let main_v2 : FVec F S8192x1024 .f32 := (extf .f32 · bitsLt_bf16_f32) main_v0
  let main_v3 : FVec F S8192x1024 .f32 := Host.absf main_v2
  let main_cst : FVec F S_ .f32 := constant S_ .f32 0x7F800000#32
  let main_v4 : FVec F S8192x1024 .f32 := broadcastInDim S8192x1024 ![] bcast_S_S8192x1024 main_cst
  let main_v5 : IVec S8192x1024 1 := cmpf .olt main_v3 main_v4
  let main_v6 : FVec F S4x128x128 .f32 := Host.absf main_arg1
  let main_cst_0 : FVec F S_ .f32 := constant S_ .f32 0x7F800000#32
  let main_v7 : FVec F S4x128x128 .f32 := broadcastInDim S4x128x128 ![] bcast_S_S4x128x128 main_cst_0
  let main_v8 : IVec S4x128x128 1 := cmpf .olt main_v6 main_v7
  let main_v9 : FVec F S4x128 .f32 := Host.absf main_arg2
  let main_cst_1 : FVec F S_ .f32 := constant S_ .f32 0x7F800000#32
  let main_v10 : FVec F S4x128 .f32 := broadcastInDim S4x128 ![] bcast_S_S4x128 main_cst_1
  let main_v11 : IVec S4x128 1 := cmpf .olt main_v9 main_v10
  let main_v12 : FVec F S8192x512 .f32 := (extf .f32 · bitsLt_bf16_f32) main_v1
  let main_v13 : FVec F S8192x512 .f32 := Host.absf main_v12
  let main_cst_2 : FVec F S_ .f32 := constant S_ .f32 0x7F800000#32
  let main_v14 : FVec F S8192x512 .f32 := broadcastInDim S8192x512 ![] bcast_S_S8192x512 main_cst_2
  let main_v15 : IVec S8192x512 1 := cmpf .olt main_v13 main_v14
  (main_v5, main_v8, main_v11, main_v15)
-- ==== Conv.lean ====
abbrev S8192x6144 : Shape := ⟨2, ![8192, 6144]⟩
abbrev S3x2048 : Shape := ⟨2, ![3, 2048]⟩
abbrev S8192x2048 : Shape := ⟨2, ![8192, 2048]⟩
abbrev S128x6144 : Shape := ⟨2, ![128, 6144]⟩
abbrev S8x6144 : Shape := ⟨2, ![8, 6144]⟩
abbrev S128x2048 : Shape := ⟨2, ![128, 2048]⟩
abbrev S8x2048 : Shape := ⟨2, ![8, 2048]⟩
abbrev S3x8x2048 : Shape := ⟨3, ![3, 8, 2048]⟩
abbrev S136x2048 : Shape := ⟨2, ![136, 2048]⟩
abbrev S1x2048 : Shape := ⟨2, ![1, 2048]⟩
abbrev S1x8x2048 : Shape := ⟨3, ![1, 8, 2048]⟩
abbrev S16x8x2048 : Shape := ⟨3, ![16, 8, 2048]⟩
abbrev S2048 : Shape := ⟨1, ![2048]⟩

abbrev nBuf : Space → Nat
  | .hbm => 5
  | .vmem => 15
  | .smem => 0
  | _ => 0

abbrev bufTy : (tb : Table) → Fin (tcTables nBuf tb) → BufTy
  | .hbm, ⟨0, _⟩ => ⟨S8192x6144, .bf16⟩
  | .hbm, ⟨1, _⟩ => ⟨S3x2048, .f32⟩
  | .hbm, ⟨2, _⟩ => ⟨S8192x2048, .bf16⟩
  | .hbm, ⟨3, _⟩ => ⟨S8192x6144, .bf16⟩
  | .hbm, ⟨4, _⟩ => ⟨S3x2048, .f32⟩
  | .local _ .vmem, ⟨0, _⟩ => ⟨S128x6144, .bf16⟩
  | .local _ .vmem, ⟨1, _⟩ => ⟨S128x6144, .bf16⟩
  | .local _ .vmem, ⟨2, _⟩ => ⟨S8x6144, .bf16⟩
  | .local _ .vmem, ⟨3, _⟩ => ⟨S8x6144, .bf16⟩
  | .local _ .vmem, ⟨4, _⟩ => ⟨S8x6144, .bf16⟩
  | .local _ .vmem, ⟨5, _⟩ => ⟨S8x6144, .bf16⟩
  | .local _ .vmem, ⟨6, _⟩ => ⟨S128x2048, .bf16⟩
  | .local _ .vmem, ⟨7, _⟩ => ⟨S128x2048, .bf16⟩
  | .local _ .vmem, ⟨8, _⟩ => ⟨S8x2048, .bf16⟩
  | .local _ .vmem, ⟨9, _⟩ => ⟨S8x2048, .bf16⟩
  | .local _ .vmem, ⟨10, _⟩ => ⟨S3x2048, .f32⟩
  | .local _ .vmem, ⟨11, _⟩ => ⟨S128x6144, .bf16⟩
  | .local _ .vmem, ⟨12, _⟩ => ⟨S128x6144, .bf16⟩
  | .local _ .vmem, ⟨13, _⟩ => ⟨S3x2048, .f32⟩
  | .local _ .vmem, ⟨14, _⟩ => ⟨S3x8x2048, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32_39 : BitVec 32 := 63#32
  let v103 : BitVec 1 := Scalar.cmpi .eq arg0 c63_i32_39
  let v104 : BitVec 32 := Scalar.extui v103
  let c0_i32_40 : BitVec 32 := 0#32
  let v105 : BitVec 1 := Scalar.cmpi .ne v104 c0_i32_40
  v105

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvRefIdeal.lean ====
abbrev S8192x6144 : Shape := ⟨2, ![8192, 6144]⟩
abbrev S3x2048 : Shape := ⟨2, ![3, 2048]⟩
abbrev S8192x2048 : Shape := ⟨2, ![8192, 2048]⟩
abbrev S_ : Shape := ⟨0, ![]⟩
abbrev S2x2048 : Shape := ⟨2, ![2, 2048]⟩
abbrev S8194x2048 : Shape := ⟨2, ![8194, 2048]⟩
abbrev S1x2048 : Shape := ⟨2, ![1, 2048]⟩
abbrev S2048 : Shape := ⟨1, ![2048]⟩

abbrev nBuf : Space → Nat
  | .hbm => 90
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S3x2048, .f32⟩
  | .hbm, ⟨2, _⟩ => ⟨S8192x2048, .bf16⟩
  | .hbm, ⟨3, _⟩ => ⟨S8192x6144, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S2x2048, .f32⟩
  | .hbm, ⟨10, _⟩ => ⟨S8194x2048, .f32⟩
  | .hbm, ⟨11, _⟩ => ⟨S_, .f32⟩
  | .hbm, ⟨12, _⟩ => ⟨S2x2048, .f32⟩
  | .hbm, ⟨13, _⟩ => ⟨S1x2048, .f32⟩
  | .hbm, ⟨14, _⟩ => ⟨S2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S2048, .f32⟩
  | .hbm, ⟨31, _⟩ => ⟨S8192x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S_, .f32⟩
  | .hbm, ⟨48, _⟩ => ⟨S2048, .f32⟩
  | .hbm, ⟨49, _⟩ => ⟨S_, .f32⟩
  | .hbm, ⟨50, _⟩ => ⟨S8194x2048, .f32⟩
  | .hbm, ⟨51, _⟩ => ⟨S1x2048, .f32⟩
  | .hbm, ⟨52, _⟩ => ⟨S_, .f32⟩
  | .hbm, ⟨53, _⟩ => ⟨S3x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S_, .f32⟩
  | .hbm, ⟨61, _⟩ => ⟨S2048, .f32⟩
  | .hbm, ⟨62, _⟩ => ⟨S_, .f32⟩
  | .hbm, ⟨63, _⟩ => ⟨S8194x2048, .f32⟩
  | .hbm, ⟨64, _⟩ => ⟨S8194x2048, .f32⟩
  | .hbm, ⟨65, _⟩ => ⟨S1x2048, .f32⟩
  | .hbm, ⟨66, _⟩ => ⟨S_, .f32⟩
  | .hbm, ⟨67, _⟩ => ⟨S3x2048, .f32⟩
  | .hbm, ⟨68, _⟩ => ⟨S3x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S_, .f32⟩
  | .hbm, ⟨73, _⟩ => ⟨S2048, .f32⟩
  | .hbm, ⟨74, _⟩ => ⟨S1x2048, .f32⟩
  | .hbm, ⟨75, _⟩ => ⟨S_, .f32⟩
  | .hbm, ⟨76, _⟩ => ⟨S2048, .f32⟩
  | .hbm, ⟨77, _⟩ => ⟨S_, .f32⟩
  | .hbm, ⟨78, _⟩ => ⟨S8194x2048, .f32⟩
  | .hbm, ⟨79, _⟩ => ⟨S8194x2048, .f32⟩
  | .hbm, ⟨80, _⟩ => ⟨S1x2048, .f32⟩
  | .hbm, ⟨81, _⟩ => ⟨S_, .f32⟩
  | .hbm, ⟨82, _⟩ => ⟨S3x2048, .f32⟩
  | .hbm, ⟨83, _⟩ => ⟨S3x2048, .f32⟩
  | .hbm, ⟨84, _⟩ => ⟨S2x2048, .f32⟩
  | .hbm, ⟨85, _⟩ => ⟨S8192x2048, .f32⟩
  | .hbm, ⟨86, _⟩ => ⟨S8192x2048, .f32⟩
  | .hbm, ⟨87, _⟩ => ⟨S8192x2048, .f32⟩
  | .hbm, ⟨88, _⟩ => ⟨S8192x6144, .f32⟩
  | .hbm, ⟨89, _⟩ => ⟨S8192x6144, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Gate.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateRefIdeal.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S5632x2048, .f32⟩
  | .hbm, ⟨21, _⟩ => ⟨S8192x2048, .f32⟩
  | .hbm, ⟨22, _⟩ => ⟨S8192x2048, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .bf16⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Input.lean ====
abbrev S8192x5632 : Shape := ⟨2, ![8192, 5632]⟩
abbrev S5632x2048 : Shape := ⟨2, ![5632, 2048]⟩
abbrev S1x1 : Shape := ⟨2, ![1, 1]⟩
abbrev S_ : Shape := ⟨0, ![]⟩
abbrev S1x2048 : Shape := ⟨2, ![1, 2048]⟩
abbrev S8192x2048 : Shape := ⟨2, ![8192, 2048]⟩
abbrev S1024x2816 : Shape := ⟨2, ![1024, 2816]⟩
abbrev S2816x512 : Shape := ⟨2, ![2816, 512]⟩
abbrev S1x512 : Shape := ⟨2, ![1, 512]⟩
abbrev S1024x512 : Shape := ⟨2, ![1024, 512]⟩

abbrev nBuf : Space → Nat
  | .hbm => 11
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S5632x2048, .bf16⟩
  | .hbm, ⟨3, _⟩ => ⟨S5632x2048, .bf16⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .bf16⟩
  | .local _ .vmem, ⟨7, _⟩ => ⟨S2816x512, .bf16⟩
  | .local _ .vmem, ⟨8, _⟩ => ⟨S1x512, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== InputRefIdeal.lean ====
abbrev S8192x5632 : Shape := ⟨2, ![8192, 5632]⟩
abbrev S5632x2048 : Shape := ⟨2, ![5632, 2048]⟩
abbrev S1x1 : Shape := ⟨2, ![1, 1]⟩
abbrev S_ : Shape := ⟨0, ![]⟩
abbrev S8192x2048 : Shape := ⟨2, ![8192, 2048]⟩
abbrev S2048x5632 : Shape := ⟨2, ![2048, 5632]⟩

abbrev nBuf : Space → Nat
  | .hbm => 22
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S5632x2048, .bf16⟩
  | .hbm, ⟨3, _⟩ => ⟨S5632x2048, .bf16⟩
  | .hbm, ⟨4, _⟩ => ⟨S1x1, .f32⟩
  | .hbm, ⟨5, _⟩ => ⟨S_, .bf16⟩
  | .hbm, ⟨6, _⟩ => ⟨S8192x2048, .bf16⟩
  | .hbm, ⟨7, _⟩ => ⟨S8192x2048, .f32⟩
  | .hbm, ⟨8, _⟩ => ⟨S5632x2048, .f32⟩
  | .hbm, ⟨9, _⟩ => ⟨S2048x5632, .f32⟩
  | .hbm, ⟨10, _⟩ => ⟨S8192x5632, .f32⟩
  | .hbm, ⟨11, _⟩ => ⟨S8192x2048, .f32⟩
  | .hbm, ⟨12, _⟩ => ⟨S5632x2048, .f32⟩
  | .hbm, ⟨13, _⟩ => ⟨S2048x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x2048, .f32⟩
  | .hbm, ⟨18, _⟩ => ⟨S8192x2048, .bf16⟩
  | .hbm, ⟨19, _⟩ => ⟨S8192x2048, .f32⟩
  | .hbm, ⟨20, _⟩ => ⟨S8192x2048, .bf16⟩
  | .hbm, ⟨21, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== InWeight.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 13
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .bf16⟩
  | .hbm, ⟨3, _⟩ => ⟨S5632x2048, .bf16⟩
  | .hbm, ⟨4, _⟩ => ⟨S8192x2048, .f32⟩
  | .hbm, ⟨5, _⟩ => ⟨S5632x2048, .f32⟩
  | .hbm, ⟨6, _⟩ => ⟨S2048x5632, .f32⟩
  | .hbm, ⟨7, _⟩ => ⟨S8192x5632, .f32⟩
  | .hbm, ⟨8, _⟩ => ⟨S8192x5632, .f32⟩
  | .hbm, ⟨9, _⟩ => ⟨S5632x2048, .f32⟩
  | .hbm, ⟨10, _⟩ => ⟨S2048x5632, .f32⟩
  | .hbm, ⟨11, _⟩ => ⟨S5632x2048, .f32⟩
  | .hbm, ⟨12, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DownWeight.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWeightRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .bf16⟩
  | .hbm, ⟨3, _⟩ => ⟨S5632x2048, .bf16⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutWeight.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWeightRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .bf16⟩
  | .hbm, ⟨3, _⟩ => ⟨S2048x2048, .bf16⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutInput.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutInputRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .bf16⟩
  | .hbm, ⟨3, _⟩ => ⟨S8192x2048, .bf16⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixInput.lean ====
abbrev S8192x5632 : Shape := ⟨2, ![8192, 5632]⟩
abbrev S5632x2048 : Shape := ⟨2, ![5632, 2048]⟩
abbrev S8192x2048 : Shape := ⟨2, ![8192, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInputRefIdeal.lean ====
abbrev S8192x5632 : Shape := ⟨2, ![8192, 5632]⟩
abbrev S5632x2048 : Shape := ⟨2, ![5632, 2048]⟩
abbrev S_ : Shape := ⟨0, ![]⟩
abbrev S8192x2048 : Shape := ⟨2, ![8192, 2048]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S_, .bf16⟩
  | .hbm, ⟨3, _⟩ => ⟨S8192x2048, .bf16⟩
  | .hbm, ⟨4, _⟩ => ⟨S8192x2048, .f32⟩
  | .hbm, ⟨5, _⟩ => ⟨S5632x2048, .f32⟩
  | .hbm, ⟨6, _⟩ => ⟨S2048x5632, .f32⟩
  | .hbm, ⟨7, _⟩ => ⟨S8192x5632, .f32⟩
  | .hbm, ⟨8, _⟩ => ⟨S8192x5632, .f32⟩
  | .hbm, ⟨9, _⟩ => ⟨S8192x2048, .f32⟩
  | .hbm, ⟨10, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ConvInput.lean ====
abbrev S8192x6144 : Shape := ⟨2, ![8192, 6144]⟩
abbrev S6144x2048 : Shape := ⟨2, ![6144, 2048]⟩
abbrev S8192x2048 : Shape := ⟨2, ![8192, 2048]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S6144x2048, .bf16⟩
  | .hbm, ⟨2, _⟩ => ⟨S8192x2048, .bf16⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInputRefIdeal.lean ====
abbrev S8192x6144 : Shape := ⟨2, ![8192, 6144]⟩
abbrev S6144x2048 : Shape := ⟨2, ![6144, 2048]⟩
abbrev S_ : Shape := ⟨0, ![]⟩
abbrev S8192x2048 : Shape := ⟨2, ![8192, 2048]⟩
abbrev S2048x6144 : Shape := ⟨2, ![2048, 6144]⟩

abbrev nBuf : Space → Nat
  | .hbm => 11
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S6144x2048, .bf16⟩
  | .hbm, ⟨2, _⟩ => ⟨S_, .bf16⟩
  | .hbm, ⟨3, _⟩ => ⟨S8192x2048, .bf16⟩
  | .hbm, ⟨4, _⟩ => ⟨S8192x2048, .f32⟩
  | .hbm, ⟨5, _⟩ => ⟨S6144x2048, .f32⟩
  | .hbm, ⟨6, _⟩ => ⟨S2048x6144, .f32⟩
  | .hbm, ⟨7, _⟩ => ⟨S8192x6144, .f32⟩
  | .hbm, ⟨8, _⟩ => ⟨S8192x6144, .f32⟩
  | .hbm, ⟨9, _⟩ => ⟨S8192x2048, .f32⟩
  | .hbm, ⟨10, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ConvWeight.lean ====
abbrev S8192x6144 : Shape := ⟨2, ![8192, 6144]⟩
abbrev S8192x2048 : Shape := ⟨2, ![8192, 2048]⟩
abbrev S6144x2048 : Shape := ⟨2, ![6144, 2048]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S6144x2048, .bf16⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvWeightRefIdeal.lean ====
abbrev S8192x6144 : Shape := ⟨2, ![8192, 6144]⟩
abbrev S8192x2048 : Shape := ⟨2, ![8192, 2048]⟩
abbrev S_ : Shape := ⟨0, ![]⟩
abbrev S6144x2048 : Shape := ⟨2, ![6144, 2048]⟩
abbrev S2048x6144 : Shape := ⟨2, ![2048, 6144]⟩

abbrev nBuf : Space → Nat
  | .hbm => 13
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S_, .bf16⟩
  | .hbm, ⟨3, _⟩ => ⟨S6144x2048, .bf16⟩
  | .hbm, ⟨4, _⟩ => ⟨S8192x2048, .f32⟩
  | .hbm, ⟨5, _⟩ => ⟨S6144x2048, .f32⟩
  | .hbm, ⟨6, _⟩ => ⟨S2048x6144, .f32⟩
  | .hbm, ⟨7, _⟩ => ⟨S8192x6144, .f32⟩
  | .hbm, ⟨8, _⟩ => ⟨S8192x6144, .f32⟩
  | .hbm, ⟨9, _⟩ => ⟨S6144x2048, .f32⟩
  | .hbm, ⟨10, _⟩ => ⟨S2048x6144, .f32⟩
  | .hbm, ⟨11, _⟩ => ⟨S6144x2048, .f32⟩
  | .hbm, ⟨12, _⟩ => ⟨S6144x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Act.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S5632x2048, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ActRefIdeal.lean ====
abbrev S8192x2048 : Shape := ⟨2, ![8192, 2048]⟩
abbrev S5632x2048 : Shape := ⟨2, ![5632, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S5632x2048, .bf16⟩
  | .hbm, ⟨3, _⟩ => ⟨S8192x2048, .f32⟩
  | .hbm, ⟨4, _⟩ => ⟨S5632x2048, .f32⟩
  | .hbm, ⟨5, _⟩ => ⟨S2048x5632, .f32⟩
  | .hbm, ⟨6, _⟩ => ⟨S8192x5632, .f32⟩
  | .hbm, ⟨7, _⟩ => ⟨S8192x2048, .f32⟩
  | .hbm, ⟨8, _⟩ => ⟨S5632x2048, .f32⟩
  | .hbm, ⟨9, _⟩ => ⟨S2048x5632, .f32⟩
  | .hbm, ⟨10, _⟩ => ⟨S8192x5632, .f32⟩
  | .hbm, ⟨11, _⟩ => ⟨S8192x5632, .bf16⟩
  | .hbm, ⟨12, _⟩ => ⟨S8192x5632, .bf16⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S_, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S1024x2816 : Shape := ⟨2, ![1024, 2816]⟩
abbrev S2816x1024 : Shape := ⟨2, ![2816, 1024]⟩
abbrev S1024x1024 : Shape := ⟨2, ![1024, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MixIn.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S8192x2048 : Shape := ⟨2, ![8192, 2048]⟩
abbrev S5632x2048 : Shape := ⟨2, ![5632, 2048]⟩
abbrev S2048x5632 : Shape := ⟨2, ![2048, 5632]⟩
abbrev S8192x5632 : Shape := ⟨2, ![8192, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x2048, .f32⟩
  | .hbm, ⟨3, _⟩ => ⟨S5632x2048, .f32⟩
  | .hbm, ⟨4, _⟩ => ⟨S2048x5632, .f32⟩
  | .hbm, ⟨5, _⟩ => ⟨S8192x5632, .f32⟩
  | .hbm, ⟨6, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ConvIn.lean ====
abbrev S8192x2048 : Shape := ⟨2, ![8192, 2048]⟩
abbrev S6144x2048 : Shape := ⟨2, ![6144, 2048]⟩
abbrev S8192x6144 : Shape := ⟨2, ![8192, 6144]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S6144x2048, .bf16⟩
  | .hbm, ⟨2, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInRefIdeal.lean ====
abbrev S8192x2048 : Shape := ⟨2, ![8192, 2048]⟩
abbrev S6144x2048 : Shape := ⟨2, ![6144, 2048]⟩
abbrev S2048x6144 : Shape := ⟨2, ![2048, 6144]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S6144x2048, .bf16⟩
  | .hbm, ⟨2, _⟩ => ⟨S8192x2048, .f32⟩
  | .hbm, ⟨3, _⟩ => ⟨S6144x2048, .f32⟩
  | .hbm, ⟨4, _⟩ => ⟨S2048x6144, .f32⟩
  | .hbm, ⟨5, _⟩ => ⟨S8192x6144, .f32⟩
  | .hbm, ⟨6, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixOut.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .bf16⟩
  | .hbm, ⟨9, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== MixOutRefIdeal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S2048x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== NormBack.lean ====
abbrev S8192x2048 : Shape := ⟨2, ![8192, 2048]⟩
abbrev S1x2048 : Shape := ⟨2, ![1, 2048]⟩
abbrev S256x2048 : Shape := ⟨2, ![256, 2048]⟩
abbrev S3x8x2048 : Shape := ⟨3, ![3, 8, 2048]⟩
abbrev S256x1 : Shape := ⟨2, ![256, 1]⟩
abbrev S256x512 : Shape := ⟨2, ![256, 512]⟩
abbrev S1x512 : Shape := ⟨2, ![1, 512]⟩
abbrev S256 : Shape := ⟨1, ![256]⟩
abbrev S1x8x512 : Shape := ⟨3, ![1, 8, 512]⟩
abbrev S8x512 : Shape := ⟨2, ![8, 512]⟩
abbrev S32x8x512 : Shape := ⟨3, ![32, 8, 512]⟩
abbrev S1x8x2048 : Shape := ⟨3, ![1, 8, 2048]⟩
abbrev S8x2048 : Shape := ⟨2, ![8, 2048]⟩
abbrev S2048 : Shape := ⟨1, ![2048]⟩

abbrev nBuf : Space → Nat
  | .hbm => 13
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .hbm, ⟨7, _⟩ => ⟨S8192x2048, .f32⟩
  | .hbm, ⟨8, _⟩ => ⟨S8192x2048, .bf16⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S3x8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v297 : BitVec 1 := Scalar.cmpi .eq arg0 c31_i32
  let v298 : BitVec 32 := Scalar.extui v297
  let c0_i32_203 : BitVec 32 := 0#32
  let v299 : BitVec 1 := Scalar.cmpi .ne v298 c0_i32_203
  v299

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== NormBackRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 80
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== NormIn.lean ====
abbrev S8192x2048 : Shape := ⟨2, ![8192, 2048]⟩
abbrev S1x2048 : Shape := ⟨2, ![1, 2048]⟩
abbrev S512x2048 : Shape := ⟨2, ![512, 2048]⟩
abbrev S512x1 : Shape := ⟨2, ![512, 1]⟩
abbrev S512x512 : Shape := ⟨2, ![512, 512]⟩
abbrev S512 : Shape := ⟨1, ![512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormInRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== SpatialBack.lean ====
abbrev S8192x5632 : Shape := ⟨2, ![8192, 5632]⟩
abbrev S4x128x128 : Shape := ⟨3, ![4, 128, 128]⟩
abbrev S4x128 : Shape := ⟨2, ![4, 128]⟩
abbrev S8192x2048 : Shape := ⟨2, ![8192, 2048]⟩
abbrev S4x128x1 : Shape := ⟨3, ![4, 128, 1]⟩
abbrev S8192x512 : Shape := ⟨2, ![8192, 512]⟩
abbrev S1024x512 : Shape := ⟨2, ![1024, 512]⟩
abbrev S1x128x128 : Shape := ⟨3, ![1, 128, 128]⟩
abbrev S128x128 : Shape := ⟨2, ![128, 128]⟩
abbrev S128x1 : Shape := ⟨2, ![128, 1]⟩
abbrev S128 : Shape := ⟨1, ![128]⟩

abbrev nBuf : Space → Nat
  | .hbm => 10
  | .vmem => 14
  | .smem => 0
  | _ => 0

abbrev bufTy : (tb : Table) → Fin (tcTables nBuf tb) → BufTy
  | .hbm, ⟨0, _⟩ => ⟨S8192x5632, .bf16⟩
  | .hbm, ⟨1, _⟩ => ⟨S4x128x128, .f32⟩
  | .hbm, ⟨2, _⟩ => ⟨S4x128, .f32⟩
  | .hbm, ⟨3, _⟩ => ⟨S8192x2048, .bf16⟩
  | .hbm, ⟨4, _⟩ => ⟨S4x128x1, .f32⟩
  | .hbm, ⟨5, _⟩ => ⟨S4x128x128, .f32⟩
  | .hbm, ⟨6, _⟩ => ⟨S8192x512, .bf16⟩
  | .hbm, ⟨7, _⟩ => ⟨S8192x512, .bf16⟩
  | .hbm, ⟨8, _⟩ => ⟨S4x128x128, .f32⟩
  | .hbm, ⟨9, _⟩ => ⟨S4x128x128, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S4x128x128, .f32⟩
  | .local _ .vmem, ⟨5, _⟩ => ⟨S4x128x128, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S4x128x128, .f32⟩
  | .local _ .vmem, ⟨13, _⟩ => ⟨S4x128x128, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== SpatialBackIdeal.lean ====
variable {F : FTy → Type} [FloatOps F] [Named F]
def κ : String → Option EReal := fun
  | "c" => some ((8943 / 200000 : ℝ) : EReal)
  | "c3" => some ((26829 / 200000 : ℝ) : EReal)
  | _ => none
-- ==== SpatialBackRefIdeal.lean ====
abbrev S8192x5632 : Shape := ⟨2, ![8192, 5632]⟩
abbrev S4x128x128 : Shape := ⟨3, ![4, 128, 128]⟩
abbrev S4x128 : Shape := ⟨2, ![4, 128]⟩
abbrev S8192x2048 : Shape := ⟨2, ![8192, 2048]⟩
abbrev S8192x512 : Shape := ⟨2, ![8192, 512]⟩
abbrev S_ : Shape := ⟨0, ![]⟩
abbrev S64x128x4x128 : Shape := ⟨4, ![64, 128, 4, 128]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S128x4x1 : Shape := ⟨3, ![128, 4, 1]⟩
abbrev S1x128x4x1 : Shape := ⟨4, ![1, 128, 4, 1]⟩
abbrev S4x128x1 : Shape := ⟨3, ![4, 128, 1]⟩

abbrev nBuf : Space → Nat
  | .hbm => 157
  | .vmem => 0
  | .smem => 0
  | _ => 0

abbrev hbmTy0_0 (i : Nat) : BufTy := match i % 128 with
  | 0 => ⟨S8192x5632, .bf16⟩
  | 1 => ⟨S4x128x128, .f32⟩
  | 2 => ⟨S4x128, .f32⟩
  | 3 => ⟨S8192x2048, .bf16⟩
  | 4 => ⟨S8192x512, .bf16⟩
  | 5 => ⟨S8192x512, .bf16⟩
  | 6 => ⟨S8192x512, .f32⟩
  | 7 => ⟨S8192x512, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S_, .f32⟩
  | 35 => ⟨S8192x512, .f32⟩
  | 36 => ⟨S8192x512, .f32⟩
  | 37 => ⟨S8192x512, .f32⟩
  | 38 => ⟨S64x128x4x128, .f32⟩
  | 39 => ⟨S8192x512, .f32⟩
  | 40 => ⟨S8192x512, .f32⟩
  | 41 => ⟨S8192x512, .f32⟩
  | 42 => ⟨S8192x512, .f32⟩
  | 43 => ⟨S_, .f32⟩
  | 44 => ⟨S8192x512, .f32⟩
  | 45 => ⟨S8192x512, .f32⟩
  | 46 => ⟨S_, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S8192x512, .f32⟩
  | 57 => ⟨S_, .f32⟩
  | 58 => ⟨S8192x512, .f32⟩
  | 59 => ⟨S8192x512, .f32⟩
  | 60 => ⟨S_, .f32⟩
  | 61 => ⟨S8192x512, .f32⟩
  | 62 => ⟨S8192x512, .f32⟩
  | 63 => ⟨S8192x512, .f32⟩
  | 64 => ⟨S_, .f32⟩
  | 65 => ⟨S8192x512, .f32⟩
  | 66 => ⟨S8192x512, .f32⟩
  | 67 => ⟨S_, .f32⟩
  | 68 => ⟨S8192x512, .f32⟩
  | 69 => ⟨S8192x512, .f32⟩
  | 70 => ⟨S8192x512, .f32⟩
  | 71 => ⟨S64x128x4x128, .f32⟩
  | 72 => ⟨S_, .f32⟩
  | 73 => ⟨S128x128, .f32⟩
  | 74 => ⟨S128x128, .i32⟩
  | 75 => ⟨S_, .i32⟩
  | 76 => ⟨S128x128, .i32⟩
  | 77 => ⟨S128x128, .i32⟩
  | 78 => ⟨S128x128, .i32⟩
  | 79 => ⟨S128x128, .i1⟩
  | 80 => ⟨S_, .f32⟩
  | 81 => ⟨S128x128, .f32⟩
  | 82 => ⟨S128x128, .f32⟩
  | 83 => ⟨S1x128x128, .f32⟩
  | 84 => ⟨S4x128x128, .f32⟩
  | 85 => ⟨S4x128x128, .f32⟩
  | 86 => ⟨S4x64x128x128, .f32⟩
  | 87 => ⟨S64x128x4x128, .f32⟩
  | 88 => ⟨S128x4, .f32⟩
  | 89 => ⟨S128x4x1, .f32⟩
  | 90 => ⟨S1x128x4x1, .f32⟩
  | 91 => ⟨S64x128x4x128, .f32⟩
  | 92 => ⟨S64x128x4x128, .f32⟩
  | 93 => ⟨S64x128x4x128, .f32⟩
  | 94 => ⟨S8192x512, .f32⟩
  | 95 => ⟨S8192x512, .bf16⟩
  | 96 => ⟨S8192x512, .f32⟩
  | 97 => ⟨S64x128x4x128, .f32⟩
  | 98 => ⟨S64x128x4x128, .f32⟩
  | 99 => ⟨S64x128x4x128, .f32⟩
  | 100 => ⟨S_, .f32⟩
  | 101 => ⟨S128x4, .f32⟩
  | 102 => ⟨S1x128x4x1, .f32⟩
  | 103 => ⟨S_, .f32⟩
  | 104 => ⟨S128x4, .f32⟩
  | 105 => ⟨S128x4x1, .f32⟩
  | 106 => ⟨S_, .f32⟩
  | 107 => ⟨S128x4, .f32⟩
  | 108 => ⟨S4x128, .f32⟩
  | 109 => ⟨S4x64x128x128, .f32⟩
  | 110 => ⟨S4x128x128, .f32⟩
  | 111 => ⟨S4x64x128x128, .f32⟩
  | 112 => ⟨S64x128x4x128, .f32⟩
  | 113 => ⟨S4x128x128, .f32⟩
  | 114 => ⟨S4x128x128, .f32⟩
  | 115 => ⟨S8192x512, .f32⟩
  | 116 => ⟨S8192x512, .f32⟩
  | 117 => ⟨S8192x512, .f32⟩
  | 118 => ⟨S_, .f32⟩
  | 119 => ⟨S8192x512, .f32⟩
  | 120 => ⟨S8192x512, .f32⟩
  | 121 => ⟨S8192x512, .f32⟩
  | 122 => ⟨S_, .f32⟩
  | 123 => ⟨S8192x512, .f32⟩
  | 124 => ⟨S8192x512, .f32⟩
  | 125 => ⟨S8192x512, .f32⟩
  | 126 => ⟨S_, .f32⟩
  | 127 => ⟨S8192x512, .f32⟩
  | _ => ⟨S8192x5632, .bf16⟩

abbrev hbmTy0_1 (i : Nat) : BufTy := match i % 128 with
  | 0 => ⟨S8192x512, .f32⟩
  | 1 => ⟨S_, .f32⟩
  | 2 => ⟨S8192x512, .f32⟩
  | 3 => ⟨S8192x512, .f32⟩
  | 4 => ⟨S8192x512, .f32⟩
  | 5 => ⟨S8192x512, .f32⟩
  | 6 => ⟨S8192x512, .bf16⟩
  | 7 => ⟨S8192x512, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S8192x512, .f32⟩
  | 18 => ⟨S_, .f32⟩
  | 19 => ⟨S8192x512, .f32⟩
  | 20 => ⟨S8192x512, .f32⟩
  | 21 => ⟨S_, .f32⟩
  | 22 => ⟨S8192x512, .f32⟩
  | 23 => ⟨S8192x512, .f32⟩
  | 24 => ⟨S8192x512, .f32⟩
  | 25 => ⟨S8192x512, .f32⟩
  | 26 => ⟨S8192x512, .bf16⟩
  | 27 => ⟨S4x128x1, .f32⟩
  | 28 => ⟨S4x128x128, .f32⟩
  | _ => ⟨S8192x5632, .bf16⟩

abbrev hbmTy (i : Nat) : BufTy := match i / 128 with
  | 0 => hbmTy0_0 i
  | 1 => hbmTy0_1 i
  | _ => ⟨S8192x5632, .bf16⟩

abbrev bufTy : (tb : Table) → Fin (tcTables nBuf tb) → BufTy
  | .hbm, ⟨i, _⟩ => hbmTy i
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_v42 : Ref sig .tc := ⟨.hbm, 59, rfl⟩
abbrev main_cst_12 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_13 : Ref sig .tc := ⟨.hbm, 64, rfl⟩
abbrev main_v46 : Ref sig .tc := ⟨.hbm, 65, rfl⟩
abbrev main_v47 : Ref sig .tc := ⟨.hbm, 66, rfl⟩
abbrev main_cst_14 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_15 : Ref sig .tc := ⟨.hbm, 72, rfl⟩
abbrev main_v52 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_cst : Ref sig .tc := ⟨.hbm, 80, rfl⟩
abbrev main_call0_v5 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_16 : Ref sig .tc := ⟨.hbm, 100, rfl⟩
abbrev main_v71 : Ref sig .tc := ⟨.hbm, 101, rfl⟩
abbrev main_v72 : Ref sig .tc := ⟨.hbm, 102, rfl⟩
abbrev main_cst_17 : Ref sig .tc := ⟨.hbm, 103, rfl⟩
abbrev main_v73 : Ref sig .tc := ⟨.hbm, 104, rfl⟩
abbrev main_v74 : Ref sig .tc := ⟨.hbm, 105, rfl⟩
abbrev main_cst_18 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_19 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_20 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_21 : Ref sig .tc := ⟨.hbm, 126, rfl⟩
abbrev main_v92 : Ref sig .tc := ⟨.hbm, 127, rfl⟩
abbrev main_v93 : Ref sig .tc := ⟨.hbm, 128, rfl⟩
abbrev main_cst_22 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_23 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_24 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_25 : Ref sig .tc := ⟨.hbm, 146, rfl⟩
abbrev main_v108 : Ref sig .tc := ⟨.hbm, 147, rfl⟩
abbrev main_v109 : Ref sig .tc := ⟨.hbm, 148, rfl⟩
abbrev main_cst_26 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩

abbrev nD : Nat := 1
abbrev τ : Topo := Topo.v7x

variable {F : FTy → Type} [FloatOps F]
-- ==== Spatial.lean ====
abbrev S8192x5632 : Shape := ⟨2, ![8192, 5632]⟩
abbrev S4x128x128 : Shape := ⟨3, ![4, 128, 128]⟩
abbrev S4x128 : Shape := ⟨2, ![4, 128]⟩
abbrev S4x128x1 : Shape := ⟨3, ![4, 128, 1]⟩
abbrev S8192x512 : Shape := ⟨2, ![8192, 512]⟩
abbrev S1024x512 : Shape := ⟨2, ![1024, 512]⟩
abbrev S1x128x128 : Shape := ⟨3, ![1, 128, 128]⟩
abbrev S128x128 : Shape := ⟨2, ![128, 128]⟩

abbrev nBuf : Space → Nat
  | .hbm => 6
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S4x128x128, .f32⟩
  | .hbm, ⟨2, _⟩ => ⟨S4x128, .f32⟩
  | .hbm, ⟨3, _⟩ => ⟨S4x128x1, .f32⟩
  | .hbm, ⟨4, _⟩ => ⟨S4x128x128, .f32⟩
  | .hbm, ⟨5, _⟩ => ⟨S8192x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S4x128x128, .f32⟩
  | .local _ .vmem, ⟨5, _⟩ => ⟨S4x128x128, .f32⟩
  | .local _ .vmem, ⟨6, _⟩ => ⟨S1024x512, .bf16⟩
  | .local _ .vmem, ⟨7, _⟩ => ⟨S1024x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SpatialRefIdeal.lean ====
abbrev S8192x5632 : Shape := ⟨2, ![8192, 5632]⟩
abbrev S4x128x128 : Shape := ⟨3, ![4, 128, 128]⟩
abbrev S4x128 : Shape := ⟨2, ![4, 128]⟩
abbrev S8192x512 : Shape := ⟨2, ![8192, 512]⟩
abbrev S_ : Shape := ⟨0, ![]⟩
abbrev S64x128x4x128 : Shape := ⟨4, ![64, 128, 4, 128]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 67
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x128x128, .f32⟩
  | .hbm, ⟨2, _⟩ => ⟨S4x128, .f32⟩
  | .hbm, ⟨3, _⟩ => ⟨S8192x512, .bf16⟩
  | .hbm, ⟨4, _⟩ => ⟨S8192x512, .bf16⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S64x128x4x128, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S64x128x4x128, .f32⟩
  | .hbm, ⟨43, _⟩ => ⟨S_, .f32⟩
  | .hbm, ⟨44, _⟩ => ⟨S128x128, .f32⟩
  | .hbm, ⟨45, _⟩ => ⟨S128x128, .i32⟩
  | .hbm, ⟨46, _⟩ => ⟨S_, .i32⟩
  | .hbm, ⟨47, _⟩ => ⟨S128x128, .i32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S_, .f32⟩
  | .hbm, ⟨52, _⟩ => ⟨S128x128, .f32⟩
  | .hbm, ⟨53, _⟩ => ⟨S128x128, .f32⟩
  | .hbm, ⟨54, _⟩ => ⟨S1x128x128, .f32⟩
  | .hbm, ⟨55, _⟩ => ⟨S4x128x128, .f32⟩
  | .hbm, ⟨56, _⟩ => ⟨S4x128x128, .f32⟩
  | .hbm, ⟨57, _⟩ => ⟨S4x64x128x128, .f32⟩
  | .hbm, ⟨58, _⟩ => ⟨S64x128x4x128, .f32⟩
  | .hbm, ⟨59, _⟩ => ⟨S128x4, .f32⟩
  | .hbm, ⟨60, _⟩ => ⟨S128x4x1, .f32⟩
  | .hbm, ⟨61, _⟩ => ⟨S1x128x4x1, .f32⟩
  | .hbm, ⟨62, _⟩ => ⟨S64x128x4x128, .f32⟩
  | .hbm, ⟨63, _⟩ => ⟨S64x128x4x128, .f32⟩
  | .hbm, ⟨64, _⟩ => ⟨S64x128x4x128, .f32⟩
  | .hbm, ⟨65, _⟩ => ⟨S8192x512, .f32⟩
  | .hbm, ⟨66, _⟩ => ⟨S8192x512, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_cst : Ref sig .tc := ⟨.hbm, 51, rfl⟩
abbrev main_call0_v5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== ShortConv.lean ====
abbrev S8192x6144 : Shape := ⟨2, ![8192, 6144]⟩
abbrev S3x2048 : Shape := ⟨2, ![3, 2048]⟩
abbrev S8192x2048 : Shape := ⟨2, ![8192, 2048]⟩
abbrev S256x6144 : Shape := ⟨2, ![256, 6144]⟩
abbrev S8x6144 : Shape := ⟨2, ![8, 6144]⟩
abbrev S256x2048 : Shape := ⟨2, ![256, 2048]⟩
abbrev S8x2048 : Shape := ⟨2, ![8, 2048]⟩
abbrev S1x2048 : Shape := ⟨2, ![1, 2048]⟩
abbrev S264x2048 : Shape := ⟨2, ![264, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S3x2048, .f32⟩
  | .hbm, ⟨2, _⟩ => ⟨S8192x2048, .bf16⟩
  | .local _ .vmem, ⟨0, _⟩ => ⟨S256x6144, .bf16⟩
  | .local _ .vmem, ⟨1, _⟩ => ⟨S256x6144, .bf16⟩
  | .local _ .vmem, ⟨2, _⟩ => ⟨S8x6144, .bf16⟩
  | .local _ .vmem, ⟨3, _⟩ => ⟨S8x6144, .bf16⟩
  | .local _ .vmem, ⟨4, _⟩ => ⟨S3x2048, .f32⟩
  | .local _ .vmem, ⟨5, _⟩ => ⟨S256x2048, .bf16⟩
  | .local _ .vmem, ⟨6, _⟩ => ⟨S256x2048, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ShortConvRefIdeal.lean ====
abbrev S8192x6144 : Shape := ⟨2, ![8192, 6144]⟩
abbrev S3x2048 : Shape := ⟨2, ![3, 2048]⟩
abbrev S8192x2048 : Shape := ⟨2, ![8192, 2048]⟩
abbrev S_ : Shape := ⟨0, ![]⟩
abbrev S2x2048 : Shape := ⟨2, ![2, 2048]⟩
abbrev S8194x2048 : Shape := ⟨2, ![8194, 2048]⟩
abbrev S1x2048 : Shape := ⟨2, ![1, 2048]⟩
abbrev S2048 : Shape := ⟨1, ![2048]⟩

abbrev nBuf : Space → Nat
  | .hbm => 35
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S3x2048, .f32⟩
  | .hbm, ⟨2, _⟩ => ⟨S8192x6144, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S2x2048, .f32⟩
  | .hbm, ⟨9, _⟩ => ⟨S8194x2048, .f32⟩
  | .hbm, ⟨10, _⟩ => ⟨S1x2048, .f32⟩
  | .hbm, ⟨11, _⟩ => ⟨S2048, .f32⟩
  | .hbm, ⟨12, _⟩ => ⟨S8192x2048, .f32⟩
  | .hbm, ⟨13, _⟩ => ⟨S1x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== NormFirst.lean ====
abbrev S8192x2048 : Shape := ⟨2, ![8192, 2048]⟩
abbrev S1x2048 : Shape := ⟨2, ![1, 2048]⟩
abbrev S256x2048 : Shape := ⟨2, ![256, 2048]⟩
abbrev S3x8x2048 : Shape := ⟨3, ![3, 8, 2048]⟩
abbrev S256x1 : Shape := ⟨2, ![256, 1]⟩
abbrev S256x512 : Shape := ⟨2, ![256, 512]⟩
abbrev S1x512 : Shape := ⟨2, ![1, 512]⟩
abbrev S256 : Shape := ⟨1, ![256]⟩
abbrev S1x8x512 : Shape := ⟨3, ![1, 8, 512]⟩
abbrev S8x512 : Shape := ⟨2, ![8, 512]⟩
abbrev S32x8x512 : Shape := ⟨3, ![32, 8, 512]⟩
abbrev S1x8x2048 : Shape := ⟨3, ![1, 8, 2048]⟩
abbrev S8x2048 : Shape := ⟨2, ![8, 2048]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S3x8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v233 : BitVec 1 := Scalar.cmpi .eq arg0 c31_i32
  let v234 : BitVec 32 := Scalar.extui v233
  let c0_i32_152 : BitVec 32 := 0#32
  let v235 : BitVec 1 := Scalar.cmpi .ne v234 c0_i32_152
  v235

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormFirstRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 68
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S1x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | .hbm, ⟨34, _⟩ => ⟨S8192x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S8192x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Adam.lean ====
abbrev S8x2816x2048 : Shape := ⟨3, ![8, 2816, 2048]⟩
abbrev S2816x2048 : Shape := ⟨2, ![2816, 2048]⟩
abbrev S8x256x2048 : Shape := ⟨3, ![8, 256, 2048]⟩
abbrev S256x2048 : Shape := ⟨2, ![256, 2048]⟩
abbrev S1x256x2048 : Shape := ⟨3, ![1, 256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x2816x2048, .bf16⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .hbm, ⟨7, _⟩ => ⟨S2816x2048, .f32⟩
  | .local _ .vmem, ⟨0, _⟩ => ⟨S8x256x2048, .bf16⟩
  | .local _ .vmem, ⟨1, _⟩ => ⟨S8x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S8x2816x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S8x2816x2048 : Shape := ⟨3, ![8, 2816, 2048]⟩
abbrev S2816x2048 : Shape := ⟨2, ![2816, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2816x2048, .bf16⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S8x2816x2048, .f32⟩
  | .hbm, ⟨5, _⟩ => ⟨S_, .f32⟩
  | .hbm, ⟨6, _⟩ => ⟨S2816x2048, .f32⟩
  | .hbm, ⟨7, _⟩ => ⟨S_, .f32⟩
  | .hbm, ⟨8, _⟩ => ⟨S2816x2048, .f32⟩
  | .hbm, ⟨9, _⟩ => ⟨S2816x2048, .f32⟩
  | .hbm, ⟨10, _⟩ => ⟨S_, .f32⟩
  | .hbm, ⟨11, _⟩ => ⟨S2816x2048, .f32⟩
  | .hbm, ⟨12, _⟩ => ⟨S2816x2048, .f32⟩
  | .hbm, ⟨13, _⟩ => ⟨S2816x2048, .f32⟩
  | .hbm, ⟨14, _⟩ => ⟨S_, .f32⟩
  | .hbm, ⟨15, _⟩ => ⟨S2816x2048, .f32⟩
  | .hbm, ⟨16, _⟩ => ⟨S2816x2048, .f32⟩
  | .hbm, ⟨17, _⟩ => ⟨S2816x2048, .f32⟩
  | .hbm, ⟨18, _⟩ => ⟨S_, .f32⟩
  | .hbm, ⟨19, _⟩ => ⟨S2816x2048, .f32⟩
  | .hbm, ⟨20, _⟩ => ⟨S2816x2048, .f32⟩
  | .hbm, ⟨21, _⟩ => ⟨S2816x2048, .f32⟩
  | .hbm, ⟨22, _⟩ => ⟨S_, .f32⟩
  | .hbm, ⟨23, _⟩ => ⟨S2816x2048, .f32⟩
  | .hbm, ⟨24, _⟩ => ⟨S2816x2048, .f32⟩
  | .hbm, ⟨25, _⟩ => ⟨S_, .f32⟩
  | .hbm, ⟨26, _⟩ => ⟨S2816x2048, .f32⟩
  | .hbm, ⟨27, _⟩ => ⟨S2816x2048, .f32⟩
  | .hbm, ⟨28, _⟩ => ⟨S2816x2048, .f32⟩
  | .hbm, ⟨29, _⟩ => ⟨S_, .f32⟩
  | .hbm, ⟨30, _⟩ => ⟨S2816x2048, .f32⟩
  | .hbm, ⟨31, _⟩ => ⟨S2816x2048, .f32⟩
  | .hbm, ⟨32, _⟩ => ⟨S2816x2048, .f32⟩
  | .hbm, ⟨33, _⟩ => ⟨S_, .f32⟩
  | .hbm, ⟨34, _⟩ => ⟨S2816x2048, .f32⟩
  | .hbm, ⟨35, _⟩ => ⟨S2816x2048, .f32⟩
  | .hbm, ⟨36, _⟩ => ⟨S2816x2048, .f32⟩
  | .hbm, ⟨37, _⟩ => ⟨S_, .f32⟩
  | .hbm, ⟨38, _⟩ => ⟨S2816x2048, .f32⟩
  | .hbm, ⟨39, _⟩ => ⟨S2816x2048, .f32⟩
  | _, _ => ⟨S8x2816x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x512x2048 : Shape := ⟨3, ![8, 512, 2048]⟩
abbrev S512x2048 : Shape := ⟨2, ![512, 2048]⟩
abbrev S8x256x2048 : Shape := ⟨3, ![8, 256, 2048]⟩
abbrev S256x2048 : Shape := ⟨2, ![256, 2048]⟩
abbrev S1x256x2048 : Shape := ⟨3, ![1, 256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S8x256x2048, .bf16⟩
  | .local _ .vmem, ⟨1, _⟩ => ⟨S8x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S8x512x2048 : Shape := ⟨3, ![8, 512, 2048]⟩
abbrev S512x2048 : Shape := ⟨2, ![512, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S8x512x2048, .f32⟩
  | .hbm, ⟨5, _⟩ => ⟨S_, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S_, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S_, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S_, .f32⟩
  | .hbm, ⟨38, _⟩ => ⟨S512x2048, .f32⟩
  | .hbm, ⟨39, _⟩ => ⟨S512x2048, .f32⟩
  | _, _ => ⟨S8x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamNorm.lean ====
abbrev S8x4x2048 : Shape := ⟨3, ![8, 4, 2048]⟩
abbrev S4x2048 : Shape := ⟨2, ![4, 2048]⟩
abbrev S1x4x2048 : Shape := ⟨3, ![1, 4, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .local _ .vmem, ⟨0, _⟩ => ⟨S8x4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | .local _ .vmem, ⟨7, _⟩ => ⟨S4x2048, .f32⟩
  | _, _ => ⟨S8x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormRefIdeal.lean ====
abbrev S8x4x2048 : Shape := ⟨3, ![8, 4, 2048]⟩
abbrev S4x2048 : Shape := ⟨2, ![4, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048, .f32⟩
  | .hbm, ⟨17, _⟩ => ⟨S_, .f32⟩
  | .hbm, ⟨18, _⟩ => ⟨S4x2048, .f32⟩
  | .hbm, ⟨19, _⟩ => ⟨S4x2048, .f32⟩
  | .hbm, ⟨20, _⟩ => ⟨S4x2048, .f32⟩
  | .hbm, ⟨21, _⟩ => ⟨S_, .f32⟩
  | .hbm, ⟨22, _⟩ => ⟨S4x2048, .f32⟩
  | .hbm, ⟨23, _⟩ => ⟨S4x2048, .f32⟩
  | .hbm, ⟨24, _⟩ => ⟨S_, .f32⟩
  | .hbm, ⟨25, _⟩ => ⟨S4x2048, .f32⟩
  | .hbm, ⟨26, _⟩ => ⟨S4x2048, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S4x2048, .f32⟩
  | _, _ => ⟨S8x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Conv.Spec.lean ====
/- The gradient of the gated short convolution, written on natural row and column numbers: arrays are read as zero
   beyond their ends, so that the shifts of the convolution need no case distinction. -/
module

public import proofs.«01_k».proof.Proof.Gen.ConvIdeal
public import Idealize.ShloMosaic.Lib.Pointwise
public import Idealize.ShloMosaic.Lib.Pipeline.ValueKit

@[expose] public section

set_option maxRecDepth 16384

noncomputable section

open Idealize.ShloMosaic

namespace Cert.ConvSpec

open Cert.ConvIdeal

/-- Entry `(r, c)` of an array, zero outside of it. -/
def at0 {a b : ℕ} (x : Fin a → Fin b → EReal) (r c : ℕ) : EReal :=
  if h : r < a ∧ c < b then x ⟨r, h.1⟩ ⟨c, h.2⟩ else 0

theorem at0_in {a b : ℕ} (x : Fin a → Fin b → EReal) {r c : ℕ} (hr : r < a) (hc : c < b) :
    at0 x r c = x ⟨r, hr⟩ ⟨c, hc⟩ := dif_pos ⟨hr, hc⟩

theorem at0_out {a b : ℕ} (x : Fin a → Fin b → EReal) {r c : ℕ} (hr : a ≤ r) : at0 x r c = 0 :=
  dif_neg fun h => absurd h.1 (Nat.not_lt.mpr hr)

/-- The three parts of `z` side by side, the incoming gradient and the three taps. -/
structure Data where
  z : Fin 8192 → Fin 6144 → EReal
  da : Fin 8192 → Fin 2048 → EReal
  w : Fin 3 → Fin 2048 → EReal

variable (d : Data)

/-- The convolution's input `gc * hx` at row `r`. -/
def y (r l : ℕ) : EReal := at0 d.z r (2048 + l) * at0 d.z r (4096 + l)

/-- The same `k` rows up, zero before the first row. -/
def ysh (k r l : ℕ) : EReal := if k ≤ r then y d (r - k) l else 0

/-- The gradient that arrives at the convolution's output at row `r`. -/
def dc (r l : ℕ) : EReal := at0 d.da r l * at0 d.z r l

/-- The convolution's output at row `r`. -/
def conv (r l : ℕ) : EReal :=
  at0 d.w 0 l * ysh d 2 r l + at0 d.w 1 l * ysh d 1 r l + at0 d.w 2 l * y d r l

/-- The gradient of the convolution's input at row `r`. -/
def dy (r l : ℕ) : EReal :=
  at0 d.w 2 l * dc d r l + at0 d.w 1 l * dc d (r + 1) l + at0 d.w 0 l * dc d (r + 2) l

/-- The gradient of `z` at `(r, c)`: three parts side by side. -/
def dz (r c : ℕ) : EReal :=
  if c < 2048 then at0 d.da r c * conv d r c
  else if c < 4096 then dy d r (c - 2048) * at0 d.z r (2048 + c)
  else dy d r (c - 4096) * at0 d.z r (c - 2048)

/-- Row `r`'s part of the gradient of tap `j`. -/
def term (j l r : ℕ) : EReal := dc d r l * ysh d (2 - j) r l

/-- The gradient of tap `j`: the sum over all rows. -/
def dw (j l : ℕ) : EReal := ∑ r ∈ Finset.range 8192, term d j l r

theorem dc_out {r l : ℕ} (h : 8192 ≤ r) : dc d r l = 0 := by
  unfold dc; rw [at0_out _ h, zero_mul]

end Cert.ConvSpec

end
-- ==== Proof.Conv.Block.lean ====
/- What one grid point of the convolution's gradient kernel computes, read at an index. -/
module

public import proofs.«01_k».proof.Proof.Conv.Spec
public import proofs.«01_k».proof.Proof.Gen.ConvIdeal.Skeleton

@[expose] public section

set_option maxRecDepth 16384

noncomputable section

open Idealize.ShloMosaic Idealize.ShloMosaic.TcCoe Idealize.SL.Sem

namespace Cert.ConvBlock

open Cert.ConvIdeal Cert.ConvIdeal.Gen Cert.ConvSpec

/-- The six input blocks at grid point `n`: 128 rows of `z` and of the incoming gradient, the eight rows before
    and after them where there are any, and the taps. -/
structure Holds (d : Data) (n : ℕ) (x0 : Vec Ideal S128x6144 .bf16) (x1 x2 : Vec Ideal S8x6144 .bf16)
    (x3 : Vec Ideal S128x2048 .bf16) (x4 : Vec Ideal S8x2048 .bf16) (x5 : Vec Ideal S3x2048 .f32) : Prop where
  z : ∀ (r : Fin 128) (c : Fin 6144), x0 (ix2 r c) = at0 d.z (128 * n + r) c
  zp : 0 < n → ∀ (s : Fin 8) (c : Fin 6144), x1 (ix2 s c) = at0 d.z (128 * n - 8 + s) c
  zn : n < 63 → ∀ (s : Fin 8) (c : Fin 6144), x2 (ix2 s c) = at0 d.z (128 * n + 128 + s) c
  da : ∀ (r : Fin 128) (l : Fin 2048), x3 (ix2 r l) = at0 d.da (128 * n + r) l
  dan : n < 63 → ∀ (s : Fin 8) (l : Fin 2048), x4 (ix2 s l) = at0 d.da (128 * n + 128 + s) l
  w : ∀ (j : Fin 3) (l : Fin 2048), x5 (ix2 j l) = at0 d.w j l

variable {d : Data} {n : ℕ} {x0 : Vec Ideal S128x6144 .bf16} {x1 x2 : Vec Ideal S8x6144 .bf16}
  {x3 : Vec Ideal S128x2048 .bf16} {x4 : Vec Ideal S8x2048 .bf16} {x5 : Vec Ideal S3x2048 .f32}

/-- The printed test `i > 0` on the grid coordinate. -/
theorem sgt_zero {i : grid0.Coords} (hi : (i 0).val = n) (hn : n < 64) :
    Scalar.cmpi CmpIPredicate.sgt (BitVec.ofNat 32 (i 0).val) 0#32 = if 0 < n then 1#1 else 0#1 := by
  rw [hi]
  have key : ∀ k < 64, Scalar.cmpi CmpIPredicate.sgt (BitVec.ofNat 32 k) 0#32 = if 0 < k then 1#1 else 0#1 := by
    decide
  exact key n hn

/-- The printed test `i < 63` on the grid coordinate. -/
theorem slt_last {i : grid0.Coords} (hi : (i 0).val = n) (hn : n < 64) :
    Scalar.cmpi CmpIPredicate.slt (BitVec.ofNat 32 (i 0).val) 63#32 = if n < 63 then 1#1 else 0#1 := by
  rw [hi]
  have key : ∀ k < 64, Scalar.cmpi CmpIPredicate.slt (BitVec.ofNat 32 k) 63#32 = if k < 63 then 1#1 else 0#1 := by
    decide
  exact key n hn

theorem select_one' (a b : EReal) : Scalar.select 1#1 a b = a := rfl

theorem at0_congr {a b : ℕ} (x : Fin a → Fin b → EReal) {r r' c c' : ℕ} (hr : r = r') (hc : c = c') :
    at0 x r c = at0 x r' c' := by rw [hr, hc]

/-- `gc * hx` on the block's own rows. -/
theorem pay15_apply (h : Holds d n x0 x1 x2 x3 x4 x5) (r : Fin 128) (l : Fin 2048) :
    k0_pay15 x0 (ix2 r l) = y d (128 * n + r) l := by
  pointwise [k0_pay15, k0_pay14, k0_pay13, k0_pay8]
  rw [h.z, h.z]; rfl

/-- `gc * hx` on the eight rows before the block, zero before the first row. -/
theorem pay16_apply (h : Holds d n x0 x1 x2 x3 x4 x5) {i : grid0.Coords} (hi : (i 0).val = n) (hn : n < 64)
    (s : Fin 8) (l : Fin 2048) :
    k0_pay16 i x1 (ix2 s l) = if 0 < n then y d (128 * n - 8 + s) l else 0 := by
  pointwise [k0_pay16]
  rw [sgt_zero hi hn]
  by_cases h0 : 0 < n
  · rw [if_pos h0, if_pos h0, select_one', select_one', h.zp h0, h.zp h0]; rfl
  · rw [if_neg h0, if_neg h0]; simp [Scalar.select]

theorem y_congr {r r' l : ℕ} (hr : r = r') : y d r l = y d r' l := by rw [hr]

/-- `gc * hx` one row up. -/
theorem pay17_apply (h : Holds d n x0 x1 x2 x3 x4 x5) {i : grid0.Coords} (hi : (i 0).val = n) (hn : n < 64)
    (r : Fin 128) (l : Fin 2048) : k0_pay17 i x0 x1 (ix2 r l) = ysh d 1 (128 * n + r) l := by
  have hr := r.isLt
  pointwise [k0_pay17]
  unfold ysh
  split
  next hlt =>
    rw [pay16_apply h hi hn]
    by_cases h0 : 0 < n
    · exact (if_pos h0).trans ((y_congr (by dsimp only; omega)).trans (if_pos (by omega)).symm)
    · exact (if_neg h0).trans (if_neg (by omega)).symm
  next hge =>
    rw [pay15_apply h]
    exact (y_congr (by dsimp only; omega)).trans (if_pos (by omega)).symm

/-- `gc * hx` two rows up. -/
theorem pay18_apply (h : Holds d n x0 x1 x2 x3 x4 x5) {i : grid0.Coords} (hi : (i 0).val = n) (hn : n < 64)
    (r : Fin 128) (l : Fin 2048) : k0_pay18 i x0 x1 (ix2 r l) = ysh d 2 (128 * n + r) l := by
  have hr := r.isLt
  pointwise [k0_pay18]
  unfold ysh
  split
  next hlt =>
    rw [pay16_apply h hi hn]
    by_cases h0 : 0 < n
    · exact (if_pos h0).trans ((y_congr (by dsimp only; omega)).trans (if_pos (by omega)).symm)
    · exact (if_neg h0).trans (if_neg (by omega)).symm
  next hge =>
    rw [pay15_apply h]
    exact (y_congr (by dsimp only; omega)).trans (if_pos (by omega)).symm

/-- The gradient arriving at the convolution's output, on the block's own rows. -/
theorem pay19_apply (h : Holds d n x0 x1 x2 x3 x4 x5) (r : Fin 128) (l : Fin 2048) :
    k0_pay19 (k0_pay10 x3) (k0_pay12 x0) (ix2 r l) = dc d (128 * n + r) l := by
  pointwise [k0_pay19, k0_pay10, k0_pay12, k0_pay8]
  rw [h.z, h.da]; rfl

theorem dc_congr {r r' l : ℕ} (hr : r = r') : dc d r l = dc d r' l := by rw [hr]

/-- A row of the concatenation of the block's rows and the eight after it. -/
theorem next_rows (h : Holds d n x0 x1 x2 x3 x4 x5) {i : grid0.Coords} (hi : (i 0).val = n) (hn : n < 64)
    (s : Fin 8) (l : Fin 2048) (hl : (l : ℕ) < 6144) :
    Scalar.select (Scalar.cmpi CmpIPredicate.slt (BitVec.ofNat 32 (i 0).val) 63#32)
      (Scalar.select (Scalar.cmpi CmpIPredicate.slt (BitVec.ofNat 32 (i 0).val) 63#32)
        (x4 (ix2 s l) * x2 (ix2 s ⟨l, hl⟩)) 0) (0 : EReal) = dc d (128 * n + 128 + s) l := by
  rw [slt_last hi hn]
  by_cases h0 : n < 63
  · rw [if_pos h0, select_one', select_one', h.dan h0, h.zn h0]; rfl
  · rw [if_neg h0, dc_out _ (by omega)]; simp [Scalar.select]

/-- The gradient of the convolution's input. -/
theorem pay20_apply (h : Holds d n x0 x1 x2 x3 x4 x5) {i : grid0.Coords} (hi : (i 0).val = n) (hn : n < 64)
    (r : Fin 128) (l : Fin 2048) :
    k0_pay20 (k0_pay9 i x2) (k0_pay10 x3) (k0_pay11 i x4) (k0_pay12 x0) x5 (ix2 r l) = dy d (128 * n + r) l := by
  have hr := r.isLt
  pointwise [k0_pay20, k0_pay19, k0_pay9, k0_pay10, k0_pay11, k0_pay12, k0_pay8]
  unfold dy
  rw [h.w, h.w, h.w, h.z, h.da]
  refine congrArg₂ (· + ·) (congrArg₂ (· + ·) rfl (congrArg₂ (· * ·) rfl ?_)) (congrArg₂ (· * ·) rfl ?_)
  · split
    next hlt => rw [h.z, h.da]; exact dc_congr (l := l) (by dsimp only; omega)
    next hge => rw [next_rows h hi hn]; exact dc_congr (by dsimp only; omega)
  · split
    next hlt => rw [h.z, h.da]; exact dc_congr (l := l) (by dsimp only; omega)
    next hge => rw [next_rows h hi hn]; exact dc_congr (by dsimp only; omega)

/-- The first part of the gradient of `z`. -/
theorem pay21_apply (h : Holds d n x0 x1 x2 x3 x4 x5) {i : grid0.Coords} (hi : (i 0).val = n) (hn : n < 64)
    (r : Fin 128) (l : Fin 2048) :
    k0_pay21 (k0_pay10 x3) (k0_pay15 x0) x5 (k0_pay17 i x0 x1) (k0_pay18 i x0 x1) (ix2 r l)
      = at0 d.da (128 * n + r) l * conv d (128 * n + r) l := by
  pointwise [k0_pay21, k0_pay10]
  rw [pay15_apply h, pay17_apply h hi hn, pay18_apply h hi hn, h.da, h.w, h.w, h.w]; rfl

/-- The second part. -/
theorem pay22_apply (h : Holds d n x0 x1 x2 x3 x4 x5) {i : grid0.Coords} (hi : (i 0).val = n) (hn : n < 64)
    (r : Fin 128) (l : Fin 2048) :
    k0_pay22 (k0_pay9 i x2) (k0_pay10 x3) (k0_pay11 i x4) (k0_pay12 x0) (k0_pay14 x0) x5 (ix2 r l)
      = dy d (128 * n + r) l * at0 d.z (128 * n + r) (4096 + l) := by
  pointwise [k0_pay22, k0_pay14, k0_pay8]
  rw [pay20_apply h hi hn, h.z]

/-- The third part. -/
theorem pay23_apply (h : Holds d n x0 x1 x2 x3 x4 x5) {i : grid0.Coords} (hi : (i 0).val = n) (hn : n < 64)
    (r : Fin 128) (l : Fin 2048) :
    k0_pay23 (k0_pay9 i x2) (k0_pay10 x3) (k0_pay11 i x4) (k0_pay12 x0) (k0_pay13 x0) x5 (ix2 r l)
      = dy d (128 * n + r) l * at0 d.z (128 * n + r) (2048 + l) := by
  pointwise [k0_pay23, k0_pay13, k0_pay8]
  rw [pay20_apply h hi hn, h.z]

/-- What the point adds to the running sum of tap `j` at sublane `s`. -/
def part (d : Data) (n j s l : ℕ) : EReal := ∑ q ∈ Finset.range 16, term d j l (128 * n + (8 * q + s))

theorem part_fin (j s l : ℕ) :
    part d n j s l = ∑ q : Fin 16, term d j l (128 * n + (8 * q + s)) :=
  Finset.sum_range (fun q => term d j l (128 * n + (8 * q + s)))

theorem term_congr {j r r' l : ℕ} (hr : r = r') : dc d r l * ysh d (2 - j) r l = term d j l r' := by
  subst hr; rfl

theorem term_last {r r' l : ℕ} (hr : r = r') : dc d r l * y d r l = term d 2 l r' := by
  subst hr; rfl

/-- Tap 0's running sum after the point. -/
theorem pay1_apply (h : Holds d n x0 x1 x2 x3 x4 x5) {i : grid0.Coords} (hi : (i 0).val = n) (hn : n < 64)
    (v : Vec Ideal S1x8x2048 .f32) (s : Fin 8) (l : Fin 2048) :
    k0_pay1 (k0_pay24 v) (k0_pay25 (k0_pay10 x3) (k0_pay12 x0) (k0_pay18 i x0 x1)) (ix3 0 s l)
      = v (ix3 0 s l) + part d n 0 s l := by
  rw [part_fin]
  pointwise [k0_pay1, k0_pay24, k0_pay25]
  refine congrArg (v (ix3 0 s l) + ·) (Finset.sum_congr rfl fun q _ => ?_)
  rw [pay19_apply h, pay18_apply h hi hn]
  exact term_congr (j := 0) (by dsimp only; omega)

/-- Tap 1's running sum after the point. -/
theorem pay2_apply (h : Holds d n x0 x1 x2 x3 x4 x5) {i : grid0.Coords} (hi : (i 0).val = n) (hn : n < 64)
    (v : Vec Ideal S1x8x2048 .f32) (s : Fin 8) (l : Fin 2048) :
    k0_pay2 (k0_pay17 i x0 x1) (k0_pay19 (k0_pay10 x3) (k0_pay12 x0)) v (ix3 0 s l)
      = v (ix3 0 s l) + part d n 1 s l := by
  rw [part_fin]
  pointwise [k0_pay2]
  refine congrArg (v (ix3 0 s l) + ·) (Finset.sum_congr rfl fun q _ => ?_)
  rw [pay19_apply h, pay17_apply h hi hn]
  exact term_congr (j := 1) (by dsimp only; omega)

/-- Tap 2's running sum after the point. -/
theorem pay3_apply (h : Holds d n x0 x1 x2 x3 x4 x5)
    (v : Vec Ideal S1x8x2048 .f32) (s : Fin 8) (l : Fin 2048) :
    k0_pay3 (k0_pay15 x0) (k0_pay19 (k0_pay10 x3) (k0_pay12 x0)) v (ix3 0 s l)
      = v (ix3 0 s l) + part d n 2 s l := by
  rw [part_fin]
  pointwise [k0_pay3]
  refine congrArg (v (ix3 0 s l) + ·) (Finset.sum_congr rfl fun q _ => ?_)
  rw [pay19_apply h, pay15_apply h]
  exact term_last (by dsimp only; omega)

/-- The last point's row of the taps' gradient: the running sum added up over its eight sublanes. -/
theorem pay4_apply (v : Vec Ideal S1x8x2048 .f32) (l : Fin 2048) :
    k0_pay4 v (ix2 0 l) = ∑ s : Fin 8, v (ix3 0 s l) := by
  pointwise [k0_pay4]

theorem pay5_apply (v : Vec Ideal S1x8x2048 .f32) (l : Fin 2048) :
    k0_pay5 v (ix2 0 l) = ∑ s : Fin 8, v (ix3 0 s l) := by
  pointwise [k0_pay5]

theorem pay6_apply (v : Vec Ideal S1x8x2048 .f32) (l : Fin 2048) :
    k0_pay6 v (ix2 0 l) = ∑ s : Fin 8, v (ix3 0 s l) := by
  pointwise [k0_pay6]

end Cert.ConvBlock

end
-- ==== Proof.Conv.Point.lean ====
/- What one grid point of the convolution's gradient kernel leaves in its two output blocks and its scratch. -/
module

public import proofs.«01_k».proof.Proof.Conv.Block
public import proofs.«01_k».proof.Proof.Gen.ConvIdeal.Frame
public import Idealize.ShloMosaic.Lib.Pipeline.ReadBack

@[expose] public section

set_option maxRecDepth 16384

noncomputable section

open Idealize.ShloMosaic Idealize.ShloMosaic.TcCoe Idealize.SL.Sem

namespace Cert.ConvBlock

open Cert.ConvIdeal Cert.ConvIdeal.Gen Cert.ConvSpec

variable (c : Dev nD) (i : grid0.Coords)
  (arg1 : Memref sig .tc .vmem S128x6144 .bf16) (harg1 : arg1.IsWhole)
  (arg2 : Memref sig .tc .vmem S8x6144 .bf16) (harg2 : arg2.IsWhole)
  (arg3 : Memref sig .tc .vmem S8x6144 .bf16) (harg3 : arg3.IsWhole)
  (arg4 : Memref sig .tc .vmem S128x2048 .bf16) (harg4 : arg4.IsWhole)
  (arg5 : Memref sig .tc .vmem S8x2048 .bf16) (harg5 : arg5.IsWhole)
  (arg6 : Memref sig .tc .vmem S3x2048 .f32) (harg6 : arg6.IsWhole)
  (arg7 : Memref sig .tc .vmem S128x6144 .bf16) (harg7 : arg7.IsWhole)
  (arg8 : Memref sig .tc .vmem S3x2048 .f32) (harg8 : arg8.IsWhole)
  (arg9 : Memref sig .tc .vmem S3x8x2048 .f32) (harg9 : arg9.IsWhole)
  {d : Data} {n : ℕ} {x0 : Vec Ideal S128x6144 .bf16} {x1 x2 : Vec Ideal S8x6144 .bf16}
  {x3 : Vec Ideal S128x2048 .bf16} {x4 : Vec Ideal S8x2048 .bf16} {x5 : Vec Ideal S3x2048 .f32}
  (xs0 : Vec Ideal S3x8x2048 .f32)

/-- The three parts side by side are the gradient's rows. -/
theorem dz_block (h : Holds d n x0 x1 x2 x3 x4 x5) (hi : (i 0).val = n) (hn : n < 64) (r : Fin 128) (e : Fin 6144) :
    View.canon (Val := Elt Ideal) (s := S128x6144) (e := .bf16) [⟨Rect.unit (s := S128x6144) ![0, 4096] ![128, 2048] inb_S128x6144_S128x2048_0_4096, k0_pay23 (k0_pay9 i x2) (k0_pay10 x3) (k0_pay11 i x4) (k0_pay12 x0) (k0_pay13 x0) x5⟩,
      ⟨Rect.unit (s := S128x6144) ![0, 2048] ![128, 2048] inb_S128x6144_S128x2048_0_2048, k0_pay22 (k0_pay9 i x2) (k0_pay10 x3) (k0_pay11 i x4) (k0_pay12 x0) (k0_pay14 x0) x5⟩,
      ⟨Rect.unit (s := S128x6144) ![0, 0] ![128, 2048] inb_S128x6144_S128x2048_0_0, k0_pay21 (k0_pay10 x3) (k0_pay15 x0) x5 (k0_pay17 i x0 x1) (k0_pay18 i x0 x1)⟩]
      (ix2 r e) = dz d (128 * n + r) e := by
  have he := e.isLt
  canon_tiles x hx
  all_goals idx_vars x
  · rw [pay23_apply h hi hn]; unfold dz
    rw [if_neg (by omega), if_neg (by omega)]
    exact congrArg₂ (· * ·) (congrArg₂ (dy d) (by omega) (by omega)) (congrArg₂ (at0 d.z) (by omega) (by omega))
  · rw [pay22_apply h hi hn]; unfold dz
    rw [if_neg (by omega), if_pos (by omega)]
    exact congrArg₂ (· * ·) (congrArg₂ (dy d) (by omega) (by omega)) (congrArg₂ (at0 d.z) (by omega) (by omega))
  · rw [pay21_apply h hi hn]; unfold dz
    rw [if_pos (by omega)]
    exact congrArg₂ (· * ·) (congrArg₂ (at0 d.da) (by omega) (by omega)) (congrArg₂ (conv d) (by omega) (by omega))

theorem out_B_6 (hc0 : ¬cond0_0 i) (hc1 : ¬cond0_1 i) (h : Holds d n x0 x1 x2 x3 x4 x5) (hi : (i 0).val = n) (hn : n < 64)
    (r : Fin 128) (e : Fin 6144) :
    out0_B_6 (F := Ideal) c i arg1 harg1 arg2 harg2 arg3 harg3 arg4 harg4 arg5 harg5 arg6 harg6 arg7 harg7 arg8 harg8 arg9 harg9 hc0 hc1 x0 x1 x2 x3 x4 x5 xs0
      (ix2 r e) = dz d (128 * n + r) e := by
  frame_out
  exact dz_block i h hi hn r e

theorem out_A_6 (hc0 : cond0_0 i) (hc1 : ¬cond0_1 i) (h : Holds d n x0 x1 x2 x3 x4 x5) (hi : (i 0).val = n) (hn : n < 64)
    (r : Fin 128) (e : Fin 6144) :
    out0_A_6 (F := Ideal) c i arg1 harg1 arg2 harg2 arg3 harg3 arg4 harg4 arg5 harg5 arg6 harg6 arg7 harg7 arg8 harg8 arg9 harg9 hc0 hc1 x0 x1 x2 x3 x4 x5
      (ix2 r e) = dz d (128 * n + r) e := by
  frame_out
  exact dz_block i h hi hn r e

theorem out_C_6 (hc0 : ¬cond0_0 i) (hc1 : cond0_1 i) (h : Holds d n x0 x1 x2 x3 x4 x5) (hi : (i 0).val = n) (hn : n < 64)
    (r : Fin 128) (e : Fin 6144) :
    out0_C_6 (F := Ideal) c i arg1 harg1 arg2 harg2 arg3 harg3 arg4 harg4 arg5 harg5 arg6 harg6 arg7 harg7 arg8 harg8 arg9 harg9 hc0 hc1 x0 x1 x2 x3 x4 x5 xs0
      (ix2 r e) = dz d (128 * n + r) e := by
  frame_out
  exact dz_block i h hi hn r e

/-- Index `(0, s, l)` of row `j` of the scratch is index `(j, s, l)` of the scratch. -/
theorem slab_emb (j : Fin 3) (b : ∀ a, (![(j : ℕ), 0, 0] : Fin 3 → ℕ) a + (![1, 8, 2048] : Fin 3 → ℕ) a ≤ S3x8x2048.size a) (s : Fin 8) (l : Fin 2048) :
    (Rect.unit (s := S3x8x2048) ![(j : ℕ), 0, 0] ![1, 8, 2048] b).emb (ix3 0 s l) = ix3 j s l :=
  funext fun a => Fin.ext ((Rect.idx_unit_val _ _ b _ a).trans (by fin_cases a <;> simp))

theorem slab_mem (j : Fin 3) (b : ∀ a, (![(j : ℕ), 0, 0] : Fin 3 → ℕ) a + (![1, 8, 2048] : Fin 3 → ℕ) a ≤ S3x8x2048.size a) (s : Fin 8) (l : Fin 2048) :
    (ix3 j s l : S3x8x2048.Idx) ∈ (Rect.unit (s := S3x8x2048) ![(j : ℕ), 0, 0] ![1, 8, 2048] b).set := by
  rw [Rect.mem_set_unit]
  intro a
  fin_cases a <;> simp

/-- The three rows of the scratch after the point: each is what was loaded of it plus the point's own part,
    whatever was stored before. -/
theorem acc_block (h : Holds d n x0 x1 x2 x3 x4 x5) (hi : (i 0).val = n) (hn : n < 64) (A : Fin 3 → Fin 8 → Fin 2048 → EReal)
    (v0 v1 v2 : Vec Ideal S1x8x2048 .f32) (h0 : ∀ s l, v0 (ix3 0 s l) = A 0 s l) (h1 : ∀ s l, v1 (ix3 0 s l) = A 1 s l)
    (h2 : ∀ s l, v2 (ix3 0 s l) = A 2 s l) {b2 b1 b0} (T : List (View.Piece (Elt Ideal) S3x8x2048 .f32))
    (j : Fin 3) (s : Fin 8) (l : Fin 2048) :
    View.canon (Val := Elt Ideal) (s := S3x8x2048) (e := .f32)
      (⟨Rect.unit (s := S3x8x2048) ![2, 0, 0] ![1, 8, 2048] b2, k0_pay3 (k0_pay15 x0) (k0_pay19 (k0_pay10 x3) (k0_pay12 x0)) v2⟩ ::
        ⟨Rect.unit (s := S3x8x2048) ![1, 0, 0] ![1, 8, 2048] b1, k0_pay2 (k0_pay17 i x0 x1) (k0_pay19 (k0_pay10 x3) (k0_pay12 x0)) v1⟩ ::
        ⟨Rect.unit (s := S3x8x2048) ![0, 0, 0] ![1, 8, 2048] b0, k0_pay1 (k0_pay24 v0) (k0_pay25 (k0_pay10 x3) (k0_pay12 x0) (k0_pay18 i x0 x1))⟩ :: T)
      (ix3 j s l) = A j s l + part d n j s l := by
  let G : S3x8x2048.Idx → EReal := fun y => A (y 0) (y 1) (y 2) + part d n (y 0).val (y 1).val (y 2).val
  refine View.canon_append_of_piecesOf G T
    [_, _, _] ?_ _ ?_
  · refine ⟨fun x => ?_, fun x => ?_, fun x => ?_, trivial⟩
    · idx_vars x
      obtain rfl := Subsingleton.elim x0 0
      refine (pay3_apply h v2 x1 x2).trans ?_
      rw [h2]
      exact congrArg G (slab_emb 2 _ x1 x2).symm
    · idx_vars x
      obtain rfl := Subsingleton.elim x0 0
      refine (pay2_apply h hi hn v1 x1 x2).trans ?_
      rw [h1]
      exact congrArg G (slab_emb 1 _ x1 x2).symm
    · idx_vars x
      obtain rfl := Subsingleton.elim x0 0
      refine (pay1_apply h hi hn v0 x1 x2).trans ?_
      rw [h0]
      exact congrArg G (slab_emb 0 _ x1 x2).symm
  · fin_cases j
    · exact ⟨_, .tail _ (.tail _ (.head _)), slab_mem 0 b0 s l⟩
    · exact ⟨_, .tail _ (.head _), slab_mem 1 b1 s l⟩
    · exact ⟨_, .head _, slab_mem 2 b2 s l⟩

theorem sout_B (hc0 : ¬cond0_0 i) (hc1 : ¬cond0_1 i) (h : Holds d n x0 x1 x2 x3 x4 x5) (hi : (i 0).val = n) (hn : n < 64)
    (j : Fin 3) (s : Fin 8) (l : Fin 2048) :
    sout0_B_0 (F := Ideal) c i arg1 harg1 arg2 harg2 arg3 harg3 arg4 harg4 arg5 harg5 arg6 harg6 arg7 harg7 arg8 harg8 arg9 harg9 hc0 hc1 x0 x1 x2 x3 x4 x5 xs0
      (ix3 j s l) = xs0 (ix3 j s l) + part d n j s l := by
  frame_out
  refine acc_block i h hi hn (fun j s l => xs0 (ix3 j s l)) _ _ _ (fun s l => ?_) (fun s l => ?_) (fun s l => ?_) [] j s l
  all_goals exact View.ld_unit_apply_of _ _ _ _ _ _ fun a => by fin_cases a <;> simp

theorem sout_C (hc0 : ¬cond0_0 i) (hc1 : cond0_1 i) (h : Holds d n x0 x1 x2 x3 x4 x5) (hi : (i 0).val = n) (hn : n < 64)
    (j : Fin 3) (s : Fin 8) (l : Fin 2048) :
    sout0_C_0 (F := Ideal) c i arg1 harg1 arg2 harg2 arg3 harg3 arg4 harg4 arg5 harg5 arg6 harg6 arg7 harg7 arg8 harg8 arg9 harg9 hc0 hc1 x0 x1 x2 x3 x4 x5 xs0
      (ix3 j s l) = xs0 (ix3 j s l) + part d n j s l := by
  frame_out
  refine acc_block i h hi hn (fun j s l => xs0 (ix3 j s l)) _ _ _ (fun s l => ?_) (fun s l => ?_) (fun s l => ?_) [] j s l
  all_goals exact View.ld_unit_apply_of _ _ _ _ _ _ fun a => by fin_cases a <;> simp

/-- The scratch starts from zero. -/
theorem pay7_apply (y : S3x8x2048.Idx) : k0_pay7 (F := Ideal) y = 0 := by
  idx_vars y
  pointwise [k0_pay7]

theorem sout_A (hc0 : cond0_0 i) (hc1 : ¬cond0_1 i) (h : Holds d n x0 x1 x2 x3 x4 x5) (hi : (i 0).val = n) (hn : n < 64)
    (j : Fin 3) (s : Fin 8) (l : Fin 2048) :
    sout0_A_0 (F := Ideal) c i arg1 harg1 arg2 harg2 arg3 harg3 arg4 harg4 arg5 harg5 arg6 harg6 arg7 harg7 arg8 harg8 arg9 harg9 hc0 hc1 x0 x1 x2 x3 x4 x5
      (ix3 j s l) = part d n j s l := by
  frame_out
  simp (disch := decide +kernel) only [↓View.readCov_skip, View.readCov_fill]
  have key := acc_block (b2 := inb_S3x8x2048_S1x8x2048_2_0_0) (b1 := inb_S3x8x2048_S1x8x2048_1_0_0) (b0 := inb_S3x8x2048_S1x8x2048_0_0_0)
    i h hi hn (fun _ _ _ => 0)
    (View.ld (Val := Elt Ideal) (e' := .f32) (k0_pay7 (F := Ideal)) (Rect.unit ![0, 0, 0] ![1, 8, 2048] inb_S3x8x2048_S1x8x2048_0_0_0))
    (View.ld (Val := Elt Ideal) (e' := .f32) (k0_pay7 (F := Ideal)) (Rect.unit ![1, 0, 0] ![1, 8, 2048] inb_S3x8x2048_S1x8x2048_1_0_0))
    (View.ld (Val := Elt Ideal) (e' := .f32) (k0_pay7 (F := Ideal)) (Rect.unit ![2, 0, 0] ![1, 8, 2048] inb_S3x8x2048_S1x8x2048_2_0_0))
    (fun s l => by exact pay7_apply _) (fun s l => by exact pay7_apply _) (fun s l => by exact pay7_apply _)
    [⟨Rect.unit ![0, 0, 0] ![3, 8, 2048] inb_S3x8x2048_S3x8x2048_0_0_0, k0_pay7 (F := Ideal)⟩] j s l
  exact key.trans (zero_add _)

theorem out_C (hc0 : ¬cond0_0 i) (hc1 : cond0_1 i) (h : Holds d n x0 x1 x2 x3 x4 x5) (hi : (i 0).val = n) (hn : n < 64)
    (j : Fin 3) (l : Fin 2048) :
    out0_C_7 (F := Ideal) c i arg1 harg1 arg2 harg2 arg3 harg3 arg4 harg4 arg5 harg5 arg6 harg6 arg7 harg7 arg8 harg8 arg9 harg9 hc0 hc1 x0 x1 x2 x3 x4 x5 xs0
      (ix2 j l) = ∑ s : Fin 8, (xs0 (ix3 j s l) + part d n j s l) := by
  have key := fun j s l => acc_block (b2 := inb_S3x8x2048_S1x8x2048_2_0_0) (b1 := inb_S3x8x2048_S1x8x2048_1_0_0) (b0 := inb_S3x8x2048_S1x8x2048_0_0_0)
    i h hi hn (fun j s l => xs0 (ix3 j s l))
    (View.ld xs0 (Rect.unit ![0, 0, 0] ![1, 8, 2048] inb_S3x8x2048_S1x8x2048_0_0_0))
    (View.ld xs0 (Rect.unit ![1, 0, 0] ![1, 8, 2048] inb_S3x8x2048_S1x8x2048_1_0_0))
    (View.ld xs0 (Rect.unit ![2, 0, 0] ![1, 8, 2048] inb_S3x8x2048_S1x8x2048_2_0_0))
    (fun s l => View.ld_unit_apply_of _ _ _ _ _ _ fun a => by fin_cases a <;> simp)
    (fun s l => View.ld_unit_apply_of _ _ _ _ _ _ fun a => by fin_cases a <;> simp)
    (fun s l => View.ld_unit_apply_of _ _ _ _ _ _ fun a => by fin_cases a <;> simp) [] j s l
  frame_out
  canon_tiles x hx
  all_goals idx_vars x
  · rw [View.readCov_eq_canon']
    obtain rfl := Subsingleton.elim x0 0
    obtain rfl : j = 2 := Fin.ext hx0
    obtain rfl : l = x1 := Fin.ext hx1
    exact (pay6_apply _ l).trans (Finset.sum_congr rfl fun s _ => (congrArg _ (slab_emb 2 _ s l)).trans (key 2 s l))
  · rw [View.readCov_eq_canon']
    obtain rfl := Subsingleton.elim x0 0
    obtain rfl : j = 1 := Fin.ext hx0
    obtain rfl : l = x1 := Fin.ext hx1
    exact (pay5_apply _ l).trans (Finset.sum_congr rfl fun s _ => (congrArg _ (slab_emb 1 _ s l)).trans (key 1 s l))
  · rw [View.readCov_eq_canon']
    obtain rfl := Subsingleton.elim x0 0
    obtain rfl : j = 0 := Fin.ext hx0
    obtain rfl : l = x1 := Fin.ext hx1
    exact (pay4_apply _ l).trans (Finset.sum_congr rfl fun s _ => (congrArg _ (slab_emb 0 _ s l)).trans (key 0 s l))

end Cert.ConvBlock

end
-- ==== Proof.Conv.Kernel.lean ====
/- What the convolution's gradient kernel leaves in its two result arrays. -/
module

public import proofs.«01_k».proof.Proof.Conv.Point

@[expose] public section

set_option maxRecDepth 16384

noncomputable section

open Idealize.ShloMosaic Idealize.ShloMosaic.TcCoe Idealize.SL.Sem
open Idealize.ShloMosaic.Pipeline (Dat)

namespace Cert.ConvKernel

open Cert.ConvIdeal Cert.ConvIdeal.Gen Cert.ConvSpec Cert.ConvBlock

variable (m : (ℓ : Loc nD τ sig) → Buf (Elt Ideal) ℓ) (ρ : Dev nD → PrngReg)

/-- The three operands, read off the argument arrays. -/
def data (c : Dev nD) : Data where
  z r e := (m ((c : Thread nD τ).loc main_arg0) : Vec Ideal S8192x6144 .bf16) (ix2 r e)
  da r l := (m ((c : Thread nD τ).loc main_arg2) : Vec Ideal S8192x2048 .bf16) (ix2 r l)
  w j l := (m ((c : Thread nD τ).loc main_arg1) : Vec Ideal S3x2048 .f32) (ix2 j l)

theorem N_64 (t : Fin cfg0.N) : t.val < 64 := lt_of_lt_of_eq t.isLt N_0

theorem coord (t : Fin cfg0.N) : (grid0.coords t 0).val = t.val := by
  have h : (grid0.coords t 0).val = t.val / 1 % 64 := Pipeline.Grid.coords_val t 0 (by decide) rfl
  have := N_64 t
  omega

/-- Where each window's block lies. -/
theorem idx (t : Fin cfg0.N) : win0_0.index t = ![t.val, 0] ∧ win0_1.index t = ![16 * t.val - 1, 0]
    ∧ (t.val < 63 → win0_2.index t = ![16 * t.val + 16, 0]) ∧ win0_3.index t = ![t.val, 0]
    ∧ (t.val < 63 → win0_4.index t = ![16 * t.val + 16, 0]) ∧ win0_5.index t = ![0, 0]
    ∧ win0_6.index t = ![t.val, 0] ∧ win0_7.index t = ![0, 0] :=
  (by decide +kernel : ∀ t : Fin grid0.N, win0_0.index t = ![t.val, 0] ∧ win0_1.index t = ![16 * t.val - 1, 0]
    ∧ (t.val < 63 → win0_2.index t = ![16 * t.val + 16, 0]) ∧ win0_3.index t = ![t.val, 0]
    ∧ (t.val < 63 → win0_4.index t = ![16 * t.val + 16, 0]) ∧ win0_5.index t = ![0, 0]
    ∧ win0_6.index t = ![t.val, 0] ∧ win0_7.index t = ![0, 0]) t

/-- The blocks the point finds are the ones the block lemmas speak of. -/
theorem holds (c : Dev nD) (t : Fin cfg0.N) :
    Holds (data m c) t.val (iblk m c 0 t) (iblk m c 1 t) (iblk m c 2 t) (iblk m c 3 t) (iblk m c 4 t) (iblk m c 5 t) where
  z r e := by
    have ht := N_64 t
    rw [at0_in _ (by omega) e.isLt]; unfold data; dsimp only
    blk_ext [iblk, V, idx t]
  zp h0 s e := by
    have ht := N_64 t
    rw [at0_in _ (by omega) e.isLt]; unfold data; dsimp only
    blk_ext [iblk, V, idx t]
  zn h0 s e := by
    have ht := N_64 t
    rw [at0_in _ (by omega) e.isLt]; unfold data; dsimp only
    blk_ext [iblk, V, (idx t).2.2.1 h0]
  da r l := by
    have ht := N_64 t
    rw [at0_in _ (by omega) l.isLt]; unfold data; dsimp only
    blk_ext [iblk, V, idx t]
  dan h0 s l := by
    have ht := N_64 t
    rw [at0_in _ (by omega) l.isLt]; unfold data; dsimp only
    blk_ext [iblk, V, (idx t).2.2.2.2.1 h0]
  w j l := by
    rw [at0_in _ j.isLt l.isLt]; unfold data; dsimp only
    blk_ext [iblk, V, idx t]

theorem acc_A (c : Dev nD) (t : Fin cfg0.N) (h0 : t.val % 64 = 0) (h1 : ¬t.val % 64 = 63) (j : Fin 3) (s : Fin 8) (l : Fin 2048) :
    (outsAt0 m c t.val t.isLt).2.2 (ix3 j s l) = part (data m c) t.val j s l := by
  have e := sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (holds m c t) (coord t) (N_64 t) j s l
  rw [outsAt0_A m c t h0 h1]
  dsimp only
  rw [e]

theorem rows_A (c : Dev nD) (t : Fin cfg0.N) (h0 : t.val % 64 = 0) (h1 : ¬t.val % 64 = 63) (r : Fin 128) (e : Fin 6144) :
    (outsAt0 m c t.val t.isLt).1 (ix2 r e) = dz (data m c) (128 * t.val + r) e := by
  have e := out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (holds m c t) (coord t) (N_64 t) r e
  rw [outsAt0_A m c t h0 h1]
  dsimp only
  rw [e]

theorem acc_B (c : Dev nD) (t : Fin cfg0.N) (h0 : ¬t.val % 64 = 0) (h1 : ¬t.val % 64 = 63) (j : Fin 3) (s : Fin 8) (l : Fin 2048) :
    (outsAt0 m c t.val t.isLt).2.2 (ix3 j s l) = (outsAt0 m c (t.val - 1) (Nat.lt_of_le_of_lt (Nat.sub_le _ _) t.isLt)).2.2 (ix3 j s l) + part (data m c) t.val j s l := by
  have e := sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (outsAt0 m c (t.val - 1) (Nat.lt_of_le_of_lt (Nat.sub_le _ _) t.isLt)).2.2 (fun h => h0 ((hcond0_0 t).mp h)) (fun h => h1 ((hcond0_1 t).mp h)) (holds m c t) (coord t) (N_64 t) j s l
  rw [outsAt0_B m c t h0 h1]
  dsimp only
  rw [e]

theorem rows_B (c : Dev nD) (t : Fin cfg0.N) (h0 : ¬t.val % 64 = 0) (h1 : ¬t.val % 64 = 63) (r : Fin 128) (e : Fin 6144) :
    (outsAt0 m c t.val t.isLt).1 (ix2 r e) = dz (data m c) (128 * t.val + r) e := by
  have e := out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (outsAt0 m c (t.val - 1) (Nat.lt_of_le_of_lt (Nat.sub_le _ _) t.isLt)).2.2 (fun h => h0 ((hcond0_0 t).mp h)) (fun h => h1 ((hcond0_1 t).mp h)) (holds m c t) (coord t) (N_64 t) r e
  rw [outsAt0_B m c t h0 h1]
  dsimp only
  rw [e]

theorem acc_C (c : Dev nD) (t : Fin cfg0.N) (h0 : ¬t.val % 64 = 0) (h1 : t.val % 64 = 63) (j : Fin 3) (s : Fin 8) (l : Fin 2048) :
    (outsAt0 m c t.val t.isLt).2.2 (ix3 j s l) = (outsAt0 m c (t.val - 1) (Nat.lt_of_le_of_lt (Nat.sub_le _ _) t.isLt)).2.2 (ix3 j s l) + part (data m c) t.val j s l := by
  have e := sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (outsAt0 m c (t.val - 1) (Nat.lt_of_le_of_lt (Nat.sub_le _ _) t.isLt)).2.2 (fun h => h0 ((hcond0_0 t).mp h)) ((hcond0_1 t).mpr h1) (holds m c t) (coord t) (N_64 t) j s l
  rw [outsAt0_C m c t h0 h1]
  dsimp only
  rw [e]

theorem rows_C (c : Dev nD) (t : Fin cfg0.N) (h0 : ¬t.val % 64 = 0) (h1 : t.val % 64 = 63) (r : Fin 128) (e : Fin 6144) :
    (outsAt0 m c t.val t.isLt).1 (ix2 r e) = dz (data m c) (128 * t.val + r) e := by
  have e := out_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (outsAt0 m c (t.val - 1) (Nat.lt_of_le_of_lt (Nat.sub_le _ _) t.isLt)).2.2 (fun h => h0 ((hcond0_0 t).mp h)) ((hcond0_1 t).mpr h1) (holds m c t) (coord t) (N_64 t) r e
  rw [outsAt0_C m c t h0 h1]
  dsimp only
  rw [e]

theorem taps_C (c : Dev nD) (t : Fin cfg0.N) (h0 : ¬t.val % 64 = 0) (h1 : t.val % 64 = 63) (j : Fin 3) (l : Fin 2048) :
    (outsAt0 m c t.val t.isLt).2.1 (ix2 j l) = ∑ s : Fin 8, ((outsAt0 m c (t.val - 1) (Nat.lt_of_le_of_lt (Nat.sub_le _ _) t.isLt)).2.2 (ix3 j s l) + part (data m c) t.val j s l) := by
  have e := out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (outsAt0 m c (t.val - 1) (Nat.lt_of_le_of_lt (Nat.sub_le _ _) t.isLt)).2.2 (fun h => h0 ((hcond0_0 t).mp h)) ((hcond0_1 t).mpr h1) (holds m c t) (coord t) (N_64 t) j l
  rw [outsAt0_C m c t h0 h1]
  dsimp only
  rw [e]

/-- The scratch after point `t`: the sum of the parts of the points so far. -/
theorem acc (c : Dev nD) (t : Fin cfg0.N) (y : S3x8x2048.Idx) :
    ((outsAt0 m c t.val t.isLt).2.2 : Vec Ideal S3x8x2048 .f32) y
      = ∑ k ∈ Finset.range (t.val + 1), part (data m c) k (y 0).val (y 1).val (y 2).val := by
  refine (Pipeline.eq_sum_of_reset_step_apply_single (M := EReal) (ι := S3x8x2048.Idx) (N := cfg0.N)
    (fun n h => ((outsAt0 m c n h).2.2 : Vec Ideal S3x8x2048 .f32)) 64 (fun _ => 0)
    (fun k y => part (data m c) k (y 0).val (y 1).val (y 2).val) (fun t h0 y => ?_) (fun t h0 y => ?_) (le_of_eq N_0) t y).trans (zero_add _)
  · idx_vars y
    exact (acc_A m c t h0 (by omega) y0 y1 y2).trans (zero_add _).symm
  · idx_vars y
    by_cases h1 : t.val % 64 = 63
    · exact acc_C m c t h0 h1 y0 y1 y2
    · exact acc_B m c t h0 h1 y0 y1 y2

/-- The block of the gradient of `z` after point `t`. -/
theorem rows (c : Dev nD) (t : Fin cfg0.N) (r : Fin 128) (e : Fin 6144) :
    (outsAt0 m c t.val t.isLt).1 (ix2 r e) = dz (data m c) (128 * t.val + r) e := by
  by_cases h0 : t.val % 64 = 0
  · exact rows_A m c t h0 (by omega) r e
  · by_cases h1 : t.val % 64 = 63
    · exact rows_C m c t h0 h1 r e
    · exact rows_B m c t h0 h1 r e

/-- The gradient of `z`, whole. -/
def dzOf (d : Data) : Vec Ideal S8192x6144 .bf16 := fun i => dz d (i 0).val (i 1).val

/-- The gradient of the taps. -/
def dwOf (d : Data) : Vec Ideal S3x2048 .f32 := fun i => dw d (i 0).val (i 1).val

theorem final_dz (c : Dev nD) : (dats m 0 c).arrAt 6 cfg0.N = dzOf (data m c) := by
  refine (dats m 0 c).arrAt_eq_of_covers 6 _ (by decide +kernel) fun t hf y => ?_
  blk_simp
  rw [after0_6]
  idx_vars y
  refine (rows m c t y0 y1).trans ?_
  unfold dzOf
  blk_simp [(idx t).2.2.2.2.2.2.1]
  rw [Nat.mul_comm]

/-- The last grid point. -/
def tLast : Fin cfg0.N := ⟨63, lt_of_lt_of_eq (by decide : 63 < 64) N_0.symm⟩

/-- The running sums of the eight sublanes over all points are the sum over all rows. -/
theorem sum_parts (d : Data) (j l : ℕ) :
    ∑ s : Fin 8, ∑ k ∈ Finset.range 64, part d k j s l = dw d j l := by
  rw [Finset.sum_comm]
  unfold dw
  rw [show (8192 : ℕ) = 64 * 128 from rfl, Finset.sum_range_mul_split]
  refine Finset.sum_congr rfl fun k _ => ?_
  unfold part
  rw [Finset.sum_comm, show (128 : ℕ) = 16 * 8 from rfl, Finset.sum_range_mul_split]
  refine Finset.sum_congr rfl fun q _ => ?_
  rw [Finset.sum_range]
  exact Finset.sum_congr rfl fun s _ => congrArg (term d j l) (by omega)

/-- The gradient of the taps after the last point. -/
theorem taps (c : Dev nD) (t : Fin cfg0.N) (ht : t.val = 63) (j : Fin 3) (l : Fin 2048) :
    (outsAt0 m c t.val t.isLt).2.1 (ix2 j l) = dw (data m c) j l := by
  refine (taps_C m c t (by omega) (by omega) j l).trans (Eq.trans ?_ (sum_parts (data m c) j l))
  refine Finset.sum_congr rfl fun s _ => ?_
  rw [Finset.sum_range_succ]
  refine congrArg₂ (· + ·) ?_ (by rw [ht])
  exact (acc m c ⟨t.val - 1, Nat.lt_of_le_of_lt (Nat.sub_le _ _) t.isLt⟩ (ix3 j s l)).trans
    (Finset.sum_congr (by rw [show t.val - 1 + 1 = 63 by omega]) fun _ _ => rfl)

theorem final_dw (c : Dev nD) : (dats m 0 c).arrAt 7 cfg0.N = dwOf (data m c) := by
  refine (dats m 0 c).arrAt_eq_of_after_last 7 tLast (by decide +kernel) _ fun j => ?_
  blk_simp
  rw [after0_7]
  idx_vars j
  exact taps m c tLast rfl j0 j1

/-- What a run of the kernel leaves: both gradients, and its arguments as they were. -/
theorem run (ρ : Dev nD → PrngReg) :
    θ_run defs (onTc (τ := τ) (main (F := Ideal))) ⟨m, fun _ => 0, ρ⟩ fun r => ∀ c : Dev nD,
      (r.2.mem ((c.tc : Thread nD τ).loc main_v0_0) : Vec Ideal S8192x6144 .bf16) = dzOf (data m c)
      ∧ (r.2.mem ((c.tc : Thread nD τ).loc main_v0_1) : Vec Ideal S3x2048 .f32) = dwOf (data m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 6).trans (final_dz m c), ((h c).1 7).trans (final_dw m c),
      ((h c).1 0).trans (((dats m 0 c).arrAt_in 0 rfl _).trans ((A_eq m c 0).trans (V_main_arg0 m c))),
      ((h c).1 5).trans (((dats m 0 c).arrAt_in 5 rfl _).trans ((A_eq m c 5).trans (V_main_arg1 m c))),
      ((h c).1 3).trans (((dats m 0 c).arrAt_in 3 rfl _).trans ((A_eq m c 3).trans (V_main_arg2 m c)))⟩)
    (run_main m ρ)

end Cert.ConvKernel

end
-- ==== Proof.Conv.Ref.lean ====
/- What the reference for the convolution's gradient computes, read at an index. -/
module

public import proofs.«01_k».proof.Proof.Conv.Spec
public import proofs.«01_k».proof.Proof.Gen.ConvRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ConvRef

open Cert.ConvRefIdeal Cert.ConvRefIdeal.Gen Cert.ConvSpec

variable (m : (ℓ : Loc nD τ sig) → Buf (Elt Ideal) ℓ) (ρ : Dev nD → PrngReg)

/-- The three operands, read off the argument arrays. -/
def data (c : Dev nD) : Data where
  z r e := (m ((c : Thread nD τ).loc main_arg0) : Vec Ideal S8192x6144 .bf16) (ix2 r e)
  da r l := (m ((c : Thread nD τ).loc main_arg2) : Vec Ideal S8192x2048 .bf16) (ix2 r l)
  w j l := (m ((c : Thread nD τ).loc main_arg1) : Vec Ideal S3x2048 .f32) (ix2 j l)

theorem z_read (c : Dev nD) (r : Fin 8192) (e : Fin 6144) :
    (m ((c : Thread nD τ).loc main_arg0) : Vec Ideal S8192x6144 .bf16) (ix2 r e) = at0 (data m c).z r.val e.val := by
  rw [at0_in _ r.isLt e.isLt]; rfl

theorem da_read (c : Dev nD) (r : Fin 8192) (e : Fin 2048) :
    (m ((c : Thread nD τ).loc main_arg2) : Vec Ideal S8192x2048 .bf16) (ix2 r e) = at0 (data m c).da r.val e.val := by
  rw [at0_in _ r.isLt e.isLt]; rfl

theorem w_read (c : Dev nD) (r : Fin 3) (e : Fin 2048) :
    (m ((c : Thread nD τ).loc main_arg1) : Vec Ideal S3x2048 .f32) (ix2 r e) = at0 (data m c).w r.val e.val := by
  rw [at0_in _ r.isLt e.isLt]; rfl

theorem at0_in2 {b : ℕ} (x : Fin 3 → Fin b → EReal) (j : Fin 3) {l : ℕ} (hl : l < b) : at0 x j.val l = x j ⟨l, hl⟩ :=
  at0_in x j.isLt hl

/-- The reference's gradient of the convolution's input, as its printed sum of three shifted arrays. -/
theorem dy_eq (d : Data) (r l : ℕ) (hl : l < 2048) :
    ((at0 d.w 2 l * (at0 d.z r l * at0 d.da r l)
      + if (1 ≤ 2 + r ∧ 2 + r - 1 < 8192) ∧ l < 2048 then at0 d.w 1 l * (at0 d.z (2 + r - 1) l * at0 d.da (2 + r - 1) l) else 0)
      + if 2 + r < 8192 ∧ l < 2048 then at0 d.w 0 l * (at0 d.z (2 + r) l * at0 d.da (2 + r) l) else 0) = dy d r l := by
  unfold dy
  refine congrArg₂ (· + ·) (congrArg₂ (· + ·) (congrArg _ (mul_comm _ _)) ?_) ?_
  · by_cases h : r + 1 < 8192
    · rw [if_pos (by omega), show 2 + r - 1 = r + 1 by omega, mul_comm (at0 d.z _ _)]; rfl
    · rw [if_neg (by omega), dc_out d (by omega), mul_zero]
  · by_cases h : r + 2 < 8192
    · rw [if_pos (by omega), show 2 + r = r + 2 by omega, mul_comm (at0 d.z _ _)]; rfl
    · rw [if_neg (by omega), dc_out d (by omega), mul_zero]

theorem shift2 (d : Data) (r l : ℕ) :
    (if _h : r < 2 then 0 else at0 d.z (r - 2) (2048 + l) * at0 d.z (r - 2) (4096 + l)) = ysh d 2 r l := by
  unfold ysh
  by_cases h : r < 2
  · rw [dif_pos h, if_neg (by omega)]
  · rw [dif_neg h, if_pos (by omega)]; rfl

theorem shift1 (d : Data) (r l : ℕ) :
    (if _h : 1 + r < 2 then 0 else at0 d.z (1 + r - 2) (2048 + l) * at0 d.z (1 + r - 2) (4096 + l)) = ysh d 1 r l := by
  unfold ysh
  by_cases h : 1 + r < 2
  · rw [dif_pos h, if_neg (by omega)]
  · rw [dif_neg h, if_pos (by omega), show 1 + r - 2 = r - 1 by omega]; rfl

/-- The reference's gradient of the convolution's input, entry by entry. -/
theorem dy_read (d : Data) (r l : ℕ) (hr : r < 8192) (hl : l < 2048) :
    (((if h₁ : l < 2048 then
              d.w 2 ⟨l, h₁⟩ * (d.z ⟨r, hr⟩ ⟨l, by omega⟩ * d.da ⟨r, hr⟩ ⟨l, h₁⟩) else 0)
          + if h₁ : (1 ≤ 2 + r ∧ 2 + r - 1 < 8192) ∧ l < 2048 then
              d.w 1 ⟨l, h₁.2⟩ * (d.z ⟨2 + r - 1, h₁.1.2⟩ ⟨l, by omega⟩ * d.da ⟨2 + r - 1, h₁.1.2⟩ ⟨l, h₁.2⟩) else 0)
          + if h₁ : 2 + r < 8192 ∧ l < 2048 then
              d.w 0 ⟨l, h₁.2⟩ * (d.z ⟨2 + r, h₁.1⟩ ⟨l, by omega⟩ * d.da ⟨2 + r, h₁.1⟩ ⟨l, h₁.2⟩) else 0) = dy d r l := by
  refine Eq.trans ?_ (dy_eq d r l hl)
  refine congrArg₂ (· + ·) (congrArg₂ (· + ·) ?_ ?_) ?_
  · rw [dif_pos hl, ← at0_in d.z, ← at0_in d.da, ← at0_in2 d.w 2]; rfl
  · by_cases h : (1 ≤ 2 + r ∧ 2 + r - 1 < 8192) ∧ l < 2048
    · rw [dif_pos h, if_pos h, ← at0_in d.z, ← at0_in d.da, ← at0_in2 d.w 1]; rfl
    · rw [dif_neg h, if_neg h]
  · by_cases h : 2 + r < 8192 ∧ l < 2048
    · rw [dif_pos h, if_pos h, ← at0_in d.z, ← at0_in d.da, ← at0_in2 d.w 0]; rfl
    · rw [dif_neg h, if_neg h]

/-- The reference's first part: the gradient of the gate. -/
theorem first (d : Data) (r e : ℕ) (hr : r < 8192) (h : e < 2048) :
    d.da ⟨r, hr⟩ ⟨e, h⟩ *
        (((d.w 0 ⟨e, h⟩ * if h₁ : r < 2 then 0 else
              d.z ⟨r - 2, by omega⟩ ⟨2048 + e, by omega⟩ * d.z ⟨r - 2, by omega⟩ ⟨4096 + e, by omega⟩)
          + d.w 1 ⟨e, h⟩ * if h₁ : 1 + r < 2 then 0 else
              d.z ⟨1 + r - 2, by omega⟩ ⟨2048 + e, by omega⟩ * d.z ⟨1 + r - 2, by omega⟩ ⟨4096 + e, by omega⟩)
          + d.w 2 ⟨e, h⟩ * (d.z ⟨r, hr⟩ ⟨2048 + e, by omega⟩ * d.z ⟨r, hr⟩ ⟨4096 + e, by omega⟩))
      = at0 d.da r e * conv d r e := by
  unfold conv
  rw [← shift2, ← shift1, at0_in d.da hr h]
  refine congrArg _ (congrArg₂ (· + ·) (congrArg₂ (· + ·) (congrArg₂ (· * ·) (at0_in2 d.w 0 h).symm ?_) (congrArg₂ (· * ·) (at0_in2 d.w 1 h).symm ?_)) (congrArg₂ (· * ·) (at0_in2 d.w 2 h).symm ?_))
  · by_cases h₁ : r < 2
    · rw [dif_pos h₁, dif_pos h₁]
    · rw [dif_neg h₁, dif_neg h₁, ← at0_in d.z, ← at0_in d.z]
  · by_cases h₁ : 1 + r < 2
    · rw [dif_pos h₁, dif_pos h₁]
    · rw [dif_neg h₁, dif_neg h₁, ← at0_in d.z, ← at0_in d.z]
  · unfold y
    rw [← at0_in d.z, ← at0_in d.z]

/-- The reference's gradient of `z`, as it prints: three parts side by side. -/
theorem whole (d : Data) (r e : ℕ) (hr : r < 8192) (he : e < 6144) :
    (if h : e < 2048 then
      d.da ⟨r, hr⟩ ⟨e, h⟩ *
        (((d.w 0 ⟨e, h⟩ * if h₁ : r < 2 then 0 else
              d.z ⟨r - 2, by omega⟩ ⟨2048 + e, by omega⟩ * d.z ⟨r - 2, by omega⟩ ⟨4096 + e, by omega⟩)
          + d.w 1 ⟨e, h⟩ * if h₁ : 1 + r < 2 then 0 else
              d.z ⟨1 + r - 2, by omega⟩ ⟨2048 + e, by omega⟩ * d.z ⟨1 + r - 2, by omega⟩ ⟨4096 + e, by omega⟩)
          + d.w 2 ⟨e, h⟩ * (d.z ⟨r, hr⟩ ⟨2048 + e, by omega⟩ * d.z ⟨r, hr⟩ ⟨4096 + e, by omega⟩))
    else if h : e - 2048 < 2048 then
      (((if h₁ : e - 2048 < 2048 then
              d.w 2 ⟨e - 2048, h₁⟩ * (d.z ⟨r, hr⟩ ⟨e - 2048, by omega⟩ * d.da ⟨r, hr⟩ ⟨e - 2048, h₁⟩) else 0)
          + if h₁ : (1 ≤ 2 + r ∧ 2 + r - 1 < 8192) ∧ e - 2048 < 2048 then
              d.w 1 ⟨e - 2048, h₁.2⟩ * (d.z ⟨2 + r - 1, h₁.1.2⟩ ⟨e - 2048, by omega⟩ * d.da ⟨2 + r - 1, h₁.1.2⟩ ⟨e - 2048, h₁.2⟩) else 0)
          + if h₁ : 2 + r < 8192 ∧ e - 2048 < 2048 then
              d.w 0 ⟨e - 2048, h₁.2⟩ * (d.z ⟨2 + r, h₁.1⟩ ⟨e - 2048, by omega⟩ * d.da ⟨2 + r, h₁.1⟩ ⟨e - 2048, h₁.2⟩) else 0) * d.z ⟨r, hr⟩ ⟨4096 + (e - 2048), by omega⟩
    else
      d.z ⟨r, hr⟩ ⟨2048 + (e - 2048 - 2048), by omega⟩ *
        (((if h₁ : e - 2048 - 2048 < 2048 then
              d.w 2 ⟨e - 2048 - 2048, h₁⟩ * (d.z ⟨r, hr⟩ ⟨e - 2048 - 2048, by omega⟩ * d.da ⟨r, hr⟩ ⟨e - 2048 - 2048, h₁⟩) else 0)
          + if h₁ : (1 ≤ 2 + r ∧ 2 + r - 1 < 8192) ∧ e - 2048 - 2048 < 2048 then
              d.w 1 ⟨e - 2048 - 2048, h₁.2⟩ * (d.z ⟨2 + r - 1, h₁.1.2⟩ ⟨e - 2048 - 2048, by omega⟩ * d.da ⟨2 + r - 1, h₁.1.2⟩ ⟨e - 2048 - 2048, h₁.2⟩) else 0)
          + if h₁ : 2 + r < 8192 ∧ e - 2048 - 2048 < 2048 then
              d.w 0 ⟨e - 2048 - 2048, h₁.2⟩ * (d.z ⟨2 + r, h₁.1⟩ ⟨e - 2048 - 2048, by omega⟩ * d.da ⟨2 + r, h₁.1⟩ ⟨e - 2048 - 2048, h₁.2⟩) else 0)) = dz d r e := by
  unfold dz
  by_cases h : e < 2048
  · rw [dif_pos h, if_pos h, first]
  · rw [dif_neg h, if_neg h]
    by_cases h' : e - 2048 < 2048
    · rw [dif_pos h', if_pos (show e < 4096 by omega), dy_read d r _ hr h', ← at0_in d.z,
        show 4096 + (e - 2048) = 2048 + e by omega]
    · rw [dif_neg h', if_neg (show ¬ e < 4096 by omega), dy_read d r _ hr (by omega), ← at0_in d.z,
        show 2048 + (e - 2048 - 2048) = e - 2048 by omega, show e - 2048 - 2048 = e - 4096 by omega, mul_comm]

/-- The reference's gradient of `z`. -/
theorem dz_eq (c : Dev nD) (r : Fin 8192) (e : Fin 6144) :
    (Cert.ConvRefIdeal.Value.res_main_v71 m c : Vec Ideal S8192x6144 .bf16) (ix2 r e) = dz (data m c) r e := by
  have hr := r.isLt
  have he := e.isLt
  pointwise [Cert.ConvRefIdeal.Value.res_main_v71]
  exact whole (data m c) r.val e.val hr he

theorem split2 (f : ℕ → EReal) {n k : ℕ} (h : k = 2 + n) :
    ∑ r ∈ Finset.range k, f r = ∑ r ∈ Finset.range 2, f r + ∑ r ∈ Finset.range n, f (2 + r) := by
  subst h; exact Finset.sum_range_add f 2 n

/-- The reference's gradient of the taps: three sums, each padded to its row. -/
theorem dw_eq (d : Data) (j l : ℕ) (hj : j < 3) :
    (((if _h : 2 ≤ j ∧ j - 2 < 1 then
          ∑ _x : Fin 1, ∑ x : Fin 8192, at0 d.z x l * at0 d.da x l * (at0 d.z x (2048 + l) * at0 d.z x (4096 + l))
        else 0) +
        if _h : 1 ≤ j ∧ j - 1 < 1 then
          ∑ _x : Fin 1, ∑ x : Fin 8192, at0 d.z x l * at0 d.da x l * ysh d 1 x l
        else 0) +
      if _h : j < 1 then
        ∑ _x : Fin 1,
          (∑ x : Fin 2, at0 d.z x l * at0 d.da x l * 0 +
            ∑ x : Fin 8190, at0 d.z (2 + x) l * at0 d.da (2 + x) l * (at0 d.z x (2048 + l) * at0 d.z x (4096 + l)))
      else 0) = dw d j l := by
  unfold dw
  obtain rfl | rfl | rfl : j = 0 ∨ j = 1 ∨ j = 2 := by omega
  · rw [dif_neg (by omega), dif_neg (by omega), dif_pos (by omega), Fin.sum_univ_one, zero_add, zero_add]
    rw [split2 (term d 0 l) (n := 8190) rfl]
    rw [Finset.sum_range, Finset.sum_range]
    refine congrArg₂ (· + ·) (Finset.sum_congr rfl fun x _ => ?_) (Finset.sum_congr rfl fun x _ => ?_)
    · unfold term ysh
      rw [if_neg (by omega), mul_zero, mul_zero]
    · unfold term ysh
      rw [if_pos (by omega), show 2 + x.val - (2 - 0) = x by omega, mul_comm (at0 d.z _ _)]; rfl
  · rw [dif_neg (by omega), dif_pos (by omega), dif_neg (by omega), Fin.sum_univ_one, zero_add, add_zero, Finset.sum_range]
    refine Finset.sum_congr rfl fun x _ => ?_
    unfold term
    rw [mul_comm (at0 d.z _ _)]; rfl
  · rw [dif_pos (by omega), dif_neg (by omega), dif_neg (by omega), Fin.sum_univ_one, add_zero, add_zero, Finset.sum_range]
    refine Finset.sum_congr rfl fun x _ => ?_
    unfold term ysh
    rw [mul_comm (at0 d.z _ _), if_pos (by omega)]; rfl

/-- What a run of the reference leaves: both gradients, and its arguments as they were. -/
theorem run : θ_run defs (onTc (τ := τ) (main (F := Ideal))) ⟨m, fun _ => 0, ρ⟩ fun r => ∀ c : Dev nD,
      (r.2.mem ((c.tc : Thread nD τ).loc main_v71) : Vec Ideal S8192x6144 .bf16)
          = (fun i => dz (data m c) (i 0).val (i 1).val)
      ∧ (r.2.mem ((c.tc : Thread nD τ).loc main_v65) : Vec Ideal S3x2048 .f32)
          = (fun i => dw (data m c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2.1.trans ?_, (h c).2.2⟩)
    (Cert.ConvRefIdeal.Value.run m ρ)
  · clear h
    funext i
    idx_vars i
    exact dz_eq m c i0 i1
  · clear h
    funext i
    idx_vars i
    pointwise []
    simp only [z_read, da_read, w_read, shift1]
    exact dw_eq (data m c) i0 i1 i0.isLt

end Cert.ConvRef

end
-- ==== Proof.Conv.Claims.lean ====
/- The claims about the gradient of the gated short convolution. -/
module

public import proofs.«01_k».proof.Defs
public import proofs.«01_k».proof.Proof.Conv.Kernel
public import proofs.«01_k».proof.Proof.Conv.Ref
public import proofs.«01_k».proof.Proof.Gen.Conv.Frame

@[expose] public section

noncomputable section

open Idealize.ShloMosaic Idealize.ShloMosaic.TcCoe Idealize.SL.Sem

namespace Cert.ConvClaims

theorem frame_kernel : Cert.quiescent_Conv := fun m ρ _ => Cert.Conv.Gen.frame m ρ

theorem frame_ideal : Cert.quiescent_ConvIdeal := fun m ρ _ => Cert.ConvIdeal.Gen.frame m ρ

theorem frame_ref : Cert.quiescent_ConvRefIdeal := fun m ρ _ =>
  (θ_run Cert.ConvRefIdeal.defs _ _).mono
    (fun r h => ⟨fun c => (h c).2.2, sem_eq_zero_of_no_sems (by decide) r.2⟩)
    (Cert.ConvRefIdeal.Value.run (F := Ideal) m ρ)

/-- On the same arguments the two programs end with the same gradients: both are the specification's. -/
theorem algebraic : Cert.algebraic_ConvIdeal_ConvRefIdeal := by
  intro m ρ m' ρ' _ hag
  have e (c : Dev Cert.ConvIdeal.nD) : Cert.ConvRef.data m' c = Cert.ConvKernel.data m c := by
    unfold Cert.ConvRef.data Cert.ConvKernel.data
    rw [(hag c).1, (hag c).2.1, (hag c).2.2]
  refine ⟨fun c => Cert.ConvKernel.dzOf (Cert.ConvKernel.data m c), fun c => Cert.ConvKernel.dwOf (Cert.ConvKernel.data m c),
    Cert.ConvKernel.run m ρ, (θ_run Cert.ConvRefIdeal.defs _ _).mono (fun _ h c => ⟨(h c).1.trans ?_, (h c).2.1.trans ?_, (h c).2.2⟩)
      (Cert.ConvRef.run m' ρ')⟩
  · rw [e c]; rfl
  · rw [e c]; rfl

end Cert.ConvClaims

end
-- ==== Proof.Product.Blocked.lean ====
/- A product whose contracted axis is taken a block at a time, the blocks' sums gathered in an accumulator. -/
module

public import Idealize.ShloMosaic.PureOps.Ideal
public import Idealize.ShloMosaic.Lib.Pointwise
public import Idealize.ShloMosaic.Lib.Pipeline.ValueKit

@[expose] public section

noncomputable section

open Idealize.ShloMosaic

namespace Cert.Product

/-- A product of two elements, as extended reals. -/
abbrev mul (a b : EReal) : EReal := a * b

/-- An accumulator that is cleared at the first of every `J` points and at each point takes up that point's `n` terms
    holds, at the last of the `J`, the sum over the whole axis of `J * n`, if point `s` of the run has the `s`-th
    stretch of the axis. -/
theorem blocked {ι : Type} {N J n L : ℕ} [NeZero J] (f : (k : ℕ) → k < N → ι → EReal) (p : Fin N → Fin n → ι → EReal)
    (h0 : ∀ t : Fin N, t.val % J = 0 → ∀ i, f t.val t.isLt i = 0 + ∑ k : Fin n, p t k i)
    (hs : ∀ t : Fin N, ¬t.val % J = 0 → ∀ i, f t.val t.isLt i
      = f (t.val - 1) (Nat.lt_of_le_of_lt (Nat.sub_le _ _) t.isLt) i + ∑ k : Fin n, p t k i)
    (hL : L = J * n) (t : Fin N) (hr : t.val % J = J - 1) (i : ι) (g : Fin L → EReal)
    (hg : ∀ (s : Fin J) (k : Fin n) (h : J * (t.val / J) + s.val < N) (hl : s.val * n + k.val < L),
      p ⟨J * (t.val / J) + s.val, h⟩ k i = g ⟨s.val * n + k.val, hl⟩) :
    f t.val t.isLt i = ∑ l : Fin L, g l := by
  refine (Pipeline.eq_sum_fin_of_reset_step_apply_of_flush f J (fun _ => 0) (fun t i => ∑ k : Fin n, p t k i) h0 hs t hr i).trans ?_
  rw [zero_add]
  exact Fin.sum_mul_add_congr (fun s k hl => hg s k _ hl) hL

end Cert.Product

end
-- ==== Proof.Gate.Algebra.lean ====
/- The gated feed-forward's gradient, at one element: the two forms of it agree. -/
module

public import proofs.«01_k».proof.Proof.Product.Blocked
public import proofs.«01_k».proof.Pre_gate_finite

@[expose] public section

noncomputable section

open Idealize.ShloMosaic

namespace Cert.GateAlgebra

/-- An extended real that is a real number. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert i s hi ih =>
    rw [Finset.sum_insert hi]
    obtain ⟨a, ha⟩ := h i
    obtain ⟨b, hb⟩ := ih
    exact ⟨a + b, by rw [ha, hb, EReal.coe_add]⟩

/-- A number whose magnitude compares below the infinite one is a real number. -/
theorem fin_of_abs {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  have hlt : max x (-x) < ⊤ := by
    by_contra hn
    simp [Ideal.cmp, hn] at h
  rw [max_lt_iff] at hlt
  induction x with
  | bot => simp at hlt
  | top => simp at hlt
  | coe r => exact ⟨r, rfl⟩

/-- The logistic function's gradient, written out by the product rule, is the factored form; `g` may be infinite. -/
theorem silu_grad {t : EReal} (ht : IsReal t) (g : EReal) :
    t * (Ideal.logistic g * (1 + g * (1 - Ideal.logistic g)))
      = t * Ideal.logistic g + g * t * (Ideal.logistic g * (1 - Ideal.logistic g)) := by
  obtain ⟨a, rfl⟩ := ht
  induction g with
  | bot => simp
  | top =>
    have h : (1 : EReal) - 1 = 0 := by rw [← EReal.coe_one, ← EReal.coe_sub, sub_self, EReal.coe_zero]
    simp [h]
  | coe r =>
    rw [Ideal.logistic_coe]
    rw [← EReal.coe_one, ← EReal.coe_sub, ← EReal.coe_mul, ← EReal.coe_add, ← EReal.coe_mul, ← EReal.coe_mul,
      ← EReal.coe_mul, ← EReal.coe_mul, ← EReal.coe_mul, ← EReal.coe_mul, ← EReal.coe_add]
    exact congrArg _ (by ring)

end Cert.GateAlgebra

end
-- ==== Proof.Gate.Kernel.lean ====
/- What the kernel for the gated feed-forward's gradient leaves in its two result arrays. -/
module

public import proofs.«01_k».proof.Proof.Gate.Algebra
public import proofs.«01_k».proof.Proof.Gen.GateIdeal.Frame
public import proofs.«01_k».proof.Proof.Gen.GateIdeal.Value

@[expose] public section

set_option maxRecDepth 16384

noncomputable section

open Idealize.ShloMosaic Idealize.ShloMosaic.TcCoe Idealize.SL.Sem
open Idealize.ShloMosaic.Pipeline (Dat)

namespace Cert.GateKernel

open Cert.GateIdeal Cert.GateIdeal.Gen

variable (m : (ℓ : Loc nD τ sig) → Buf (Elt Ideal) ℓ) (ρ : Dev nD → PrngReg)

/-- The gradient of the gate's value, of the gradient `d` of the gated product, the gate `g` and the other factor `u`. -/
def gate (d g u : EReal) : EReal := d * u * (Ideal.logistic g * (1 + g * (1 - Ideal.logistic g)))

/-- The gradient of the other factor. -/
def up (d g : EReal) : EReal := d * (g * Ideal.logistic g)

theorem pay4_apply (x : Vec Ideal S1024x2048 .bf16) (w : Vec Ideal S512x2048 .bf16) (g u : Vec Ideal S1024x512 .bf16) (j : S1024x512.Idx) :
    k0_pay4 (F := Ideal) x w g u j = gate (∑ k : Fin 2048, Product.mul (x (ix2 (j 0) k)) (w (ix2 (j 1) k))) (g j) (u j) := by
  idx_vars j
  pointwise [k0_pay4, k0_pay3, k0_pay2, k0_pay1]
  rw [show (0 : EReal) - g (ix2 j0 j1) = -g (ix2 j0 j1) from zero_sub _]
  rfl

theorem pay5_apply (x : Vec Ideal S1024x2048 .bf16) (w : Vec Ideal S512x2048 .bf16) (g : Vec Ideal S1024x512 .bf16) (j : S1024x512.Idx) :
    k0_pay5 (F := Ideal) x w g j = up (∑ k : Fin 2048, Product.mul (x (ix2 (j 0) k)) (w (ix2 (j 1) k))) (g j) := by
  idx_vars j
  pointwise [k0_pay5, k0_pay3, k0_pay2, k0_pay1]
  rw [show (0 : EReal) - g (ix2 j0 j1) = -g (ix2 j0 j1) from zero_sub _]
  rfl

/-- Where each window's block lies. -/
theorem idx (t : Fin cfg0.N) : win0_0.index t = ![t.val / 11, 0] ∧ win0_1.index t = ![t.val % 11, 0]
    ∧ win0_2.index t = ![t.val / 11, t.val % 11] ∧ win0_3.index t = ![t.val / 11, t.val % 11]
    ∧ win0_4.index t = ![t.val / 11, t.val % 11] ∧ win0_5.index t = ![t.val / 11, t.val % 11] :=
  (by decide +kernel : ∀ t : Fin grid0.N, win0_0.index t = ![t.val / 11, 0] ∧ win0_1.index t = ![t.val % 11, 0]
    ∧ win0_2.index t = ![t.val / 11, t.val % 11] ∧ win0_3.index t = ![t.val / 11, t.val % 11]
    ∧ win0_4.index t = ![t.val / 11, t.val % 11] ∧ win0_5.index t = ![t.val / 11, t.val % 11]) t

/-- The operands, as the arguments hold them. -/
abbrev argX (c : Dev nD) : Vec Ideal S8192x2048 .bf16 := m ((c.tc : Thread nD τ).loc main_arg0)
abbrev argW (c : Dev nD) : Vec Ideal S5632x2048 .bf16 := m ((c.tc : Thread nD τ).loc main_arg1)
abbrev argG (c : Dev nD) : Vec Ideal S8192x5632 .bf16 := m ((c.tc : Thread nD τ).loc main_arg2)
abbrev argU (c : Dev nD) : Vec Ideal S8192x5632 .bf16 := m ((c.tc : Thread nD τ).loc main_arg3)

/-- The gradient of the gated product: the incoming gradient through the output product. -/
def dact (x : Vec Ideal S8192x2048 .bf16) (w : Vec Ideal S5632x2048 .bf16) (i : S8192x5632.Idx) : EReal :=
  ∑ k : Fin 2048, Product.mul (x (ix2 (i 0) k)) (w (ix2 (i 1) k))

/-- The two gradients, whole. -/
def dgate (x : Vec Ideal S8192x2048 .bf16) (w : Vec Ideal S5632x2048 .bf16) (g u : Vec Ideal S8192x5632 .bf16) : Vec Ideal S8192x5632 .bf16 :=
  fun i => gate (dact x w i) (g i) (u i)
def dup (x : Vec Ideal S8192x2048 .bf16) (w : Vec Ideal S5632x2048 .bf16) (g : Vec Ideal S8192x5632 .bf16) : Vec Ideal S8192x5632 .bf16 :=
  fun i => up (dact x w i) (g i)

theorem final_gate (c : Dev nD) : (dats m 0 c).arrAt 4 cfg0.N = dgate (argX m c) (argW m c) (argG m c) (argU m c) := by
  refine (dats m 0 c).arrAt_eq_of_covers 4 _ (by decide +kernel) fun t hf y => ?_
  blk_simp
  rw [after0_4]
  frame_out
  rw [pay4_apply]
  unfold dgate dact
  idx_vars y
  congr 1
  · refine Finset.sum_congr rfl fun k _ => ?_
    congr 1
    all_goals blk_ext [iblk, V, idx t]
  all_goals blk_ext [iblk, V, idx t]

theorem final_up (c : Dev nD) : (dats m 0 c).arrAt 5 cfg0.N = dup (argX m c) (argW m c) (argG m c) := by
  refine (dats m 0 c).arrAt_eq_of_covers 5 _ (by decide +kernel) fun t hf y => ?_
  blk_simp
  rw [after0_5]
  frame_out
  rw [pay5_apply]
  unfold dup dact
  idx_vars y
  congr 1
  · refine Finset.sum_congr rfl fun k _ => ?_
    congr 1
    all_goals blk_ext [iblk, V, idx t]
  all_goals blk_ext [iblk, V, idx t]

/-- What a run of the kernel leaves: both gradients, and its arguments as they were. -/
theorem run : θ_run defs (onTc (τ := τ) (main (F := Ideal))) ⟨m, fun _ => 0, ρ⟩ fun r => ∀ c : Dev nD,
      r.2.mem ((c.tc : Thread nD τ).loc main_v0_0) = dgate (argX m c) (argW m c) (argG m c) (argU m c)
      ∧ r.2.mem ((c.tc : Thread nD τ).loc main_v0_1) = dup (argX m c) (argW m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_gate m c), (h c).2.1.trans (final_up m c), (h c).2.2⟩) (Value.run_blocks m ρ)

end Cert.GateKernel

end
-- ==== Proof.Gate.Claims.lean ====
/- The claims about the gradient of the gated feed-forward, through its output product. -/
module

public import proofs.«01_k».proof.Defs
public import proofs.«01_k».proof.Proof.Gate.Kernel
public import proofs.«01_k».proof.Proof.Gen.Gate.Frame
public import proofs.«01_k».proof.Proof.Gen.GateRefIdeal.Run

@[expose] public section

set_option maxRecDepth 16384

noncomputable section

open Idealize.ShloMosaic Idealize.ShloMosaic.TcCoe Idealize.SL.Sem

namespace Cert.GateClaims

/-- What the precondition's own text asks of shapes and formats. -/
instance preFacts : Cert.Pre_gate_finite.Facts where
  bitsLt_bf16_f32 := by decide
  bcast_S_S8192x2048 := by decide
  bcast_S_S5632x2048 := by decide
  bcast_S_S8192x5632 := by decide

theorem frame_kernel : Cert.quiescent_Gate := fun m ρ _ => Cert.Gate.Gen.frame m ρ

theorem frame_ideal : Cert.quiescent_GateIdeal := fun m ρ _ => Cert.GateIdeal.Gen.frame m ρ

theorem frame_ref : Cert.quiescent_GateRefIdeal := fun m ρ _ =>
  (θ_run Cert.GateRefIdeal.defs _ _).mono
    (fun r h => ⟨fun c => (h c).2.2, sem_eq_zero_of_no_sems (by decide) r.2⟩)
    (Cert.GateRefIdeal.Value.run (F := Ideal) m ρ)

theorem frame_ideal_pre : Cert.quiescent_GateIdeal_pre_gate_finite := fun m ρ _ => frame_ideal m ρ trivial

theorem frame_ref_pre : Cert.quiescent_GateRefIdeal_pre_gate_finite := fun m ρ _ => frame_ref m ρ trivial

open Cert.GateKernel Cert.GateAlgebra in
/-- The gradient reaching the gated product, times the other factor, is a real number where the precondition holds. -/
theorem factor (m : (ℓ : Loc Cert.GateIdeal.nD Cert.GateIdeal.τ Cert.GateIdeal.sig) → Buf (Elt Ideal) ℓ)
    (h : Cert.Pre_GateIdeal_gate_finite m) (c : Dev Cert.GateIdeal.nD) (i : Cert.GateIdeal.S8192x5632.Idx) :
    IsReal (dact (argX m c) (argW m c) i * argU m c i) := by
  obtain ⟨hx, hw, hu⟩ := h c
  exact (IsReal.sum _ _ fun k => (fin_of_abs (congrFun hx (ix2 (i 0) k))).mul (fin_of_abs (congrFun hw (ix2 (i 1) k)))).mul
    (fin_of_abs (congrFun hu i))

/-- On the same arguments the two programs end with the same two gradients. -/
theorem algebraic : Cert.algebraic_GateIdeal_GateRefIdeal_pre_gate_finite := by
  intro m ρ m' ρ' hpre hag
  refine ⟨fun c => Cert.GateKernel.dgate (Cert.GateKernel.argX m c) (Cert.GateKernel.argW m c) (Cert.GateKernel.argG m c)
      (Cert.GateKernel.argU m c),
    fun c => Cert.GateKernel.dup (Cert.GateKernel.argX m c) (Cert.GateKernel.argW m c) (Cert.GateKernel.argG m c),
    Cert.GateKernel.run m ρ, (θ_run Cert.GateRefIdeal.defs _ _).mono (fun _ h c => ⟨(h c).1.trans ?_, (h c).2.1.trans ?_, (h c).2.2⟩)
      (Cert.GateRefIdeal.Value.run (F := Ideal) m' ρ')⟩
  · clear h
    have hf := factor m hpre c
    rw [(hag c).1, (hag c).2.1, (hag c).2.2.1, (hag c).2.2.2]
    funext i
    have e := Cert.GateAlgebra.silu_grad (hf i) (Cert.GateKernel.argG m c i)
    refine Eq.trans ?_ e.symm
    clear e hf
    idx_vars i
    pointwise []
    rfl
  · clear h
    rw [(hag c).1, (hag c).2.1, (hag c).2.2.1]
    funext i
    idx_vars i
    pointwise []
    exact mul_comm _ _

end Cert.GateClaims

end
-- ==== Proof.Input.Kernel.lean ====
/- What the kernel for the gradient of the two input projections' operand leaves in its result array. -/
module

public import proofs.«01_k».proof.Proof.Gen.InputIdeal.Frame
public import proofs.«01_k».proof.Proof.Gen.InputIdeal.Value
public import proofs.«01_k».proof.Proof.Product.Blocked
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InputKernel

open Cert.InputIdeal Cert.InputIdeal.Gen

variable (m : (ℓ : Loc nD τ sig) → Buf (Elt Ideal) ℓ) (ρ : Dev nD → PrngReg)

theorem pay2_apply (x : Vec Ideal S1024x2816 .bf16) (w : Vec Ideal S2816x512 .bf16) (y : Vec Ideal S1024x2816 .bf16) (v : Vec Ideal S2816x512 .bf16)
    (a : Vec Ideal S1024x512 .f32) (j : S1024x512.Idx) :
    k0_pay2 (F := Ideal) x w y v a j = a j
      + ∑ k : Fin 2816, (Product.mul (x (ix2 (j 0) k)) (w (ix2 k (j 1))) + Product.mul (y (ix2 (j 0) k)) (v (ix2 k (j 1)))) := by
  idx_vars j
  pointwise [k0_pay2]
  exact congrArg₂ (· + ·) rfl Finset.sum_add_distrib.symm

theorem pay1_apply (j : S1024x512.Idx) : k0_pay1 (F := Ideal) j = 0 := by
  idx_vars j
  pointwise [k0_pay1]

/-- Where each window's block lies. -/
theorem idx (t : Fin cfg0.N) : win0_0.index t = ![t.val / 8, t.val % 2] ∧ win0_1.index t = ![t.val / 8, t.val % 2]
    ∧ win0_2.index t = ![t.val % 2, t.val / 2 % 4] ∧ win0_3.index t = ![t.val % 2, t.val / 2 % 4]
    ∧ win0_5.index t = ![t.val / 8, t.val / 2 % 4] :=
  (by decide +kernel : ∀ t : Fin grid0.N, win0_0.index t = ![t.val / 8, t.val % 2] ∧ win0_1.index t = ![t.val / 8, t.val % 2]
    ∧ win0_2.index t = ![t.val % 2, t.val / 2 % 4] ∧ win0_3.index t = ![t.val % 2, t.val / 2 % 4]
    ∧ win0_5.index t = ![t.val / 8, t.val / 2 % 4]) t

/-- The two products at place `k` of the axis that point `t`'s blocks contract. -/
def term (c : Dev nD) (t : Fin cfg0.N) (k : Fin 2816) (j : S1024x512.Idx) : EReal :=
  Product.mul ((iblk m c 0 t : Vec Ideal S1024x2816 .bf16) (ix2 (j 0) k)) ((iblk m c 2 t : Vec Ideal S2816x512 .bf16) (ix2 k (j 1)))
    + Product.mul ((iblk m c 1 t : Vec Ideal S1024x2816 .bf16) (ix2 (j 0) k)) ((iblk m c 3 t : Vec Ideal S2816x512 .bf16) (ix2 k (j 1)))

/-- The scratch after point `n`, as a function of the index. -/
def acc (c : Dev nD) (n : ℕ) (h : n < cfg0.N) : S1024x512.Idx → EReal := ((outsAt0 m c n h).2 : Vec Ideal S1024x512 .f32)

theorem acc_reset (c : Dev nD) (t : Fin cfg0.N) (h0 : t.val % 2 = 0) (j : S1024x512.Idx) :
    acc m c t.val t.isLt j = 0 + ∑ k : Fin 2816, term m c t k j := by
  unfold acc
  rw [outsAt0_A m c t h0 (by omega)]
  frame_open
  simp (disch := decide +kernel) only [↓View.readCov_skip, View.readCov_fill]
  frame_out
  rw [pay2_apply, pay1_apply]; rfl

theorem acc_step (c : Dev nD) (t : Fin cfg0.N) (h0 : ¬t.val % 2 = 0) (j : S1024x512.Idx) :
    acc m c t.val t.isLt j = acc m c (t.val - 1) (Nat.lt_of_le_of_lt (Nat.sub_le _ _) t.isLt) j + ∑ k : Fin 2816, term m c t k j := by
  unfold acc
  rw [outsAt0_B m c t h0 (by omega)]
  frame_out
  simp only [read_unread_whole]
  rw [pay2_apply]; rfl

/-- The block written back is the scratch. -/
theorem out_eq (c : Dev nD) (t : Fin cfg0.N) (h1 : t.val % 2 = 1) (j : S1024x512.Idx) :
    (outsAt0 m c t.val t.isLt).1 j = acc m c t.val t.isLt j := by
  unfold acc
  rw [outsAt0_B m c t (by omega) h1]
  frame_out
  pointwise [k0_pay3]

/-- The two products, added. -/
def grad (x y : Vec Ideal S8192x5632 .bf16) (w v : Vec Ideal S5632x2048 .bf16) : Vec Ideal S8192x2048 .bf16 := fun i =>
  ∑ l : Fin 5632, (Product.mul (x (ix2 (i 0) l)) (w (ix2 l (i 1))) + Product.mul (y (ix2 (i 0) l)) (v (ix2 l (i 1))))

/-- The operands, as the arguments hold them. -/
abbrev argX (c : Dev nD) : Vec Ideal S8192x5632 .bf16 := m ((c.tc : Thread nD τ).loc main_arg0)
abbrev argY (c : Dev nD) : Vec Ideal S8192x5632 .bf16 := m ((c.tc : Thread nD τ).loc main_arg1)
abbrev argW (c : Dev nD) : Vec Ideal S5632x2048 .bf16 := m ((c.tc : Thread nD τ).loc main_arg2)
abbrev argV (c : Dev nD) : Vec Ideal S5632x2048 .bf16 := m ((c.tc : Thread nD τ).loc main_arg3)

theorem final (c : Dev nD) : (dats m 0 c).arrAt 5 cfg0.N = grad (argX m c) (argY m c) (argW m c) (argV m c) := by
  refine (dats m 0 c).arrAt_eq_of_covers 5 _ (by decide +kernel) fun t hf y => ?_
  blk_simp
  rw [after0_5]
  have h3 := (flush0_5 t).mp hf
  refine (out_eq m c t h3 y).trans ?_
  refine Product.blocked (acc m c) (term m c) (acc_reset m c) (acc_step m c) (n := 2816) (L := 5632) rfl t h3 y _ fun s k h hl => ?_
  unfold term
  idx_vars y
  have e0 : (2 * (t.val / 2) + s.val) % 2 = s.val := by omega
  have e1 : (2 * (t.val / 2) + s.val) / 8 = t.val / 8 := by omega
  have e2 : (2 * (t.val / 2) + s.val) / 2 = t.val / 2 := by omega
  congr 1
  all_goals congr 1
  all_goals blk_ext [iblk, V, idx ⟨2 * (t.val / 2) + s.val, h⟩, idx t, e0, e1, e2]

/-- What a run of the kernel leaves: the gradient, and its arguments as they were. -/
theorem run : θ_run defs (onTc (τ := τ) (main (F := Ideal))) ⟨m, fun _ => 0, ρ⟩ fun r => ∀ c : Dev nD,
      r.2.mem ((c.tc : Thread nD τ).loc main_v4) = grad (argX m c) (argY m c) (argW m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final m c), (h c).2⟩) (Value.run_blocks m ρ)

end Cert.InputKernel

end
-- ==== Proof.Input.Claims.lean ====
/- The claims about the gradient of the two input projections' operand. -/
module

public import proofs.«01_k».proof.Defs
public import proofs.«01_k».proof.Proof.Input.Kernel
public import proofs.«01_k».proof.Proof.Gen.Input.Frame
public import proofs.«01_k».proof.Proof.Gen.InputRefIdeal.Run

@[expose] public section

set_option maxRecDepth 16384

noncomputable section

open Idealize.ShloMosaic Idealize.ShloMosaic.TcCoe Idealize.SL.Sem

namespace Cert.InputClaims

theorem frame_kernel : Cert.quiescent_Input := fun m ρ _ => Cert.Input.Gen.frame m ρ

theorem frame_ideal : Cert.quiescent_InputIdeal := fun m ρ _ => Cert.InputIdeal.Gen.frame m ρ

theorem frame_ref : Cert.quiescent_InputRefIdeal := fun m ρ _ =>
  (θ_run Cert.InputRefIdeal.defs _ _).mono
    (fun r h => ⟨fun c => (h c).2, sem_eq_zero_of_no_sems (by decide) r.2⟩)
    (Cert.InputRefIdeal.Value.run (F := Ideal) m ρ)

/-- On the same arguments the two programs end with the same gradient: the sum of the two products. -/
theorem algebraic : Cert.algebraic_InputIdeal_InputRefIdeal := by
  intro m ρ m' ρ' _ hag
  refine ⟨fun c => Cert.InputKernel.grad (Cert.InputKernel.argX m c) (Cert.InputKernel.argY m c) (Cert.InputKernel.argW m c)
      (Cert.InputKernel.argV m c),
    Cert.InputKernel.run m ρ, (θ_run Cert.InputRefIdeal.defs _ _).mono (fun _ h c => ⟨(h c).1.trans ?_, (h c).2⟩)
      (Cert.InputRefIdeal.Value.run (F := Ideal) m' ρ')⟩
  clear h
  rw [(hag c).1, (hag c).2.1, (hag c).2.2.1, (hag c).2.2.2.1]
  funext i
  idx_vars i
  pointwise [Cert.InputKernel.grad]
  exact (add_comm _ _).trans Finset.sum_add_distrib.symm

end Cert.InputClaims

end
-- ==== Proof.InWeight.Kernel.lean ====
/- What the kernel for an input projection's weight gradient leaves in its result array. -/
module

public import proofs.«01_k».proof.Proof.Gen.InWeightIdeal.Frame
public import proofs.«01_k».proof.Proof.Gen.InWeightIdeal.Value
public import proofs.«01_k».proof.Proof.Product.Blocked
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InWeightKernel

open Cert.InWeightIdeal Cert.InWeightIdeal.Gen

variable (m : (ℓ : Loc nD τ sig) → Buf (Elt Ideal) ℓ) (ρ : Dev nD → PrngReg)

theorem pay2_apply (x : Vec Ideal S2048x1408 .bf16) (y : Vec Ideal S2048x1024 .bf16) (a : Vec Ideal S1408x1024 .f32) (j : S1408x1024.Idx) :
    k0_pay2 (F := Ideal) x y a j = a j + ∑ r : Fin 2048, x (ix2 r (j 0)) * y (ix2 r (j 1)) := by
  idx_vars j
  pointwise [k0_pay2]

theorem pay1_apply (j : S1408x1024.Idx) : k0_pay1 (F := Ideal) j = 0 := by
  idx_vars j
  pointwise [k0_pay1]

/-- Where each window's block lies. -/
theorem idx (t : Fin cfg0.N) : win0_0.index t = ![t.val % 4, t.val / 8] ∧ win0_1.index t = ![t.val % 4, t.val / 4 % 2]
    ∧ win0_2.index t = ![t.val / 8, t.val / 4 % 2] :=
  (by decide +kernel : ∀ t : Fin grid0.N, win0_0.index t = ![t.val % 4, t.val / 8] ∧ win0_1.index t = ![t.val % 4, t.val / 4 % 2]
    ∧ win0_2.index t = ![t.val / 8, t.val / 4 % 2]) t

/-- The product of the columns of row `k` of point `t`'s two blocks. -/
def term (c : Dev nD) (t : Fin cfg0.N) (k : Fin 2048) (j : S1408x1024.Idx) : EReal :=
  Product.mul ((iblk m c 0 t : Vec Ideal S2048x1408 .bf16) (ix2 k (j 0))) ((iblk m c 1 t : Vec Ideal S2048x1024 .bf16) (ix2 k (j 1)))

/-- The scratch after point `t`, as a function of the index. -/
def acc (c : Dev nD) (n : ℕ) (h : n < cfg0.N) : S1408x1024.Idx → EReal := ((outsAt0 m c n h).2 : Vec Ideal S1408x1024 .f32)

theorem acc_reset (c : Dev nD) (t : Fin cfg0.N) (h0 : t.val % 4 = 0) (j : S1408x1024.Idx) :
    acc m c t.val t.isLt j = 0 + ∑ k : Fin 2048, term m c t k j := by
  unfold acc
  rw [outsAt0_A m c t h0 (by omega)]
  frame_open
  simp (disch := decide +kernel) only [↓View.readCov_skip, View.readCov_fill]
  frame_out
  rw [pay2_apply, pay1_apply]; rfl

theorem acc_step (c : Dev nD) (t : Fin cfg0.N) (h0 : ¬t.val % 4 = 0) (j : S1408x1024.Idx) :
    acc m c t.val t.isLt j = acc m c (t.val - 1) (Nat.lt_of_le_of_lt (Nat.sub_le _ _) t.isLt) j + ∑ k : Fin 2048, term m c t k j := by
  unfold acc
  by_cases h1 : t.val % 4 = 3
  · rw [outsAt0_C m c t h0 h1]
    frame_out
    simp only [read_unread_whole]
    rw [pay2_apply]; rfl
  · rw [outsAt0_B m c t h0 h1]
    frame_out
    simp only [read_unread_whole]
    rw [pay2_apply]; rfl

/-- The block written back is the scratch. -/
theorem out_eq (c : Dev nD) (t : Fin cfg0.N) (h1 : t.val % 4 = 3) (j : S1408x1024.Idx) :
    (outsAt0 m c t.val t.isLt).1 j = acc m c t.val t.isLt j := by
  unfold acc
  rw [outsAt0_C m c t (by omega) h1]
  frame_out
  pointwise [k0_pay3]

/-- The product of the transposed first operand and the second: row `i` of the result is column `i` of `x`. -/
def grad (x : Vec Ideal S8192x5632 .bf16) (y : Vec Ideal S8192x2048 .bf16) : Vec Ideal S5632x2048 .bf16 := fun i =>
  ∑ l : Fin 8192, Product.mul (x (ix2 l (i 0))) (y (ix2 l (i 1)))

/-- The two operands, as the arguments hold them. -/
abbrev argX (c : Dev nD) : Vec Ideal S8192x5632 .bf16 := m ((c.tc : Thread nD τ).loc main_arg0)
abbrev argY (c : Dev nD) : Vec Ideal S8192x2048 .bf16 := m ((c.tc : Thread nD τ).loc main_arg1)

theorem final (c : Dev nD) : (dats m 0 c).arrAt 2 cfg0.N = grad (argX m c) (argY m c) := by
  refine (dats m 0 c).arrAt_eq_of_covers 2 _ (by decide +kernel) fun t hf y => ?_
  blk_simp
  rw [after0_2]
  have h3 := (flush0_2 t).mp hf
  refine (out_eq m c t h3 y).trans ?_
  refine Product.blocked (acc m c) (term m c) (acc_reset m c) (acc_step m c) (n := 2048) (L := 8192) rfl t h3 y _ fun s k h hl => ?_
  unfold term
  idx_vars y
  have e0 : (4 * (t.val / 4) + s.val) % 4 = s.val := by omega
  have e1 : (4 * (t.val / 4) + s.val) / 8 = t.val / 8 := by omega
  have e2 : (4 * (t.val / 4) + s.val) / 4 = t.val / 4 := by omega
  congr 1
  · blk_ext [iblk, V, idx ⟨4 * (t.val / 4) + s.val, h⟩, idx t, e0, e1, e2]
  · blk_ext [iblk, V, idx ⟨4 * (t.val / 4) + s.val, h⟩, idx t, e0, e1, e2]

/-- What a run of the kernel leaves: the gradient, and its arguments as they were. -/
theorem run : θ_run defs (onTc (τ := τ) (main (F := Ideal))) ⟨m, fun _ => 0, ρ⟩ fun r => ∀ c : Dev nD,
      r.2.mem ((c.tc : Thread nD τ).loc main_v0) = grad (argX m c) (argY m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.InWeightKernel

end
-- ==== Proof.InWeight.Claims.lean ====
/- The claims about the gradient of an input projection's weight. -/
module

public import proofs.«01_k».proof.Defs
public import proofs.«01_k».proof.Proof.InWeight.Kernel
public import proofs.«01_k».proof.Proof.Gen.InWeight.Frame
public import proofs.«01_k».proof.Proof.Gen.InWeightRefIdeal.Run

@[expose] public section

set_option maxRecDepth 16384

noncomputable section

open Idealize.ShloMosaic Idealize.ShloMosaic.TcCoe Idealize.SL.Sem

namespace Cert.InWeightClaims

theorem frame_kernel : Cert.quiescent_InWeight := fun m ρ _ => Cert.InWeight.Gen.frame m ρ

theorem frame_ideal : Cert.quiescent_InWeightIdeal := fun m ρ _ => Cert.InWeightIdeal.Gen.frame m ρ

theorem frame_ref : Cert.quiescent_InWeightRefIdeal := fun m ρ _ =>
  (θ_run Cert.InWeightRefIdeal.defs _ _).mono
    (fun r h => ⟨fun c => (h c).2, sem_eq_zero_of_no_sems (by decide) r.2⟩)
    (Cert.InWeightRefIdeal.Value.run (F := Ideal) m ρ)

/-- On the same arguments the two programs end with the same gradient: the sum, over all tokens, of the products of
    the two operands' columns. -/
theorem algebraic : Cert.algebraic_InWeightIdeal_InWeightRefIdeal := by
  intro m ρ m' ρ' _ hag
  refine ⟨fun c => Cert.InWeightKernel.grad (Cert.InWeightKernel.argX m c) (Cert.InWeightKernel.argY m c),
    Cert.InWeightKernel.run m ρ, (θ_run Cert.InWeightRefIdeal.defs _ _).mono (fun _ h c => ⟨(h c).1.trans ?_, (h c).2⟩)
      (Cert.InWeightRefIdeal.Value.run (F := Ideal) m' ρ')⟩
  clear h
  rw [(hag c).1, (hag c).2]
  funext i
  idx_vars i
  pointwise [Cert.InWeightKernel.grad]

end Cert.InWeightClaims

end
-- ==== Proof.DownWeight.Kernel.lean ====
/- What the kernel for the down projection's weight gradient leaves in its result array. -/
module

public import proofs.«01_k».proof.Proof.Gen.DownWeightIdeal.Frame
public import proofs.«01_k».proof.Proof.Gen.DownWeightIdeal.Value
public import proofs.«01_k».proof.Proof.Product.Blocked
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DownWeightKernel

open Cert.DownWeightIdeal Cert.DownWeightIdeal.Gen

variable (m : (ℓ : Loc nD τ sig) → Buf (Elt Ideal) ℓ) (ρ : Dev nD → PrngReg)

theorem pay2_apply (x : Vec Ideal S2048x1408 .bf16) (y : Vec Ideal S2048x1024 .bf16) (a : Vec Ideal S1408x1024 .f32) (j : S1408x1024.Idx) :
    k0_pay2 (F := Ideal) x y a j = a j + ∑ r : Fin 2048, x (ix2 r (j 0)) * y (ix2 r (j 1)) := by
  idx_vars j
  pointwise [k0_pay2]

theorem pay1_apply (j : S1408x1024.Idx) : k0_pay1 (F := Ideal) j = 0 := by
  idx_vars j
  pointwise [k0_pay1]

/-- Where each window's block lies. -/
theorem idx (t : Fin cfg0.N) : win0_0.index t = ![t.val % 4, t.val / 8] ∧ win0_1.index t = ![t.val % 4, t.val / 4 % 2]
    ∧ win0_2.index t = ![t.val / 8, t.val / 4 % 2] :=
  (by decide +kernel : ∀ t : Fin grid0.N, win0_0.index t = ![t.val % 4, t.val / 8] ∧ win0_1.index t = ![t.val % 4, t.val / 4 % 2]
    ∧ win0_2.index t = ![t.val / 8, t.val / 4 % 2]) t

/-- The product of the columns of row `k` of point `t`'s two blocks. -/
def term (c : Dev nD) (t : Fin cfg0.N) (k : Fin 2048) (j : S1408x1024.Idx) : EReal :=
  Product.mul ((iblk m c 0 t : Vec Ideal S2048x1408 .bf16) (ix2 k (j 0))) ((iblk m c 1 t : Vec Ideal S2048x1024 .bf16) (ix2 k (j 1)))

/-- The scratch after point `t`, as a function of the index. -/
def acc (c : Dev nD) (n : ℕ) (h : n < cfg0.N) : S1408x1024.Idx → EReal := ((outsAt0 m c n h).2 : Vec Ideal S1408x1024 .f32)

theorem acc_reset (c : Dev nD) (t : Fin cfg0.N) (h0 : t.val % 4 = 0) (j : S1408x1024.Idx) :
    acc m c t.val t.isLt j = 0 + ∑ k : Fin 2048, term m c t k j := by
  unfold acc
  rw [outsAt0_A m c t h0 (by omega)]
  frame_open
  simp (disch := decide +kernel) only [↓View.readCov_skip, View.readCov_fill]
  frame_out
  rw [pay2_apply, pay1_apply]; rfl

theorem acc_step (c : Dev nD) (t : Fin cfg0.N) (h0 : ¬t.val % 4 = 0) (j : S1408x1024.Idx) :
    acc m c t.val t.isLt j = acc m c (t.val - 1) (Nat.lt_of_le_of_lt (Nat.sub_le _ _) t.isLt) j + ∑ k : Fin 2048, term m c t k j := by
  unfold acc
  by_cases h1 : t.val % 4 = 3
  · rw [outsAt0_C m c t h0 h1]
    frame_out
    simp only [read_unread_whole]
    rw [pay2_apply]; rfl
  · rw [outsAt0_B m c t h0 h1]
    frame_out
    simp only [read_unread_whole]
    rw [pay2_apply]; rfl

/-- The block written back is the scratch. -/
theorem out_eq (c : Dev nD) (t : Fin cfg0.N) (h1 : t.val % 4 = 3) (j : S1408x1024.Idx) :
    (outsAt0 m c t.val t.isLt).1 j = acc m c t.val t.isLt j := by
  unfold acc
  rw [outsAt0_C m c t (by omega) h1]
  frame_out
  pointwise [k0_pay3]

/-- The product of the transposed first operand and the second: row `i` of the result is column `i` of `x`. -/
def grad (x : Vec Ideal S8192x5632 .bf16) (y : Vec Ideal S8192x2048 .bf16) : Vec Ideal S5632x2048 .bf16 := fun i =>
  ∑ l : Fin 8192, Product.mul (x (ix2 l (i 0))) (y (ix2 l (i 1)))

/-- The two operands, as the arguments hold them. -/
abbrev argX (c : Dev nD) : Vec Ideal S8192x5632 .bf16 := m ((c.tc : Thread nD τ).loc main_arg0)
abbrev argY (c : Dev nD) : Vec Ideal S8192x2048 .bf16 := m ((c.tc : Thread nD τ).loc main_arg1)

theorem final (c : Dev nD) : (dats m 0 c).arrAt 2 cfg0.N = grad (argX m c) (argY m c) := by
  refine (dats m 0 c).arrAt_eq_of_covers 2 _ (by decide +kernel) fun t hf y => ?_
  blk_simp
  rw [after0_2]
  have h3 := (flush0_2 t).mp hf
  refine (out_eq m c t h3 y).trans ?_
  refine Product.blocked (acc m c) (term m c) (acc_reset m c) (acc_step m c) (n := 2048) (L := 8192) rfl t h3 y _ fun s k h hl => ?_
  unfold term
  idx_vars y
  have e0 : (4 * (t.val / 4) + s.val) % 4 = s.val := by omega
  have e1 : (4 * (t.val / 4) + s.val) / 8 = t.val / 8 := by omega
  have e2 : (4 * (t.val / 4) + s.val) / 4 = t.val / 4 := by omega
  congr 1
  · blk_ext [iblk, V, idx ⟨4 * (t.val / 4) + s.val, h⟩, idx t, e0, e1, e2]
  · blk_ext [iblk, V, idx ⟨4 * (t.val / 4) + s.val, h⟩, idx t, e0, e1, e2]

/-- What a run of the kernel leaves: the gradient, and its arguments as they were. -/
theorem run : θ_run defs (onTc (τ := τ) (main (F := Ideal))) ⟨m, fun _ => 0, ρ⟩ fun r => ∀ c : Dev nD,
      r.2.mem ((c.tc : Thread nD τ).loc main_v0) = grad (argX m c) (argY m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.DownWeightKernel

end
-- ==== Proof.DownWeight.Claims.lean ====
/- The claims about the gradient of the down projection's weight. -/
module

public import proofs.«01_k».proof.Defs
public import proofs.«01_k».proof.Proof.DownWeight.Kernel
public import proofs.«01_k».proof.Proof.Gen.DownWeight.Frame
public import proofs.«01_k».proof.Proof.Gen.DownWeightRefIdeal.Run

@[expose] public section

set_option maxRecDepth 16384

noncomputable section

open Idealize.ShloMosaic Idealize.ShloMosaic.TcCoe Idealize.SL.Sem

namespace Cert.DownWeightClaims

theorem frame_kernel : Cert.quiescent_DownWeight := fun m ρ _ => Cert.DownWeight.Gen.frame m ρ

theorem frame_ideal : Cert.quiescent_DownWeightIdeal := fun m ρ _ => Cert.DownWeightIdeal.Gen.frame m ρ

theorem frame_ref : Cert.quiescent_DownWeightRefIdeal := fun m ρ _ =>
  (θ_run Cert.DownWeightRefIdeal.defs _ _).mono
    (fun r h => ⟨fun c => (h c).2, sem_eq_zero_of_no_sems (by decide) r.2⟩)
    (Cert.DownWeightRefIdeal.Value.run (F := Ideal) m ρ)

/-- On the same arguments the two programs end with the same gradient: the sum, over all tokens, of the products of
    the two operands' columns. -/
theorem algebraic : Cert.algebraic_DownWeightIdeal_DownWeightRefIdeal := by
  intro m ρ m' ρ' _ hag
  refine ⟨fun c => Cert.DownWeightKernel.grad (Cert.DownWeightKernel.argX m c) (Cert.DownWeightKernel.argY m c),
    Cert.DownWeightKernel.run m ρ, (θ_run Cert.DownWeightRefIdeal.defs _ _).mono (fun _ h c => ⟨(h c).1.trans ?_, (h c).2⟩)
      (Cert.DownWeightRefIdeal.Value.run (F := Ideal) m' ρ')⟩
  clear h
  rw [(hag c).1, (hag c).2]
  funext i
  idx_vars i
  pointwise [Cert.DownWeightKernel.grad]
  exact Finset.sum_congr rfl fun _ _ => mul_comm _ _

end Cert.DownWeightClaims

end
-- ==== Proof.OutWeight.Kernel.lean ====
/- What the kernel for the mixers' output weight gradient leaves in its result array. -/
module

public import proofs.«01_k».proof.Proof.Gen.OutWeightIdeal.Frame
public import proofs.«01_k».proof.Proof.Gen.OutWeightIdeal.Value
public import proofs.«01_k».proof.Proof.Product.Blocked
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutWeightKernel

open Cert.OutWeightIdeal Cert.OutWeightIdeal.Gen

variable (m : (ℓ : Loc nD τ sig) → Buf (Elt Ideal) ℓ) (ρ : Dev nD → PrngReg)

theorem pay2_apply (x : Vec Ideal S2048x1024 .bf16) (y : Vec Ideal S2048x1024 .bf16) (a : Vec Ideal S1024x1024 .f32) (j : S1024x1024.Idx) :
    k0_pay2 (F := Ideal) x y a j = a j + ∑ r : Fin 2048, x (ix2 r (j 0)) * y (ix2 r (j 1)) := by
  idx_vars j
  pointwise [k0_pay2]

theorem pay1_apply (j : S1024x1024.Idx) : k0_pay1 (F := Ideal) j = 0 := by
  idx_vars j
  pointwise [k0_pay1]

/-- Where each window's block lies. -/
theorem idx (t : Fin cfg0.N) : win0_0.index t = ![t.val % 4, t.val / 8] ∧ win0_1.index t = ![t.val % 4, t.val / 4 % 2]
    ∧ win0_2.index t = ![t.val / 8, t.val / 4 % 2] :=
  (by decide +kernel : ∀ t : Fin grid0.N, win0_0.index t = ![t.val % 4, t.val / 8] ∧ win0_1.index t = ![t.val % 4, t.val / 4 % 2]
    ∧ win0_2.index t = ![t.val / 8, t.val / 4 % 2]) t

/-- The product of the columns of row `k` of point `t`'s two blocks. -/
def term (c : Dev nD) (t : Fin cfg0.N) (k : Fin 2048) (j : S1024x1024.Idx) : EReal :=
  Product.mul ((iblk m c 0 t : Vec Ideal S2048x1024 .bf16) (ix2 k (j 0))) ((iblk m c 1 t : Vec Ideal S2048x1024 .bf16) (ix2 k (j 1)))

/-- The scratch after point `t`, as a function of the index. -/
def acc (c : Dev nD) (n : ℕ) (h : n < cfg0.N) : S1024x1024.Idx → EReal := ((outsAt0 m c n h).2 : Vec Ideal S1024x1024 .f32)

theorem acc_reset (c : Dev nD) (t : Fin cfg0.N) (h0 : t.val % 4 = 0) (j : S1024x1024.Idx) :
    acc m c t.val t.isLt j = 0 + ∑ k : Fin 2048, term m c t k j := by
  unfold acc
  rw [outsAt0_A m c t h0 (by omega)]
  frame_open
  simp (disch := decide +kernel) only [↓View.readCov_skip, View.readCov_fill]
  frame_out
  rw [pay2_apply, pay1_apply]; rfl

theorem acc_step (c : Dev nD) (t : Fin cfg0.N) (h0 : ¬t.val % 4 = 0) (j : S1024x1024.Idx) :
    acc m c t.val t.isLt j = acc m c (t.val - 1) (Nat.lt_of_le_of_lt (Nat.sub_le _ _) t.isLt) j + ∑ k : Fin 2048, term m c t k j := by
  unfold acc
  by_cases h1 : t.val % 4 = 3
  · rw [outsAt0_C m c t h0 h1]
    frame_out
    simp only [read_unread_whole]
    rw [pay2_apply]; rfl
  · rw [outsAt0_B m c t h0 h1]
    frame_out
    simp only [read_unread_whole]
    rw [pay2_apply]; rfl

/-- The block written back is the scratch. -/
theorem out_eq (c : Dev nD) (t : Fin cfg0.N) (h1 : t.val % 4 = 3) (j : S1024x1024.Idx) :
    (outsAt0 m c t.val t.isLt).1 j = acc m c t.val t.isLt j := by
  unfold acc
  rw [outsAt0_C m c t (by omega) h1]
  frame_out
  pointwise [k0_pay3]

/-- The product of the transposed first operand and the second: row `i` of the result is column `i` of `x`. -/
def grad (x : Vec Ideal S8192x2048 .bf16) (y : Vec Ideal S8192x2048 .bf16) : Vec Ideal S2048x2048 .bf16 := fun i =>
  ∑ l : Fin 8192, Product.mul (x (ix2 l (i 0))) (y (ix2 l (i 1)))

/-- The two operands, as the arguments hold them. -/
abbrev argX (c : Dev nD) : Vec Ideal S8192x2048 .bf16 := m ((c.tc : Thread nD τ).loc main_arg0)
abbrev argY (c : Dev nD) : Vec Ideal S8192x2048 .bf16 := m ((c.tc : Thread nD τ).loc main_arg1)

theorem final (c : Dev nD) : (dats m 0 c).arrAt 2 cfg0.N = grad (argX m c) (argY m c) := by
  refine (dats m 0 c).arrAt_eq_of_covers 2 _ (by decide +kernel) fun t hf y => ?_
  blk_simp
  rw [after0_2]
  have h3 := (flush0_2 t).mp hf
  refine (out_eq m c t h3 y).trans ?_
  refine Product.blocked (acc m c) (term m c) (acc_reset m c) (acc_step m c) (n := 2048) (L := 8192) rfl t h3 y _ fun s k h hl => ?_
  unfold term
  idx_vars y
  have e0 : (4 * (t.val / 4) + s.val) % 4 = s.val := by omega
  have e1 : (4 * (t.val / 4) + s.val) / 8 = t.val / 8 := by omega
  have e2 : (4 * (t.val / 4) + s.val) / 4 = t.val / 4 := by omega
  congr 1
  · blk_ext [iblk, V, idx ⟨4 * (t.val / 4) + s.val, h⟩, idx t, e0, e1, e2]
  · blk_ext [iblk, V, idx ⟨4 * (t.val / 4) + s.val, h⟩, idx t, e0, e1, e2]

/-- What a run of the kernel leaves: the gradient, and its arguments as they were. -/
theorem run : θ_run defs (onTc (τ := τ) (main (F := Ideal))) ⟨m, fun _ => 0, ρ⟩ fun r => ∀ c : Dev nD,
      r.2.mem ((c.tc : Thread nD τ).loc main_v0) = grad (argX m c) (argY m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.OutWeightKernel

end
-- ==== Proof.OutWeight.Claims.lean ====
/- The claims about the gradient of the mixers' output weight. -/
module

public import proofs.«01_k».proof.Defs
public import proofs.«01_k».proof.Proof.OutWeight.Kernel
public import proofs.«01_k».proof.Proof.Gen.OutWeight.Frame
public import proofs.«01_k».proof.Proof.Gen.OutWeightRefIdeal.Run

@[expose] public section

set_option maxRecDepth 16384

noncomputable section

open Idealize.ShloMosaic Idealize.ShloMosaic.TcCoe Idealize.SL.Sem

namespace Cert.OutWeightClaims

theorem frame_kernel : Cert.quiescent_OutWeight := fun m ρ _ => Cert.OutWeight.Gen.frame m ρ

theorem frame_ideal : Cert.quiescent_OutWeightIdeal := fun m ρ _ => Cert.OutWeightIdeal.Gen.frame m ρ

theorem frame_ref : Cert.quiescent_OutWeightRefIdeal := fun m ρ _ =>
  (θ_run Cert.OutWeightRefIdeal.defs _ _).mono
    (fun r h => ⟨fun c => (h c).2, sem_eq_zero_of_no_sems (by decide) r.2⟩)
    (Cert.OutWeightRefIdeal.Value.run (F := Ideal) m ρ)

/-- On the same arguments the two programs end with the same gradient: the sum, over all tokens, of the products of
    the two operands' columns. -/
theorem algebraic : Cert.algebraic_OutWeightIdeal_OutWeightRefIdeal := by
  intro m ρ m' ρ' _ hag
  refine ⟨fun c => Cert.OutWeightKernel.grad (Cert.OutWeightKernel.argX m c) (Cert.OutWeightKernel.argY m c),
    Cert.OutWeightKernel.run m ρ, (θ_run Cert.OutWeightRefIdeal.defs _ _).mono (fun _ h c => ⟨(h c).1.trans ?_, (h c).2⟩)
      (Cert.OutWeightRefIdeal.Value.run (F := Ideal) m' ρ')⟩
  clear h
  rw [(hag c).1, (hag c).2]
  funext i
  idx_vars i
  pointwise [Cert.OutWeightKernel.grad]
  exact Finset.sum_congr rfl fun _ _ => mul_comm _ _

end Cert.OutWeightClaims

end
-- ==== Proof.Product.Sums.lean ====
/- Two sums of extended reals, and two sums of a residual and a gated term, are equal when their parts are. -/
module

public import proofs.«01_k».proof.Proof.Product.Blocked

@[expose] public section

noncomputable section

namespace Cert.Product

theorem sums {n : ℕ} {f g : Fin n → EReal} (h : ∀ k, f k = g k) : ∑ k, f k = ∑ k, g k := Finset.sum_congr rfl fun k _ => h k

theorem muls {a b c d : EReal} (h : a = c) (h' : b = d) : mul a b = mul c d := by rw [h, h']

theorem adds {a b c d : EReal} (h : a = c) (h' : b = d) : a + b = c + d := by rw [h, h']

end Cert.Product

end
-- ==== Proof.OutInput.Kernel.lean ====
/- What the kernel for the gradient of the mixers' output projection leaves in its result array. -/
module

public import proofs.«01_k».proof.Proof.Gen.OutInputIdeal.Frame
public import proofs.«01_k».proof.Proof.Gen.OutInputIdeal.Value
public import proofs.«01_k».proof.Proof.Product.Blocked
public import proofs.«01_k».proof.Proof.Product.Sums

@[expose] public section

set_option maxRecDepth 16384

noncomputable section

open Idealize.ShloMosaic Idealize.ShloMosaic.TcCoe Idealize.SL.Sem
open Idealize.ShloMosaic.Pipeline (Dat)

namespace Cert.OutInputKernel

open Cert.OutInputIdeal Cert.OutInputIdeal.Gen

variable (m : (ℓ : Loc nD τ sig) → Buf (Elt Ideal) ℓ) (ρ : Dev nD → PrngReg)

theorem pay1_apply (x : Vec Ideal S1024x2048 .bf16) (w : Vec Ideal S1024x2048 .bf16) (j : S1024x1024.Idx) :
    k0_pay1 (F := Ideal) x w j = ∑ k : Fin 2048, Product.mul (x (ix2 (j 0) k)) (w (ix2 (j 1) k)) := by
  idx_vars j
  pointwise [k0_pay1]

/-- Where each window's block lies. -/
theorem idx (t : Fin cfg0.N) : win0_0.index t = ![t.val / 2, 0] ∧ win0_1.index t = ![t.val % 2, 0]
    ∧ win0_2.index t = ![t.val / 2, t.val % 2] :=
  (by decide +kernel : ∀ t : Fin grid0.N, win0_0.index t = ![t.val / 2, 0] ∧ win0_1.index t = ![t.val % 2, 0]
    ∧ win0_2.index t = ![t.val / 2, t.val % 2]) t

/-- The product with the transposed second operand. -/
def prod (x : Vec Ideal S8192x2048 .bf16) (w : Vec Ideal S2048x2048 .bf16) : Vec Ideal S8192x2048 .bf16 := fun i =>
  ∑ k : Fin 2048, Product.mul (x (ix2 (i 0) k)) (w (ix2 (i 1) k))

/-- The two operands, as the arguments hold them. -/
abbrev argX (c : Dev nD) : Vec Ideal S8192x2048 .bf16 := m ((c.tc : Thread nD τ).loc main_arg0)
abbrev argW (c : Dev nD) : Vec Ideal S2048x2048 .bf16 := m ((c.tc : Thread nD τ).loc main_arg1)

theorem final (c : Dev nD) : (dats m 0 c).arrAt 2 cfg0.N = prod (argX m c) (argW m c) := by
  refine (dats m 0 c).arrAt_eq_of_covers 2 _ (by decide +kernel) fun t hf y => ?_
  blk_simp
  rw [after0_2]
  frame_out
  rw [pay1_apply]
  unfold prod
  idx_vars y
  refine Product.sums fun k => Product.muls ?_ ?_
  all_goals blk_ext [iblk, V, idx t]

/-- What a run of the kernel leaves: the product, and its arguments as they were. -/
theorem run : θ_run defs (onTc (τ := τ) (main (F := Ideal))) ⟨m, fun _ => 0, ρ⟩ fun r => ∀ c : Dev nD,
      r.2.mem ((c.tc : Thread nD τ).loc main_v0) = prod (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.OutInputKernel

end
-- ==== Proof.OutInput.Claims.lean ====
/- The claims about the gradient of the mixers' output projection. -/
module

public import proofs.«01_k».proof.Defs
public import proofs.«01_k».proof.Proof.OutInput.Kernel
public import proofs.«01_k».proof.Proof.Gen.OutInput.Frame
public import proofs.«01_k».proof.Proof.Gen.OutInputRefIdeal.Run

@[expose] public section

set_option maxRecDepth 16384

noncomputable section

open Idealize.ShloMosaic Idealize.ShloMosaic.TcCoe Idealize.SL.Sem

namespace Cert.OutInputClaims

theorem frame_kernel : Cert.quiescent_OutInput := fun m ρ _ => Cert.OutInput.Gen.frame m ρ

theorem frame_ideal : Cert.quiescent_OutInputIdeal := fun m ρ _ => Cert.OutInputIdeal.Gen.frame m ρ

theorem frame_ref : Cert.quiescent_OutInputRefIdeal := fun m ρ _ =>
  (θ_run Cert.OutInputRefIdeal.defs _ _).mono
    (fun r h => ⟨fun c => (h c).2, sem_eq_zero_of_no_sems (by decide) r.2⟩)
    (Cert.OutInputRefIdeal.Value.run (F := Ideal) m ρ)

/-- On the same arguments the two programs end with the same gradient: the product with the transposed weight. -/
theorem algebraic : Cert.algebraic_OutInputIdeal_OutInputRefIdeal := by
  intro m ρ m' ρ' _ hag
  refine ⟨fun c => Cert.OutInputKernel.prod (Cert.OutInputKernel.argX m c) (Cert.OutInputKernel.argW m c),
    Cert.OutInputKernel.run m ρ, (θ_run Cert.OutInputRefIdeal.defs _ _).mono (fun _ h c => ⟨(h c).1.trans ?_, (h c).2⟩)
      (Cert.OutInputRefIdeal.Value.run (F := Ideal) m' ρ')⟩
  clear h
  rw [(hag c).1, (hag c).2]
  funext i
  idx_vars i
  pointwise [Cert.OutInputKernel.prod]

end Cert.OutInputClaims

end
-- ==== Proof.MixInput.Kernel.lean ====
/- What the kernel for the gradient of the attention layers' input projection leaves in its result array. -/
module

public import proofs.«01_k».proof.Proof.Gen.MixInputIdeal.Frame
public import proofs.«01_k».proof.Proof.Gen.MixInputIdeal.Value
public import proofs.«01_k».proof.Proof.Product.Blocked
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixInputKernel

open Cert.MixInputIdeal Cert.MixInputIdeal.Gen

variable (m : (ℓ : Loc nD τ sig) → Buf (Elt Ideal) ℓ) (ρ : Dev nD → PrngReg)

theorem pay2_apply (x : Vec Ideal S1024x1408 .bf16) (w : Vec Ideal S1408x1024 .bf16) (a : Vec Ideal S1024x1024 .f32) (j : S1024x1024.Idx) :
    k0_pay2 (F := Ideal) x w a j = a j + ∑ k : Fin 1408, Product.mul (x (ix2 (j 0) k)) (w (ix2 k (j 1))) := by
  idx_vars j
  pointwise [k0_pay2]

theorem pay1_apply (j : S1024x1024.Idx) : k0_pay1 (F := Ideal) j = 0 := by
  idx_vars j
  pointwise [k0_pay1]

/-- Where each window's block lies. -/
theorem idx (t : Fin cfg0.N) : win0_0.index t = ![t.val / 8, t.val % 4] ∧ win0_1.index t = ![t.val % 4, t.val / 4 % 2]
    ∧ win0_2.index t = ![t.val / 8, t.val / 4 % 2] :=
  (by decide +kernel : ∀ t : Fin grid0.N, win0_0.index t = ![t.val / 8, t.val % 4] ∧ win0_1.index t = ![t.val % 4, t.val / 4 % 2]
    ∧ win0_2.index t = ![t.val / 8, t.val / 4 % 2]) t

/-- The product at place `k` of the axis that point `t`'s two blocks contract. -/
def term (c : Dev nD) (t : Fin cfg0.N) (k : Fin 1408) (j : S1024x1024.Idx) : EReal :=
  Product.mul ((iblk m c 0 t : Vec Ideal S1024x1408 .bf16) (ix2 (j 0) k)) ((iblk m c 1 t : Vec Ideal S1408x1024 .bf16) (ix2 k (j 1)))

/-- The scratch after point `n`, as a function of the index. -/
def acc (c : Dev nD) (n : ℕ) (h : n < cfg0.N) : S1024x1024.Idx → EReal := ((outsAt0 m c n h).2 : Vec Ideal S1024x1024 .f32)

theorem acc_reset (c : Dev nD) (t : Fin cfg0.N) (h0 : t.val % 4 = 0) (j : S1024x1024.Idx) :
    acc m c t.val t.isLt j = 0 + ∑ k : Fin 1408, term m c t k j := by
  unfold acc
  rw [outsAt0_A m c t h0 (by omega)]
  frame_open
  simp (disch := decide +kernel) only [↓View.readCov_skip, View.readCov_fill]
  frame_out
  rw [pay2_apply, pay1_apply]; rfl

theorem acc_step (c : Dev nD) (t : Fin cfg0.N) (h0 : ¬t.val % 4 = 0) (j : S1024x1024.Idx) :
    acc m c t.val t.isLt j = acc m c (t.val - 1) (Nat.lt_of_le_of_lt (Nat.sub_le _ _) t.isLt) j + ∑ k : Fin 1408, term m c t k j := by
  unfold acc
  by_cases h1 : t.val % 4 = 3
  · rw [outsAt0_C m c t h0 h1]
    frame_out
    simp only [read_unread_whole]
    rw [pay2_apply]; rfl
  · rw [outsAt0_B m c t h0 h1]
    frame_out
    simp only [read_unread_whole]
    rw [pay2_apply]; rfl

/-- The block written back is the scratch. -/
theorem out_eq (c : Dev nD) (t : Fin cfg0.N) (h1 : t.val % 4 = 3) (j : S1024x1024.Idx) :
    (outsAt0 m c t.val t.isLt).1 j = acc m c t.val t.isLt j := by
  unfold acc
  rw [outsAt0_C m c t (by omega) h1]
  frame_out
  pointwise [k0_pay3]

/-- The product of the two operands. -/
def grad (x : Vec Ideal S8192x5632 .bf16) (w : Vec Ideal S5632x2048 .bf16) : Vec Ideal S8192x2048 .bf16 := fun i =>
  ∑ l : Fin 5632, Product.mul (x (ix2 (i 0) l)) (w (ix2 l (i 1)))

/-- The two operands, as the arguments hold them. -/
abbrev argX (c : Dev nD) : Vec Ideal S8192x5632 .bf16 := m ((c.tc : Thread nD τ).loc main_arg0)
abbrev argW (c : Dev nD) : Vec Ideal S5632x2048 .bf16 := m ((c.tc : Thread nD τ).loc main_arg1)

theorem final (c : Dev nD) : (dats m 0 c).arrAt 2 cfg0.N = grad (argX m c) (argW m c) := by
  refine (dats m 0 c).arrAt_eq_of_covers 2 _ (by decide +kernel) fun t hf y => ?_
  blk_simp
  rw [after0_2]
  have h3 := (flush0_2 t).mp hf
  refine (out_eq m c t h3 y).trans ?_
  refine Product.blocked (acc m c) (term m c) (acc_reset m c) (acc_step m c) (n := 1408) (L := 5632) rfl t h3 y _ fun s k h hl => ?_
  unfold term
  idx_vars y
  have e0 : (4 * (t.val / 4) + s.val) % 4 = s.val := by omega
  have e1 : (4 * (t.val / 4) + s.val) / 8 = t.val / 8 := by omega
  have e2 : (4 * (t.val / 4) + s.val) / 4 = t.val / 4 := by omega
  congr 1
  all_goals blk_ext [iblk, V, idx ⟨4 * (t.val / 4) + s.val, h⟩, idx t, e0, e1, e2]

/-- What a run of the kernel leaves: the gradient, and its arguments as they were. -/
theorem run : θ_run defs (onTc (τ := τ) (main (F := Ideal))) ⟨m, fun _ => 0, ρ⟩ fun r => ∀ c : Dev nD,
      r.2.mem ((c.tc : Thread nD τ).loc main_v0) = grad (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.MixInputKernel

end
-- ==== Proof.MixInput.Claims.lean ====
/- The claims about the gradient of the attention layers' input projection. -/
module

public import proofs.«01_k».proof.Defs
public import proofs.«01_k».proof.Proof.MixInput.Kernel
public import proofs.«01_k».proof.Proof.Gen.MixInput.Frame
public import proofs.«01_k».proof.Proof.Gen.MixInputRefIdeal.Run

@[expose] public section

set_option maxRecDepth 16384

noncomputable section

open Idealize.ShloMosaic Idealize.ShloMosaic.TcCoe Idealize.SL.Sem

namespace Cert.MixInputClaims

theorem frame_kernel : Cert.quiescent_MixInput := fun m ρ _ => Cert.MixInput.Gen.frame m ρ

theorem frame_ideal : Cert.quiescent_MixInputIdeal := fun m ρ _ => Cert.MixInputIdeal.Gen.frame m ρ

theorem frame_ref : Cert.quiescent_MixInputRefIdeal := fun m ρ _ =>
  (θ_run Cert.MixInputRefIdeal.defs _ _).mono
    (fun r h => ⟨fun c => (h c).2, sem_eq_zero_of_no_sems (by decide) r.2⟩)
    (Cert.MixInputRefIdeal.Value.run (F := Ideal) m ρ)

/-- On the same arguments the two programs end with the same gradient: the product of the two operands. -/
theorem algebraic : Cert.algebraic_MixInputIdeal_MixInputRefIdeal := by
  intro m ρ m' ρ' _ hag
  refine ⟨fun c => Cert.MixInputKernel.grad (Cert.MixInputKernel.argX m c) (Cert.MixInputKernel.argW m c),
    Cert.MixInputKernel.run m ρ, (θ_run Cert.MixInputRefIdeal.defs _ _).mono (fun _ h c => ⟨(h c).1.trans ?_, (h c).2⟩)
      (Cert.MixInputRefIdeal.Value.run (F := Ideal) m' ρ')⟩
  clear h
  rw [(hag c).1, (hag c).2]
  funext i
  idx_vars i
  pointwise [Cert.MixInputKernel.grad]

end Cert.MixInputClaims

end
-- ==== Proof.ConvInput.Kernel.lean ====
/- What the kernel for the gradient of the convolution layers' input projection leaves in its result array. -/
module

public import proofs.«01_k».proof.Proof.Gen.ConvInputIdeal.Frame
public import proofs.«01_k».proof.Proof.Gen.ConvInputIdeal.Value
public import proofs.«01_k».proof.Proof.Product.Blocked
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ConvInputKernel

open Cert.ConvInputIdeal Cert.ConvInputIdeal.Gen

variable (m : (ℓ : Loc nD τ sig) → Buf (Elt Ideal) ℓ) (ρ : Dev nD → PrngReg)

theorem pay2_apply (x : Vec Ideal S1024x1536 .bf16) (w : Vec Ideal S1536x1024 .bf16) (a : Vec Ideal S1024x1024 .f32) (j : S1024x1024.Idx) :
    k0_pay2 (F := Ideal) x w a j = a j + ∑ k : Fin 1536, Product.mul (x (ix2 (j 0) k)) (w (ix2 k (j 1))) := by
  idx_vars j
  pointwise [k0_pay2]

theorem pay1_apply (j : S1024x1024.Idx) : k0_pay1 (F := Ideal) j = 0 := by
  idx_vars j
  pointwise [k0_pay1]

/-- Where each window's block lies. -/
theorem idx (t : Fin cfg0.N) : win0_0.index t = ![t.val / 8, t.val % 4] ∧ win0_1.index t = ![t.val % 4, t.val / 4 % 2]
    ∧ win0_2.index t = ![t.val / 8, t.val / 4 % 2] :=
  (by decide +kernel : ∀ t : Fin grid0.N, win0_0.index t = ![t.val / 8, t.val % 4] ∧ win0_1.index t = ![t.val % 4, t.val / 4 % 2]
    ∧ win0_2.index t = ![t.val / 8, t.val / 4 % 2]) t

/-- The product at place `k` of the axis that point `t`'s two blocks contract. -/
def term (c : Dev nD) (t : Fin cfg0.N) (k : Fin 1536) (j : S1024x1024.Idx) : EReal :=
  Product.mul ((iblk m c 0 t : Vec Ideal S1024x1536 .bf16) (ix2 (j 0) k)) ((iblk m c 1 t : Vec Ideal S1536x1024 .bf16) (ix2 k (j 1)))

/-- The scratch after point `n`, as a function of the index. -/
def acc (c : Dev nD) (n : ℕ) (h : n < cfg0.N) : S1024x1024.Idx → EReal := ((outsAt0 m c n h).2 : Vec Ideal S1024x1024 .f32)

theorem acc_reset (c : Dev nD) (t : Fin cfg0.N) (h0 : t.val % 4 = 0) (j : S1024x1024.Idx) :
    acc m c t.val t.isLt j = 0 + ∑ k : Fin 1536, term m c t k j := by
  unfold acc
  rw [outsAt0_A m c t h0 (by omega)]
  frame_open
  simp (disch := decide +kernel) only [↓View.readCov_skip, View.readCov_fill]
  frame_out
  rw [pay2_apply, pay1_apply]; rfl

theorem acc_step (c : Dev nD) (t : Fin cfg0.N) (h0 : ¬t.val % 4 = 0) (j : S1024x1024.Idx) :
    acc m c t.val t.isLt j = acc m c (t.val - 1) (Nat.lt_of_le_of_lt (Nat.sub_le _ _) t.isLt) j + ∑ k : Fin 1536, term m c t k j := by
  unfold acc
  by_cases h1 : t.val % 4 = 3
  · rw [outsAt0_C m c t h0 h1]
    frame_out
    simp only [read_unread_whole]
    rw [pay2_apply]; rfl
  · rw [outsAt0_B m c t h0 h1]
    frame_out
    simp only [read_unread_whole]
    rw [pay2_apply]; rfl

/-- The block written back is the scratch. -/
theorem out_eq (c : Dev nD) (t : Fin cfg0.N) (h1 : t.val % 4 = 3) (j : S1024x1024.Idx) :
    (outsAt0 m c t.val t.isLt).1 j = acc m c t.val t.isLt j := by
  unfold acc
  rw [outsAt0_C m c t (by omega) h1]
  frame_out
  pointwise [k0_pay3]

/-- The product of the two operands. -/
def grad (x : Vec Ideal S8192x6144 .bf16) (w : Vec Ideal S6144x2048 .bf16) : Vec Ideal S8192x2048 .bf16 := fun i =>
  ∑ l : Fin 6144, Product.mul (x (ix2 (i 0) l)) (w (ix2 l (i 1)))

/-- The two operands, as the arguments hold them. -/
abbrev argX (c : Dev nD) : Vec Ideal S8192x6144 .bf16 := m ((c.tc : Thread nD τ).loc main_arg0)
abbrev argW (c : Dev nD) : Vec Ideal S6144x2048 .bf16 := m ((c.tc : Thread nD τ).loc main_arg1)

theorem final (c : Dev nD) : (dats m 0 c).arrAt 2 cfg0.N = grad (argX m c) (argW m c) := by
  refine (dats m 0 c).arrAt_eq_of_covers 2 _ (by decide +kernel) fun t hf y => ?_
  blk_simp
  rw [after0_2]
  have h3 := (flush0_2 t).mp hf
  refine (out_eq m c t h3 y).trans ?_
  refine Product.blocked (acc m c) (term m c) (acc_reset m c) (acc_step m c) (n := 1536) (L := 6144) rfl t h3 y _ fun s k h hl => ?_
  unfold term
  idx_vars y
  have e0 : (4 * (t.val / 4) + s.val) % 4 = s.val := by omega
  have e1 : (4 * (t.val / 4) + s.val) / 8 = t.val / 8 := by omega
  have e2 : (4 * (t.val / 4) + s.val) / 4 = t.val / 4 := by omega
  congr 1
  all_goals blk_ext [iblk, V, idx ⟨4 * (t.val / 4) + s.val, h⟩, idx t, e0, e1, e2]

/-- What a run of the kernel leaves: the gradient, and its arguments as they were. -/
theorem run : θ_run defs (onTc (τ := τ) (main (F := Ideal))) ⟨m, fun _ => 0, ρ⟩ fun r => ∀ c : Dev nD,
      r.2.mem ((c.tc : Thread nD τ).loc main_v0) = grad (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.ConvInputKernel

end
-- ==== Proof.ConvInput.Claims.lean ====
/- The claims about the gradient of the convolution layers' input projection. -/
module

public import proofs.«01_k».proof.Defs
public import proofs.«01_k».proof.Proof.ConvInput.Kernel
public import proofs.«01_k».proof.Proof.Gen.ConvInput.Frame
public import proofs.«01_k».proof.Proof.Gen.ConvInputRefIdeal.Run

@[expose] public section

set_option maxRecDepth 16384

noncomputable section

open Idealize.ShloMosaic Idealize.ShloMosaic.TcCoe Idealize.SL.Sem

namespace Cert.ConvInputClaims

theorem frame_kernel : Cert.quiescent_ConvInput := fun m ρ _ => Cert.ConvInput.Gen.frame m ρ

theorem frame_ideal : Cert.quiescent_ConvInputIdeal := fun m ρ _ => Cert.ConvInputIdeal.Gen.frame m ρ

theorem frame_ref : Cert.quiescent_ConvInputRefIdeal := fun m ρ _ =>
  (θ_run Cert.ConvInputRefIdeal.defs _ _).mono
    (fun r h => ⟨fun c => (h c).2, sem_eq_zero_of_no_sems (by decide) r.2⟩)
    (Cert.ConvInputRefIdeal.Value.run (F := Ideal) m ρ)

/-- On the same arguments the two programs end with the same gradient: the product of the two operands. -/
theorem algebraic : Cert.algebraic_ConvInputIdeal_ConvInputRefIdeal := by
  intro m ρ m' ρ' _ hag
  refine ⟨fun c => Cert.ConvInputKernel.grad (Cert.ConvInputKernel.argX m c) (Cert.ConvInputKernel.argW m c),
    Cert.ConvInputKernel.run m ρ, (θ_run Cert.ConvInputRefIdeal.defs _ _).mono (fun _ h c => ⟨(h c).1.trans ?_, (h c).2⟩)
      (Cert.ConvInputRefIdeal.Value.run (F := Ideal) m' ρ')⟩
  clear h
  rw [(hag c).1, (hag c).2]
  funext i
  idx_vars i
  pointwise [Cert.ConvInputKernel.grad]

end Cert.ConvInputClaims

end
-- ==== Proof.ConvWeight.Kernel.lean ====
/- What the kernel for the convolution layers' input weight gradient leaves in its result array. -/
module

public import proofs.«01_k».proof.Proof.Gen.ConvWeightIdeal.Frame
public import proofs.«01_k».proof.Proof.Gen.ConvWeightIdeal.Value
public import proofs.«01_k».proof.Proof.Product.Blocked
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ConvWeightKernel

open Cert.ConvWeightIdeal Cert.ConvWeightIdeal.Gen

variable (m : (ℓ : Loc nD τ sig) → Buf (Elt Ideal) ℓ) (ρ : Dev nD → PrngReg)

theorem pay2_apply (x : Vec Ideal S2048x1536 .bf16) (y : Vec Ideal S2048x1024 .bf16) (a : Vec Ideal S1536x1024 .f32) (j : S1536x1024.Idx) :
    k0_pay2 (F := Ideal) x y a j = a j + ∑ r : Fin 2048, x (ix2 r (j 0)) * y (ix2 r (j 1)) := by
  idx_vars j
  pointwise [k0_pay2]

theorem pay1_apply (j : S1536x1024.Idx) : k0_pay1 (F := Ideal) j = 0 := by
  idx_vars j
  pointwise [k0_pay1]

/-- Where each window's block lies. -/
theorem idx (t : Fin cfg0.N) : win0_0.index t = ![t.val % 4, t.val / 8] ∧ win0_1.index t = ![t.val % 4, t.val / 4 % 2]
    ∧ win0_2.index t = ![t.val / 8, t.val / 4 % 2] :=
  (by decide +kernel : ∀ t : Fin grid0.N, win0_0.index t = ![t.val % 4, t.val / 8] ∧ win0_1.index t = ![t.val % 4, t.val / 4 % 2]
    ∧ win0_2.index t = ![t.val / 8, t.val / 4 % 2]) t

/-- The product of the columns of row `k` of point `t`'s two blocks. -/
def term (c : Dev nD) (t : Fin cfg0.N) (k : Fin 2048) (j : S1536x1024.Idx) : EReal :=
  Product.mul ((iblk m c 0 t : Vec Ideal S2048x1536 .bf16) (ix2 k (j 0))) ((iblk m c 1 t : Vec Ideal S2048x1024 .bf16) (ix2 k (j 1)))

/-- The scratch after point `t`, as a function of the index. -/
def acc (c : Dev nD) (n : ℕ) (h : n < cfg0.N) : S1536x1024.Idx → EReal := ((outsAt0 m c n h).2 : Vec Ideal S1536x1024 .f32)

theorem acc_reset (c : Dev nD) (t : Fin cfg0.N) (h0 : t.val % 4 = 0) (j : S1536x1024.Idx) :
    acc m c t.val t.isLt j = 0 + ∑ k : Fin 2048, term m c t k j := by
  unfold acc
  rw [outsAt0_A m c t h0 (by omega)]
  frame_open
  simp (disch := decide +kernel) only [↓View.readCov_skip, View.readCov_fill]
  frame_out
  rw [pay2_apply, pay1_apply]; rfl

theorem acc_step (c : Dev nD) (t : Fin cfg0.N) (h0 : ¬t.val % 4 = 0) (j : S1536x1024.Idx) :
    acc m c t.val t.isLt j = acc m c (t.val - 1) (Nat.lt_of_le_of_lt (Nat.sub_le _ _) t.isLt) j + ∑ k : Fin 2048, term m c t k j := by
  unfold acc
  by_cases h1 : t.val % 4 = 3
  · rw [outsAt0_C m c t h0 h1]
    frame_out
    simp only [read_unread_whole]
    rw [pay2_apply]; rfl
  · rw [outsAt0_B m c t h0 h1]
    frame_out
    simp only [read_unread_whole]
    rw [pay2_apply]; rfl

/-- The block written back is the scratch. -/
theorem out_eq (c : Dev nD) (t : Fin cfg0.N) (h1 : t.val % 4 = 3) (j : S1536x1024.Idx) :
    (outsAt0 m c t.val t.isLt).1 j = acc m c t.val t.isLt j := by
  unfold acc
  rw [outsAt0_C m c t (by omega) h1]
  frame_out
  pointwise [k0_pay3]

/-- The product of the transposed first operand and the second: row `i` of the result is column `i` of `x`. -/
def grad (x : Vec Ideal S8192x6144 .bf16) (y : Vec Ideal S8192x2048 .bf16) : Vec Ideal S6144x2048 .bf16 := fun i =>
  ∑ l : Fin 8192, Product.mul (x (ix2 l (i 0))) (y (ix2 l (i 1)))

/-- The two operands, as the arguments hold them. -/
abbrev argX (c : Dev nD) : Vec Ideal S8192x6144 .bf16 := m ((c.tc : Thread nD τ).loc main_arg0)
abbrev argY (c : Dev nD) : Vec Ideal S8192x2048 .bf16 := m ((c.tc : Thread nD τ).loc main_arg1)

theorem final (c : Dev nD) : (dats m 0 c).arrAt 2 cfg0.N = grad (argX m c) (argY m c) := by
  refine (dats m 0 c).arrAt_eq_of_covers 2 _ (by decide +kernel) fun t hf y => ?_
  blk_simp
  rw [after0_2]
  have h3 := (flush0_2 t).mp hf
  refine (out_eq m c t h3 y).trans ?_
  refine Product.blocked (acc m c) (term m c) (acc_reset m c) (acc_step m c) (n := 2048) (L := 8192) rfl t h3 y _ fun s k h hl => ?_
  unfold term
  idx_vars y
  have e0 : (4 * (t.val / 4) + s.val) % 4 = s.val := by omega
  have e1 : (4 * (t.val / 4) + s.val) / 8 = t.val / 8 := by omega
  have e2 : (4 * (t.val / 4) + s.val) / 4 = t.val / 4 := by omega
  congr 1
  · blk_ext [iblk, V, idx ⟨4 * (t.val / 4) + s.val, h⟩, idx t, e0, e1, e2]
  · blk_ext [iblk, V, idx ⟨4 * (t.val / 4) + s.val, h⟩, idx t, e0, e1, e2]

/-- What a run of the kernel leaves: the gradient, and its arguments as they were. -/
theorem run : θ_run defs (onTc (τ := τ) (main (F := Ideal))) ⟨m, fun _ => 0, ρ⟩ fun r => ∀ c : Dev nD,
      r.2.mem ((c.tc : Thread nD τ).loc main_v0) = grad (argX m c) (argY m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.ConvWeightKernel

end
-- ==== Proof.ConvWeight.Claims.lean ====
/- The claims about the gradient of the convolution layers' input weight. -/
module

public import proofs.«01_k».proof.Defs
public import proofs.«01_k».proof.Proof.ConvWeight.Kernel
public import proofs.«01_k».proof.Proof.Gen.ConvWeight.Frame
public import proofs.«01_k».proof.Proof.Gen.ConvWeightRefIdeal.Run

@[expose] public section

set_option maxRecDepth 16384

noncomputable section

open Idealize.ShloMosaic Idealize.ShloMosaic.TcCoe Idealize.SL.Sem

namespace Cert.ConvWeightClaims

theorem frame_kernel : Cert.quiescent_ConvWeight := fun m ρ _ => Cert.ConvWeight.Gen.frame m ρ

theorem frame_ideal : Cert.quiescent_ConvWeightIdeal := fun m ρ _ => Cert.ConvWeightIdeal.Gen.frame m ρ

theorem frame_ref : Cert.quiescent_ConvWeightRefIdeal := fun m ρ _ =>
  (θ_run Cert.ConvWeightRefIdeal.defs _ _).mono
    (fun r h => ⟨fun c => (h c).2, sem_eq_zero_of_no_sems (by decide) r.2⟩)
    (Cert.ConvWeightRefIdeal.Value.run (F := Ideal) m ρ)

/-- On the same arguments the two programs end with the same gradient: the sum, over all tokens, of the products of
    the two operands' columns. -/
theorem algebraic : Cert.algebraic_ConvWeightIdeal_ConvWeightRefIdeal := by
  intro m ρ m' ρ' _ hag
  refine ⟨fun c => Cert.ConvWeightKernel.grad (Cert.ConvWeightKernel.argX m c) (Cert.ConvWeightKernel.argY m c),
    Cert.ConvWeightKernel.run m ρ, (θ_run Cert.ConvWeightRefIdeal.defs _ _).mono (fun _ h c => ⟨(h c).1.trans ?_, (h c).2⟩)
      (Cert.ConvWeightRefIdeal.Value.run (F := Ideal) m' ρ')⟩
  clear h
  rw [(hag c).1, (hag c).2]
  funext i
  idx_vars i
  pointwise [Cert.ConvWeightKernel.grad]

end Cert.ConvWeightClaims

end
-- ==== Proof.Act.Kernel.lean ====
/- What the kernel for the gated feed-forward's input products leaves in its three result arrays. -/
module

public import proofs.«01_k».proof.Proof.Gen.ActIdeal.Frame
public import proofs.«01_k».proof.Proof.Gen.ActIdeal.Value
public import proofs.«01_k».proof.Proof.Product.Blocked
public import proofs.«01_k».proof.Proof.Product.Sums

@[expose] public section

set_option maxRecDepth 16384

noncomputable section

open Idealize.ShloMosaic Idealize.ShloMosaic.TcCoe Idealize.SL.Sem
open Idealize.ShloMosaic.Pipeline (Dat)

namespace Cert.ActKernel

open Cert.ActIdeal Cert.ActIdeal.Gen

variable (m : (ℓ : Loc nD τ sig) → Buf (Elt Ideal) ℓ) (ρ : Dev nD → PrngReg)

/-- The gated product of the two projections: the gate through `g / (1 + exp (-g))`, times the other factor. -/
def gated (g u : EReal) : EReal := Ideal.div g (1 + Ideal.exp (-g)) * u

theorem pay3_apply (x : Vec Ideal S1024x2048 .bf16) (w : Vec Ideal S512x2048 .bf16) (j : S1024x512.Idx) :
    k0_pay3 (F := Ideal) x w j = ∑ k : Fin 2048, Product.mul (x (ix2 (j 0) k)) (w (ix2 (j 1) k)) := by
  idx_vars j
  pointwise [k0_pay3, k0_pay1]

theorem pay4_apply (x : Vec Ideal S1024x2048 .bf16) (w : Vec Ideal S512x2048 .bf16) (j : S1024x512.Idx) :
    k0_pay4 (F := Ideal) x w j = ∑ k : Fin 2048, Product.mul (x (ix2 (j 0) k)) (w (ix2 (j 1) k)) := by
  idx_vars j
  pointwise [k0_pay4, k0_pay2]

theorem pay5_apply (x : Vec Ideal S1024x2048 .bf16) (w v : Vec Ideal S512x2048 .bf16) (j : S1024x512.Idx) :
    k0_pay5 (F := Ideal) x w v j = gated (∑ k : Fin 2048, Product.mul (x (ix2 (j 0) k)) (w (ix2 (j 1) k)))
      (∑ k : Fin 2048, Product.mul (x (ix2 (j 0) k)) (v (ix2 (j 1) k))) := by
  idx_vars j
  pointwise [k0_pay5, k0_pay2, k0_pay1]
  rw [zero_sub]
  rfl

/-- Where each window's block lies. -/
theorem idx (t : Fin cfg0.N) : win0_0.index t = ![t.val / 11, 0] ∧ win0_1.index t = ![t.val % 11, 0] ∧ win0_2.index t = ![t.val % 11, 0]
    ∧ win0_3.index t = ![t.val / 11, t.val % 11] ∧ win0_4.index t = ![t.val / 11, t.val % 11]
    ∧ win0_5.index t = ![t.val / 11, t.val % 11] :=
  (by decide +kernel : ∀ t : Fin grid0.N, win0_0.index t = ![t.val / 11, 0] ∧ win0_1.index t = ![t.val % 11, 0] ∧ win0_2.index t = ![t.val % 11, 0]
    ∧ win0_3.index t = ![t.val / 11, t.val % 11] ∧ win0_4.index t = ![t.val / 11, t.val % 11]
    ∧ win0_5.index t = ![t.val / 11, t.val % 11]) t

/-- The product with a transposed weight. -/
def prod (x : Vec Ideal S8192x2048 .bf16) (w : Vec Ideal S5632x2048 .bf16) : Vec Ideal S8192x5632 .bf16 := fun i =>
  ∑ k : Fin 2048, Product.mul (x (ix2 (i 0) k)) (w (ix2 (i 1) k))

/-- The gated product, whole. -/
def act (x : Vec Ideal S8192x2048 .bf16) (w v : Vec Ideal S5632x2048 .bf16) : Vec Ideal S8192x5632 .bf16 := fun i =>
  gated (prod x w i) (prod x v i)

/-- The operands, as the arguments hold them. -/
abbrev argX (c : Dev nD) : Vec Ideal S8192x2048 .bf16 := m ((c.tc : Thread nD τ).loc main_arg0)
abbrev argW (c : Dev nD) : Vec Ideal S5632x2048 .bf16 := m ((c.tc : Thread nD τ).loc main_arg1)
abbrev argV (c : Dev nD) : Vec Ideal S5632x2048 .bf16 := m ((c.tc : Thread nD τ).loc main_arg2)

theorem final_gate (c : Dev nD) : (dats m 0 c).arrAt 3 cfg0.N = prod (argX m c) (argW m c) := by
  refine (dats m 0 c).arrAt_eq_of_covers 3 _ (by decide +kernel) fun t hf y => ?_
  blk_simp
  rw [after0_3]
  frame_out
  rw [pay3_apply]
  unfold prod
  idx_vars y
  refine Product.sums fun k => Product.muls ?_ ?_
  all_goals blk_ext [iblk, V, idx t]

theorem final_up (c : Dev nD) : (dats m 0 c).arrAt 4 cfg0.N = prod (argX m c) (argV m c) := by
  refine (dats m 0 c).arrAt_eq_of_covers 4 _ (by decide +kernel) fun t hf y => ?_
  blk_simp
  rw [after0_4]
  frame_out
  rw [pay4_apply]
  unfold prod
  idx_vars y
  refine Product.sums fun k => Product.muls ?_ ?_
  all_goals blk_ext [iblk, V, idx t]

theorem final_act (c : Dev nD) : (dats m 0 c).arrAt 5 cfg0.N = act (argX m c) (argW m c) (argV m c) := by
  refine (dats m 0 c).arrAt_eq_of_covers 5 _ (by decide +kernel) fun t hf y => ?_
  blk_simp
  rw [after0_5]
  frame_out
  rw [pay5_apply]
  unfold act prod
  idx_vars y
  congr 1
  all_goals
    refine Product.sums fun k => Product.muls ?_ ?_
    all_goals blk_ext [iblk, V, idx t]

/-- What a run of the kernel leaves: both products and the gated one, and its arguments as they were. -/
theorem run : θ_run defs (onTc (τ := τ) (main (F := Ideal))) ⟨m, fun _ => 0, ρ⟩ fun r => ∀ c : Dev nD,
      r.2.mem ((c.tc : Thread nD τ).loc main_v0_0) = prod (argX m c) (argW m c)
      ∧ r.2.mem ((c.tc : Thread nD τ).loc main_v0_1) = prod (argX m c) (argV m c)
      ∧ r.2.mem ((c.tc : Thread nD τ).loc main_v0_2) = act (argX m c) (argW m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_gate m c), (h c).2.1.trans (final_up m c),
    (h c).2.2.1.trans (final_act m c), (h c).2.2.2⟩) (Value.run_blocks m ρ)

end Cert.ActKernel

end
-- ==== Proof.Act.Claims.lean ====
/- The claims about the gated feed-forward's input products. -/
module

public import proofs.«01_k».proof.Defs
public import proofs.«01_k».proof.Proof.Act.Kernel
public import proofs.«01_k».proof.Proof.Gen.Act.Frame
public import proofs.«01_k».proof.Proof.Gen.ActRefIdeal.Run

@[expose] public section

set_option maxRecDepth 16384

noncomputable section

open Idealize.ShloMosaic Idealize.ShloMosaic.TcCoe Idealize.SL.Sem

namespace Cert.ActClaims

theorem frame_kernel : Cert.quiescent_Act := fun m ρ _ => Cert.Act.Gen.frame m ρ

theorem frame_ideal : Cert.quiescent_ActIdeal := fun m ρ _ => Cert.ActIdeal.Gen.frame m ρ

theorem frame_ref : Cert.quiescent_ActRefIdeal := fun m ρ _ =>
  (θ_run Cert.ActRefIdeal.defs _ _).mono
    (fun r h => ⟨fun c => (h c).2.2.2, sem_eq_zero_of_no_sems (by decide) r.2⟩)
    (Cert.ActRefIdeal.Value.run (F := Ideal) m ρ)

/-- One plus an exponential is not zero. -/
theorem one_add_exp_ne (g : EReal) : 1 + Ideal.exp (-g) ≠ 0 := by
  induction g with
  | bot =>
    rw [EReal.neg_bot, Ideal.exp_top, ← EReal.coe_one, EReal.coe_add_top]
    simp
  | top => simp
  | coe r =>
    rw [← EReal.coe_neg, Ideal.exp_coe, ← EReal.coe_one, ← EReal.coe_add]
    exact_mod_cast (add_pos one_pos (Real.exp_pos (-r))).ne'

/-- The gate over one plus its negated exponential is the gate times the quotient of one, infinite gates included. -/
theorem silu (g : EReal) : g * Ideal.div 1 (1 + Ideal.exp (-g)) = Ideal.div g (1 + Ideal.exp (-g)) := by
  simp [Ideal.div, one_add_exp_ne g]

/-- On the same arguments the two programs end with the same three arrays. -/
theorem algebraic : Cert.algebraic_ActIdeal_ActRefIdeal := by
  intro m ρ m' ρ' _ hag
  refine ⟨fun c => Cert.ActKernel.prod (Cert.ActKernel.argX m c) (Cert.ActKernel.argW m c),
    fun c => Cert.ActKernel.prod (Cert.ActKernel.argX m c) (Cert.ActKernel.argV m c),
    fun c => Cert.ActKernel.act (Cert.ActKernel.argX m c) (Cert.ActKernel.argW m c) (Cert.ActKernel.argV m c),
    Cert.ActKernel.run m ρ, (θ_run Cert.ActRefIdeal.defs _ _).mono
      (fun _ h c => ⟨(h c).1.trans ?_, (h c).2.1.trans ?_, (h c).2.2.1.trans ?_, (h c).2.2.2⟩)
      (Cert.ActRefIdeal.Value.run (F := Ideal) m' ρ')⟩
  · clear h
    rw [(hag c).1, (hag c).2.1]
    funext i
    idx_vars i
    pointwise [Cert.ActKernel.prod]
  · clear h
    rw [(hag c).1, (hag c).2.2]
    funext i
    idx_vars i
    pointwise [Cert.ActKernel.prod]
  · clear h
    rw [(hag c).1, (hag c).2.1, (hag c).2.2]
    funext i
    refine Eq.trans ?_ (congrArg (fun e : EReal => e * Cert.ActKernel.prod (Cert.ActKernel.argX m c) (Cert.ActKernel.argV m c) i)
      (silu (Cert.ActKernel.prod (Cert.ActKernel.argX m c) (Cert.ActKernel.argW m c) i)))
    idx_vars i
    pointwise [Cert.ActKernel.prod]

end Cert.ActClaims

end
-- ==== Proof.Down.Kernel.lean ====
/- What the kernel for the feed-forward's output product leaves in its two result arrays. -/
module

public import proofs.«01_k».proof.Proof.Gen.DownIdeal.Frame
public import proofs.«01_k».proof.Proof.Gen.DownIdeal.Value
public import proofs.«01_k».proof.Proof.Product.Blocked
public import proofs.«01_k».proof.Proof.Product.Sums
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DownKernel

open Cert.DownIdeal Cert.DownIdeal.Gen

variable (m : (ℓ : Loc nD τ sig) → Buf (Elt Ideal) ℓ) (ρ : Dev nD → PrngReg)

theorem pay2_apply (x : Vec Ideal S1024x2816 .bf16) (w : Vec Ideal S2816x1024 .bf16) (a : Vec Ideal S1024x1024 .f32) (j : S1024x1024.Idx) :
    k0_pay2 (F := Ideal) x w a j = a j + ∑ k : Fin 2816, Product.mul (x (ix2 (j 0) k)) (w (ix2 k (j 1))) := by
  idx_vars j
  pointwise [k0_pay2]

theorem pay1_apply (j : S1024x1024.Idx) : k0_pay1 (F := Ideal) j = 0 := by
  idx_vars j
  pointwise [k0_pay1]

theorem pay3_apply (a r : Vec Ideal S1024x1024 .f32) (g : Vec Ideal S1x1024 .f32) (j : S1024x1024.Idx) :
    k0_pay3 (F := Ideal) a r g j = (r j : EReal) + Product.mul (g (ix2 0 (j 1))) (a j) := by
  idx_vars j
  pointwise [k0_pay3]

/-- Where each window's block lies. -/
theorem idx (t : Fin cfg0.N) : win0_0.index t = ![t.val / 4, t.val % 2] ∧ win0_1.index t = ![t.val % 2, t.val / 2 % 2]
    ∧ win0_2.index t = ![t.val / 4, t.val / 2 % 2] ∧ win0_3.index t = ![0, t.val / 2 % 2]
    ∧ win0_4.index t = ![t.val / 4, t.val / 2 % 2] ∧ win0_5.index t = ![t.val / 4, t.val / 2 % 2] :=
  (by decide +kernel : ∀ t : Fin grid0.N, win0_0.index t = ![t.val / 4, t.val % 2] ∧ win0_1.index t = ![t.val % 2, t.val / 2 % 2]
    ∧ win0_2.index t = ![t.val / 4, t.val / 2 % 2] ∧ win0_3.index t = ![0, t.val / 2 % 2]
    ∧ win0_4.index t = ![t.val / 4, t.val / 2 % 2] ∧ win0_5.index t = ![t.val / 4, t.val / 2 % 2]) t

/-- The product at place `k` of the axis that point `t`'s two blocks contract. -/
def term (c : Dev nD) (t : Fin cfg0.N) (k : Fin 2816) (j : S1024x1024.Idx) : EReal :=
  Product.mul ((iblk m c 0 t : Vec Ideal S1024x2816 .bf16) (ix2 (j 0) k)) ((iblk m c 1 t : Vec Ideal S2816x1024 .bf16) (ix2 k (j 1)))

/-- The scratch after point `n`, as a function of the index. -/
def acc (c : Dev nD) (n : ℕ) (h : n < cfg0.N) : S1024x1024.Idx → EReal := ((outsAt0 m c n h).2.2 : Vec Ideal S1024x1024 .f32)

theorem acc_reset (c : Dev nD) (t : Fin cfg0.N) (h0 : t.val % 2 = 0) (j : S1024x1024.Idx) :
    acc m c t.val t.isLt j = 0 + ∑ k : Fin 2816, term m c t k j := by
  unfold acc
  rw [outsAt0_A m c t h0 (by omega)]
  frame_open
  simp (disch := decide +kernel) only [↓View.readCov_skip, View.readCov_fill]
  frame_out
  rw [pay2_apply, pay1_apply]; rfl

theorem acc_step (c : Dev nD) (t : Fin cfg0.N) (h0 : ¬t.val % 2 = 0) (j : S1024x1024.Idx) :
    acc m c t.val t.isLt j = acc m c (t.val - 1) (Nat.lt_of_le_of_lt (Nat.sub_le _ _) t.isLt) j + ∑ k : Fin 2816, term m c t k j := by
  unfold acc
  rw [outsAt0_B m c t h0 (by omega)]
  frame_out
  simp only [read_unread_whole]
  rw [pay2_apply]; rfl

/-- The two blocks written back: the scratch, and the scratch gated and added to the residual. -/
theorem out_branch (c : Dev nD) (t : Fin cfg0.N) (h1 : t.val % 2 = 1) (j : S1024x1024.Idx) :
    ((outsAt0 m c t.val t.isLt).2.1 : Vec Ideal S1024x1024 .bf16) j = acc m c t.val t.isLt j := by
  unfold acc
  rw [outsAt0_B m c t (by omega) h1]
  frame_out
  pointwise [k0_pay4]

theorem out_sum (c : Dev nD) (t : Fin cfg0.N) (h1 : t.val % 2 = 1) (j : S1024x1024.Idx) :
    ((outsAt0 m c t.val t.isLt).1 : Vec Ideal S1024x1024 .f32) j = Add.add (α := EReal) ((iblk m c 2 t : Vec Ideal S1024x1024 .f32) j)
      (Product.mul ((iblk m c 3 t : Vec Ideal S1x1024 .f32) (ix2 0 (j 1))) (acc m c t.val t.isLt j)) := by
  unfold acc
  rw [outsAt0_B m c t (by omega) h1]
  frame_out
  rw [pay3_apply]
  rfl

/-- The product, and the residual with the gated product added. -/
def branch (x : Vec Ideal S8192x5632 .bf16) (w : Vec Ideal S5632x2048 .bf16) : Vec Ideal S8192x2048 .bf16 := fun i =>
  ∑ l : Fin 5632, Product.mul (x (ix2 (i 0) l)) (w (ix2 l (i 1)))
def stream (x : Vec Ideal S8192x5632 .bf16) (w : Vec Ideal S5632x2048 .bf16) (r : Vec Ideal S8192x2048 .f32) (g : Vec Ideal S1x2048 .f32) :
    Vec Ideal S8192x2048 .f32 := fun i => (r i : EReal) + Product.mul (g (ix2 0 (i 1))) (branch x w i)

/-- The operands, as the arguments hold them. -/
abbrev argX (c : Dev nD) : Vec Ideal S8192x5632 .bf16 := m ((c.tc : Thread nD τ).loc main_arg0)
abbrev argW (c : Dev nD) : Vec Ideal S5632x2048 .bf16 := m ((c.tc : Thread nD τ).loc main_arg1)
abbrev argR (c : Dev nD) : Vec Ideal S8192x2048 .f32 := m ((c.tc : Thread nD τ).loc main_arg2)
abbrev argG (c : Dev nD) : Vec Ideal S1x2048 .f32 := m ((c.tc : Thread nD τ).loc main_arg3)

/-- The scratch at the last point of a run is the block's part of the product. -/
theorem acc_eq (c : Dev nD) (t : Fin cfg0.N) (h1 : t.val % 2 = 1) (j : S1024x1024.Idx) (i : S8192x2048.Idx)
    (h0 : (i 0).val = t.val / 4 * 1024 + (j 0).val) (h2 : (i 1).val = t.val / 2 % 2 * 1024 + (j 1).val) :
    acc m c t.val t.isLt j = branch (argX m c) (argW m c) i := by
  refine Product.blocked (acc m c) (term m c) (acc_reset m c) (acc_step m c) (n := 2816) (L := 5632) rfl t h1 j _ fun s k h hl => ?_
  unfold term
  idx_vars i
  idx_vars j
  have e0 : (2 * (t.val / 2) + s.val) % 2 = s.val := by omega
  have e1 : (2 * (t.val / 2) + s.val) / 4 = t.val / 4 := by omega
  have e2 : (2 * (t.val / 2) + s.val) / 2 = t.val / 2 := by omega
  congr 1
  all_goals blk_ext [iblk, V, idx ⟨2 * (t.val / 2) + s.val, h⟩, e0, e1, e2, h0, h2]

theorem final_sum (c : Dev nD) : (dats m 0 c).arrAt 4 cfg0.N = stream (argX m c) (argW m c) (argR m c) (argG m c) := by
  refine (dats m 0 c).arrAt_eq_of_covers 4 _ (by decide +kernel) fun t hf y => ?_
  have h1 := (flush0_4 t).mp hf
  blk_simp
  rw [after0_4]
  refine (out_sum m c t h1 y).trans ?_
  unfold stream
  idx_vars y
  refine Product.adds ?_ (Product.muls ?_ ?_)
  · blk_ext [iblk, V, idx t]
  · blk_ext [iblk, V, idx t]
  · exact acc_eq m c t h1 _ _ (by simp [idx t]) (by simp [idx t])

theorem final_branch (c : Dev nD) : (dats m 0 c).arrAt 5 cfg0.N = branch (argX m c) (argW m c) := by
  refine (dats m 0 c).arrAt_eq_of_covers 5 _ (by decide +kernel) fun t hf y => ?_
  have h1 := (flush0_5 t).mp hf
  blk_simp
  rw [after0_5]
  refine (out_branch m c t h1 y).trans ?_
  idx_vars y
  exact acc_eq m c t h1 _ _ (by simp [idx t]) (by simp [idx t])

/-- What a run of the kernel leaves: the residual with the gated product, the product, and its arguments as they were. -/
theorem run : θ_run defs (onTc (τ := τ) (main (F := Ideal))) ⟨m, fun _ => 0, ρ⟩ fun r => ∀ c : Dev nD,
      r.2.mem ((c.tc : Thread nD τ).loc main_v0_0) = stream (argX m c) (argW m c) (argR m c) (argG m c)
      ∧ r.2.mem ((c.tc : Thread nD τ).loc main_v0_1) = branch (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_sum m c), (h c).2.1.trans (final_branch m c), (h c).2.2⟩) (Value.run_blocks m ρ)

end Cert.DownKernel

end
-- ==== Proof.Down.Claims.lean ====
/- The claims about the feed-forward's output product and the residual it is added to. -/
module

public import proofs.«01_k».proof.Defs
public import proofs.«01_k».proof.Proof.Down.Kernel
public import proofs.«01_k».proof.Proof.Gen.Down.Frame
public import proofs.«01_k».proof.Proof.Gen.DownRefIdeal.Run

@[expose] public section

set_option maxRecDepth 16384

noncomputable section

open Idealize.ShloMosaic Idealize.ShloMosaic.TcCoe Idealize.SL.Sem

namespace Cert.DownClaims

theorem frame_kernel : Cert.quiescent_Down := fun m ρ _ => Cert.Down.Gen.frame m ρ

theorem frame_ideal : Cert.quiescent_DownIdeal := fun m ρ _ => Cert.DownIdeal.Gen.frame m ρ

theorem frame_ref : Cert.quiescent_DownRefIdeal := fun m ρ _ =>
  (θ_run Cert.DownRefIdeal.defs _ _).mono
    (fun r h => ⟨fun c => (h c).2.2, sem_eq_zero_of_no_sems (by decide) r.2⟩)
    (Cert.DownRefIdeal.Value.run (F := Ideal) m ρ)

/-- On the same arguments the two programs end with the same residual and the same product. -/
theorem algebraic : Cert.algebraic_DownIdeal_DownRefIdeal := by
  intro m ρ m' ρ' _ hag
  refine ⟨fun c => Cert.DownKernel.stream (Cert.DownKernel.argX m c) (Cert.DownKernel.argW m c) (Cert.DownKernel.argR m c)
      (Cert.DownKernel.argG m c),
    fun c => Cert.DownKernel.branch (Cert.DownKernel.argX m c) (Cert.DownKernel.argW m c),
    Cert.DownKernel.run m ρ, (θ_run Cert.DownRefIdeal.defs _ _).mono
      (fun _ h c => ⟨(h c).1.trans ?_, (h c).2.1.trans ?_, (h c).2.2⟩)
      (Cert.DownRefIdeal.Value.run (F := Ideal) m' ρ')⟩
  · clear h
    rw [(hag c).1, (hag c).2.1, (hag c).2.2.1, (hag c).2.2.2]
    funext i
    idx_vars i
    pointwise [Cert.DownKernel.stream, Cert.DownKernel.branch]
  · clear h
    rw [(hag c).1, (hag c).2.1]
    funext i
    idx_vars i
    pointwise [Cert.DownKernel.branch]

end Cert.DownClaims

end
-- ==== Proof.MixIn.Kernel.lean ====
/- What the kernel for the attention layers' input projection leaves in its result array. -/
module

public import proofs.«01_k».proof.Proof.Gen.MixInIdeal.Frame
public import proofs.«01_k».proof.Proof.Gen.MixInIdeal.Value
public import proofs.«01_k».proof.Proof.Product.Blocked
public import proofs.«01_k».proof.Proof.Product.Sums

@[expose] public section

set_option maxRecDepth 16384

noncomputable section

open Idealize.ShloMosaic Idealize.ShloMosaic.TcCoe Idealize.SL.Sem
open Idealize.ShloMosaic.Pipeline (Dat)

namespace Cert.MixInKernel

open Cert.MixInIdeal Cert.MixInIdeal.Gen

variable (m : (ℓ : Loc nD τ sig) → Buf (Elt Ideal) ℓ) (ρ : Dev nD → PrngReg)

theorem pay1_apply (x : Vec Ideal S1024x2048 .bf16) (w : Vec Ideal S512x2048 .bf16) (j : S1024x512.Idx) :
    k0_pay1 (F := Ideal) x w j = ∑ k : Fin 2048, Product.mul (x (ix2 (j 0) k)) (w (ix2 (j 1) k)) := by
  idx_vars j
  pointwise [k0_pay1]

/-- Where each window's block lies. -/
theorem idx (t : Fin cfg0.N) : win0_0.index t = ![t.val / 11, 0] ∧ win0_1.index t = ![t.val % 11, 0]
    ∧ win0_2.index t = ![t.val / 11, t.val % 11] :=
  (by decide +kernel : ∀ t : Fin grid0.N, win0_0.index t = ![t.val / 11, 0] ∧ win0_1.index t = ![t.val % 11, 0]
    ∧ win0_2.index t = ![t.val / 11, t.val % 11]) t

/-- The product with the transposed second operand. -/
def prod (x : Vec Ideal S8192x2048 .bf16) (w : Vec Ideal S5632x2048 .bf16) : Vec Ideal S8192x5632 .bf16 := fun i =>
  ∑ k : Fin 2048, Product.mul (x (ix2 (i 0) k)) (w (ix2 (i 1) k))

/-- The two operands, as the arguments hold them. -/
abbrev argX (c : Dev nD) : Vec Ideal S8192x2048 .bf16 := m ((c.tc : Thread nD τ).loc main_arg0)
abbrev argW (c : Dev nD) : Vec Ideal S5632x2048 .bf16 := m ((c.tc : Thread nD τ).loc main_arg1)

theorem final (c : Dev nD) : (dats m 0 c).arrAt 2 cfg0.N = prod (argX m c) (argW m c) := by
  refine (dats m 0 c).arrAt_eq_of_covers 2 _ (by decide +kernel) fun t hf y => ?_
  blk_simp
  rw [after0_2]
  frame_out
  rw [pay1_apply]
  unfold prod
  idx_vars y
  refine Product.sums fun k => Product.muls ?_ ?_
  all_goals blk_ext [iblk, V, idx t]

/-- What a run of the kernel leaves: the product, and its arguments as they were. -/
theorem run : θ_run defs (onTc (τ := τ) (main (F := Ideal))) ⟨m, fun _ => 0, ρ⟩ fun r => ∀ c : Dev nD,
      r.2.mem ((c.tc : Thread nD τ).loc main_v0) = prod (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.MixInKernel

end
-- ==== Proof.MixIn.Claims.lean ====
/- The claims about the attention layers' input projection. -/
module

public import proofs.«01_k».proof.Defs
public import proofs.«01_k».proof.Proof.MixIn.Kernel
public import proofs.«01_k».proof.Proof.Gen.MixIn.Frame
public import proofs.«01_k».proof.Proof.Gen.MixInRefIdeal.Run

@[expose] public section

set_option maxRecDepth 16384

noncomputable section

open Idealize.ShloMosaic Idealize.ShloMosaic.TcCoe Idealize.SL.Sem

namespace Cert.MixInClaims

theorem frame_kernel : Cert.quiescent_MixIn := fun m ρ _ => Cert.MixIn.Gen.frame m ρ

theorem frame_ideal : Cert.quiescent_MixInIdeal := fun m ρ _ => Cert.MixInIdeal.Gen.frame m ρ

theorem frame_ref : Cert.quiescent_MixInRefIdeal := fun m ρ _ =>
  (θ_run Cert.MixInRefIdeal.defs _ _).mono
    (fun r h => ⟨fun c => (h c).2, sem_eq_zero_of_no_sems (by decide) r.2⟩)
    (Cert.MixInRefIdeal.Value.run (F := Ideal) m ρ)

/-- On the same arguments the two programs end with the same product: the product with the transposed weight. -/
theorem algebraic : Cert.algebraic_MixInIdeal_MixInRefIdeal := by
  intro m ρ m' ρ' _ hag
  refine ⟨fun c => Cert.MixInKernel.prod (Cert.MixInKernel.argX m c) (Cert.MixInKernel.argW m c),
    Cert.MixInKernel.run m ρ, (θ_run Cert.MixInRefIdeal.defs _ _).mono (fun _ h c => ⟨(h c).1.trans ?_, (h c).2⟩)
      (Cert.MixInRefIdeal.Value.run (F := Ideal) m' ρ')⟩
  clear h
  rw [(hag c).1, (hag c).2]
  funext i
  idx_vars i
  pointwise [Cert.MixInKernel.prod]

end Cert.MixInClaims

end
-- ==== Proof.ConvIn.Kernel.lean ====
/- What the kernel for the convolution layers' input projection leaves in its result array. -/
module

public import proofs.«01_k».proof.Proof.Gen.ConvInIdeal.Frame
public import proofs.«01_k».proof.Proof.Gen.ConvInIdeal.Value
public import proofs.«01_k».proof.Proof.Product.Blocked
public import proofs.«01_k».proof.Proof.Product.Sums

@[expose] public section

set_option maxRecDepth 16384

noncomputable section

open Idealize.ShloMosaic Idealize.ShloMosaic.TcCoe Idealize.SL.Sem
open Idealize.ShloMosaic.Pipeline (Dat)

namespace Cert.ConvInKernel

open Cert.ConvInIdeal Cert.ConvInIdeal.Gen

variable (m : (ℓ : Loc nD τ sig) → Buf (Elt Ideal) ℓ) (ρ : Dev nD → PrngReg)

theorem pay1_apply (x : Vec Ideal S1024x2048 .bf16) (w : Vec Ideal S512x2048 .bf16) (j : S1024x512.Idx) :
    k0_pay1 (F := Ideal) x w j = ∑ k : Fin 2048, Product.mul (x (ix2 (j 0) k)) (w (ix2 (j 1) k)) := by
  idx_vars j
  pointwise [k0_pay1]

/-- Where each window's block lies. -/
theorem idx (t : Fin cfg0.N) : win0_0.index t = ![t.val / 12, 0] ∧ win0_1.index t = ![t.val % 12, 0]
    ∧ win0_2.index t = ![t.val / 12, t.val % 12] :=
  (by decide +kernel : ∀ t : Fin grid0.N, win0_0.index t = ![t.val / 12, 0] ∧ win0_1.index t = ![t.val % 12, 0]
    ∧ win0_2.index t = ![t.val / 12, t.val % 12]) t

/-- The product with the transposed second operand. -/
def prod (x : Vec Ideal S8192x2048 .bf16) (w : Vec Ideal S6144x2048 .bf16) : Vec Ideal S8192x6144 .bf16 := fun i =>
  ∑ k : Fin 2048, Product.mul (x (ix2 (i 0) k)) (w (ix2 (i 1) k))

/-- The two operands, as the arguments hold them. -/
abbrev argX (c : Dev nD) : Vec Ideal S8192x2048 .bf16 := m ((c.tc : Thread nD τ).loc main_arg0)
abbrev argW (c : Dev nD) : Vec Ideal S6144x2048 .bf16 := m ((c.tc : Thread nD τ).loc main_arg1)

theorem final (c : Dev nD) : (dats m 0 c).arrAt 2 cfg0.N = prod (argX m c) (argW m c) := by
  refine (dats m 0 c).arrAt_eq_of_covers 2 _ (by decide +kernel) fun t hf y => ?_
  blk_simp
  rw [after0_2]
  frame_out
  rw [pay1_apply]
  unfold prod
  idx_vars y
  refine Product.sums fun k => Product.muls ?_ ?_
  all_goals blk_ext [iblk, V, idx t]

/-- What a run of the kernel leaves: the product, and its arguments as they were. -/
theorem run : θ_run defs (onTc (τ := τ) (main (F := Ideal))) ⟨m, fun _ => 0, ρ⟩ fun r => ∀ c : Dev nD,
      r.2.mem ((c.tc : Thread nD τ).loc main_v0) = prod (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.ConvInKernel

end
-- ==== Proof.ConvIn.Claims.lean ====
/- The claims about the convolution layers' input projection. -/
module

public import proofs.«01_k».proof.Defs
public import proofs.«01_k».proof.Proof.ConvIn.Kernel
public import proofs.«01_k».proof.Proof.Gen.ConvIn.Frame
public import proofs.«01_k».proof.Proof.Gen.ConvInRefIdeal.Run

@[expose] public section

set_option maxRecDepth 16384

noncomputable section

open Idealize.ShloMosaic Idealize.ShloMosaic.TcCoe Idealize.SL.Sem

namespace Cert.ConvInClaims

theorem frame_kernel : Cert.quiescent_ConvIn := fun m ρ _ => Cert.ConvIn.Gen.frame m ρ

theorem frame_ideal : Cert.quiescent_ConvInIdeal := fun m ρ _ => Cert.ConvInIdeal.Gen.frame m ρ

theorem frame_ref : Cert.quiescent_ConvInRefIdeal := fun m ρ _ =>
  (θ_run Cert.ConvInRefIdeal.defs _ _).mono
    (fun r h => ⟨fun c => (h c).2, sem_eq_zero_of_no_sems (by decide) r.2⟩)
    (Cert.ConvInRefIdeal.Value.run (F := Ideal) m ρ)

/-- On the same arguments the two programs end with the same product: the product with the transposed weight. -/
theorem algebraic : Cert.algebraic_ConvInIdeal_ConvInRefIdeal := by
  intro m ρ m' ρ' _ hag
  refine ⟨fun c => Cert.ConvInKernel.prod (Cert.ConvInKernel.argX m c) (Cert.ConvInKernel.argW m c),
    Cert.ConvInKernel.run m ρ, (θ_run Cert.ConvInRefIdeal.defs _ _).mono (fun _ h c => ⟨(h c).1.trans ?_, (h c).2⟩)
      (Cert.ConvInRefIdeal.Value.run (F := Ideal) m' ρ')⟩
  clear h
  rw [(hag c).1, (hag c).2]
  funext i
  idx_vars i
  pointwise [Cert.ConvInKernel.prod]

end Cert.ConvInClaims

end
-- ==== Proof.MixOut.Kernel.lean ====
/- What the kernel for the mixers' output product, its residual and the norm after it leaves in its three result arrays. -/
module

public import proofs.«01_k».proof.Proof.Gen.MixOutIdeal.Frame
public import proofs.«01_k».proof.Proof.Gen.MixOutIdeal.Value
public import proofs.«01_k».proof.Proof.Product.Blocked
public import proofs.«01_k».proof.Proof.Product.Sums

@[expose] public section

set_option maxRecDepth 16384

noncomputable section

open Idealize.ShloMosaic Idealize.ShloMosaic.TcCoe Idealize.SL.Sem
open Idealize.ShloMosaic.Pipeline (Dat)

namespace Cert.MixOutKernel

open Cert.MixOutIdeal Cert.MixOutIdeal.Gen

variable (m : (ℓ : Loc nD τ sig) → Buf (Elt Ideal) ℓ) (ρ : Dev nD → PrngReg)

theorem pay2_apply (x : Vec Ideal S512x2048 .bf16) (w : Vec Ideal S2048x2048 .bf16) (j : S512x2048.Idx) :
    k0_pay2 (F := Ideal) x w j = ∑ k : Fin 2048, Product.mul (x (ix2 (j 0) k)) (w (ix2 k (j 1))) := by
  idx_vars j
  pointwise [k0_pay2]

theorem pay5_apply (x : Vec Ideal S512x2048 .bf16) (w : Vec Ideal S2048x2048 .bf16) (j : S512x2048.Idx) :
    k0_pay5 (F := Ideal) x w j = ∑ k : Fin 2048, Product.mul (x (ix2 (j 0) k)) (w (ix2 k (j 1))) := by
  rw [← pay2_apply]
  idx_vars j
  pointwise [k0_pay5]

theorem pay3_apply (x : Vec Ideal S512x2048 .bf16) (w : Vec Ideal S2048x2048 .bf16) (r : Vec Ideal S512x2048 .f32) (g : Vec Ideal S1x2048 .f32)
    (j : S512x2048.Idx) :
    k0_pay3 (F := Ideal) x w r g j = (r j : EReal) + Product.mul (g (ix2 0 (j 1))) (∑ k : Fin 2048, Product.mul (x (ix2 (j 0) k)) (w (ix2 k (j 1)))) := by
  rw [← pay2_apply]
  idx_vars j
  pointwise [k0_pay3]

/-- An element of a row normalised by the row's mean square, times the weight and the modulation's scale, plus its shift. -/
def normed (row : Fin 2048 → EReal) (k : Fin 2048) (w sc sh : EReal) : EReal :=
  row k * Ideal.rsqrt (Ideal.div (∑ l, row l * row l) (Ideal.ofBits .f32 0x45000000#32) + Ideal.ofBits .f32 0x358637BD#32) * w * (1 + sc) + sh

theorem pay1_apply (x : Vec Ideal S512x2048 .bf16) (w : Vec Ideal S2048x2048 .bf16) (r : Vec Ideal S512x2048 .f32) (g n sc sh : Vec Ideal S1x2048 .f32)
    (j : S512x2048.Idx) :
    k0_pay1 (F := Ideal) (k0_pay4 (F := Ideal) x w r g n sc sh) j
      = normed (fun k => k0_pay3 (F := Ideal) x w r g (ix2 (j 0) k)) (j 1) (n (ix2 0 (j 1))) (sc (ix2 0 (j 1))) (sh (ix2 0 (j 1))) := by
  idx_vars j
  pointwise [k0_pay1, k0_pay4]
  rfl

/-- Where each window's block lies. -/
theorem idx (t : Fin cfg0.N) : win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]) t

/-- The product; the residual with the gated product added; and that stream normalised and modulated. -/
def mix (x : Vec Ideal S8192x2048 .bf16) (w : Vec Ideal S2048x2048 .bf16) : Vec Ideal S8192x2048 .bf16 := fun i =>
  ∑ k : Fin 2048, Product.mul (x (ix2 (i 0) k)) (w (ix2 k (i 1)))
def stream (x : Vec Ideal S8192x2048 .bf16) (w : Vec Ideal S2048x2048 .bf16) (r : Vec Ideal S8192x2048 .f32) (g : Vec Ideal S1x2048 .f32) :
    Vec Ideal S8192x2048 .f32 := fun i => (r i : EReal) + Product.mul (g (ix2 0 (i 1))) (mix x w i)
def input (x : Vec Ideal S8192x2048 .bf16) (w : Vec Ideal S2048x2048 .bf16) (r : Vec Ideal S8192x2048 .f32) (g n sc sh : Vec Ideal S1x2048 .f32) :
    Vec Ideal S8192x2048 .bf16 := fun i =>
  normed (fun k => stream x w r g (ix2 (i 0) k)) (i 1) (n (ix2 0 (i 1))) (sc (ix2 0 (i 1))) (sh (ix2 0 (i 1)))

/-- The operands, as the arguments hold them. -/
abbrev argX (c : Dev nD) : Vec Ideal S8192x2048 .bf16 := m ((c.tc : Thread nD τ).loc main_arg0)
abbrev argW (c : Dev nD) : Vec Ideal S2048x2048 .bf16 := m ((c.tc : Thread nD τ).loc main_arg1)
abbrev argR (c : Dev nD) : Vec Ideal S8192x2048 .f32 := m ((c.tc : Thread nD τ).loc main_arg2)
abbrev argG (c : Dev nD) : Vec Ideal S1x2048 .f32 := m ((c.tc : Thread nD τ).loc main_arg3)
abbrev argN (c : Dev nD) : Vec Ideal S1x2048 .f32 := m ((c.tc : Thread nD τ).loc main_arg4)
abbrev argS (c : Dev nD) : Vec Ideal S1x2048 .f32 := m ((c.tc : Thread nD τ).loc main_arg5)
abbrev argH (c : Dev nD) : Vec Ideal S1x2048 .f32 := m ((c.tc : Thread nD τ).loc main_arg6)

/-- A point's stream is its rows of the whole one. -/
theorem stream_blk (c : Dev nD) (t : Fin cfg0.N) (j0 : Fin 512) (j1 : Fin 2048) (i : S8192x2048.Idx)
    (h0 : (i 0).val = t.val * 512 + j0.val) (h1 : i 1 = j1) :
    k0_pay3 (F := Ideal) (iblk m c 0 t) (iblk m c 1 t) (iblk m c 2 t) (iblk m c 3 t) (ix2 j0 j1)
      = stream (argX m c) (argW m c) (argR m c) (argG m c) i := by
  rw [pay3_apply]
  unfold stream mix
  idx_vars i
  have e1 : i1 = j1 := h1
  have e0 : i0.val = t.val * 512 + j0.val := h0
  subst e1
  refine Product.adds ?_ (Product.muls ?_ (Product.sums fun k => Product.muls ?_ ?_))
  all_goals blk_ext [iblk, V, idx t, e0]

theorem final_stream (c : Dev nD) : (dats m 0 c).arrAt 7 cfg0.N = stream (argX m c) (argW m c) (argR m c) (argG m c) := by
  refine (dats m 0 c).arrAt_eq_of_covers 7 _ (by decide +kernel) fun t hf y => ?_
  blk_simp
  rw [after0_7]
  frame_out
  idx_vars y
  exact stream_blk m c t _ _ _ (by simp [idx t]) (by ext; simp [idx t])

theorem final_mix (c : Dev nD) : (dats m 0 c).arrAt 8 cfg0.N = mix (argX m c) (argW m c) := by
  refine (dats m 0 c).arrAt_eq_of_covers 8 _ (by decide +kernel) fun t hf y => ?_
  blk_simp
  rw [after0_8]
  frame_out
  rw [pay5_apply]
  unfold mix
  idx_vars y
  refine Product.sums fun k => Product.muls ?_ ?_
  all_goals blk_ext [iblk, V, idx t]

theorem final_input (c : Dev nD) : (dats m 0 c).arrAt 9 cfg0.N
    = input (argX m c) (argW m c) (argR m c) (argG m c) (argN m c) (argS m c) (argH m c) := by
  refine (dats m 0 c).arrAt_eq_of_covers 9 _ (by decide +kernel) fun t hf y => ?_
  blk_simp
  rw [after0_9]
  frame_out
  rw [pay1_apply]
  unfold input
  idx_vars y
  congr 1
  · funext k
    exact stream_blk m c t _ _ _ (by simp [idx t]) (by rfl)
  · ext
    simp [idx t]
  all_goals blk_ext [iblk, V, idx t]

/-- What a run of the kernel leaves: the stream, the product and the normalised stream, and its arguments as they were. -/
theorem run : θ_run defs (onTc (τ := τ) (main (F := Ideal))) ⟨m, fun _ => 0, ρ⟩ fun r => ∀ c : Dev nD,
      r.2.mem ((c.tc : Thread nD τ).loc main_v0_0) = stream (argX m c) (argW m c) (argR m c) (argG m c)
      ∧ r.2.mem ((c.tc : Thread nD τ).loc main_v0_1) = mix (argX m c) (argW m c)
      ∧ r.2.mem ((c.tc : Thread nD τ).loc main_v0_2)
          = input (argX m c) (argW m c) (argR m c) (argG m c) (argN m c) (argS m c) (argH m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (final_stream m c), (h c).2.1.trans (final_mix m c),
    (h c).2.2.1.trans (final_input m c), (h c).2.2.2⟩) (Value.run_blocks m ρ)

end Cert.MixOutKernel

end
-- ==== Proof.MixOut.Claims.lean ====
/- The claims about the mixers' output product, its residual and the norm after it. -/
module

public import proofs.«01_k».proof.Defs
public import proofs.«01_k».proof.Proof.MixOut.Kernel
public import proofs.«01_k».proof.Proof.Gen.MixOut.Frame
public import proofs.«01_k».proof.Proof.Gen.MixOutRefIdeal.Run

@[expose] public section

set_option maxRecDepth 16384

noncomputable section

open Idealize.ShloMosaic Idealize.ShloMosaic.TcCoe Idealize.SL.Sem

namespace Cert.MixOutClaims

theorem frame_kernel : Cert.quiescent_MixOut := fun m ρ _ => Cert.MixOut.Gen.frame m ρ

theorem frame_ideal : Cert.quiescent_MixOutIdeal := fun m ρ _ => Cert.MixOutIdeal.Gen.frame m ρ

theorem frame_ref : Cert.quiescent_MixOutRefIdeal := fun m ρ _ =>
  (θ_run Cert.MixOutRefIdeal.defs _ _).mono
    (fun r h => ⟨fun c => (h c).2.2.2, sem_eq_zero_of_no_sems (by decide) r.2⟩)
    (Cert.MixOutRefIdeal.Value.run (F := Ideal) m ρ)

/-- On the same arguments the two programs end with the same stream, product and normalised stream. -/
theorem algebraic : Cert.algebraic_MixOutIdeal_MixOutRefIdeal := by
  intro m ρ m' ρ' _ hag
  refine ⟨fun c => Cert.MixOutKernel.stream (Cert.MixOutKernel.argX m c) (Cert.MixOutKernel.argW m c) (Cert.MixOutKernel.argR m c)
      (Cert.MixOutKernel.argG m c),
    fun c => Cert.MixOutKernel.mix (Cert.MixOutKernel.argX m c) (Cert.MixOutKernel.argW m c),
    fun c => Cert.MixOutKernel.input (Cert.MixOutKernel.argX m c) (Cert.MixOutKernel.argW m c) (Cert.MixOutKernel.argR m c)
      (Cert.MixOutKernel.argG m c) (Cert.MixOutKernel.argN m c) (Cert.MixOutKernel.argS m c) (Cert.MixOutKernel.argH m c),
    Cert.MixOutKernel.run m ρ, (θ_run Cert.MixOutRefIdeal.defs _ _).mono
      (fun _ h c => ⟨(h c).1.trans ?_, (h c).2.1.trans ?_, (h c).2.2.1.trans ?_, (h c).2.2.2⟩)
      (Cert.MixOutRefIdeal.Value.run (F := Ideal) m' ρ')⟩
  · clear h
    rw [(hag c).1, (hag c).2.1, (hag c).2.2.1, (hag c).2.2.2.1]
    funext i
    idx_vars i
    pointwise [Cert.MixOutKernel.stream, Cert.MixOutKernel.mix]
  · clear h
    rw [(hag c).1, (hag c).2.1]
    funext i
    idx_vars i
    pointwise [Cert.MixOutKernel.mix]
  · clear h
    rw [(hag c).1, (hag c).2.1, (hag c).2.2.1, (hag c).2.2.2.1, (hag c).2.2.2.2.1, (hag c).2.2.2.2.2.1, (hag c).2.2.2.2.2.2]
    funext i
    idx_vars i
    pointwise [Cert.MixOutKernel.input, Cert.MixOutKernel.normed, Cert.MixOutKernel.stream, Cert.MixOutKernel.mix]

end Cert.MixOutClaims

end
-- ==== Proof.Norm.Rows.lean ====
/- A row of 2048 extended reals: its sum taken in four parts of 512, and the reciprocal root of its mean square. -/
module

public import proofs.«01_k».proof.Proof.Product.Sums
public import Idealize.ShloMosaic.Lib.Pointwise
public import Idealize.ShloMosaic.Lib.Pipeline.ValueKit

@[expose] public section

noncomputable section

open Idealize.ShloMosaic

namespace Cert.Norm

/-- Entry `k` of part `b` of a row. -/
def at4 (b : Fin 4) (k : Fin 512) : Fin 2048 := ⟨512 * b.val + k.val, by omega⟩

/-- A row summed part after part, one after another. -/
theorem sum_four (f : Fin 2048 → EReal) :
    (∑ k, f (at4 0 k)) + (∑ k, f (at4 1 k)) + (∑ k, f (at4 2 k)) + (∑ k, f (at4 3 k)) = ∑ l, f l := by
  rw [← (finProdFinEquiv (m := 4) (n := 512)).sum_comp f, Fintype.sum_prod_type, Fin.sum_univ_four]
  refine congrArg₂ (· + ·) (congrArg₂ (· + ·) (congrArg₂ (· + ·) ?_ ?_) ?_) ?_
  all_goals exact Finset.sum_congr rfl fun k _ => congrArg f (Fin.ext (by simp [at4, finProdFinEquiv]; try omega))

/-- An array's columns of part `b`. -/
structure Quarter (b : Fin 4) {n : ℕ} (x : (⟨2, ![n, 2048]⟩ : Shape).Idx → EReal) (v : (⟨2, ![n, 512]⟩ : Shape).Idx → EReal) : Prop where
  eq : ∀ r k, v (ix2 r k) = x (ix2 r (at4 b k))

/-- A load of the columns of part `b` reads them. -/
theorem ld_quarter (b : Fin 4) {n : ℕ} {Val : EltTy → Type} {e : EltTy} (x : (⟨2, ![n, 2048]⟩ : Shape).Idx → Val e) (h) (r : Fin n) (k : Fin 512) :
    View.ld x (Rect.unit (s := ⟨2, ![n, 2048]⟩) ![0, 512 * b.val] ![n, 512] h) (ix2 r k) = x (ix2 r (at4 b k)) :=
  View.ld_unit_apply_of _ _ _ _ _ _ fun a => by fin_cases a <;> simp [at4]

/-- Every column is an entry of one of the parts. -/
theorem at4_cover (l : Fin 2048) : ∃ b k, at4 b k = l :=
  ⟨⟨l.val / 512, by omega⟩, ⟨l.val % 512, by omega⟩, Fin.ext (by simp [at4]; omega)⟩

/-- 2048 and its reciprocal, as the programs hold them. -/
theorem ofBits_2048 : Ideal.ofBits .f32 0x45000000#32 = ((2048 : ℝ) : EReal) := by
  simp [Ideal.ofBits, Ideal.ieee, -EReal.coe_mul]
  norm_num

theorem ofBits_inv2048 : Ideal.ofBits .f32 0x3A000000#32 = ((1 / 2048 : ℝ) : EReal) := by
  simp [Ideal.ofBits, Ideal.ieee, -EReal.coe_mul]
  norm_num

theorem mul_inv2048 (a : EReal) : a * Ideal.ofBits .f32 0x3A000000#32 = Ideal.div a (Ideal.ofBits .f32 0x45000000#32) := by
  rw [ofBits_2048, ofBits_inv2048]
  unfold Ideal.div
  rw [if_neg (by norm_num), ← EReal.coe_inv]
  norm_num

/-- The mean square of a row with the programs' offset, and its reciprocal root. -/
def ms (row : Fin 2048 → EReal) : EReal :=
  Ideal.div (∑ l, row l * row l) (Ideal.ofBits .f32 0x45000000#32) + Ideal.ofBits .f32 0x358637BD#32

def rinv (row : Fin 2048 → EReal) : EReal := Ideal.rsqrt (ms row)

end Cert.Norm

end
-- ==== Proof.NormBack.Spec.lean ====
/- The gradient of the adaLN norm with the gate of the branch before it, row by row. -/
module

public import proofs.«01_k».proof.Proof.Norm.Rows

@[expose] public section

noncomputable section

open Idealize.ShloMosaic

namespace Cert.NormBackSpec

open Cert.Norm

/-- The coefficient of a row's own direction in its gradient. -/
def m2 (x dh w sc : Fin 2048 → EReal) : EReal :=
  (∑ l, dh l * (w l * (1 + sc l)) * x l) * rinv x * Ideal.ofBits .f32 0x3A000000#32

/-- The gradient a row receives through the norm. -/
def dn (x dh w sc : Fin 2048 → EReal) (l : Fin 2048) : EReal :=
  rinv x * (dh l * (w l * (1 + sc l)) - x l * rinv x * m2 x dh w sc)

/-- The stream, the gradient of the norm's output, the residual's gradient and the branch, with the weight, the scale and the gate. -/
structure Data where
  x : Fin 8192 → Fin 2048 → EReal
  dh : Fin 8192 → Fin 2048 → EReal
  w : Fin 2048 → EReal
  sc : Fin 2048 → EReal
  dres : Fin 8192 → Fin 2048 → EReal
  br : Fin 8192 → Fin 2048 → EReal
  g : Fin 2048 → EReal

variable (d : Data)

/-- The gradient of the stream at row `r`. -/
def dx (r : Fin 8192) (l : Fin 2048) : EReal := d.dres r l + dn (d.x r) (d.dh r) d.w d.sc l

/-- What row `r` adds to each of the three sums over the rows. -/
def term (j : Fin 3) (r : Fin 8192) (l : Fin 2048) : EReal :=
  match j with
  | 0 => d.dh r l
  | 1 => d.dh r l * (d.x r l * rinv (d.x r))
  | 2 => dx d r l * d.br r l

/-- The sums over the rows. -/
def total (j : Fin 3) (l : Fin 2048) : EReal := ∑ r, term d j r l

/-- Row `i` of block `n`. -/
def rowAt (n : Fin 32) (i : Fin 256) : Fin 8192 := ⟨256 * n.val + i.val, by omega⟩

/-- Row `s` of the eight-row group `q` of a block. -/
def sub (q : Fin 32) (s : Fin 8) : Fin 256 := ⟨q.val * 8 + s.val, by omega⟩

/-- What a block adds to sum `j` at sublane `s`. -/
def part (n : Fin 32) (j : Fin 3) (s : Fin 8) (l : Fin 2048) : EReal := ∑ q : Fin 32, term d j (rowAt n (sub q s)) l

/-- The same, zero beyond the last block. -/
def part0 (k : ℕ) (j : Fin 3) (s : Fin 8) (l : Fin 2048) : EReal := if h : k < 32 then part d ⟨k, h⟩ j s l else 0

/-- All blocks' parts at the eight sublanes are the whole sum. -/
theorem sum_parts (j : Fin 3) (l : Fin 2048) : ∑ s : Fin 8, ∑ k ∈ Finset.range 32, part0 d k j s l = total d j l := by
  have e : ∀ s, ∑ k ∈ Finset.range 32, part0 d k j s l = ∑ n : Fin 32, part d n j s l := fun s => by
    rw [Finset.sum_range]
    exact Finset.sum_congr rfl fun n _ => dif_pos n.isLt
  rw [Finset.sum_congr rfl fun s _ => e s, Finset.sum_comm]
  unfold total part
  rw [← (finProdFinEquiv (m := 32) (n := 256)).sum_comp, Fintype.sum_prod_type]
  refine Finset.sum_congr rfl fun n _ => ?_
  rw [Finset.sum_comm, ← (finProdFinEquiv (m := 32) (n := 8)).sum_comp, Fintype.sum_prod_type]
  refine Finset.sum_congr rfl fun q _ => Finset.sum_congr rfl fun s _ => ?_
  exact congrArg (fun r => term d j r l) (Fin.ext (by simp [rowAt, sub, finProdFinEquiv]; omega))

end Cert.NormBackSpec

end
-- ==== Proof.NormBack.Block.lean ====
/- What one grid point of the norm's gradient kernel computes, read at an index. -/
module

public import proofs.«01_k».proof.Proof.NormBack.Spec
public import proofs.«01_k».proof.Proof.Gen.NormBackIdeal.Skeleton

@[expose] public section

set_option maxRecDepth 16384

noncomputable section

open Idealize.ShloMosaic Idealize.ShloMosaic.TcCoe Idealize.SL.Sem

namespace Cert.NormBackBlock

open Cert.NormBackIdeal Cert.NormBackIdeal.Gen Cert.Norm Cert.NormBackSpec

/-- The seven input blocks at grid point `n`. -/
structure Holds (d : Data) (n : Fin 32) (x0 : Vec Ideal S256x2048 .f32) (x1 : Vec Ideal S256x2048 .bf16) (x2 x3 : Vec Ideal S1x2048 .f32)
    (x4 : Vec Ideal S256x2048 .f32) (x5 : Vec Ideal S256x2048 .bf16) (x6 : Vec Ideal S1x2048 .f32) : Prop where
  x : ∀ i l, x0 (ix2 i l) = d.x (rowAt n i) l
  dh : ∀ i l, x1 (ix2 i l) = d.dh (rowAt n i) l
  w : ∀ l, x2 (ix2 0 l) = d.w l
  sc : ∀ l, x3 (ix2 0 l) = d.sc l
  dres : ∀ i l, x4 (ix2 i l) = d.dres (rowAt n i) l
  br : ∀ i l, x5 (ix2 i l) = d.br (rowAt n i) l
  g : ∀ l, x6 (ix2 0 l) = d.g l

variable {d : Data} {n : Fin 32} {x0 : Vec Ideal S256x2048 .f32} {x1 : Vec Ideal S256x2048 .bf16} {x2 x3 : Vec Ideal S1x2048 .f32}
  {x4 : Vec Ideal S256x2048 .f32} {x5 : Vec Ideal S256x2048 .bf16} {x6 : Vec Ideal S1x2048 .f32} {xs : Vec Ideal S3x8x2048 .f32}

theorem inb_rows (b : Fin 4) : ∀ a, (![0, 512 * b.val] : Fin 2 → ℕ) a + (![256, 512] : Fin 2 → ℕ) a ≤ S256x2048.size a := by
  have := b.isLt
  intro a
  fin_cases a <;> simp <;> omega

theorem inb_one (b : Fin 4) : ∀ a, (![0, 512 * b.val] : Fin 2 → ℕ) a + (![1, 512] : Fin 2 → ℕ) a ≤ S1x2048.size a := by
  have := b.isLt
  intro a
  fin_cases a <;> simp <;> omega

theorem inb_acc (j : Fin 3) (b : Fin 4) :
    ∀ a, (![j.val, 0, 512 * b.val] : Fin 3 → ℕ) a + (![1, 8, 512] : Fin 3 → ℕ) a ≤ S3x8x2048.size a := by
  have := b.isLt
  have := j.isLt
  intro a
  fin_cases a <;> simp <;> omega

/-- Part `b` of a block's columns, of a single row's, and of sum `j` of the scratch. -/
abbrev rows (b : Fin 4) : Rect S256x2048 := Rect.unit (s := S256x2048) ![0, 512 * b.val] ![256, 512] (inb_rows b)
abbrev one (b : Fin 4) : Rect S1x2048 := Rect.unit (s := S1x2048) ![0, 512 * b.val] ![1, 512] (inb_one b)
abbrev slab (j : Fin 3) (b : Fin 4) : Rect S3x8x2048 := Rect.unit (s := S3x8x2048) ![j.val, 0, 512 * b.val] ![1, 8, 512] (inb_acc j b)

def ldF (x : Vec Ideal S256x2048 .f32) (b : Fin 4) : Vec Ideal S256x512 .f32 := View.ld (Val := Elt Ideal) (e' := .f32) x (rows b)
def ldH (x : Vec Ideal S256x2048 .bf16) (b : Fin 4) : Vec Ideal S256x512 .bf16 := View.ld (Val := Elt Ideal) (e' := .bf16) x (rows b)
def ldW (x : Vec Ideal S1x2048 .f32) (b : Fin 4) : Vec Ideal S1x512 .f32 := View.ld (Val := Elt Ideal) (e' := .f32) x (one b)
def ldA (x : Vec Ideal S3x8x2048 .f32) (j : Fin 3) (b : Fin 4) : Vec Ideal S1x8x512 .f32 := View.ld (Val := Elt Ideal) (e' := .f32) x (slab j b)

theorem ldF_apply (x : Vec Ideal S256x2048 .f32) (b : Fin 4) (i : Fin 256) (k : Fin 512) : ldF x b (ix2 i k) = x (ix2 i (at4 b k)) :=
  ld_quarter b x _ i k
theorem ldH_apply (x : Vec Ideal S256x2048 .bf16) (b : Fin 4) (i : Fin 256) (k : Fin 512) : ldH x b (ix2 i k) = x (ix2 i (at4 b k)) :=
  ld_quarter b x _ i k
theorem ldW_apply (x : Vec Ideal S1x2048 .f32) (b : Fin 4) (k : Fin 512) : ldW x b (ix2 0 k) = x (ix2 0 (at4 b k)) :=
  ld_quarter b x _ 0 k
theorem ldA_apply (x : Vec Ideal S3x8x2048 .f32) (j : Fin 3) (b : Fin 4) (s : Fin 8) (k : Fin 512) :
    ldA x j b (ix3 0 s k) = x (ix3 j s (at4 b k)) :=
  View.ld_unit_apply_of _ _ _ _ _ _ fun a => by fin_cases a <;> simp [at4]

/-- The mean squares, their reciprocal roots and the coefficients of the block's rows. -/
def sqV (x0 : Vec Ideal S256x2048 .f32) : Vec Ideal S256x1 .f32 := k0_pay12 (F := Ideal) (k0_pay9 (F := Ideal) (ldF x0 0) (ldF x0 1)) (ldF x0 2) (ldF x0 3)
def rV (x0 : Vec Ideal S256x2048 .f32) : Vec Ideal S256x1 .f32 := k0_pay14 (F := Ideal) (sqV x0)
def mV (x0 : Vec Ideal S256x2048 .f32) (x1 : Vec Ideal S256x2048 .bf16) (x2 x3 : Vec Ideal S1x2048 .f32) : Vec Ideal S256x1 .f32 :=
  k0_pay15 (F := Ideal) (k0_pay10 (F := Ideal) (k0_pay7 (F := Ideal) (ldF x0 0) (ldW x2 0) (ldW x3 0) (ldH x1 0)) (ldF x0 1) (k0_pay8 (F := Ideal) (ldW x2 1) (ldW x3 1)) (ldH x1 1)
    (ldF x0 2) (ldW x2 2) (ldW x3 2) (ldH x1 2)) (ldF x0 3) (k0_pay11 (F := Ideal) (ldW x2 3) (ldW x3 3)) (sqV x0) (k0_pay13 (F := Ideal) (ldH x1 3))

/-- A part's gradient of the stream and of the branch, and its three running sums. -/
def dxV (x0 : Vec Ideal S256x2048 .f32) (x1 : Vec Ideal S256x2048 .bf16) (x2 x3 : Vec Ideal S1x2048 .f32) (x4 : Vec Ideal S256x2048 .f32)
    (b : Fin 4) : Vec Ideal S256x512 .f32 :=
  k0_pay28 (F := Ideal) (rV x0) (mV x0 x1 x2 x3) (ldF x0 b) (k0_pay25 (F := Ideal) (rV x0)) (ldH x1 b) (ldF x4 b) (ldW x2 b) (ldW x3 b)
def dbV (x0 : Vec Ideal S256x2048 .f32) (x1 : Vec Ideal S256x2048 .bf16) (x2 x3 : Vec Ideal S1x2048 .f32) (x4 : Vec Ideal S256x2048 .f32)
    (x6 : Vec Ideal S1x2048 .f32) (b : Fin 4) : Vec Ideal S256x512 .bf16 := k0_pay32 (F := Ideal) (dxV x0 x1 x2 x3 x4 b) (ldW x6 b)
def a0V (x1 : Vec Ideal S256x2048 .bf16) (xs : Vec Ideal S3x8x2048 .f32) (b : Fin 4) : Vec Ideal S1x8x512 .f32 :=
  k0_pay29 (F := Ideal) (ldH x1 b) (ldA xs 0 b)
def a1V (x0 : Vec Ideal S256x2048 .f32) (x1 : Vec Ideal S256x2048 .bf16) (xs : Vec Ideal S3x8x2048 .f32) (b : Fin 4) :
    Vec Ideal S1x8x512 .f32 := k0_pay31 (F := Ideal) (k0_pay30 (F := Ideal) (ldF x0 b) (k0_pay25 (F := Ideal) (rV x0)) (ldH x1 b) (ldA xs 1 b))
def a2V (x0 : Vec Ideal S256x2048 .f32) (x1 : Vec Ideal S256x2048 .bf16) (x2 x3 : Vec Ideal S1x2048 .f32) (x4 : Vec Ideal S256x2048 .f32)
    (x5 : Vec Ideal S256x2048 .bf16) (xs : Vec Ideal S3x8x2048 .f32) (b : Fin 4) : Vec Ideal S1x8x512 .f32 :=
  k0_pay33 (F := Ideal) (dxV x0 x1 x2 x3 x4 b) (ldA xs 2 b) (ldH x5 b)

theorem rV_apply (h : Holds d n x0 x1 x2 x3 x4 x5 x6) (i : Fin 256) : rV x0 (ix2 i 0) = rinv (d.x (rowAt n i)) := by
  pointwise [rV, sqV, k0_pay14, k0_pay12, k0_pay9]
  unfold rinv ms
  rw [mul_inv2048, ← sum_four]
  simp only [ldF_apply, h.x]

theorem mV_apply (h : Holds d n x0 x1 x2 x3 x4 x5 x6) (i : Fin 256) :
    mV x0 x1 x2 x3 (ix2 i 0) = m2 (d.x (rowAt n i)) (d.dh (rowAt n i)) d.w d.sc := by
  have key := rV_apply h i
  unfold rV at key
  pointwise [mV, k0_pay15, k0_pay10, k0_pay7, k0_pay8, k0_pay11, k0_pay13]
  rw [key]
  unfold m2
  rw [← sum_four]
  simp only [ldF_apply, ldH_apply, ldW_apply, h.x, h.dh, h.w, h.sc]

theorem dxV_apply (h : Holds d n x0 x1 x2 x3 x4 x5 x6) (b : Fin 4) (i : Fin 256) (k : Fin 512) :
    dxV x0 x1 x2 x3 x4 b (ix2 i k) = dx d (rowAt n i) (at4 b k) := by
  have kr := rV_apply h i
  have km := mV_apply h i
  pointwise [dxV, k0_pay28, k0_pay27, k0_pay26, k0_pay25]
  rw [kr, km]
  unfold dx dn
  simp only [ldF_apply, ldH_apply, ldW_apply, h.x, h.dh, h.w, h.sc, h.dres]

theorem dbV_apply (h : Holds d n x0 x1 x2 x3 x4 x5 x6) (b : Fin 4) (i : Fin 256) (k : Fin 512) :
    dbV x0 x1 x2 x3 x4 x6 b (ix2 i k) = dx d (rowAt n i) (at4 b k) * d.g (at4 b k) := by
  have kd := dxV_apply h b i k
  pointwise [dbV, k0_pay32]
  rw [kd]
  simp only [ldW_apply, h.g]

theorem a0V_apply (h : Holds d n x0 x1 x2 x3 x4 x5 x6) (b : Fin 4) (s : Fin 8) (k : Fin 512) :
    a0V x1 xs b (ix3 0 s k) = xs (ix3 0 s (at4 b k)) + part d n 0 s (at4 b k) := by
  pointwise [a0V, k0_pay29, k0_pay27]
  unfold part term
  simp only [ldH_apply, ldA_apply, h.dh]
  rfl

theorem a1V_apply (h : Holds d n x0 x1 x2 x3 x4 x5 x6) (b : Fin 4) (s : Fin 8) (k : Fin 512) :
    a1V x0 x1 xs b (ix3 0 s k) = xs (ix3 1 s (at4 b k)) + part d n 1 s (at4 b k) := by
  have kr := rV_apply h
  pointwise [a1V, k0_pay31, k0_pay30, k0_pay27, k0_pay26, k0_pay25]
  unfold part term
  simp only [kr, ldF_apply, ldH_apply, ldA_apply, h.dh, h.x]
  rfl

theorem a2V_apply (h : Holds d n x0 x1 x2 x3 x4 x5 x6) (b : Fin 4) (s : Fin 8) (k : Fin 512) :
    a2V x0 x1 x2 x3 x4 x5 xs b (ix3 0 s k) = xs (ix3 2 s (at4 b k)) + part d n 2 s (at4 b k) := by
  have kd := dxV_apply h b
  pointwise [a2V, k0_pay33]
  unfold part term
  simp only [kd, ldH_apply, ldA_apply, h.br]
  rfl

/-- The last point's rows: a sum over the eight sublanes, times the weight or the scale. -/
theorem pay1_apply (v : Vec Ideal S1x8x2048 .f32) (l : Fin 2048) : k0_pay1 v (ix2 0 l) = ∑ s : Fin 8, v (ix3 0 s l) := by
  pointwise [k0_pay1]

theorem pay5_apply (v : Vec Ideal S1x8x2048 .f32) (l : Fin 2048) : k0_pay5 v (ix2 0 l) = ∑ s : Fin 8, v (ix3 0 s l) := by
  pointwise [k0_pay5]

theorem pay3_apply (v : Vec Ideal S1x8x2048 .f32) (w : Vec Ideal S1x2048 .f32) (l : Fin 2048) :
    k0_pay3 v w (ix2 0 l) = Product.mul (∑ s : Fin 8, v (ix3 0 s l)) (w (ix2 0 l)) := by
  pointwise [k0_pay3, k0_pay2]

theorem pay4_apply (v : Vec Ideal S1x8x2048 .f32) (sc : Vec Ideal S1x2048 .f32) (l : Fin 2048) :
    k0_pay4 v sc (ix2 0 l) = Product.mul (∑ s : Fin 8, v (ix3 0 s l)) ((1 : EReal) + sc (ix2 0 l)) := by
  pointwise [k0_pay4, k0_pay2]

end Cert.NormBackBlock

end
-- ==== Proof.NormBack.Point.lean ====
/- What one grid point of the norm's gradient kernel leaves in its output blocks and its scratch. -/
module

public import proofs.«01_k».proof.Proof.Gen.NormBackIdeal.Frame
public import proofs.«01_k».proof.Proof.NormBack.Block
public import Idealize.ShloMosaic.Lib.Pipeline.ReadBack

@[expose] public section

set_option maxRecDepth 16384

noncomputable section

open Idealize.ShloMosaic Idealize.ShloMosaic.TcCoe Idealize.SL.Sem

namespace Cert.NormBackBlock

open Cert.NormBackIdeal Cert.NormBackIdeal.Gen Cert.Norm Cert.NormBackSpec

variable (c : Dev nD) (i : grid0.Coords)
  (arg1 : Memref sig .tc .vmem S256x2048 .f32) (harg1 : arg1.IsWhole)
  (arg2 : Memref sig .tc .vmem S256x2048 .bf16) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S256x2048 .f32) (harg5 : arg5.IsWhole)
  (arg6 : Memref sig .tc .vmem S256x2048 .bf16) (harg6 : arg6.IsWhole)
  (arg7 : Memref sig .tc .vmem S1x2048 .f32) (harg7 : arg7.IsWhole)
  (arg8 : Memref sig .tc .vmem S256x2048 .f32) (harg8 : arg8.IsWhole)
  (arg9 : Memref sig .tc .vmem S256x2048 .bf16) (harg9 : arg9.IsWhole)
  (arg10 : Memref sig .tc .vmem S1x2048 .f32) (harg10 : arg10.IsWhole)
  (arg11 : Memref sig .tc .vmem S1x2048 .f32) (harg11 : arg11.IsWhole)
  (arg12 : Memref sig .tc .vmem S1x2048 .f32) (harg12 : arg12.IsWhole)
  (arg13 : Memref sig .tc .vmem S1x2048 .f32) (harg13 : arg13.IsWhole)
  (arg14 : Memref sig .tc .vmem S3x8x2048 .f32) (harg14 : arg14.IsWhole)
  {d : Data} {n : Fin 32} {x0 : Vec Ideal S256x2048 .f32} {x1 : Vec Ideal S256x2048 .bf16} {x2 x3 : Vec Ideal S1x2048 .f32}
  {x4 : Vec Ideal S256x2048 .f32} {x5 : Vec Ideal S256x2048 .bf16} {x6 : Vec Ideal S1x2048 .f32}
  (xs0 : Vec Ideal S3x8x2048 .f32)

/-- Column parts of a block, and of the scratch, where they lie. -/
theorem rows_emb (b : Fin 4) (i : Fin 256) (k : Fin 512) : (rows b).emb (ix2 i k) = ix2 i (at4 b k) :=
  funext fun a => Fin.ext ((Rect.idx_unit_val _ _ (inb_rows b) _ a).trans (by fin_cases a <;> simp [at4]))

theorem slab_emb (j : Fin 3) (b : Fin 4) (s : Fin 8) (k : Fin 512) : (slab j b).emb (ix3 0 s k) = ix3 j s (at4 b k) :=
  funext fun a => Fin.ext ((Rect.idx_unit_val _ _ (inb_acc j b) _ a).trans (by fin_cases a <;> simp [at4]))

theorem rows_mem (b : Fin 4) (i : Fin 256) (k : Fin 512) : (ix2 i (at4 b k) : S256x2048.Idx) ∈ (rows b).set := by
  rw [Rect.mem_set_unit]
  intro a
  fin_cases a <;> simp [at4]

theorem slab_mem (j : Fin 3) (b : Fin 4) (s : Fin 8) (k : Fin 512) : (ix3 j s (at4 b k) : S3x8x2048.Idx) ∈ (slab j b).set := by
  rw [Rect.mem_set_unit]
  intro a
  fin_cases a <;> simp [at4]

/-- Four parts side by side, each holding its columns of `G`, are `G`. -/
theorem four_parts {e : EltTy} (G : S256x2048.Idx → Elt Ideal e) (p : Fin 4 → Vec Ideal S256x512 e)
    (hp : ∀ b i k, p b (ix2 i k) = G (ix2 i (at4 b k))) (y : S256x2048.Idx) :
    View.canon (Val := Elt Ideal) (s := S256x2048) (e := e) [⟨rows 3, p 3⟩, ⟨rows 2, p 2⟩, ⟨rows 1, p 1⟩, ⟨rows 0, p 0⟩] y = G y := by
  have one : ∀ b (x : (rows b).shape.Idx), p b x = G ((rows b).emb x) := fun b x => by
    idx_vars x
    exact (hp b x0 x1).trans (congrArg G (rows_emb b x0 x1).symm)
  refine View.canon_append_of_piecesOf G [] [_, _, _, _] ⟨one 3, one 2, one 1, one 0, trivial⟩ y ?_
  idx_vars y
  obtain ⟨b, k, rfl⟩ := at4_cover y1
  fin_cases b
  · exact ⟨_, .tail _ (.tail _ (.tail _ (.head _))), rows_mem 0 y0 k⟩
  · exact ⟨_, .tail _ (.tail _ (.head _)), rows_mem 1 y0 k⟩
  · exact ⟨_, .tail _ (.head _), rows_mem 2 y0 k⟩
  · exact ⟨_, .head _, rows_mem 3 y0 k⟩

/-- The point's twelve stores to the scratch, the last first. -/
def stores (x0 : Vec Ideal S256x2048 .f32) (x1 : Vec Ideal S256x2048 .bf16) (x2 x3 : Vec Ideal S1x2048 .f32) (x4 : Vec Ideal S256x2048 .f32)
    (x5 : Vec Ideal S256x2048 .bf16) (xs : Vec Ideal S3x8x2048 .f32) : List (View.Piece (Elt Ideal) S3x8x2048 .f32) :=
  [⟨slab 2 3, a2V x0 x1 x2 x3 x4 x5 xs 3⟩, ⟨slab 1 3, a1V x0 x1 xs 3⟩, ⟨slab 0 3, a0V x1 xs 3⟩,
   ⟨slab 2 2, a2V x0 x1 x2 x3 x4 x5 xs 2⟩, ⟨slab 1 2, a1V x0 x1 xs 2⟩, ⟨slab 0 2, a0V x1 xs 2⟩,
   ⟨slab 2 1, a2V x0 x1 x2 x3 x4 x5 xs 1⟩, ⟨slab 1 1, a1V x0 x1 xs 1⟩, ⟨slab 0 1, a0V x1 xs 1⟩,
   ⟨slab 2 0, a2V x0 x1 x2 x3 x4 x5 xs 0⟩, ⟨slab 1 0, a1V x0 x1 xs 0⟩, ⟨slab 0 0, a0V x1 xs 0⟩]

/-- Every part of the scratch is stored to. -/
theorem stores_mem (x0 : Vec Ideal S256x2048 .f32) (x1 : Vec Ideal S256x2048 .bf16) (x2 x3 : Vec Ideal S1x2048 .f32) (x4 : Vec Ideal S256x2048 .f32)
    (x5 : Vec Ideal S256x2048 .bf16) (xs : Vec Ideal S3x8x2048 .f32) (j : Fin 3) (b : Fin 4) :
    ∃ p ∈ stores x0 x1 x2 x3 x4 x5 xs, p.1 = slab j b := by
  have key : ∀ (q : Fin 12), (stores x0 x1 x2 x3 x4 x5 xs)[q.val]'(lt_of_lt_of_eq q.isLt rfl) ∈ stores x0 x1 x2 x3 x4 x5 xs :=
    fun q => List.getElem_mem _
  match b, j with
  | 3, 2 => exact ⟨_, key 0, rfl⟩
  | 3, 1 => exact ⟨_, key 1, rfl⟩
  | 3, 0 => exact ⟨_, key 2, rfl⟩
  | 2, 2 => exact ⟨_, key 3, rfl⟩
  | 2, 1 => exact ⟨_, key 4, rfl⟩
  | 2, 0 => exact ⟨_, key 5, rfl⟩
  | 1, 2 => exact ⟨_, key 6, rfl⟩
  | 1, 1 => exact ⟨_, key 7, rfl⟩
  | 1, 0 => exact ⟨_, key 8, rfl⟩
  | 0, 2 => exact ⟨_, key 9, rfl⟩
  | 0, 1 => exact ⟨_, key 10, rfl⟩
  | 0, 0 => exact ⟨_, key 11, rfl⟩

/-- The scratch after the point: what it held plus the point's own part, whatever was stored before. -/
theorem acc_block (h : Holds d n x0 x1 x2 x3 x4 x5 x6) (T : List (View.Piece (Elt Ideal) S3x8x2048 .f32))
    (j : Fin 3) (s : Fin 8) (l : Fin 2048) :
    View.canon (Val := Elt Ideal) (s := S3x8x2048) (e := .f32) (stores x0 x1 x2 x3 x4 x5 xs0 ++ T) (ix3 j s l)
      = xs0 (ix3 j s l) + part d n j s l := by
  let G : S3x8x2048.Idx → EReal := fun y => xs0 y + part d n (y 0) (y 1) (y 2)
  have m0 : ∀ b (x : (slab 0 b).shape.Idx), a0V x1 xs0 b x = G ((slab 0 b).emb x) := fun b x => by
    idx_vars x
    obtain rfl := Subsingleton.elim x0 0
    exact (a0V_apply h b x1 x2).trans (congrArg G (slab_emb 0 b x1 x2).symm)
  have m1 : ∀ b (x : (slab 1 b).shape.Idx), a1V x0 x1 xs0 b x = G ((slab 1 b).emb x) := fun b x => by
    idx_vars x
    obtain rfl := Subsingleton.elim x0 0
    exact (a1V_apply h b x1 x2).trans (congrArg G (slab_emb 1 b x1 x2).symm)
  have m2 : ∀ b (x : (slab 2 b).shape.Idx), a2V x0 x1 x2 x3 x4 x5 xs0 b x = G ((slab 2 b).emb x) := fun b x => by
    idx_vars x
    obtain rfl := Subsingleton.elim x0 0
    exact (a2V_apply h b x1 x2).trans (congrArg G (slab_emb 2 b x1 x2).symm)
  refine View.canon_append_of_piecesOf G T (stores x0 x1 x2 x3 x4 x5 xs0)
    ⟨m2 3, m1 3, m0 3, m2 2, m1 2, m0 2, m2 1, m1 1, m0 1, m2 0, m1 0, m0 0, trivial⟩ _ ?_
  obtain ⟨b, k, rfl⟩ := at4_cover l
  have mem := slab_mem j b s k
  obtain ⟨p, hp, e⟩ := stores_mem x0 x1 x2 x3 x4 x5 xs0 j b
  exact ⟨p, hp, e ▸ mem⟩

/-- The scratch starts from zero. -/
theorem pay6_apply (y : S3x8x2048.Idx) : k0_pay6 (F := Ideal) y = 0 := by
  idx_vars y
  pointwise [k0_pay6]

theorem out_A_7 (hc0 : cond0_0 i) (hc1 : ¬cond0_1 i) (h : Holds d n x0 x1 x2 x3 x4 x5 x6) (r : Fin 256) (l : Fin 2048) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6
      (ix2 r l) = dx d (rowAt n r) l := by
  frame_out
  exact four_parts (e := .f32) (fun y => dx d (rowAt n (y 0)) (y 1)) (dxV x0 x1 x2 x3 x4) (dxV_apply h) (ix2 r l)

theorem out_A_8 (hc0 : cond0_0 i) (hc1 : ¬cond0_1 i) (h : Holds d n x0 x1 x2 x3 x4 x5 x6) (r : Fin 256) (l : Fin 2048) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6
      (ix2 r l) = dx d (rowAt n r) l * d.g l := by
  frame_out
  exact four_parts (e := .bf16) (fun y => dx d (rowAt n (y 0)) (y 1) * d.g (y 1)) (dbV x0 x1 x2 x3 x4 x6) (dbV_apply h) (ix2 r l)

theorem out_B_7 (hc0 : ¬cond0_0 i) (hc1 : ¬cond0_1 i) (h : Holds d n x0 x1 x2 x3 x4 x5 x6) (r : Fin 256) (l : Fin 2048) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0
      (ix2 r l) = dx d (rowAt n r) l := by
  frame_out
  exact four_parts (e := .f32) (fun y => dx d (rowAt n (y 0)) (y 1)) (dxV x0 x1 x2 x3 x4) (dxV_apply h) (ix2 r l)

theorem out_B_8 (hc0 : ¬cond0_0 i) (hc1 : ¬cond0_1 i) (h : Holds d n x0 x1 x2 x3 x4 x5 x6) (r : Fin 256) (l : Fin 2048) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0
      (ix2 r l) = dx d (rowAt n r) l * d.g l := by
  frame_out
  exact four_parts (e := .bf16) (fun y => dx d (rowAt n (y 0)) (y 1) * d.g (y 1)) (dbV x0 x1 x2 x3 x4 x6) (dbV_apply h) (ix2 r l)

theorem out_C_7 (hc0 : ¬cond0_0 i) (hc1 : cond0_1 i) (h : Holds d n x0 x1 x2 x3 x4 x5 x6) (r : Fin 256) (l : Fin 2048) :
    out0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0
      (ix2 r l) = dx d (rowAt n r) l := by
  frame_out
  exact four_parts (e := .f32) (fun y => dx d (rowAt n (y 0)) (y 1)) (dxV x0 x1 x2 x3 x4) (dxV_apply h) (ix2 r l)

theorem out_C_8 (hc0 : ¬cond0_0 i) (hc1 : cond0_1 i) (h : Holds d n x0 x1 x2 x3 x4 x5 x6) (r : Fin 256) (l : Fin 2048) :
    out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0
      (ix2 r l) = dx d (rowAt n r) l * d.g l := by
  frame_out
  exact four_parts (e := .bf16) (fun y => dx d (rowAt n (y 0)) (y 1) * d.g (y 1)) (dbV x0 x1 x2 x3 x4 x6) (dbV_apply h) (ix2 r l)

theorem sout_B (hc0 : ¬cond0_0 i) (hc1 : ¬cond0_1 i) (h : Holds d n x0 x1 x2 x3 x4 x5 x6) (j : Fin 3) (s : Fin 8) (l : Fin 2048) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0
      (ix3 j s l) = xs0 (ix3 j s l) + part d n j s l := by
  frame_out
  exact acc_block xs0 h [] j s l

theorem sout_C (hc0 : ¬cond0_0 i) (hc1 : cond0_1 i) (h : Holds d n x0 x1 x2 x3 x4 x5 x6) (j : Fin 3) (s : Fin 8) (l : Fin 2048) :
    sout0_C_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0
      (ix3 j s l) = xs0 (ix3 j s l) + part d n j s l := by
  frame_out
  exact acc_block xs0 h [] j s l

theorem sout_A (hc0 : cond0_0 i) (hc1 : ¬cond0_1 i) (h : Holds d n x0 x1 x2 x3 x4 x5 x6) (j : Fin 3) (s : Fin 8) (l : Fin 2048) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6
      (ix3 j s l) = part d n j s l := by
  frame_out
  simp (disch := decide +kernel) only [↓View.readCov_skip, View.readCov_fill]
  exact (acc_block (k0_pay6 (F := Ideal)) h [⟨Rect.unit ![0, 0, 0] ![3, 8, 2048] inb_S3x8x2048_S3x8x2048_0_0_0, k0_pay6 (F := Ideal)⟩] j s l).trans
    ((congrArg (· + part d n j s l) (pay6_apply _)).trans (zero_add _))

/-- Row `j` of the scratch, where it lies. -/
theorem row_emb (j : Fin 3) (b : ∀ a, (![(j : ℕ), 0, 0] : Fin 3 → ℕ) a + (![1, 8, 2048] : Fin 3 → ℕ) a ≤ S3x8x2048.size a) (s : Fin 8) (l : Fin 2048) :
    (Rect.unit (s := S3x8x2048) ![(j : ℕ), 0, 0] ![1, 8, 2048] b).emb (ix3 0 s l) = ix3 j s l :=
  funext fun a => Fin.ext ((Rect.idx_unit_val _ _ b _ a).trans (by fin_cases a <;> simp))

theorem out_C_9 (hc0 : ¬cond0_0 i) (hc1 : cond0_1 i) (h : Holds d n x0 x1 x2 x3 x4 x5 x6) (l : Fin 2048) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0
      (ix2 0 l) = ∑ s : Fin 8, (xs0 (ix3 0 s l) + part d n 0 s l) := by
  have key := fun s => (congrArg _ (row_emb 0 inb_S3x8x2048_S1x8x2048_0_0_0 s l)).trans (acc_block xs0 h [] 0 s l)
  frame_out
  rw [View.readCov_eq_canon']
  exact (pay1_apply _ l).trans (Finset.sum_congr rfl fun s _ => key s)

theorem out_C_10 (hc0 : ¬cond0_0 i) (hc1 : cond0_1 i) (h : Holds d n x0 x1 x2 x3 x4 x5 x6) (l : Fin 2048) :
    out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0
      (ix2 0 l) = Product.mul (∑ s : Fin 8, (xs0 (ix3 1 s l) + part d n 1 s l)) (d.w l) := by
  have key := fun s => (congrArg _ (row_emb 1 inb_S3x8x2048_S1x8x2048_1_0_0 s l)).trans (acc_block xs0 h [] 1 s l)
  frame_out
  rw [View.readCov_eq_canon']
  exact (pay3_apply _ x2 l).trans (congrArg₂ Product.mul (Finset.sum_congr rfl fun s _ => key s) (h.w l))

theorem out_C_11 (hc0 : ¬cond0_0 i) (hc1 : cond0_1 i) (h : Holds d n x0 x1 x2 x3 x4 x5 x6) (l : Fin 2048) :
    out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0
      (ix2 0 l) = Product.mul (∑ s : Fin 8, (xs0 (ix3 1 s l) + part d n 1 s l)) ((1 : EReal) + d.sc l) := by
  have key := fun s => (congrArg _ (row_emb 1 inb_S3x8x2048_S1x8x2048_1_0_0 s l)).trans (acc_block xs0 h [] 1 s l)
  frame_out
  rw [View.readCov_eq_canon']
  exact (pay4_apply _ x3 l).trans (congrArg₂ Product.mul (Finset.sum_congr rfl fun s _ => key s) (congrArg _ (h.sc l)))

theorem out_C_12 (hc0 : ¬cond0_0 i) (hc1 : cond0_1 i) (h : Holds d n x0 x1 x2 x3 x4 x5 x6) (l : Fin 2048) :
    out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0
      (ix2 0 l) = ∑ s : Fin 8, (xs0 (ix3 2 s l) + part d n 2 s l) := by
  have key := fun s => (congrArg _ (row_emb 2 inb_S3x8x2048_S1x8x2048_2_0_0 s l)).trans (acc_block xs0 h [] 2 s l)
  frame_out
  rw [View.readCov_eq_canon']
  exact (pay5_apply _ l).trans (Finset.sum_congr rfl fun s _ => key s)

end Cert.NormBackBlock

end
-- ==== Proof.NormBack.Kernel.lean ====
/- What the kernel for the gradient of the adaLN norm leaves in its six result arrays. -/
module

public import proofs.«01_k».proof.Proof.NormBack.Point
public import proofs.«01_k».proof.Proof.Gen.NormBackIdeal.Value

@[expose] public section

set_option maxRecDepth 16384

noncomputable section

open Idealize.ShloMosaic Idealize.ShloMosaic.TcCoe Idealize.SL.Sem
open Idealize.ShloMosaic.Pipeline (Dat)

namespace Cert.NormBackKernel

open Cert.NormBackIdeal Cert.NormBackIdeal.Gen Cert.Norm Cert.NormBackSpec Cert.NormBackBlock

variable (m : (ℓ : Loc nD τ sig) → Buf (Elt Ideal) ℓ) (ρ : Dev nD → PrngReg)

/-- The seven operands, read off the argument arrays. -/
def data (c : Dev nD) : Data where
  x r l := (m ((c.tc : Thread nD τ).loc main_arg0) : Vec Ideal S8192x2048 .f32) (ix2 r l)
  dh r l := (m ((c.tc : Thread nD τ).loc main_arg1) : Vec Ideal S8192x2048 .bf16) (ix2 r l)
  w l := (m ((c.tc : Thread nD τ).loc main_arg2) : Vec Ideal S1x2048 .f32) (ix2 0 l)
  sc l := (m ((c.tc : Thread nD τ).loc main_arg3) : Vec Ideal S1x2048 .f32) (ix2 0 l)
  dres r l := (m ((c.tc : Thread nD τ).loc main_arg4) : Vec Ideal S8192x2048 .f32) (ix2 r l)
  br r l := (m ((c.tc : Thread nD τ).loc main_arg5) : Vec Ideal S8192x2048 .bf16) (ix2 r l)
  g l := (m ((c.tc : Thread nD τ).loc main_arg6) : Vec Ideal S1x2048 .f32) (ix2 0 l)

/-- The block of rows of a grid point. -/
def blockOf (t : Fin cfg0.N) : Fin 32 := ⟨t.val, lt_of_lt_of_eq t.isLt N_0⟩

/-- Where each window's block lies. -/
theorem idx (t : Fin cfg0.N) : win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] ∧ win0_10.index t = ![0, 0]
    ∧ win0_11.index t = ![0, 0] ∧ win0_12.index t = ![0, 0] :=
  (by decide +kernel : ∀ t : Fin grid0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] ∧ win0_10.index t = ![0, 0]
    ∧ win0_11.index t = ![0, 0] ∧ win0_12.index t = ![0, 0]) t

/-- The blocks the point finds are the ones the block lemmas speak of. -/
theorem holds (c : Dev nD) (t : Fin cfg0.N) :
    Holds (data m c) (blockOf t) (iblk m c 0 t) (iblk m c 1 t) (iblk m c 2 t) (iblk m c 3 t) (iblk m c 4 t) (iblk m c 5 t) (iblk m c 6 t) where
  x i l := by unfold data rowAt blockOf; dsimp only; blk_ext [iblk, V, idx t]
  dh i l := by unfold data rowAt blockOf; dsimp only; blk_ext [iblk, V, idx t]
  w l := by unfold data; dsimp only; blk_ext [iblk, V, idx t]
  sc l := by unfold data; dsimp only; blk_ext [iblk, V, idx t]
  dres i l := by unfold data rowAt blockOf; dsimp only; blk_ext [iblk, V, idx t]
  br i l := by unfold data rowAt blockOf; dsimp only; blk_ext [iblk, V, idx t]
  g l := by unfold data; dsimp only; blk_ext [iblk, V, idx t]

theorem dx_A (c : Dev nD) (t : Fin cfg0.N) (h0 : t.val % 32 = 0) (h1 : ¬t.val % 32 = 31) (r : Fin 256) (l : Fin 2048) :
    (outsAt0 m c t.val t.isLt).1 (ix2 r l) = dx (data m c) (rowAt (blockOf t) r) l := by
  have e := out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (holds m c t) r l
  rw [outsAt0_A m c t h0 h1]
  dsimp only
  rw [e]

theorem dbr_A (c : Dev nD) (t : Fin cfg0.N) (h0 : t.val % 32 = 0) (h1 : ¬t.val % 32 = 31) (r : Fin 256) (l : Fin 2048) :
    (outsAt0 m c t.val t.isLt).2.1 (ix2 r l) = dx (data m c) (rowAt (blockOf t) r) l * (data m c).g l := by
  have e := out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (holds m c t) r l
  rw [outsAt0_A m c t h0 h1]
  dsimp only
  rw [e]

theorem acc_A (c : Dev nD) (t : Fin cfg0.N) (h0 : t.val % 32 = 0) (h1 : ¬t.val % 32 = 31) (j : Fin 3) (s : Fin 8) (l : Fin 2048) :
    (outsAt0 m c t.val t.isLt).2.2.2.2.2.2 (ix3 j s l) = part (data m c) (blockOf t) j s l := by
  have e := sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (holds m c t) j s l
  rw [outsAt0_A m c t h0 h1]
  dsimp only
  rw [e]

theorem dx_B (c : Dev nD) (t : Fin cfg0.N) (h0 : ¬t.val % 32 = 0) (h1 : ¬t.val % 32 = 31) (r : Fin 256) (l : Fin 2048) :
    (outsAt0 m c t.val t.isLt).1 (ix2 r l) = dx (data m c) (rowAt (blockOf t) r) l := by
  have e := out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (outsAt0 m c (t.val - 1) (Nat.lt_of_le_of_lt (Nat.sub_le _ _) t.isLt)).2.2.2.2.2.2 (fun h => h0 ((hcond0_0 t).mp h)) (fun h => h1 ((hcond0_1 t).mp h)) (holds m c t) r l
  rw [outsAt0_B m c t h0 h1]
  dsimp only
  rw [e]

theorem dbr_B (c : Dev nD) (t : Fin cfg0.N) (h0 : ¬t.val % 32 = 0) (h1 : ¬t.val % 32 = 31) (r : Fin 256) (l : Fin 2048) :
    (outsAt0 m c t.val t.isLt).2.1 (ix2 r l) = dx (data m c) (rowAt (blockOf t) r) l * (data m c).g l := by
  have e := out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (outsAt0 m c (t.val - 1) (Nat.lt_of_le_of_lt (Nat.sub_le _ _) t.isLt)).2.2.2.2.2.2 (fun h => h0 ((hcond0_0 t).mp h)) (fun h => h1 ((hcond0_1 t).mp h)) (holds m c t) r l
  rw [outsAt0_B m c t h0 h1]
  dsimp only
  rw [e]

theorem acc_B (c : Dev nD) (t : Fin cfg0.N) (h0 : ¬t.val % 32 = 0) (h1 : ¬t.val % 32 = 31) (j : Fin 3) (s : Fin 8) (l : Fin 2048) :
    (outsAt0 m c t.val t.isLt).2.2.2.2.2.2 (ix3 j s l) = (outsAt0 m c (t.val - 1) (Nat.lt_of_le_of_lt (Nat.sub_le _ _) t.isLt)).2.2.2.2.2.2 (ix3 j s l) + part (data m c) (blockOf t) j s l := by
  have e := sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (outsAt0 m c (t.val - 1) (Nat.lt_of_le_of_lt (Nat.sub_le _ _) t.isLt)).2.2.2.2.2.2 (fun h => h0 ((hcond0_0 t).mp h)) (fun h => h1 ((hcond0_1 t).mp h)) (holds m c t) j s l
  rw [outsAt0_B m c t h0 h1]
  dsimp only
  rw [e]

theorem dx_C (c : Dev nD) (t : Fin cfg0.N) (h0 : ¬t.val % 32 = 0) (h1 : t.val % 32 = 31) (r : Fin 256) (l : Fin 2048) :
    (outsAt0 m c t.val t.isLt).1 (ix2 r l) = dx (data m c) (rowAt (blockOf t) r) l := by
  have e := out_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (outsAt0 m c (t.val - 1) (Nat.lt_of_le_of_lt (Nat.sub_le _ _) t.isLt)).2.2.2.2.2.2 (fun h => h0 ((hcond0_0 t).mp h)) ((hcond0_1 t).mpr h1) (holds m c t) r l
  rw [outsAt0_C m c t h0 h1]
  dsimp only
  rw [e]

theorem dbr_C (c : Dev nD) (t : Fin cfg0.N) (h0 : ¬t.val % 32 = 0) (h1 : t.val % 32 = 31) (r : Fin 256) (l : Fin 2048) :
    (outsAt0 m c t.val t.isLt).2.1 (ix2 r l) = dx (data m c) (rowAt (blockOf t) r) l * (data m c).g l := by
  have e := out_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (outsAt0 m c (t.val - 1) (Nat.lt_of_le_of_lt (Nat.sub_le _ _) t.isLt)).2.2.2.2.2.2 (fun h => h0 ((hcond0_0 t).mp h)) ((hcond0_1 t).mpr h1) (holds m c t) r l
  rw [outsAt0_C m c t h0 h1]
  dsimp only
  rw [e]

theorem acc_C (c : Dev nD) (t : Fin cfg0.N) (h0 : ¬t.val % 32 = 0) (h1 : t.val % 32 = 31) (j : Fin 3) (s : Fin 8) (l : Fin 2048) :
    (outsAt0 m c t.val t.isLt).2.2.2.2.2.2 (ix3 j s l) = (outsAt0 m c (t.val - 1) (Nat.lt_of_le_of_lt (Nat.sub_le _ _) t.isLt)).2.2.2.2.2.2 (ix3 j s l) + part (data m c) (blockOf t) j s l := by
  have e := sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (outsAt0 m c (t.val - 1) (Nat.lt_of_le_of_lt (Nat.sub_le _ _) t.isLt)).2.2.2.2.2.2 (fun h => h0 ((hcond0_0 t).mp h)) ((hcond0_1 t).mpr h1) (holds m c t) j s l
  rw [outsAt0_C m c t h0 h1]
  dsimp only
  rw [e]

theorem sum_C_9 (c : Dev nD) (t : Fin cfg0.N) (h0 : ¬t.val % 32 = 0) (h1 : t.val % 32 = 31) (l : Fin 2048) :
    (outsAt0 m c t.val t.isLt).2.2.1 (ix2 0 l) = (∑ s : Fin 8, ((outsAt0 m c (t.val - 1) (Nat.lt_of_le_of_lt (Nat.sub_le _ _) t.isLt)).2.2.2.2.2.2 (ix3 0 s l) + part (data m c) (blockOf t) 0 s l)) := by
  have e := out_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (outsAt0 m c (t.val - 1) (Nat.lt_of_le_of_lt (Nat.sub_le _ _) t.isLt)).2.2.2.2.2.2 (fun h => h0 ((hcond0_0 t).mp h)) ((hcond0_1 t).mpr h1) (holds m c t) l
  rw [outsAt0_C m c t h0 h1]
  dsimp only
  rw [e]

theorem sum_C_10 (c : Dev nD) (t : Fin cfg0.N) (h0 : ¬t.val % 32 = 0) (h1 : t.val % 32 = 31) (l : Fin 2048) :
    (outsAt0 m c t.val t.isLt).2.2.2.1 (ix2 0 l) = Product.mul (∑ s : Fin 8, ((outsAt0 m c (t.val - 1) (Nat.lt_of_le_of_lt (Nat.sub_le _ _) t.isLt)).2.2.2.2.2.2 (ix3 1 s l) + part (data m c) (blockOf t) 1 s l)) ((data m c).w l) := by
  have e := out_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (outsAt0 m c (t.val - 1) (Nat.lt_of_le_of_lt (Nat.sub_le _ _) t.isLt)).2.2.2.2.2.2 (fun h => h0 ((hcond0_0 t).mp h)) ((hcond0_1 t).mpr h1) (holds m c t) l
  rw [outsAt0_C m c t h0 h1]
  dsimp only
  rw [e]

theorem sum_C_11 (c : Dev nD) (t : Fin cfg0.N) (h0 : ¬t.val % 32 = 0) (h1 : t.val % 32 = 31) (l : Fin 2048) :
    (outsAt0 m c t.val t.isLt).2.2.2.2.1 (ix2 0 l) = Product.mul (∑ s : Fin 8, ((outsAt0 m c (t.val - 1) (Nat.lt_of_le_of_lt (Nat.sub_le _ _) t.isLt)).2.2.2.2.2.2 (ix3 1 s l) + part (data m c) (blockOf t) 1 s l)) ((1 : EReal) + (data m c).sc l) := by
  have e := out_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (outsAt0 m c (t.val - 1) (Nat.lt_of_le_of_lt (Nat.sub_le _ _) t.isLt)).2.2.2.2.2.2 (fun h => h0 ((hcond0_0 t).mp h)) ((hcond0_1 t).mpr h1) (holds m c t) l
  rw [outsAt0_C m c t h0 h1]
  dsimp only
  rw [e]

theorem sum_C_12 (c : Dev nD) (t : Fin cfg0.N) (h0 : ¬t.val % 32 = 0) (h1 : t.val % 32 = 31) (l : Fin 2048) :
    (outsAt0 m c t.val t.isLt).2.2.2.2.2.1 (ix2 0 l) = (∑ s : Fin 8, ((outsAt0 m c (t.val - 1) (Nat.lt_of_le_of_lt (Nat.sub_le _ _) t.isLt)).2.2.2.2.2.2 (ix3 2 s l) + part (data m c) (blockOf t) 2 s l)) := by
  have e := out_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (outsAt0 m c (t.val - 1) (Nat.lt_of_le_of_lt (Nat.sub_le _ _) t.isLt)).2.2.2.2.2.2 (fun h => h0 ((hcond0_0 t).mp h)) ((hcond0_1 t).mpr h1) (holds m c t) l
  rw [outsAt0_C m c t h0 h1]
  dsimp only
  rw [e]

/-- The two blocks of rows after point `t`. -/
theorem dx_at (c : Dev nD) (t : Fin cfg0.N) (r : Fin 256) (l : Fin 2048) :
    (outsAt0 m c t.val t.isLt).1 (ix2 r l) = dx (data m c) (rowAt (blockOf t) r) l := by
  by_cases h0 : t.val % 32 = 0
  · exact dx_A m c t h0 (by omega) r l
  · by_cases h1 : t.val % 32 = 31
    · exact dx_C m c t h0 h1 r l
    · exact dx_B m c t h0 h1 r l

theorem dbr_at (c : Dev nD) (t : Fin cfg0.N) (r : Fin 256) (l : Fin 2048) :
    (outsAt0 m c t.val t.isLt).2.1 (ix2 r l) = dx (data m c) (rowAt (blockOf t) r) l * (data m c).g l := by
  by_cases h0 : t.val % 32 = 0
  · exact dbr_A m c t h0 (by omega) r l
  · by_cases h1 : t.val % 32 = 31
    · exact dbr_C m c t h0 h1 r l
    · exact dbr_B m c t h0 h1 r l

theorem part0_at (d : Data) (t : Fin cfg0.N) (j : Fin 3) (s : Fin 8) (l : Fin 2048) :
    part0 d t.val j s l = part d (blockOf t) j s l := dif_pos _

/-- The scratch after point `t`: the sum of the parts of the points so far. -/
theorem acc (c : Dev nD) (t : Fin cfg0.N) (y : S3x8x2048.Idx) :
    ((outsAt0 m c t.val t.isLt).2.2.2.2.2.2 : Vec Ideal S3x8x2048 .f32) y
      = ∑ k ∈ Finset.range (t.val + 1), part0 (data m c) k (y 0) (y 1) (y 2) := by
  refine (Pipeline.eq_sum_of_reset_step_apply_single (M := EReal) (ι := S3x8x2048.Idx) (N := cfg0.N)
    (fun n h => ((outsAt0 m c n h).2.2.2.2.2.2 : Vec Ideal S3x8x2048 .f32)) 32 (fun _ => 0)
    (fun k y => part0 (data m c) k (y 0) (y 1) (y 2)) (fun t h0 y => ?_) (fun t h0 y => ?_) (le_of_eq N_0) t y).trans (zero_add _)
  · idx_vars y
    exact ((acc_A m c t h0 (by omega) y0 y1 y2).trans (part0_at _ t _ _ _).symm).trans (zero_add _).symm
  · idx_vars y
    by_cases h1 : t.val % 32 = 31
    · exact (acc_C m c t h0 h1 y0 y1 y2).trans (congrArg _ (part0_at _ t _ _ _).symm)
    · exact (acc_B m c t h0 h1 y0 y1 y2).trans (congrArg _ (part0_at _ t _ _ _).symm)

/-- The last grid point. -/
def tLast : Fin cfg0.N := ⟨31, lt_of_lt_of_eq (by decide : 31 < 32) N_0.symm⟩

/-- The running sums of the eight sublanes at the last point are the sums over all rows. -/
theorem whole (c : Dev nD) (t : Fin cfg0.N) (ht : t.val = 31) (j : Fin 3) (l : Fin 2048) :
    (∑ s : Fin 8, ((outsAt0 m c (t.val - 1) (Nat.lt_of_le_of_lt (Nat.sub_le _ _) t.isLt)).2.2.2.2.2.2 (ix3 j s l) + part (data m c) (blockOf t) j s l)) = total (data m c) j l := by
  refine Eq.trans ?_ (sum_parts (data m c) j l)
  refine Finset.sum_congr rfl fun s _ => ?_
  rw [Finset.sum_range_succ]
  refine congrArg₂ (· + ·) ?_ ((part0_at _ t j s l).symm.trans (by rw [ht]))
  exact (acc m c ⟨t.val - 1, Nat.lt_of_le_of_lt (Nat.sub_le _ _) t.isLt⟩ (ix3 j s l)).trans
    (Finset.sum_congr (by rw [show t.val - 1 + 1 = 31 by omega]) fun _ _ => rfl)

/-- The six results, whole. -/
def dxOf (d : Data) : Vec Ideal S8192x2048 .f32 := fun i => dx d (i 0) (i 1)
def dbrOf (d : Data) : Vec Ideal S8192x2048 .bf16 := fun i => dx d (i 0) (i 1) * d.g (i 1)
def dshOf (d : Data) : Vec Ideal S1x2048 .f32 := fun i => total d 0 (i 1)
def dscOf (d : Data) : Vec Ideal S1x2048 .f32 := fun i => Product.mul (total d 1 (i 1)) (d.w (i 1))
def dwOf (d : Data) : Vec Ideal S1x2048 .f32 := fun i => Product.mul (total d 1 (i 1)) ((1 : EReal) + d.sc (i 1))
def dgOf (d : Data) : Vec Ideal S1x2048 .f32 := fun i => total d 2 (i 1)

theorem dxOf_apply (d : Data) (i : S8192x2048.Idx) (r : Fin 8192) (l : Fin 2048) (hr : i 0 = r) (hl : i 1 = l) : dxOf d i = dx d r l := by
  subst hr hl
  rfl

theorem dbrOf_apply (d : Data) (i : S8192x2048.Idx) (r : Fin 8192) (l : Fin 2048) (hr : i 0 = r) (hl : i 1 = l) :
    dbrOf d i = dx d r l * d.g l := by
  subst hr hl
  rfl

theorem dscOf_apply (d : Data) (i : S1x2048.Idx) (l : Fin 2048) (hl : i 1 = l) : dscOf d i = Product.mul (total d 1 l) (d.w l) := by
  subst hl
  rfl

theorem dwOf_apply (d : Data) (i : S1x2048.Idx) (l : Fin 2048) (hl : i 1 = l) :
    dwOf d i = Product.mul (total d 1 l) ((1 : EReal) + d.sc l) := by
  subst hl
  rfl

theorem final_dx (c : Dev nD) : (dats m 0 c).arrAt 7 cfg0.N = dxOf (data m c) := by
  refine (dats m 0 c).arrAt_eq_of_covers 7 _ (by decide +kernel) fun t hf y => ?_
  blk_simp
  rw [after0_7]
  idx_vars y
  refine (dx_at m c t y0 y1).trans ?_
  refine (dxOf_apply _ _ _ _ ?_ ?_).symm
  all_goals refine Fin.ext ?_
  all_goals blk_simp [(idx t).2.2.2.2.2.2.2.1]
  · exact (congrArg (· + y0.val) (Nat.mul_comm _ _))

theorem final_dbr (c : Dev nD) : (dats m 0 c).arrAt 8 cfg0.N = dbrOf (data m c) := by
  refine (dats m 0 c).arrAt_eq_of_covers 8 _ (by decide +kernel) fun t hf y => ?_
  blk_simp
  rw [after0_8]
  idx_vars y
  refine (dbr_at m c t y0 y1).trans ?_
  refine (dbrOf_apply _ _ _ _ ?_ ?_).symm
  all_goals refine Fin.ext ?_
  all_goals blk_simp [(idx t).2.2.2.2.2.2.2.2.1]
  · exact (congrArg (· + y0.val) (Nat.mul_comm _ _))

theorem final_dsh (c : Dev nD) : (dats m 0 c).arrAt 9 cfg0.N = dshOf (data m c) := by
  refine (dats m 0 c).arrAt_eq_of_after_last 9 tLast (by decide +kernel) _ fun j => ?_
  blk_simp
  rw [after0_9]
  idx_vars j
  obtain rfl := Subsingleton.elim j0 0
  exact (sum_C_9 m c tLast (by decide) (by decide) j1).trans (whole m c tLast rfl 0 j1)

theorem final_dsc (c : Dev nD) : (dats m 0 c).arrAt 10 cfg0.N = dscOf (data m c) := by
  refine (dats m 0 c).arrAt_eq_of_after_last 10 tLast (by decide +kernel) _ fun j => ?_
  blk_simp
  rw [after0_10]
  idx_vars j
  obtain rfl := Subsingleton.elim j0 0
  refine (sum_C_10 m c tLast (by decide) (by decide) j1).trans ?_
  rw [whole m c tLast rfl 1 j1]
  exact (dscOf_apply _ _ j1 rfl).symm

theorem final_dw (c : Dev nD) : (dats m 0 c).arrAt 11 cfg0.N = dwOf (data m c) := by
  refine (dats m 0 c).arrAt_eq_of_after_last 11 tLast (by decide +kernel) _ fun j => ?_
  blk_simp
  rw [after0_11]
  idx_vars j
  obtain rfl := Subsingleton.elim j0 0
  refine (sum_C_11 m c tLast (by decide) (by decide) j1).trans ?_
  rw [whole m c tLast rfl 1 j1]
  exact (dwOf_apply _ _ j1 rfl).symm

theorem final_dg (c : Dev nD) : (dats m 0 c).arrAt 12 cfg0.N = dgOf (data m c) := by
  refine (dats m 0 c).arrAt_eq_of_after_last 12 tLast (by decide +kernel) _ fun j => ?_
  blk_simp
  rw [after0_12]
  idx_vars j
  obtain rfl := Subsingleton.elim j0 0
  exact (sum_C_12 m c tLast (by decide) (by decide) j1).trans (whole m c tLast rfl 2 j1)

/-- What a run of the kernel leaves: the six gradients, and its arguments as they were. -/
theorem run : θ_run defs (onTc (τ := τ) (main (F := Ideal))) ⟨m, fun _ => 0, ρ⟩ fun r => ∀ c : Dev nD,
      r.2.mem ((c.tc : Thread nD τ).loc main_v0_0) = dxOf (data m c)
      ∧ r.2.mem ((c.tc : Thread nD τ).loc main_v0_1) = dbrOf (data m c)
      ∧ r.2.mem ((c.tc : Thread nD τ).loc main_v0_2) = dshOf (data m c)
      ∧ r.2.mem ((c.tc : Thread nD τ).loc main_v0_3) = dscOf (data m c)
      ∧ r.2.mem ((c.tc : Thread nD τ).loc main_v0_4) = dwOf (data m c)
      ∧ r.2.mem ((c.tc : Thread nD τ).loc main_v0_5) = dgOf (data m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (final_dx m c), (h c).2.1.trans (final_dbr m c), (h c).2.2.1.trans (final_dsh m c),
    (h c).2.2.2.1.trans (final_dsc m c), (h c).2.2.2.2.1.trans (final_dw m c), (h c).2.2.2.2.2.1.trans (final_dg m c),
    (h c).2.2.2.2.2.2⟩) (Value.run_blocks m ρ)

end Cert.NormBackKernel

end
-- ==== Proof.NormBack.Algebra.lean ====
/- The two forms of a row's gradient through the norm agree where the gradient of its output, the weight and the scale are real. -/
module

public import proofs.«01_k».proof.Proof.NormBack.Spec
public import proofs.«01_k».proof.Proof.Gate.Algebra

@[expose] public section

noncomputable section

open Idealize.ShloMosaic

namespace Cert.NormBackAlgebra

open Cert.Norm Cert.NormBackSpec Cert.GateAlgebra

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem one_add (a : ℝ) : (1 : EReal) + (a : EReal) = ((1 + a : ℝ) : EReal) := by
  rw [EReal.coe_add, EReal.coe_one]

/-- The offset, and the factor a reciprocal root's derivative has. -/
def eps : ℝ := 8796093 / 8796093022208

theorem ofBits_eps : Ideal.ofBits .f32 0x358637BD#32 = (eps : EReal) := by
  unfold eps
  simp [Ideal.ofBits, Ideal.ieee, -EReal.coe_mul]
  norm_num

theorem ofBits_half : Ideal.ofBits .f32 0xBF000000#32 = ((-1 / 2 : ℝ) : EReal) := by
  simp [Ideal.ofBits, Ideal.ieee, -EReal.coe_mul]
  norm_num

theorem sq_nonneg' (x : EReal) : 0 ≤ x * x := by
  induction x with
  | bot => simp
  | top => simp
  | coe a => rw [← EReal.coe_mul]; exact_mod_cast mul_self_nonneg a

/-- The mean square of a real row, and the row's reciprocal root. -/
def msR (a : Fin 2048 → ℝ) : ℝ := (∑ l, a l * a l) / 2048 + eps

theorem msR_pos (a : Fin 2048 → ℝ) : 0 < msR a := by
  unfold msR eps
  have : 0 ≤ ∑ l, a l * a l := Finset.sum_nonneg fun l _ => mul_self_nonneg _
  positivity

theorem ms_coe (a : Fin 2048 → ℝ) : ms (fun l => (a l : EReal)) = (msR a : EReal) := by
  unfold ms msR
  rw [Finset.sum_congr rfl fun l _ => (EReal.coe_mul (a l) (a l)).symm, ← coe_sum, ofBits_2048, div_coe _ _ (by norm_num), ofBits_eps,
    ← EReal.coe_add]

theorem rinv_coe (a : Fin 2048 → ℝ) : rinv (fun l => (a l : EReal)) = (((Real.sqrt (msR a))⁻¹ : ℝ) : EReal) := by
  have h := msR_pos a
  unfold rinv
  rw [ms_coe]
  exact (if_neg (not_lt.mpr h.le)).trans (if_neg h.ne')

/-- A row with an infinite entry has an infinite mean square, so a zero reciprocal root. -/
theorem ms_top {x : Fin 2048 → EReal} (h : ¬∀ l, IsReal (x l)) : ms x = ⊤ := by
  obtain ⟨l, hl⟩ := not_forall.mp h
  have hs : x l * x l = ⊤ := by
    cases hx : x l with
    | bot => simp
    | top => simp
    | coe a => exact absurd ⟨a, hx⟩ hl
  have hsum : ∑ l, x l * x l = ⊤ :=
    top_le_iff.mp (hs ▸ Finset.single_le_sum (f := fun l => x l * x l) (fun i _ => sq_nonneg' (x i)) (Finset.mem_univ l))
  unfold ms
  rw [hsum, ofBits_2048, ofBits_eps]
  unfold Ideal.div
  rw [if_neg (by norm_num), ← EReal.coe_inv, EReal.top_mul_coe_of_pos (by norm_num), EReal.top_add_coe]

theorem rinv_top {x : Fin 2048 → EReal} (h : ¬∀ l, IsReal (x l)) : rinv x = 0 := by
  unfold rinv
  rw [ms_top h]
  rfl

/-- A normalised entry is always real. -/
theorem normed_real (x : Fin 2048 → EReal) (l : Fin 2048) : IsReal (x l * rinv x) := by
  by_cases h : ∀ l, IsReal (x l)
  · choose a ha using h
    obtain rfl : x = fun l => (a l : EReal) := funext ha
    rw [rinv_coe]
    exact ⟨_, (EReal.coe_mul _ _).symm⟩
  · rw [rinv_top h, mul_zero]
    exact ⟨0, rfl⟩

/-- The mean square's share of a row's gradient, as differentiating the mean square gives it. -/
def shareRef (x dh w sc : Fin 2048 → EReal) : EReal :=
  Ideal.div ((∑ l, x l * (dh l * (1 + sc l) * w l)) * (Ideal.ofBits .f32 0xBF000000#32 * Ideal.div (rinv x) (ms x)))
    (Ideal.ofBits .f32 0x45000000#32)

/-- The gradient a row receives through the norm, in the form differentiating the forward lines gives it. -/
def dnRef (x dh w sc : Fin 2048 → EReal) (l : Fin 2048) : EReal :=
  dh l * (1 + sc l) * w l * rinv x + x l * shareRef x dh w sc + shareRef x dh w sc * x l

theorem dn_eq (x dh w sc : Fin 2048 → EReal) (hd : ∀ l, IsReal (dh l)) (hw : ∀ l, IsReal (w l)) (hs : ∀ l, IsReal (sc l)) (l : Fin 2048) :
    dn x dh w sc l = dnRef x dh w sc l := by
  by_cases h : ∀ l, IsReal (x l)
  · choose a ha using h
    choose b hb using hd
    choose u hu using hw
    choose v hv using hs
    obtain rfl : x = fun l => (a l : EReal) := funext ha
    obtain rfl : dh = fun l => (b l : EReal) := funext hb
    obtain rfl : w = fun l => (u l : EReal) := funext hu
    obtain rfl : sc = fun l => (v l : EReal) := funext hv
    have hp := msR_pos a
    have hr : (Real.sqrt (msR a))⁻¹ * (Real.sqrt (msR a))⁻¹ = 1 / msR a := by
      rw [← mul_inv, Real.mul_self_sqrt hp.le, one_div]
    have e1 : ∑ l, (b l : EReal) * ((u l : EReal) * (1 + (v l : EReal))) * (a l : EReal)
        = ((∑ l, b l * (u l * (1 + v l)) * a l : ℝ) : EReal) := by
      rw [coe_sum]
      refine Finset.sum_congr rfl fun l _ => ?_
      simp only [one_add, ← EReal.coe_mul]
    have e2 : ∑ l, (a l : EReal) * ((b l : EReal) * (1 + (v l : EReal)) * (u l : EReal))
        = ((∑ l, b l * (u l * (1 + v l)) * a l : ℝ) : EReal) := by
      rw [coe_sum]
      refine Finset.sum_congr rfl fun l _ => ?_
      have : b l * (u l * (1 + v l)) * a l = a l * (b l * (1 + v l) * u l) := by ring
      rw [this]
      simp only [one_add, ← EReal.coe_mul]
    unfold dn dnRef m2 shareRef
    dsimp only
    rw [e1, e2, rinv_coe, ms_coe, ofBits_inv2048, ofBits_2048, ofBits_half]
    generalize (Real.sqrt (msR a))⁻¹ = r at hr ⊢
    generalize msR a = t at hp hr ⊢
    generalize (∑ l, b l * (u l * (1 + v l)) * a l : ℝ) = S
    simp only [one_add, div_coe _ _ hp.ne', div_coe _ (2048 : ℝ) (by norm_num), ← EReal.coe_mul, ← EReal.coe_add, ← EReal.coe_sub]
    have hr' : r / t = r * (r * r) := by rw [hr]; ring
    rw [hr']
    exact congrArg _ (by ring)
  · have hr := rinv_top h
    have hz : shareRef x dh w sc = 0 := by
      unfold shareRef
      rw [hr, ms_top h, ofBits_2048]
      unfold Ideal.div
      simp
    unfold dn dnRef
    rw [hr, hz]
    simp

/-- A real factor goes into a sum of reals. -/
theorem sum_mul_real {ι : Type} [Fintype ι] (f : ι → EReal) (hf : ∀ i, IsReal (f i)) {w : EReal} (hw : IsReal w) :
    (∑ i, f i) * w = ∑ i, f i * w := by
  choose a ha using hf
  obtain ⟨b, rfl⟩ := hw
  obtain rfl : f = fun i => (a i : EReal) := funext ha
  rw [← coe_sum, ← EReal.coe_mul, Finset.sum_mul, coe_sum]
  exact Finset.sum_congr rfl fun i _ => EReal.coe_mul _ _

theorem one_add_real {x : EReal} (h : IsReal x) : IsReal (1 + x) := by
  obtain ⟨a, rfl⟩ := h
  exact ⟨1 + a, one_add a⟩

end Cert.NormBackAlgebra

end
-- ==== Proof.NormBack.Claims.lean ====
/- The claims about the gradient of the adaLN norm with the gate of the branch before it. -/
module

public import proofs.«01_k».proof.Defs
public import proofs.«01_k».proof.Proof.NormBack.Kernel
public import proofs.«01_k».proof.Proof.NormBack.Algebra
public import proofs.«01_k».proof.Proof.Gen.NormBack.Frame
public import proofs.«01_k».proof.Proof.Gen.NormBackRefIdeal.Run

@[expose] public section

set_option maxRecDepth 16384

noncomputable section

open Idealize.ShloMosaic Idealize.ShloMosaic.TcCoe Idealize.SL.Sem

namespace Cert.NormBackClaims

open Cert.NormBackSpec Cert.NormBackAlgebra Cert.GateAlgebra Cert.Norm Cert.NormBackKernel

/-- What the precondition's own text asks of shapes and formats. -/
instance preFacts : Cert.Pre_norm_finite.Facts where
  bitsLt_bf16_f32 := by decide
  bcast_S_S8192x2048 := by decide
  bcast_S_S1x2048 := by decide

theorem frame_kernel : Cert.quiescent_NormBack := fun m ρ _ => Cert.NormBack.Gen.frame m ρ

theorem frame_ideal : Cert.quiescent_NormBackIdeal := fun m ρ _ => Cert.NormBackIdeal.Gen.frame m ρ

theorem frame_ref : Cert.quiescent_NormBackRefIdeal := fun m ρ _ =>
  (θ_run Cert.NormBackRefIdeal.defs _ _).mono
    (fun r h => ⟨fun c => (h c).2.2.2.2.2.2, sem_eq_zero_of_no_sems (by decide) r.2⟩)
    (Cert.NormBackRefIdeal.Value.run (F := Ideal) m ρ)

theorem frame_ideal_pre : Cert.quiescent_NormBackIdeal_pre_norm_finite := fun m ρ _ => frame_ideal m ρ trivial

theorem frame_ref_pre : Cert.quiescent_NormBackRefIdeal_pre_norm_finite := fun m ρ _ => frame_ref m ρ trivial

/-- Where the gradient of the norm's output, the weight and the scale are real. -/
structure Finite (d : Data) : Prop where
  dh : ∀ r l, IsReal (d.dh r l)
  w : ∀ l, IsReal (d.w l)
  sc : ∀ l, IsReal (d.sc l)

theorem finite (m : (ℓ : Loc Cert.NormBackIdeal.nD Cert.NormBackIdeal.τ Cert.NormBackIdeal.sig) → Buf (Elt Ideal) ℓ)
    (h : Cert.Pre_NormBackIdeal_norm_finite m) (c : Dev Cert.NormBackIdeal.nD) : Finite (data m c) := by
  obtain ⟨hd, hw, hs⟩ := h c
  exact ⟨fun r l => fin_of_abs (congrFun hd (ix2 r l)), fun l => fin_of_abs (congrFun hw (ix2 0 l)), fun l => fin_of_abs (congrFun hs (ix2 0 l))⟩

variable {d : Data}

theorem dx_ref (h : Finite d) (r : Fin 8192) (l : Fin 2048) :
    dx d r l = d.dres r l + dnRef (d.x r) (d.dh r) d.w d.sc l :=
  congrArg _ (dn_eq _ _ _ _ (h.dh r) h.w h.sc l)

/-- The weight and the scale taken into the sum over the rows. -/
theorem dsc_ref (h : Finite d) (l : Fin 2048) :
    Product.mul (total d 1 l) (d.w l) = ∑ r, d.x r l * rinv (d.x r) * d.w l * d.dh r l := by
  refine (sum_mul_real (fun r => d.dh r l * (d.x r l * rinv (d.x r))) (fun r => (h.dh r l).mul (normed_real _ _)) (h.w l)).trans ?_
  refine Finset.sum_congr rfl fun r _ => ?_
  ac_rfl

theorem dw_ref (h : Finite d) (l : Fin 2048) :
    Product.mul (total d 1 l) ((1 : EReal) + d.sc l) = ∑ r, d.x r l * rinv (d.x r) * (d.dh r l * (1 + d.sc l)) := by
  refine (sum_mul_real (fun r => d.dh r l * (d.x r l * rinv (d.x r))) (fun r => (h.dh r l).mul (normed_real _ _))
    (one_add_real (h.sc l))).trans ?_
  refine Finset.sum_congr rfl fun r _ => ?_
  ac_rfl

section Reference

variable (m : (ℓ : Loc Cert.NormBackIdeal.nD Cert.NormBackIdeal.τ Cert.NormBackIdeal.sig) → Buf (Elt Ideal) ℓ)
  (m' : (ℓ : Loc Cert.NormBackRefIdeal.nD Cert.NormBackRefIdeal.τ Cert.NormBackRefIdeal.sig) → Buf (Elt Ideal) ℓ)
  (c : Dev Cert.NormBackIdeal.nD)

/-- The two programs hold the same arguments. -/
structure Same : Prop where
  x : m' ((c.tc : Thread Cert.NormBackRefIdeal.nD Cert.NormBackRefIdeal.τ).loc Cert.NormBackRefIdeal.main_arg0)
    = m ((c.tc : Thread Cert.NormBackIdeal.nD Cert.NormBackIdeal.τ).loc Cert.NormBackIdeal.main_arg0)
  dh : m' ((c.tc : Thread Cert.NormBackRefIdeal.nD Cert.NormBackRefIdeal.τ).loc Cert.NormBackRefIdeal.main_arg1)
    = m ((c.tc : Thread Cert.NormBackIdeal.nD Cert.NormBackIdeal.τ).loc Cert.NormBackIdeal.main_arg1)
  w : m' ((c.tc : Thread Cert.NormBackRefIdeal.nD Cert.NormBackRefIdeal.τ).loc Cert.NormBackRefIdeal.main_arg2)
    = m ((c.tc : Thread Cert.NormBackIdeal.nD Cert.NormBackIdeal.τ).loc Cert.NormBackIdeal.main_arg2)
  sc : m' ((c.tc : Thread Cert.NormBackRefIdeal.nD Cert.NormBackRefIdeal.τ).loc Cert.NormBackRefIdeal.main_arg3)
    = m ((c.tc : Thread Cert.NormBackIdeal.nD Cert.NormBackIdeal.τ).loc Cert.NormBackIdeal.main_arg3)
  dres : m' ((c.tc : Thread Cert.NormBackRefIdeal.nD Cert.NormBackRefIdeal.τ).loc Cert.NormBackRefIdeal.main_arg4)
    = m ((c.tc : Thread Cert.NormBackIdeal.nD Cert.NormBackIdeal.τ).loc Cert.NormBackIdeal.main_arg4)
  br : m' ((c.tc : Thread Cert.NormBackRefIdeal.nD Cert.NormBackRefIdeal.τ).loc Cert.NormBackRefIdeal.main_arg5)
    = m ((c.tc : Thread Cert.NormBackIdeal.nD Cert.NormBackIdeal.τ).loc Cert.NormBackIdeal.main_arg5)
  g : m' ((c.tc : Thread Cert.NormBackRefIdeal.nD Cert.NormBackRefIdeal.τ).loc Cert.NormBackRefIdeal.main_arg6)
    = m ((c.tc : Thread Cert.NormBackIdeal.nD Cert.NormBackIdeal.τ).loc Cert.NormBackIdeal.main_arg6)

variable {m m' c}

/-- The reference's gradient of the stream, entry by entry. -/
theorem ref_dx (s : Same m m' c) (r : Fin 8192) (l : Fin 2048) :
    (Cert.NormBackRefIdeal.Value.res_main_v50 m' c : Vec Ideal Cert.NormBackRefIdeal.S8192x2048 .f32) (ix2 r l)
      = (data m c).dres r l + dnRef ((data m c).x r) ((data m c).dh r) (data m c).w (data m c).sc l := by
  unfold Cert.NormBackRefIdeal.Value.res_main_v50
  rw [s.x, s.dh, s.w, s.sc, s.dres]
  pointwise [dnRef, shareRef, rinv, ms, data]
  rw [Fin.sum_univ_one]

theorem ref_dbr (h : Finite (data m c)) (s : Same m m' c) (r : Fin 8192) (l : Fin 2048) :
    (Cert.NormBackRefIdeal.Value.res_main_v59 m' c : Vec Ideal Cert.NormBackRefIdeal.S8192x2048 .bf16) (ix2 r l)
      = dx (data m c) r l * (data m c).g l := by
  rw [dx_ref h]
  unfold Cert.NormBackRefIdeal.Value.res_main_v59
  rw [s.x, s.dh, s.w, s.sc, s.dres, s.g]
  pointwise [dnRef, shareRef, rinv, ms, data]
  rw [Fin.sum_univ_one]
  exact mul_comm (G := EReal) _ _

theorem ref_dg (h : Finite (data m c)) (s : Same m m' c) (l : Fin 2048) :
    (Cert.NormBackRefIdeal.Value.res_main_v58 m' c : Vec Ideal Cert.NormBackRefIdeal.S1x2048 .f32) (ix2 0 l)
      = total (data m c) 2 l := by
  unfold total term
  simp only [dx_ref h]
  unfold Cert.NormBackRefIdeal.Value.res_main_v58
  rw [s.x, s.dh, s.w, s.sc, s.dres, s.br]
  pointwise [dnRef, shareRef, rinv, ms, data]
  simp only [Fin.sum_univ_one]

end Reference

/-- On the same arguments, with the gradient of the norm's output, the weight and the scale finite, the two programs end with the same six gradients. -/
theorem algebraic : Cert.algebraic_NormBackIdeal_NormBackRefIdeal_pre_norm_finite := by
  intro m ρ m' ρ' hpre hag
  refine ⟨fun c => dxOf (data m c), fun c => dbrOf (data m c), fun c => dshOf (data m c), fun c => dscOf (data m c),
    fun c => dwOf (data m c), fun c => dgOf (data m c),
    run m ρ, (θ_run Cert.NormBackRefIdeal.defs _ _).mono
      (fun _ h c => ⟨(h c).1.trans ?_, (h c).2.1.trans ?_, (h c).2.2.1.trans ?_, (h c).2.2.2.1.trans ?_, (h c).2.2.2.2.1.trans ?_,
        (h c).2.2.2.2.2.1.trans ?_, (h c).2.2.2.2.2.2⟩)
      (Cert.NormBackRefIdeal.Value.run (F := Ideal) m' ρ')⟩
  all_goals clear h
  all_goals
    obtain ⟨a0, a1, a2, a3, a4, a5, a6⟩ := hag c
    have same : Same m m' c := ⟨a0, a1, a2, a3, a4, a5, a6⟩
    have hf := finite m hpre c
  · funext i
    idx_vars i
    exact (ref_dx same i0 i1).trans (dx_ref hf i0 i1).symm
  · funext i
    idx_vars i
    exact ref_dbr hf same i0 i1
  · rw [a1]
    funext i
    idx_vars i
    obtain rfl := Subsingleton.elim i0 0
    pointwise []
    rfl
  · rw [a0, a1, a2]
    funext i
    idx_vars i
    obtain rfl := Subsingleton.elim i0 0
    refine Eq.trans ?_ (dsc_ref hf i1).symm
    pointwise []
    rfl
  · rw [a0, a1, a3]
    funext i
    idx_vars i
    obtain rfl := Subsingleton.elim i0 0
    refine Eq.trans ?_ (dw_ref hf i1).symm
    pointwise []
    rfl
  · funext i
    idx_vars i
    obtain rfl := Subsingleton.elim i0 0
    exact ref_dg hf same i1

end Cert.NormBackClaims

end
-- ==== Proof.NormIn.Kernel.lean ====
/- What the kernel for the norm before the mixer leaves in its result array. -/
module

public import proofs.«01_k».proof.Proof.Gen.NormInIdeal.Frame
public import proofs.«01_k».proof.Proof.Gen.NormInIdeal.Value
public import proofs.«01_k».proof.Proof.Norm.Rows

@[expose] public section

set_option maxRecDepth 16384

noncomputable section

open Idealize.ShloMosaic Idealize.ShloMosaic.TcCoe Idealize.SL.Sem
open Idealize.ShloMosaic.Pipeline (Dat)

namespace Cert.NormInKernel

open Cert.NormInIdeal Cert.NormInIdeal.Gen Cert.Norm

variable (m : (ℓ : Loc nD τ sig) → Buf (Elt Ideal) ℓ) (ρ : Dev nD → PrngReg)

/-- An element times its row's reciprocal root, the weight and the modulation's scale, plus its shift. -/
def normed (x r w sc sh : EReal) : EReal := x * r * w * (1 + sc) + sh

theorem normed_congr {x r w sc sh x' r' w' sc' sh' : EReal} (hx : x = x') (hr : r = r') (hw : w = w') (hc : sc = sc') (hh : sh = sh') :
    normed x r w sc sh = normed x' r' w' sc' sh' := by rw [hx, hr, hw, hc, hh]

theorem pay3_apply {x : Vec Ideal S512x2048 .f32} {v0 v1 v2 v3 : Vec Ideal S512x512 .f32} (h0 : Quarter 0 x v0) (h1 : Quarter 1 x v1)
    (h2 : Quarter 2 x v2) (h3 : Quarter 3 x v3) (r : Fin 512) :
    k0_pay3 (F := Ideal) v0 v1 v2 v3 (ix2 r 0) = rinv fun l => x (ix2 r l) := by
  pointwise [k0_pay3]
  unfold rinv ms
  rw [mul_inv2048, ← sum_four]
  simp only [h0.eq, h1.eq, h2.eq, h3.eq]

theorem pay2_apply {x : Vec Ideal S512x2048 .f32} {w sc sh : Vec Ideal S1x2048 .f32} {b : Fin 4} {r : Vec Ideal S512x1 .f32}
    {v : Vec Ideal S512x512 .f32} {vw vc vh : Vec Ideal S1x512 .f32} (hx : Quarter b x v) (hw : Quarter b w vw) (hc : Quarter b sc vc)
    (hh : Quarter b sh vh) (i : Fin 512) (k : Fin 512) :
    k0_pay2 (F := Ideal) r v vw vc vh (ix2 i k)
      = normed (x (ix2 i (at4 b k))) (r (ix2 i 0)) (w (ix2 0 (at4 b k))) (sc (ix2 0 (at4 b k))) (sh (ix2 0 (at4 b k))) := by
  rw [← hx.eq, ← hw.eq, ← hc.eq, ← hh.eq]
  pointwise [k0_pay2]
  rfl

/-- The four stores differ only in how their values are split into steps. -/
theorem pay6_eq (r : Vec Ideal S512x1 .f32) (v : Vec Ideal S512x512 .f32) (vw vc vh : Vec Ideal S1x512 .f32) :
    k0_pay6 (F := Ideal) r v vw vc vh = k0_pay2 r v vw vc vh := rfl

theorem pay1_eq (r : Vec Ideal S512x1 .f32) (v : Vec Ideal S512x512 .f32) (vw vc vh : Vec Ideal S1x512 .f32) :
    k0_pay1 (F := Ideal) (k0_pay7 r v vw vc) (k0_pay8 vh) = k0_pay2 r v vw vc vh := rfl

theorem pay5_eq (v0 v1 v2 v3 v : Vec Ideal S512x512 .f32) (vw vc vh : Vec Ideal S1x512 .f32) :
    k0_pay5 (F := Ideal) (k0_pay4 v0 v1 v2 v3 v vw vc) vh = k0_pay2 (k0_pay3 v0 v1 v2 v3) v vw vc vh := rfl

theorem out_apply (x : Vec Ideal S512x2048 .f32) (w sc sh : Vec Ideal S1x2048 .f32) (r : Fin 512) (l : Fin 2048) :
    out0_4 (F := Ideal) x w sc sh (ix2 r l)
      = normed (x (ix2 r l)) (rinv fun l => x (ix2 r l)) (w (ix2 0 l)) (sc (ix2 0 l)) (sh (ix2 0 l)) := by
  have key : ∀ i, k0_pay9 (F := Ideal) x w sc sh (ix2 i 0) = rinv fun l => x (ix2 i l) := fun i =>
    pay3_apply ⟨ld_quarter 0 x _⟩ ⟨ld_quarter 1 x _⟩ ⟨ld_quarter 2 x _⟩ ⟨ld_quarter 3 x _⟩ i
  frame_out
  canon_tiles y hy
  all_goals idx_vars y
  all_goals obtain rfl : r = y0 := Fin.ext hy0
  · obtain rfl : l = at4 3 y1 := Fin.ext hy1
    rw [← key]
    exact pay2_apply ⟨ld_quarter 3 x _⟩ ⟨ld_quarter 3 w _⟩ ⟨ld_quarter 3 sc _⟩ ⟨ld_quarter 3 sh _⟩ r y1
  · obtain rfl : l = at4 2 y1 := Fin.ext hy1
    rw [← key, pay1_eq]
    exact pay2_apply ⟨ld_quarter 2 x _⟩ ⟨ld_quarter 2 w _⟩ ⟨ld_quarter 2 sc _⟩ ⟨ld_quarter 2 sh _⟩ r y1
  · obtain rfl : l = at4 1 y1 := Fin.ext hy1
    rw [← key, pay6_eq]
    exact pay2_apply ⟨ld_quarter 1 x _⟩ ⟨ld_quarter 1 w _⟩ ⟨ld_quarter 1 sc _⟩ ⟨ld_quarter 1 sh _⟩ r y1
  · obtain rfl : l = at4 0 y1 := Fin.ext (hy1.trans (Nat.zero_add _).symm)
    rw [← key, pay5_eq]
    exact pay2_apply ⟨ld_quarter 0 x _⟩ ⟨ld_quarter 0 w _⟩ ⟨ld_quarter 0 sc _⟩ ⟨ld_quarter 0 sh _⟩ r y1

/-- Where each window's block lies. -/
theorem idx (t : Fin cfg0.N) : win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![t.val, 0]) t

/-- The whole normalised stream. -/
def input (x : Vec Ideal S8192x2048 .f32) (w sc sh : Vec Ideal S1x2048 .f32) : Vec Ideal S8192x2048 .bf16 := fun i =>
  normed (x i) (rinv fun l => x (ix2 (i 0) l)) (w (ix2 0 (i 1))) (sc (ix2 0 (i 1))) (sh (ix2 0 (i 1)))

/-- The operands, as the arguments hold them. -/
abbrev argX (c : Dev nD) : Vec Ideal S8192x2048 .f32 := m ((c.tc : Thread nD τ).loc main_arg0)
abbrev argW (c : Dev nD) : Vec Ideal S1x2048 .f32 := m ((c.tc : Thread nD τ).loc main_arg1)
abbrev argS (c : Dev nD) : Vec Ideal S1x2048 .f32 := m ((c.tc : Thread nD τ).loc main_arg2)
abbrev argH (c : Dev nD) : Vec Ideal S1x2048 .f32 := m ((c.tc : Thread nD τ).loc main_arg3)

theorem final_input (c : Dev nD) : (dats m 0 c).arrAt 4 cfg0.N = input (argX m c) (argW m c) (argS m c) (argH m c) := by
  refine (dats m 0 c).arrAt_eq_of_covers 4 _ (by decide +kernel) fun t hf y => ?_
  blk_simp
  rw [after0_4]
  idx_vars y
  refine (out_apply _ _ _ _ y0 y1).trans ?_
  unfold input
  refine normed_congr ?_ (congrArg rinv (funext fun l => ?_)) ?_ ?_ ?_
  all_goals blk_ext [iblk, V, idx t]

/-- What a run of the kernel leaves: the normalised stream, and its arguments as they were. -/
theorem run : θ_run defs (onTc (τ := τ) (main (F := Ideal))) ⟨m, fun _ => 0, ρ⟩ fun r => ∀ c : Dev nD,
      r.2.mem ((c.tc : Thread nD τ).loc main_v0) = input (argX m c) (argW m c) (argS m c) (argH m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_input m c), (h c).2⟩) (Value.run_blocks m ρ)

end Cert.NormInKernel

end
-- ==== Proof.NormIn.Claims.lean ====
/- The claims about the norm before the mixer. -/
module

public import proofs.«01_k».proof.Defs
public import proofs.«01_k».proof.Proof.NormIn.Kernel
public import proofs.«01_k».proof.Proof.Gen.NormIn.Frame
public import proofs.«01_k».proof.Proof.Gen.NormInRefIdeal.Run

@[expose] public section

set_option maxRecDepth 16384

noncomputable section

open Idealize.ShloMosaic Idealize.ShloMosaic.TcCoe Idealize.SL.Sem

namespace Cert.NormInClaims

theorem frame_kernel : Cert.quiescent_NormIn := fun m ρ _ => Cert.NormIn.Gen.frame m ρ

theorem frame_ideal : Cert.quiescent_NormInIdeal := fun m ρ _ => Cert.NormInIdeal.Gen.frame m ρ

theorem frame_ref : Cert.quiescent_NormInRefIdeal := fun m ρ _ =>
  (θ_run Cert.NormInRefIdeal.defs _ _).mono
    (fun r h => ⟨fun c => (h c).2, sem_eq_zero_of_no_sems (by decide) r.2⟩)
    (Cert.NormInRefIdeal.Value.run (F := Ideal) m ρ)

/-- On the same arguments the two programs end with the same normalised stream. -/
theorem algebraic : Cert.algebraic_NormInIdeal_NormInRefIdeal := by
  intro m ρ m' ρ' _ hag
  refine ⟨fun c => Cert.NormInKernel.input (Cert.NormInKernel.argX m c) (Cert.NormInKernel.argW m c) (Cert.NormInKernel.argS m c)
      (Cert.NormInKernel.argH m c),
    Cert.NormInKernel.run m ρ, (θ_run Cert.NormInRefIdeal.defs _ _).mono
      (fun _ h c => ⟨(h c).1.trans ?_, (h c).2⟩)
      (Cert.NormInRefIdeal.Value.run (F := Ideal) m' ρ')⟩
  clear h
  rw [(hag c).1, (hag c).2.1, (hag c).2.2.1, (hag c).2.2.2]
  funext i
  idx_vars i
  pointwise [Cert.NormInKernel.input, Cert.NormInKernel.normed, Cert.Norm.rinv, Cert.Norm.ms]

end Cert.NormInClaims

end
-- ==== Proof.SpatialBack.Spec.lean ====
/- The gradient of the spatial gating unit over the reals: a gated product whose second factor mixes the positions of a chunk. -/
module

public import proofs.«01_k».proof.Proof.Norm.Rows

@[expose] public section

noncomputable section

open Idealize.ShloMosaic

namespace Cert.SpatialBackSpec

/-- The programs' own constant near √(2/π). -/
def K : ℝ := 6693141 / 8388608

theorem ofBits_K : Ideal.ofBits .f32 0x3F4C422A#32 = (K : EReal) := by
  unfold K
  simp [Ideal.ofBits, Ideal.ieee, -EReal.coe_mul]
  norm_num

theorem ofBits_half : Ideal.ofBits .f32 0x3F000000#32 = ((1 / 2 : ℝ) : EReal) := by
  simp [Ideal.ofBits, Ideal.ieee, -EReal.coe_mul]
  norm_num

theorem ofBits_three : Ideal.ofBits .f32 0x40400000#32 = ((3 : ℝ) : EReal) := by
  simp [Ideal.ofBits, Ideal.ieee, -EReal.coe_mul]
  norm_num

theorem ofBits_44715 : Ideal.ofBits .f32 0x472EAB00#32 = ((44715 : ℝ) : EReal) := by
  simp [Ideal.ofBits, Ideal.ieee, -EReal.coe_mul]
  norm_num

theorem ofBits_million : Ideal.ofBits .f32 0x49742400#32 = ((1000000 : ℝ) : EReal) := by
  simp [Ideal.ofBits, Ideal.ieee, -EReal.coe_mul]
  norm_num

/-- A sum of real numbers read as extended ones. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The activation, its hyperbolic tangent and its derivative. -/
def th (x : ℝ) : ℝ := Real.tanh (K * (x + 8943 / 200000 * x ^ 3))
def gelu (x : ℝ) : ℝ := 1 / 2 * x * (1 + th x)
def dgelu (x : ℝ) : ℝ := 1 / 2 * (1 + th x) + 1 / 2 * x * (1 - th x * th x) * (K * (1 + 26829 / 200000 * x ^ 2))

/-- The two halves of the unit's input and the gradient of its output, by chunk, position in the chunk, group and channel; the mixing weight of each group and its bias. -/
structure Data where
  u : Fin 64 → Fin 128 → Fin 4 → Fin 128 → ℝ
  v : Fin 64 → Fin 128 → Fin 4 → Fin 128 → ℝ
  o : Fin 64 → Fin 128 → Fin 4 → Fin 128 → ℝ
  w : Fin 4 → Fin 128 → Fin 128 → ℝ
  b : Fin 4 → Fin 128 → ℝ

variable (d : Data)

/-- A position sees the positions of its chunk up to itself. -/
def wm (g : Fin 4) (t s : Fin 128) : ℝ := if s ≤ t then d.w g t s else 0

def mixed (q : Fin 64) (t : Fin 128) (g : Fin 4) (c : Fin 128) : ℝ := (∑ s, wm d g t s * gelu (d.v q s g c)) + d.b g t

/-- The gradient of the first half; of the mixed second half; of the second half. -/
def du (q : Fin 64) (t : Fin 128) (g : Fin 4) (c : Fin 128) : ℝ := d.o q t g c * mixed d q t g c * dgelu (d.u q t g c)
def dm (q : Fin 64) (t : Fin 128) (g : Fin 4) (c : Fin 128) : ℝ := d.o q t g c * gelu (d.u q t g c)
def dv (q : Fin 64) (s : Fin 128) (g : Fin 4) (c : Fin 128) : ℝ := (∑ t, wm d g t s * dm d q t g c) * dgelu (d.v q s g c)

/-- What a chunk adds to the gradient of the weight and of the bias. -/
def dwChunk (q : Fin 64) (g : Fin 4) (t s : Fin 128) : ℝ := ∑ c, dm d q t g c * gelu (d.v q s g c)
def dbChunk (q : Fin 64) (g : Fin 4) (t : Fin 128) : ℝ := ∑ c, dm d q t g c

/-- The gradient of the weight, and of the bias. -/
def dw (g : Fin 4) (t s : Fin 128) : ℝ := if s ≤ t then ∑ q, dwChunk d q g t s else 0
def db (g : Fin 4) (t : Fin 128) : ℝ := ∑ q, dbChunk d q g t

/-- Chunk `n` of grid point `p`. -/
def chunk (p n : Fin 8) : Fin 64 := ⟨8 * p.val + n.val, by omega⟩

/-- Where position `t` of chunk `q` lies among the rows, position `t` of a point's chunk `n` among the point's rows, and channel `c` of group `g` among the columns. -/
def row (q : Fin 64) (t : Fin 128) : Fin 8192 := ⟨128 * q.val + t.val, by omega⟩
def row8 (n : Fin 8) (t : Fin 128) : Fin 1024 := ⟨128 * n.val + t.val, by omega⟩
def col (g : Fin 4) (c : Fin 128) : Fin 512 := ⟨128 * g.val + c.val, by omega⟩

theorem row8_cover (r : Fin 1024) : ∃ n t, row8 n t = r :=
  ⟨⟨r.val / 128, by omega⟩, ⟨r.val % 128, by omega⟩, Fin.ext (Nat.div_add_mod _ _)⟩

theorem row_cover (r : Fin 8192) : ∃ q t, row q t = r :=
  ⟨⟨r.val / 128, by omega⟩, ⟨r.val % 128, by omega⟩, Fin.ext (Nat.div_add_mod _ _)⟩

theorem col_cover (l : Fin 512) : ∃ g c, col g c = l :=
  ⟨⟨l.val / 128, by omega⟩, ⟨l.val % 128, by omega⟩, Fin.ext (Nat.div_add_mod _ _)⟩

/-- A sum over the chunks is the sum over the grid points of the sums over each point's chunks. -/
theorem sum_chunk (f : Fin 64 → ℝ) : ∑ p : Fin 8, ∑ n : Fin 8, f (chunk p n) = ∑ q, f q := by
  rw [← Fintype.sum_prod_type']
  refine Fintype.sum_bijective (fun x : Fin 8 × Fin 8 => chunk x.1 x.2) ⟨?_, ?_⟩ _ _ fun _ => rfl
  · rintro ⟨p, n⟩ ⟨p', n'⟩ h
    have := congrArg Fin.val h
    simp only [chunk] at this
    refine Prod.ext (Fin.ext ?_) (Fin.ext ?_) <;> simp only <;> omega
  · intro q
    exact ⟨(⟨q.val / 8, by omega⟩, ⟨q.val % 8, by omega⟩), Fin.ext (Nat.div_add_mod _ _)⟩

end Cert.SpatialBackSpec

end
-- ==== Proof.SpatialBack.Block.lean ====
/- What one grid point of the gating unit's gradient kernel computes for one chunk and one group, read at an index. -/
module

public import proofs.«01_k».proof.Proof.SpatialBack.Spec
public import proofs.«01_k».proof.Proof.Gen.SpatialBackIdeal.Skeleton

@[expose] public section

set_option maxRecDepth 16384

noncomputable section

open Idealize.ShloMosaic Idealize.ShloMosaic.TcCoe Idealize.SL.Sem

namespace Cert.SpatialBackBlock

open Cert.SpatialBackIdeal Cert.SpatialBackIdeal.Gen Cert.SpatialBackSpec

theorem named_c : Named.named (F := Ideal) (φ := .f32) κ "c" 0x3D372713#32 = ((8943 / 200000 : ℝ) : EReal) :=
  IdealRules.named_const.ideal_named_scalar _ _ _ _ rfl

theorem named_c3 : Named.named (F := Ideal) (φ := .f32) κ "c3" 0x3E095D4F#32 = ((26829 / 200000 : ℝ) : EReal) :=
  IdealRules.named_const.ideal_named_scalar _ _ _ _ rfl

section Tile

variable {x : Vec Ideal S128x128 .bf16} {f : Fin 128 → Fin 128 → ℝ} (h : ∀ t c, x (ix2 t c) = (f t c : EReal))
include h

theorem th_apply (t c : Fin 128) : k0_pay9 (F := Ideal) x (ix2 t c) = (th (f t c) : EReal) := by
  pointwise [k0_pay9, k0_pay8]
  rw [h t c, named_c, ofBits_K]
  simp only [← EReal.coe_mul, ← EReal.coe_add, Ideal.tanh_coe]
  unfold th
  congr 3
  ring

theorem gelu_apply (t c : Fin 128) : k0_pay10 (F := Ideal) x (ix2 t c) = (gelu (f t c) : EReal) := by
  have key := th_apply h t c
  pointwise [k0_pay10, k0_pay8]
  rw [key, h t c, ofBits_half]
  simp only [← EReal.coe_mul, ← EReal.coe_add, ← EReal.coe_one]
  rfl

/-- The derivative of the activation over a tile. -/
def dgV (x : Vec Ideal S128x128 .bf16) : FVec Ideal S128x128 .f32 :=
  k0_pay14 (F := Ideal) (k0_pay8 (F := Ideal) x) (k0_pay11 (F := Ideal) x) (k0_pay12 (F := Ideal) x) (k0_pay13 (F := Ideal))

theorem dgV_apply (t c : Fin 128) : dgV x (ix2 t c) = (dgelu (f t c) : EReal) := by
  have key := th_apply h t c
  pointwise [dgV, k0_pay14, k0_pay8, k0_pay11, k0_pay12, k0_pay13]
  rw [key, h t c, ofBits_half, ofBits_K, named_c3]
  simp only [← EReal.coe_mul, ← EReal.coe_add, ← EReal.coe_sub, ← EReal.coe_one]
  unfold dgelu
  congr 1
  ring

theorem geluB_apply (t c : Fin 128) : k0_pay18 (F := Ideal) x (ix2 t c) = (gelu (f t c) : EReal) :=
  gelu_apply h t c

end Tile

/-- The kernel's mask keeps the columns up to the row. -/
theorem select_apply (t s : Fin 128) (a b : EReal) :
    Scalar.select (IntOp.cmpi CmpIPredicate.sle (BitVec.ofNat 32 s.val) (BitVec.ofNat 32 t.val)) a b = if s ≤ t then a else b := by
  have hs : (BitVec.ofNat 32 s.val).toInt = s.val := by rw [BitVec.toInt_ofNat']; exact Int.bmod_eq_of_le (by omega) (by omega)
  have ht : (BitVec.ofNat 32 t.val).toInt = t.val := by rw [BitVec.toInt_ofNat']; exact Int.bmod_eq_of_le (by omega) (by omega)
  by_cases hst : s ≤ t
  · have : s.val ≤ t.val := hst
    simp [Scalar.select, IntOp.cmpi, BitVec.sle, hs, ht, this, hst]
  · have : ¬s.val ≤ t.val := hst
    simp [Scalar.select, IntOp.cmpi, BitVec.sle, hs, ht, this, hst]

theorem coe_ite (q : Prop) [Decidable q] (a : ℝ) : (if q then (a : EReal) else 0) = ((if q then a else 0 : ℝ) : EReal) := by
  split <;> simp

/-- The masked weight of a group. -/
theorem mask_apply {w : Vec Ideal S1x128x128 .f32} {f : Fin 128 → Fin 128 → ℝ} (h : ∀ t s, w (ix3 0 t s) = (f t s : EReal)) (t s : Fin 128) :
    k0_pay5 (F := Ideal) w (ix2 t s) = ((if s ≤ t then f t s else 0 : ℝ) : EReal) := by
  pointwise [k0_pay5]
  rw [select_apply, h t s, coe_ite]

/-- The five input blocks at grid point `p`. -/
structure Holds (d : Data) (p : Fin 8) (x0 x1 : Vec Ideal S1024x512 .bf16) (x2 x3 : Vec Ideal S4x128x128 .f32)
    (x4 : Vec Ideal S1024x512 .bf16) : Prop where
  u : ∀ n t g c, x0 (ix2 (row8 n t) (col g c)) = (d.u (chunk p n) t g c : EReal)
  v : ∀ n t g c, x1 (ix2 (row8 n t) (col g c)) = (d.v (chunk p n) t g c : EReal)
  w : ∀ g t s, x2 (ix3 g t s) = (d.w g t s : EReal)
  b : ∀ g t c, x3 (ix3 g t c) = (d.b g t : EReal)
  o : ∀ n t g c, x4 (ix2 (row8 n t) (col g c)) = (d.o (chunk p n) t g c : EReal)

variable {d : Data} {p : Fin 8} {x0 x1 : Vec Ideal S1024x512 .bf16} {x2 x3 : Vec Ideal S4x128x128 .f32} {x4 : Vec Ideal S1024x512 .bf16}

theorem inb_tile (n : Fin 8) (g : Fin 4) : ∀ a, (![128 * n.val, 128 * g.val] : Fin 2 → ℕ) a + (![128, 128] : Fin 2 → ℕ) a ≤ S1024x512.size a := by
  have := n.isLt
  have := g.isLt
  intro a
  fin_cases a <;> simp <;> omega

theorem inb_slab (g : Fin 4) : ∀ a, (![g.val, 0, 0] : Fin 3 → ℕ) a + (![1, 128, 128] : Fin 3 → ℕ) a ≤ S4x128x128.size a := by
  have := g.isLt
  intro a
  fin_cases a <;> simp <;> omega

/-- Chunk `n` of group `g` in a block, and group `g` of the weight. -/
abbrev tile (n : Fin 8) (g : Fin 4) : Rect S1024x512 := Rect.unit (s := S1024x512) ![128 * n.val, 128 * g.val] ![128, 128] (inb_tile n g)
abbrev slab (g : Fin 4) : Rect S4x128x128 := Rect.unit (s := S4x128x128) ![g.val, 0, 0] ![1, 128, 128] (inb_slab g)

def ldT (x : Vec Ideal S1024x512 .bf16) (n : Fin 8) (g : Fin 4) : Vec Ideal S128x128 .bf16 :=
  View.ld (Val := Elt Ideal) (e' := .bf16) x (tile n g)
def ldW (x : Vec Ideal S4x128x128 .f32) (g : Fin 4) : Vec Ideal S1x128x128 .f32 := View.ld (Val := Elt Ideal) (e' := .f32) x (slab g)

theorem ldT_apply (x : Vec Ideal S1024x512 .bf16) (n : Fin 8) (g : Fin 4) (t c : Fin 128) : ldT x n g (ix2 t c) = x (ix2 (row8 n t) (col g c)) :=
  View.ld_unit_apply_of _ _ _ _ _ _ fun a => by fin_cases a <;> simp [row8, col]
theorem ldW_apply (x : Vec Ideal S4x128x128 .f32) (g : Fin 4) (t s : Fin 128) : ldW x g (ix3 0 t s) = x (ix3 g t s) :=
  View.ld_unit_apply_of _ _ _ _ _ _ fun a => by fin_cases a <;> simp

/-- The gradients of the two halves over a chunk of a group. -/
def duV (x0 x1 : Vec Ideal S1024x512 .bf16) (x2 x3 : Vec Ideal S4x128x128 .f32) (x4 : Vec Ideal S1024x512 .bf16) (n : Fin 8) (g : Fin 4) :
    Vec Ideal S128x128 .bf16 :=
  k0_pay21 (F := Ideal) (dgV (ldT x0 n g)) (k0_pay19 (F := Ideal) (k0_pay5 (F := Ideal) (ldW x2 g)) (ldT x1 n g)) (ldW x3 g) (ldT x4 n g)
def dvV (x0 x1 : Vec Ideal S1024x512 .bf16) (x2 : Vec Ideal S4x128x128 .f32) (x4 : Vec Ideal S1024x512 .bf16) (n : Fin 8) (g : Fin 4) :
    Vec Ideal S128x128 .bf16 :=
  k0_pay24 (F := Ideal) (k0_pay5 (F := Ideal) (ldW x2 g)) (k0_pay10 (F := Ideal) (ldT x0 n g)) (dgV (ldT x1 n g)) (ldT x4 n g)

theorem duV_apply (h : Holds d p x0 x1 x2 x3 x4) (n : Fin 8) (g : Fin 4) (t c : Fin 128) :
    duV x0 x1 x2 x3 x4 n g (ix2 t c) = (du d (chunk p n) t g c : EReal) := by
  have ku := dgV_apply (fun t c => (ldT_apply x0 n g t c).trans (h.u n t g c)) t c
  have kv := fun s => geluB_apply (fun t c => (ldT_apply x1 n g t c).trans (h.v n t g c)) s c
  have kw := mask_apply (fun t s => (ldW_apply x2 g t s).trans (h.w g t s)) t
  pointwise [duV, k0_pay21, k0_pay19, k0_pay20]
  simp only [ku, kv, kw, ldW_apply, ldT_apply, h.b, h.o]
  simp only [← EReal.coe_mul, ← coe_sum, ← EReal.coe_add]
  rfl

theorem dvV_apply (h : Holds d p x0 x1 x2 x3 x4) (n : Fin 8) (g : Fin 4) (s c : Fin 128) :
    dvV x0 x1 x2 x4 n g (ix2 s c) = (dv d (chunk p n) s g c : EReal) := by
  have kv := dgV_apply (fun t c => (ldT_apply x1 n g t c).trans (h.v n t g c)) s c
  have ku := fun t => gelu_apply (fun t c => (ldT_apply x0 n g t c).trans (h.u n t g c)) t c
  have kw := fun t => mask_apply (fun t s => (ldW_apply x2 g t s).trans (h.w g t s)) t s
  pointwise [dvV, k0_pay24, k0_pay23, k0_pay22, k0_pay20]
  simp only [ku, kv, kw, ldT_apply, h.o]
  simp only [← EReal.coe_mul, ← coe_sum, ← EReal.coe_add]
  rfl

/-- What a chunk adds to the gradient of a group's weight and bias. -/
def dwStep (x0 x1 x4 : Vec Ideal S1024x512 .bf16) (g : Fin 4) (n : Fin 8) (acc : FVec Ideal S128x128 .f32) : FVec Ideal S128x128 .f32 :=
  k0_pay25 (F := Ideal) acc (k0_pay10 (F := Ideal) (ldT x0 n g)) (k0_pay18 (F := Ideal) (ldT x1 n g)) (ldT x4 n g)
def dbStep (x0 x4 : Vec Ideal S1024x512 .bf16) (g : Fin 4) (n : Fin 8) (acc : FVec Ideal S128x1 .f32) : FVec Ideal S128x1 .f32 :=
  k0_pay26 (F := Ideal) acc (k0_pay10 (F := Ideal) (ldT x0 n g)) (ldT x4 n g)

theorem dwStep_apply (h : Holds d p x0 x1 x2 x3 x4) (g : Fin 4) (n : Fin 8) (acc : FVec Ideal S128x128 .f32) (t s : Fin 128) :
    dwStep x0 x1 x4 g n acc (ix2 t s) = acc (ix2 t s) + (dwChunk d (chunk p n) g t s : EReal) := by
  have kv := fun c => geluB_apply (fun t c => (ldT_apply x1 n g t c).trans (h.v n t g c)) s c
  have ku := fun c => gelu_apply (fun t c => (ldT_apply x0 n g t c).trans (h.u n t g c)) t c
  pointwise [dwStep, k0_pay25, k0_pay23, k0_pay22, k0_pay20]
  simp only [ku, kv, ldT_apply, h.o]
  simp only [← EReal.coe_mul, ← coe_sum, ← EReal.coe_add]
  rfl

theorem dbStep_apply (h : Holds d p x0 x1 x2 x3 x4) (g : Fin 4) (n : Fin 8) (acc : FVec Ideal S128x1 .f32) (t : Fin 128) :
    dbStep x0 x4 g n acc (ix2 t 0) = acc (ix2 t 0) + (dbChunk d (chunk p n) g t : EReal) := by
  have ku := fun c => gelu_apply (fun t c => (ldT_apply x0 n g t c).trans (h.u n t g c)) t c
  pointwise [dbStep, k0_pay26, k0_pay22, k0_pay20]
  simp only [ku, ldT_apply, h.o]
  simp only [← EReal.coe_mul, ← coe_sum, ← EReal.coe_add]
  rfl

/-- The sums over a point's chunks. -/
def dwAcc (x0 x1 x4 : Vec Ideal S1024x512 .bf16) (g : Fin 4) : FVec Ideal S128x128 .f32 :=
  dwStep x0 x1 x4 g 7 (dwStep x0 x1 x4 g 6 (dwStep x0 x1 x4 g 5 (dwStep x0 x1 x4 g 4 (dwStep x0 x1 x4 g 3 (dwStep x0 x1 x4 g 2
    (dwStep x0 x1 x4 g 1 (dwStep x0 x1 x4 g 0 (k0_pay6 (F := Ideal)))))))))
def dbAcc (x0 x4 : Vec Ideal S1024x512 .bf16) (g : Fin 4) : FVec Ideal S128x1 .f32 :=
  dbStep x0 x4 g 7 (dbStep x0 x4 g 6 (dbStep x0 x4 g 5 (dbStep x0 x4 g 4 (dbStep x0 x4 g 3 (dbStep x0 x4 g 2
    (dbStep x0 x4 g 1 (dbStep x0 x4 g 0 (k0_pay7 (F := Ideal)))))))))

theorem zero_tile (t s : Fin 128) : k0_pay6 (F := Ideal) (ix2 t s) = 0 := by pointwise [k0_pay6]
theorem zero_column (t : Fin 128) : k0_pay7 (F := Ideal) (ix2 t 0) = 0 := by pointwise [k0_pay7]

theorem dwAcc_apply (h : Holds d p x0 x1 x2 x3 x4) (g : Fin 4) (t s : Fin 128) :
    dwAcc x0 x1 x4 g (ix2 t s) = ((∑ n, dwChunk d (chunk p n) g t s : ℝ) : EReal) := by
  unfold dwAcc
  simp only [dwStep_apply h, zero_tile, zero_add, ← EReal.coe_add, Fin.sum_univ_eight]

theorem dbAcc_apply (h : Holds d p x0 x1 x2 x3 x4) (g : Fin 4) (t : Fin 128) :
    dbAcc x0 x4 g (ix2 t 0) = ((∑ n, dbChunk d (chunk p n) g t : ℝ) : EReal) := by
  unfold dbAcc
  simp only [dbStep_apply h, zero_column, zero_add, ← EReal.coe_add, Fin.sum_univ_eight]

/-- What the point adds to the gradient of the weight and of the bias. -/
def dwPart (d : Data) (p : Fin 8) (g : Fin 4) (t s : Fin 128) : ℝ := if s ≤ t then ∑ n, dwChunk d (chunk p n) g t s else 0
def dbPart (d : Data) (p : Fin 8) (g : Fin 4) (t : Fin 128) : ℝ := ∑ n, dbChunk d (chunk p n) g t

/-- A group's gradients after the point, from what they were. -/
def dwV (x0 x1 x4 : Vec Ideal S1024x512 .bf16) (g : Fin 4) (old : Vec Ideal S1x128x128 .f32) : Vec Ideal S1x128x128 .f32 :=
  k0_pay159 (F := Ideal) (dwAcc x0 x1 x4 g) (k0_pay157 (F := Ideal) old) k0_pay158 (Scalar.ofBits (F := Ideal) .f32 0x00000000#32)
def dbV (x0 x4 : Vec Ideal S1024x512 .bf16) (g : Fin 4) (old : Vec Ideal S1x128x128 .f32) : Vec Ideal S1x128x128 .f32 :=
  k0_pay160 (F := Ideal) (dbAcc x0 x4 g) old

theorem dwV_apply (h : Holds d p x0 x1 x2 x3 x4) (g : Fin 4) (old : Vec Ideal S1x128x128 .f32) (t s : Fin 128) :
    dwV x0 x1 x4 g old (ix3 0 t s) = old (ix3 0 t s) + (dwPart d p g t s : EReal) := by
  have key := dwAcc_apply h g t s
  pointwise [dwV, k0_pay159, k0_pay157, k0_pay158]
  rw [select_apply, key, coe_ite]
  rfl

theorem dbV_apply (h : Holds d p x0 x1 x2 x3 x4) (g : Fin 4) (old : Vec Ideal S1x128x128 .f32) (t s : Fin 128) :
    dbV x0 x4 g old (ix3 0 t s) = old (ix3 0 t s) + (dbPart d p g t : EReal) := by
  have key := dbAcc_apply h g t
  pointwise [dbV, k0_pay160]
  rw [key]
  rfl

end Cert.SpatialBackBlock

end
-- ==== Proof.SpatialBack.Point.lean ====
/- What one grid point of the gating unit's gradient kernel leaves in its output blocks. -/
module

public import proofs.«01_k».proof.Proof.Gen.SpatialBackIdeal.Frame
public import proofs.«01_k».proof.Proof.SpatialBack.Block
public import Idealize.ShloMosaic.Lib.Pipeline.ReadBack

@[expose] public section

set_option maxRecDepth 16384

noncomputable section

open Idealize.ShloMosaic Idealize.ShloMosaic.TcCoe Idealize.SL.Sem

namespace Cert.SpatialBackBlock

open Cert.SpatialBackIdeal Cert.SpatialBackIdeal.Gen Cert.SpatialBackSpec

variable (c : Dev nD) (i : grid0.Coords)
  (arg1 : Memref sig .tc .vmem S1024x512 .bf16) (harg1 : arg1.IsWhole)
  (arg2 : Memref sig .tc .vmem S1024x512 .bf16) (harg2 : arg2.IsWhole)
  (arg3 : Memref sig .tc .vmem S4x128x128 .f32) (harg3 : arg3.IsWhole)
  (arg4 : Memref sig .tc .vmem S4x128x128 .f32) (harg4 : arg4.IsWhole)
  (arg5 : Memref sig .tc .vmem S1024x512 .bf16) (harg5 : arg5.IsWhole)
  (arg6 : Memref sig .tc .vmem S1024x512 .bf16) (harg6 : arg6.IsWhole)
  (arg7 : Memref sig .tc .vmem S1024x512 .bf16) (harg7 : arg7.IsWhole)
  (arg8 : Memref sig .tc .vmem S4x128x128 .f32) (harg8 : arg8.IsWhole)
  (arg9 : Memref sig .tc .vmem S4x128x128 .f32) (harg9 : arg9.IsWhole)
  {d : Data} {p : Fin 8} {x0 x1 : Vec Ideal S1024x512 .bf16} {x2 x3 : Vec Ideal S4x128x128 .f32} {x4 : Vec Ideal S1024x512 .bf16}
  (x5 x6 : Vec Ideal S1024x512 .bf16) (x7 x8 : Vec Ideal S4x128x128 .f32)

/-- Tiles of a block, and groups of the weight, where they lie. -/
theorem tile_emb (n : Fin 8) (g : Fin 4) (t c : Fin 128) : (tile n g).emb (ix2 t c) = ix2 (row8 n t) (col g c) :=
  funext fun a => Fin.ext ((Rect.idx_unit_val _ _ (inb_tile n g) _ a).trans (by fin_cases a <;> simp [row8, col]))

theorem slab_emb (g : Fin 4) (t s : Fin 128) : (slab g).emb (ix3 0 t s) = ix3 g t s :=
  funext fun a => Fin.ext ((Rect.idx_unit_val _ _ (inb_slab g) _ a).trans (by fin_cases a <;> simp))

theorem tile_mem (n : Fin 8) (g : Fin 4) (t c : Fin 128) : (ix2 (row8 n t) (col g c) : S1024x512.Idx) ∈ (tile n g).set := by
  rw [Rect.mem_set_unit]
  intro a
  fin_cases a <;> simp [row8, col]

theorem slab_mem (g : Fin 4) (t s : Fin 128) : (ix3 g t s : S4x128x128.Idx) ∈ (slab g).set := by
  rw [Rect.mem_set_unit]
  intro a
  fin_cases a <;> simp

/-- The eight stores of a group's tiles, the last first, after the stores `T`. -/
def tiles (f : Fin 8 → Fin 4 → Vec Ideal S128x128 .bf16) (g : Fin 4) (T : List (View.Piece (Elt Ideal) S1024x512 .bf16)) :
    List (View.Piece (Elt Ideal) S1024x512 .bf16) :=
  ⟨tile 7 g, f 7 g⟩ :: ⟨tile 6 g, f 6 g⟩ :: ⟨tile 5 g, f 5 g⟩ :: ⟨tile 4 g, f 4 g⟩ :: ⟨tile 3 g, f 3 g⟩ :: ⟨tile 2 g, f 2 g⟩ ::
    ⟨tile 1 g, f 1 g⟩ :: ⟨tile 0 g, f 0 g⟩ :: T

theorem tiles_keep (f : Fin 8 → Fin 4 → Vec Ideal S128x128 .bf16) (g : Fin 4) {T : List (View.Piece (Elt Ideal) S1024x512 .bf16)}
    {q : View.Piece (Elt Ideal) S1024x512 .bf16} (h : q ∈ T) : q ∈ tiles f g T :=
  .tail _ (.tail _ (.tail _ (.tail _ (.tail _ (.tail _ (.tail _ (.tail _ h)))))))

theorem tiles_mem (f : Fin 8 → Fin 4 → Vec Ideal S128x128 .bf16) (g : Fin 4) (T : List (View.Piece (Elt Ideal) S1024x512 .bf16)) (n : Fin 8) :
    ⟨tile n g, f n g⟩ ∈ tiles f g T := by
  match n with
  | 7 => exact .head _
  | 6 => exact .tail _ (.head _)
  | 5 => exact .tail _ (.tail _ (.head _))
  | 4 => exact .tail _ (.tail _ (.tail _ (.head _)))
  | 3 => exact .tail _ (.tail _ (.tail _ (.tail _ (.head _))))
  | 2 => exact .tail _ (.tail _ (.tail _ (.tail _ (.tail _ (.head _)))))
  | 1 => exact .tail _ (.tail _ (.tail _ (.tail _ (.tail _ (.tail _ (.head _))))))
  | 0 => exact .tail _ (.tail _ (.tail _ (.tail _ (.tail _ (.tail _ (.tail _ (.head _)))))))

/-- The thirty-two stores of a block. -/
def block (f : Fin 8 → Fin 4 → Vec Ideal S128x128 .bf16) : List (View.Piece (Elt Ideal) S1024x512 .bf16) :=
  tiles f 3 (tiles f 2 (tiles f 1 (tiles f 0 [])))

theorem block_mem (f : Fin 8 → Fin 4 → Vec Ideal S128x128 .bf16) (n : Fin 8) (g : Fin 4) : ⟨tile n g, f n g⟩ ∈ block f := by
  match g with
  | 3 => exact tiles_mem f 3 _ n
  | 2 => exact tiles_keep f 3 (tiles_mem f 2 _ n)
  | 1 => exact tiles_keep f 3 (tiles_keep f 2 (tiles_mem f 1 _ n))
  | 0 => exact tiles_keep f 3 (tiles_keep f 2 (tiles_keep f 1 (tiles_mem f 0 _ n)))

/-- Tiles that each hold their entries of `G` are `G`. -/
theorem all_tiles (G : S1024x512.Idx → EReal) (f : Fin 8 → Fin 4 → Vec Ideal S128x128 .bf16)
    (hf : ∀ n g t c, f n g (ix2 t c) = G (ix2 (row8 n t) (col g c))) (y : S1024x512.Idx) :
    View.canon (Val := Elt Ideal) (s := S1024x512) (e := .bf16) (block f) y = G y := by
  have one : ∀ n g (x : (tile n g).shape.Idx), f n g x = G ((tile n g).emb x) := fun n g x => by
    idx_vars x
    exact (hf n g x0 x1).trans (congrArg G (tile_emb n g x0 x1).symm)
  have four : ∀ g {T : List (View.Piece (Elt Ideal) S1024x512 .bf16)}, View.PiecesOf G T → View.PiecesOf G (tiles f g T) := fun g _ hT =>
    ⟨one 7 g, one 6 g, one 5 g, one 4 g, one 3 g, one 2 g, one 1 g, one 0 g, hT⟩
  refine (congrArg (fun L => View.canon (Val := Elt Ideal) (s := S1024x512) (e := .bf16) L y) (List.append_nil (block f)).symm).trans
    (View.canon_append_of_piecesOf G [] (block f) (four 3 (four 2 (four 1 (four 0 (T := []) trivial)))) y ?_)
  idx_vars y
  obtain ⟨n, t, rfl⟩ := row8_cover y0
  obtain ⟨g, c, rfl⟩ := col_cover y1
  exact ⟨_, block_mem f n g, tile_mem n g t c⟩

/-- Four groups that each hold their entries of `G` are `G`, whatever was stored before. -/
theorem all_groups (G : S4x128x128.Idx → EReal) (f : Fin 4 → Vec Ideal S1x128x128 .f32) (T : List (View.Piece (Elt Ideal) S4x128x128 .f32))
    (hf : ∀ g t s, f g (ix3 0 t s) = G (ix3 g t s)) (y : S4x128x128.Idx) :
    View.canon (Val := Elt Ideal) (s := S4x128x128) (e := .f32) (⟨slab 3, f 3⟩ :: ⟨slab 2, f 2⟩ :: ⟨slab 1, f 1⟩ :: ⟨slab 0, f 0⟩ :: T) y = G y := by
  have one : ∀ g (x : (slab g).shape.Idx), f g x = G ((slab g).emb x) := fun g x => by
    idx_vars x
    obtain rfl := Subsingleton.elim x0 0
    exact (hf g x1 x2).trans (congrArg G (slab_emb g x1 x2).symm)
  refine View.canon_append_of_piecesOf G T [⟨slab 3, f 3⟩, ⟨slab 2, f 2⟩, ⟨slab 1, f 1⟩, ⟨slab 0, f 0⟩] ⟨one 3, one 2, one 1, one 0, trivial⟩ y ?_
  idx_vars y
  match y0 with
  | 0 => exact ⟨_, .tail _ (.tail _ (.tail _ (.head _))), slab_mem 0 y1 y2⟩
  | 1 => exact ⟨_, .tail _ (.tail _ (.head _)), slab_mem 1 y1 y2⟩
  | 2 => exact ⟨_, .tail _ (.head _), slab_mem 2 y1 y2⟩
  | 3 => exact ⟨_, .head _, slab_mem 3 y1 y2⟩

theorem dw_block (h : Holds d p x0 x1 x2 x3 x4) (x7 : Vec Ideal S4x128x128 .f32) (T : List (View.Piece (Elt Ideal) S4x128x128 .f32)) (g : Fin 4) (t s : Fin 128) :
    View.canon (Val := Elt Ideal) (s := S4x128x128) (e := .f32) (⟨slab 3, dwV x0 x1 x4 3 (ldW x7 3)⟩ :: ⟨slab 2, dwV x0 x1 x4 2 (ldW x7 2)⟩ ::
      ⟨slab 1, dwV x0 x1 x4 1 (ldW x7 1)⟩ :: ⟨slab 0, dwV x0 x1 x4 0 (ldW x7 0)⟩ :: T) (ix3 g t s) = x7 (ix3 g t s) + (dwPart d p g t s : EReal) :=
  all_groups (fun y => x7 y + (dwPart d p (y 0) (y 1) (y 2) : EReal)) (fun g => dwV x0 x1 x4 g (ldW x7 g)) T
    (fun g t s => (dwV_apply h g _ t s).trans (congrArg (· + _) (ldW_apply x7 g t s))) _

theorem db_block (h : Holds d p x0 x1 x2 x3 x4) (x8 : Vec Ideal S4x128x128 .f32) (T : List (View.Piece (Elt Ideal) S4x128x128 .f32)) (g : Fin 4) (t s : Fin 128) :
    View.canon (Val := Elt Ideal) (s := S4x128x128) (e := .f32) (⟨slab 3, dbV x0 x4 3 (ldW x8 3)⟩ :: ⟨slab 2, dbV x0 x4 2 (ldW x8 2)⟩ ::
      ⟨slab 1, dbV x0 x4 1 (ldW x8 1)⟩ :: ⟨slab 0, dbV x0 x4 0 (ldW x8 0)⟩ :: T) (ix3 g t s) = x8 (ix3 g t s) + (dbPart d p g t : EReal) :=
  all_groups (fun y => x8 y + (dbPart d p (y 0) (y 1) : EReal)) (fun g => dbV x0 x4 g (ldW x8 g)) T
    (fun g t s => (dbV_apply h g _ t s).trans (congrArg (· + _) (ldW_apply x8 g t s))) _

/-- The sums start from zero. -/
theorem pay3_apply (y : S4x128x128.Idx) : k0_pay3 (F := Ideal) y = 0 := by
  idx_vars y
  pointwise [k0_pay3]
theorem pay4_apply (y : S4x128x128.Idx) : k0_pay4 (F := Ideal) y = 0 := by
  idx_vars y
  pointwise [k0_pay4]

/-- A value by chunk, position, group and channel, spread over a point's block. -/
def tileFn (F : Fin 64 → Fin 128 → Fin 4 → Fin 128 → ℝ) (p : Fin 8) (y : S1024x512.Idx) : EReal :=
  (F (chunk p ⟨(y 0).val / 128, Nat.div_lt_of_lt_mul (y 0).isLt⟩) ⟨(y 0).val % 128, Nat.mod_lt _ (by decide)⟩
    ⟨(y 1).val / 128, Nat.div_lt_of_lt_mul (y 1).isLt⟩ ⟨(y 1).val % 128, Nat.mod_lt _ (by decide)⟩ : EReal)

theorem tileFn_apply (F : Fin 64 → Fin 128 → Fin 4 → Fin 128 → ℝ) (p n : Fin 8) (t : Fin 128) (g : Fin 4) (l : Fin 128) :
    tileFn F p (ix2 (row8 n t) (col g l)) = (F (chunk p n) t g l : EReal) := by
  have e : ∀ (m : ℕ) (a b : Fin 128) (hb : (128 * m + b.val) % 128 < 128), (⟨(128 * m + b.val) % 128, hb⟩ : Fin 128) = b := fun m a b hb =>
    Fin.ext (by simp only; omega)
  have e1 : (⟨(128 * n.val + t.val) / 128, by omega⟩ : Fin 8) = n := Fin.ext (by simp only; omega)
  have e2 : (⟨(128 * g.val + l.val) / 128, by omega⟩ : Fin 4) = g := Fin.ext (by simp only; omega)
  have key : ∀ {n' : Fin 8} {t' : Fin 128} {g' : Fin 4} {l' : Fin 128}, n' = n → t' = t → g' = g → l' = l →
      (F (chunk p n') t' g' l' : EReal) = (F (chunk p n) t g l : EReal) := fun h1 h2 h3 h4 => by rw [h1, h2, h3, h4]
  exact key e1 (e n.val t t _) e2 (e g.val l l _)

theorem out_A_5 (hc0 : cond0_0 i) (h : Holds d p x0 x1 x2 x3 x4) (n : Fin 8) (t : Fin 128) (g : Fin 4) (l : Fin 128) :
    out0_A_5 (F := Ideal) c i arg1 harg1 arg2 harg2 arg3 harg3 arg4 harg4 arg5 harg5 arg6 harg6 arg7 harg7 arg8 harg8 arg9 harg9 hc0 x0 x1 x2 x3 x4
      (ix2 (row8 n t) (col g l)) = (du d (chunk p n) t g l : EReal) := by
  frame_out
  exact all_tiles _ (duV x0 x1 x2 x3 x4) (fun n g t l => (duV_apply h n g t l).trans (tileFn_apply (du d) p n t g l).symm) _ |>.trans (tileFn_apply (du d) p n t g l)

theorem out_A_6 (hc0 : cond0_0 i) (h : Holds d p x0 x1 x2 x3 x4) (n : Fin 8) (t : Fin 128) (g : Fin 4) (l : Fin 128) :
    out0_A_6 (F := Ideal) c i arg1 harg1 arg2 harg2 arg3 harg3 arg4 harg4 arg5 harg5 arg6 harg6 arg7 harg7 arg8 harg8 arg9 harg9 hc0 x0 x1 x2 x3 x4
      (ix2 (row8 n t) (col g l)) = (dv d (chunk p n) t g l : EReal) := by
  frame_out
  exact all_tiles _ (dvV x0 x1 x2 x4) (fun n g t l => (dvV_apply h n g t l).trans (tileFn_apply (dv d) p n t g l).symm) _ |>.trans (tileFn_apply (dv d) p n t g l)

theorem out_B_5 (hc0 : ¬cond0_0 i) (h : Holds d p x0 x1 x2 x3 x4) (n : Fin 8) (t : Fin 128) (g : Fin 4) (l : Fin 128) :
    out0_B_5 (F := Ideal) c i arg1 harg1 arg2 harg2 arg3 harg3 arg4 harg4 arg5 harg5 arg6 harg6 arg7 harg7 arg8 harg8 arg9 harg9 hc0 x0 x1 x2 x3 x4 x7 x8
      (ix2 (row8 n t) (col g l)) = (du d (chunk p n) t g l : EReal) := by
  frame_out
  exact all_tiles _ (duV x0 x1 x2 x3 x4) (fun n g t l => (duV_apply h n g t l).trans (tileFn_apply (du d) p n t g l).symm) _ |>.trans (tileFn_apply (du d) p n t g l)

theorem out_B_6 (hc0 : ¬cond0_0 i) (h : Holds d p x0 x1 x2 x3 x4) (n : Fin 8) (t : Fin 128) (g : Fin 4) (l : Fin 128) :
    out0_B_6 (F := Ideal) c i arg1 harg1 arg2 harg2 arg3 harg3 arg4 harg4 arg5 harg5 arg6 harg6 arg7 harg7 arg8 harg8 arg9 harg9 hc0 x0 x1 x2 x3 x4 x7 x8
      (ix2 (row8 n t) (col g l)) = (dv d (chunk p n) t g l : EReal) := by
  frame_out
  exact all_tiles _ (dvV x0 x1 x2 x4) (fun n g t l => (dvV_apply h n g t l).trans (tileFn_apply (dv d) p n t g l).symm) _ |>.trans (tileFn_apply (dv d) p n t g l)

theorem out_B_7 (hc0 : ¬cond0_0 i) (h : Holds d p x0 x1 x2 x3 x4) (g : Fin 4) (t s : Fin 128) :
    out0_B_7 (F := Ideal) c i arg1 harg1 arg2 harg2 arg3 harg3 arg4 harg4 arg5 harg5 arg6 harg6 arg7 harg7 arg8 harg8 arg9 harg9 hc0 x0 x1 x2 x3 x4 x7 x8
      (ix3 g t s) = x7 (ix3 g t s) + (dwPart d p g t s : EReal) := by
  frame_out
  exact dw_block h x7 [] g t s

theorem out_B_8 (hc0 : ¬cond0_0 i) (h : Holds d p x0 x1 x2 x3 x4) (g : Fin 4) (t s : Fin 128) :
    out0_B_8 (F := Ideal) c i arg1 harg1 arg2 harg2 arg3 harg3 arg4 harg4 arg5 harg5 arg6 harg6 arg7 harg7 arg8 harg8 arg9 harg9 hc0 x0 x1 x2 x3 x4 x7 x8
      (ix3 g t s) = x8 (ix3 g t s) + (dbPart d p g t : EReal) := by
  frame_out
  exact db_block h x8 [] g t s

theorem out_A_7 (hc0 : cond0_0 i) (h : Holds d p x0 x1 x2 x3 x4) (g : Fin 4) (t s : Fin 128) :
    out0_A_7 (F := Ideal) c i arg1 harg1 arg2 harg2 arg3 harg3 arg4 harg4 arg5 harg5 arg6 harg6 arg7 harg7 arg8 harg8 arg9 harg9 hc0 x0 x1 x2 x3 x4
      (ix3 g t s) = (dwPart d p g t s : EReal) := by
  frame_out
  simp (disch := decide +kernel) only [↓View.readCov_skip, View.readCov_fill]
  exact (dw_block h (k0_pay3 (F := Ideal)) [⟨Rect.unit ![0, 0, 0] ![4, 128, 128] inb_S4x128x128_S4x128x128_0_0_0, k0_pay3 (F := Ideal)⟩] g t s).trans
    ((congrArg (· + (dwPart d p g t s : EReal)) (pay3_apply _)).trans (zero_add _))

theorem out_A_8 (hc0 : cond0_0 i) (h : Holds d p x0 x1 x2 x3 x4) (g : Fin 4) (t s : Fin 128) :
    out0_A_8 (F := Ideal) c i arg1 harg1 arg2 harg2 arg3 harg3 arg4 harg4 arg5 harg5 arg6 harg6 arg7 harg7 arg8 harg8 arg9 harg9 hc0 x0 x1 x2 x3 x4
      (ix3 g t s) = (dbPart d p g t : EReal) := by
  frame_out
  simp (disch := decide +kernel) only [↓View.readCov_skip, View.readCov_fill]
  exact (db_block h (k0_pay4 (F := Ideal)) [⟨Rect.unit ![0, 0, 0] ![4, 128, 128] inb_S4x128x128_S4x128x128_0_0_0, k0_pay4 (F := Ideal)⟩] g t s).trans
    ((congrArg (· + (dbPart d p g t : EReal)) (pay4_apply _)).trans (zero_add _))

end Cert.SpatialBackBlock

end
-- ==== Proof.SpatialBack.Kernel.lean ====
/- What the kernel for the gradient of the gating unit leaves in its four result arrays. -/
module

public import proofs.«01_k».proof.Proof.SpatialBack.Point
public import proofs.«01_k».proof.Proof.Gate.Algebra
public import proofs.«01_k».proof.Proof.Gen.SpatialBackIdeal.Value

@[expose] public section

set_option maxRecDepth 16384

noncomputable section

open Idealize.ShloMosaic Idealize.ShloMosaic.TcCoe Idealize.SL.Sem
open Idealize.ShloMosaic.Pipeline (Dat)

namespace Cert.SpatialBackKernel

open Cert.SpatialBackIdeal Cert.SpatialBackIdeal.Gen Cert.SpatialBackSpec Cert.SpatialBackBlock Cert.GateAlgebra

variable (m : (ℓ : Loc nD τ sig) → Buf (Elt Ideal) ℓ) (ρ : Dev nD → PrngReg)

/-- The columns of the unit's halves in the projection, and of its output's gradient. -/
def ucol (l : Fin 512) : Fin 5632 := ⟨4608 + l.val, by omega⟩
def vcol (l : Fin 512) : Fin 5632 := ⟨5120 + l.val, by omega⟩
def ocol (l : Fin 512) : Fin 2048 := ⟨1536 + l.val, by omega⟩

/-- The operands, read off the argument arrays. -/
def data (c : Dev nD) : Data where
  u q t g l := ((m ((c.tc : Thread nD τ).loc main_arg0) : Vec Ideal S8192x5632 .bf16) (ix2 (row q t) (ucol (col g l))) : EReal).toReal
  v q t g l := ((m ((c.tc : Thread nD τ).loc main_arg0) : Vec Ideal S8192x5632 .bf16) (ix2 (row q t) (vcol (col g l))) : EReal).toReal
  o q t g l := ((m ((c.tc : Thread nD τ).loc main_arg3) : Vec Ideal S8192x2048 .bf16) (ix2 (row q t) (ocol (col g l))) : EReal).toReal
  w g t s := ((m ((c.tc : Thread nD τ).loc main_arg1) : Vec Ideal S4x128x128 .f32) (ix3 g t s) : EReal).toReal
  b g t := ((m ((c.tc : Thread nD τ).loc main_arg2) : Vec Ideal S4x128 .f32) (ix2 g t) : EReal).toReal

/-- The operands the kernel reads are real. -/
structure Finite (c : Dev nD) : Prop where
  u : ∀ r l, IsReal ((m ((c.tc : Thread nD τ).loc main_arg0) : Vec Ideal S8192x5632 .bf16) (ix2 r (ucol l)))
  v : ∀ r l, IsReal ((m ((c.tc : Thread nD τ).loc main_arg0) : Vec Ideal S8192x5632 .bf16) (ix2 r (vcol l)))
  o : ∀ r l, IsReal ((m ((c.tc : Thread nD τ).loc main_arg3) : Vec Ideal S8192x2048 .bf16) (ix2 r (ocol l)))
  w : ∀ g t s, IsReal ((m ((c.tc : Thread nD τ).loc main_arg1) : Vec Ideal S4x128x128 .f32) (ix3 g t s))
  b : ∀ g t, IsReal ((m ((c.tc : Thread nD τ).loc main_arg2) : Vec Ideal S4x128 .f32) (ix2 g t))

theorem coe_toReal {x : EReal} (h : IsReal x) : x = (x.toReal : EReal) := by
  obtain ⟨r, rfl⟩ := h
  rfl

/-- The grid point. -/
def pt (t : Fin cfg0.N) : Fin 8 := ⟨t.val, lt_of_lt_of_eq t.isLt N_0⟩

/-- Where each window's block lies. -/
theorem idx (t : Fin cfg0.N) : win0_0.index t = ![t.val, 9] ∧ win0_1.index t = ![t.val, 10] ∧ win0_2.index t = ![0, 0, 0]
    ∧ win0_3.index t = ![0, 0, 0] ∧ win0_4.index t = ![t.val, 3] ∧ win0_5.index t = ![t.val, 0] ∧ win0_6.index t = ![t.val, 0]
    ∧ win0_7.index t = ![0, 0, 0] ∧ win0_8.index t = ![0, 0, 0] :=
  (by decide +kernel : ∀ t : Fin grid0.N, win0_0.index t = ![t.val, 9] ∧ win0_1.index t = ![t.val, 10] ∧ win0_2.index t = ![0, 0, 0]
    ∧ win0_3.index t = ![0, 0, 0] ∧ win0_4.index t = ![t.val, 3] ∧ win0_5.index t = ![t.val, 0] ∧ win0_6.index t = ![t.val, 0]
    ∧ win0_7.index t = ![0, 0, 0] ∧ win0_8.index t = ![0, 0, 0]) t

theorem blk_u (c : Dev nD) (t : Fin cfg0.N) (n : Fin 8) (s : Fin 128) (l : Fin 512) : (iblk m c 0 t : Vec Ideal S1024x512 .bf16) (ix2 (row8 n s) l)
    = (m ((c.tc : Thread nD τ).loc main_arg0) : Vec Ideal S8192x5632 .bf16) (ix2 (row (chunk (pt t) n) s) (ucol l)) := by
  unfold row8 row chunk pt ucol; dsimp only; blk_ext [iblk, V, idx t]
theorem blk_v (c : Dev nD) (t : Fin cfg0.N) (n : Fin 8) (s : Fin 128) (l : Fin 512) : (iblk m c 1 t : Vec Ideal S1024x512 .bf16) (ix2 (row8 n s) l)
    = (m ((c.tc : Thread nD τ).loc main_arg0) : Vec Ideal S8192x5632 .bf16) (ix2 (row (chunk (pt t) n) s) (vcol l)) := by
  unfold row8 row chunk pt vcol; dsimp only; blk_ext [iblk, V, idx t]
theorem blk_o (c : Dev nD) (t : Fin cfg0.N) (n : Fin 8) (s : Fin 128) (l : Fin 512) : (iblk m c 4 t : Vec Ideal S1024x512 .bf16) (ix2 (row8 n s) l)
    = (m ((c.tc : Thread nD τ).loc main_arg3) : Vec Ideal S8192x2048 .bf16) (ix2 (row (chunk (pt t) n) s) (ocol l)) := by
  unfold row8 row chunk pt ocol; dsimp only; blk_ext [iblk, V, idx t]
theorem blk_w (c : Dev nD) (t : Fin cfg0.N) (g : Fin 4) (i s : Fin 128) : (iblk m c 2 t : Vec Ideal S4x128x128 .f32) (ix3 g i s)
    = (m ((c.tc : Thread nD τ).loc main_arg1) : Vec Ideal S4x128x128 .f32) (ix3 g i s) := by
  blk_ext [iblk, V, idx t]
/-- The bias, spread over the columns of a tile. -/
theorem spread (c : Dev nD) : (V m c main_v1 : Vec Ideal S4x128x128 .f32)
    = broadcastInDim S4x128x128 ![0, 1, 2] bcast_S4x128x1_S4x128x128_0_1_2
      (broadcastInDim S4x128x1 ![0, 1] bcast_S4x128_S4x128x1_0_1 (m ((c.tc : Thread nD τ).loc main_arg2) : Vec Ideal S4x128 .f32)) := rfl

theorem blk_b (c : Dev nD) (t : Fin cfg0.N) (g : Fin 4) (i s : Fin 128) : (iblk m c 3 t : Vec Ideal S4x128x128 .f32) (ix3 g i s)
    = (m ((c.tc : Thread nD τ).loc main_arg2) : Vec Ideal S4x128 .f32) (ix2 g i) := by
  have e : (iblk m c 3 t : Vec Ideal S4x128x128 .f32) (ix3 g i s) = (V m c main_v1 : Vec Ideal S4x128x128 .f32) (ix3 g i s) := by
    blk_ext [iblk, idx t]
  rw [e, spread]
  pointwise []

variable {m}

/-- The blocks the point finds are the ones the block lemmas speak of. -/
theorem holds {c : Dev nD} (h : Finite m c) (t : Fin cfg0.N) :
    Holds (data m c) (pt t) (iblk m c 0 t) (iblk m c 1 t) (iblk m c 2 t) (iblk m c 3 t) (iblk m c 4 t) where
  u n s g l := (blk_u m c t n s (col g l)).trans (coe_toReal (h.u _ _))
  v n s g l := (blk_v m c t n s (col g l)).trans (coe_toReal (h.v _ _))
  w g i s := (blk_w m c t g i s).trans (coe_toReal (h.w _ _ _))
  b g i s := (blk_b m c t g i s).trans (coe_toReal (h.b _ _))
  o n s g l := (blk_o m c t n s (col g l)).trans (coe_toReal (h.o _ _))

theorem du_A {c : Dev nD} (h : Finite m c) (t : Fin cfg0.N) (h0 : t.val % 8 = 0) (n : Fin 8) (s : Fin 128) (g : Fin 4) (l : Fin 128) :
    (outsAt0 m c t.val t.isLt).1 (ix2 (row8 n s) (col g l)) = (du (data m c) (chunk (pt t) n) s g l : EReal) := by
  have e := out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (holds h t) n s g l
  rw [outsAt0_A m c t h0]
  dsimp only
  rw [e]

theorem dv_A {c : Dev nD} (h : Finite m c) (t : Fin cfg0.N) (h0 : t.val % 8 = 0) (n : Fin 8) (s : Fin 128) (g : Fin 4) (l : Fin 128) :
    (outsAt0 m c t.val t.isLt).2.1 (ix2 (row8 n s) (col g l)) = (dv (data m c) (chunk (pt t) n) s g l : EReal) := by
  have e := out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (holds h t) n s g l
  rw [outsAt0_A m c t h0]
  dsimp only
  rw [e]

theorem dw_A {c : Dev nD} (h : Finite m c) (t : Fin cfg0.N) (h0 : t.val % 8 = 0) (g : Fin 4) (i s : Fin 128) :
    (outsAt0 m c t.val t.isLt).2.2.1 (ix3 g i s) = (dwPart (data m c) (pt t) g i s : EReal) := by
  have e := out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (holds h t) g i s
  rw [outsAt0_A m c t h0]
  dsimp only
  rw [e]

theorem db_A {c : Dev nD} (h : Finite m c) (t : Fin cfg0.N) (h0 : t.val % 8 = 0) (g : Fin 4) (i s : Fin 128) :
    (outsAt0 m c t.val t.isLt).2.2.2 (ix3 g i s) = (dbPart (data m c) (pt t) g i : EReal) := by
  have e := out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (holds h t) g i s
  rw [outsAt0_A m c t h0]
  dsimp only
  rw [e]

theorem du_B {c : Dev nD} (h : Finite m c) (t : Fin cfg0.N) (h0 : ¬t.val % 8 = 0) (n : Fin 8) (s : Fin 128) (g : Fin 4) (l : Fin 128) :
    (outsAt0 m c t.val t.isLt).1 (ix2 (row8 n s) (col g l)) = (du (data m c) (chunk (pt t) n) s g l : EReal) := by
  have e := out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (holds h t) n s g l
  rw [outsAt0_B m c t h0]
  dsimp only
  rw [e]

theorem dv_B {c : Dev nD} (h : Finite m c) (t : Fin cfg0.N) (h0 : ¬t.val % 8 = 0) (n : Fin 8) (s : Fin 128) (g : Fin 4) (l : Fin 128) :
    (outsAt0 m c t.val t.isLt).2.1 (ix2 (row8 n s) (col g l)) = (dv (data m c) (chunk (pt t) n) s g l : EReal) := by
  have e := out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (holds h t) n s g l
  rw [outsAt0_B m c t h0]
  dsimp only
  rw [e]

theorem dw_B {c : Dev nD} (h : Finite m c) (t : Fin cfg0.N) (h0 : ¬t.val % 8 = 0) (g : Fin 4) (i s : Fin 128) :
    (outsAt0 m c t.val t.isLt).2.2.1 (ix3 g i s) = (outsAt0 m c (t.val - 1) (Nat.lt_of_le_of_lt (Nat.sub_le _ _) t.isLt)).2.2.1 (ix3 g i s) + (dwPart (data m c) (pt t) g i s : EReal) := by
  have e := out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (holds h t) g i s
  rw [outsAt0_B m c t h0]
  dsimp only
  rw [e]

theorem db_B {c : Dev nD} (h : Finite m c) (t : Fin cfg0.N) (h0 : ¬t.val % 8 = 0) (g : Fin 4) (i s : Fin 128) :
    (outsAt0 m c t.val t.isLt).2.2.2 (ix3 g i s) = (outsAt0 m c (t.val - 1) (Nat.lt_of_le_of_lt (Nat.sub_le _ _) t.isLt)).2.2.2 (ix3 g i s) + (dbPart (data m c) (pt t) g i : EReal) := by
  have e := out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (holds h t) g i s
  rw [outsAt0_B m c t h0]
  dsimp only
  rw [e]

/-- The two blocks of rows after point `t`. -/
theorem du_at {c : Dev nD} (h : Finite m c) (t : Fin cfg0.N) (n : Fin 8) (s : Fin 128) (g : Fin 4) (l : Fin 128) :
    (outsAt0 m c t.val t.isLt).1 (ix2 (row8 n s) (col g l)) = (du (data m c) (chunk (pt t) n) s g l : EReal) := by
  by_cases h0 : t.val % 8 = 0
  · exact du_A h t h0 n s g l
  · exact du_B h t h0 n s g l

theorem dv_at {c : Dev nD} (h : Finite m c) (t : Fin cfg0.N) (n : Fin 8) (s : Fin 128) (g : Fin 4) (l : Fin 128) :
    (outsAt0 m c t.val t.isLt).2.1 (ix2 (row8 n s) (col g l)) = (dv (data m c) (chunk (pt t) n) s g l : EReal) := by
  by_cases h0 : t.val % 8 = 0
  · exact dv_A h t h0 n s g l
  · exact dv_B h t h0 n s g l

/-- A quantity of the grid points, read at a number. -/
def upTo (f : Fin 8 → ℝ) (k : ℕ) : EReal := if h : k < 8 then (f ⟨k, h⟩ : EReal) else 0

theorem upTo_pt (f : Fin 8 → ℝ) (t : Fin cfg0.N) : upTo f t.val = (f (pt t) : EReal) := dif_pos _

theorem sum_upTo (f : Fin 8 → ℝ) (n : ℕ) (hn : n = 8) : ∑ k ∈ Finset.range n, upTo f k = ((∑ p, f p : ℝ) : EReal) := by
  subst hn
  rw [Finset.sum_range, coe_sum]
  exact Finset.sum_congr rfl fun k _ => dif_pos k.isLt

/-- The gradient of the weight after point `t`: the sum of the parts of the points so far. -/
theorem dw_acc {c : Dev nD} (h : Finite m c) (t : Fin cfg0.N) (y : S4x128x128.Idx) :
    ((outsAt0 m c t.val t.isLt).2.2.1 : Vec Ideal S4x128x128 .f32) y = ∑ k ∈ Finset.range (t.val + 1), upTo (fun p => dwPart (data m c) p (y 0) (y 1) (y 2)) k := by
  refine (Pipeline.eq_sum_of_reset_step_apply_single (M := EReal) (ι := S4x128x128.Idx) (N := cfg0.N)
    (fun n h => ((outsAt0 m c n h).2.2.1 : Vec Ideal S4x128x128 .f32)) 8 (fun _ => 0)
    (fun k y => upTo (fun p => dwPart (data m c) p (y 0) (y 1) (y 2)) k) (fun t h0 y => ?_) (fun t h0 y => ?_) (le_of_eq N_0) t y).trans (zero_add _)
  · idx_vars y
    exact ((dw_A h t h0 y0 y1 y2).trans (upTo_pt (fun p => dwPart (data m c) p y0 y1 y2) t).symm).trans (zero_add _).symm
  · idx_vars y
    exact (dw_B h t h0 y0 y1 y2).trans (congrArg _ (upTo_pt (fun p => dwPart (data m c) p y0 y1 y2) t).symm)

/-- The gradient of the bias after point `t`: the sum of the parts of the points so far. -/
theorem db_acc {c : Dev nD} (h : Finite m c) (t : Fin cfg0.N) (y : S4x128x128.Idx) :
    ((outsAt0 m c t.val t.isLt).2.2.2 : Vec Ideal S4x128x128 .f32) y = ∑ k ∈ Finset.range (t.val + 1), upTo (fun p => dbPart (data m c) p (y 0) (y 1)) k := by
  refine (Pipeline.eq_sum_of_reset_step_apply_single (M := EReal) (ι := S4x128x128.Idx) (N := cfg0.N)
    (fun n h => ((outsAt0 m c n h).2.2.2 : Vec Ideal S4x128x128 .f32)) 8 (fun _ => 0)
    (fun k y => upTo (fun p => dbPart (data m c) p (y 0) (y 1)) k) (fun t h0 y => ?_) (fun t h0 y => ?_) (le_of_eq N_0) t y).trans (zero_add _)
  · idx_vars y
    exact ((db_A h t h0 y0 y1 y2).trans (upTo_pt (fun p => dbPart (data m c) p y0 y1) t).symm).trans (zero_add _).symm
  · idx_vars y
    exact (db_B h t h0 y0 y1 y2).trans (congrArg _ (upTo_pt (fun p => dbPart (data m c) p y0 y1) t).symm)

/-- The last grid point. -/
def tLast : Fin cfg0.N := ⟨7, lt_of_lt_of_eq (by decide : 7 < 8) N_0.symm⟩

theorem dw_whole (d : Data) (g : Fin 4) (t s : Fin 128) : ∑ p, dwPart d p g t s = dw d g t s := by
  unfold dwPart dw
  by_cases hst : s ≤ t
  · simp only [if_pos hst]
    exact sum_chunk fun q => dwChunk d q g t s
  · simp only [if_neg hst, Finset.sum_const_zero]

theorem db_whole (d : Data) (g : Fin 4) (t : Fin 128) : ∑ p, dbPart d p g t = db d g t := sum_chunk fun q => dbChunk d q g t

/-- The four results, whole. -/
def rowsOf (F : Fin 64 → Fin 128 → Fin 4 → Fin 128 → ℝ) : Vec Ideal S8192x512 .bf16 := fun i =>
  (F ⟨(i 0).val / 128, Nat.div_lt_of_lt_mul (i 0).isLt⟩ ⟨(i 0).val % 128, Nat.mod_lt _ (by decide)⟩
    ⟨(i 1).val / 128, Nat.div_lt_of_lt_mul (i 1).isLt⟩ ⟨(i 1).val % 128, Nat.mod_lt _ (by decide)⟩ : EReal)
def dwOf (d : Data) : Vec Ideal S4x128x128 .f32 := fun i => (dw d (i 0) (i 1) (i 2) : EReal)
def dbOf (d : Data) : Vec Ideal S4x128x128 .f32 := fun i => (db d (i 0) (i 1) : EReal)

theorem rowsOf_apply (F : Fin 64 → Fin 128 → Fin 4 → Fin 128 → ℝ) (i : S8192x512.Idx) (q : Fin 64) (t : Fin 128) (g : Fin 4) (l : Fin 128)
    (h0 : (i 0).val = 128 * q.val + t.val) (h1 : (i 1).val = 128 * g.val + l.val) : rowsOf F i = (F q t g l : EReal) := by
  have key : ∀ {q' : Fin 64} {t' : Fin 128} {g' : Fin 4} {l' : Fin 128}, q' = q → t' = t → g' = g → l' = l →
      (F q' t' g' l' : EReal) = (F q t g l : EReal) := fun h1 h2 h3 h4 => by rw [h1, h2, h3, h4]
  exact key (Fin.ext (by simp only; omega)) (Fin.ext (by simp only; omega)) (Fin.ext (by simp only; omega)) (Fin.ext (by simp only; omega))

theorem final_du {c : Dev nD} (h : Finite m c) : (dats m 0 c).arrAt 5 cfg0.N = rowsOf (du (data m c)) := by
  refine (dats m 0 c).arrAt_eq_of_covers 5 _ (by decide +kernel) fun t hf y => ?_
  blk_simp
  rw [after0_5]
  idx_vars y
  obtain ⟨n, s, rfl⟩ := row8_cover y0
  obtain ⟨g, l, rfl⟩ := col_cover y1
  refine (du_at h t n s g l).trans ?_
  refine (rowsOf_apply _ _ _ _ _ _ ?_ ?_).symm
  all_goals blk_simp [(idx t).2.2.2.2.2.1]
  all_goals simp only [row8, col, chunk, pt]
  all_goals omega

theorem final_dv {c : Dev nD} (h : Finite m c) : (dats m 0 c).arrAt 6 cfg0.N = rowsOf (dv (data m c)) := by
  refine (dats m 0 c).arrAt_eq_of_covers 6 _ (by decide +kernel) fun t hf y => ?_
  blk_simp
  rw [after0_6]
  idx_vars y
  obtain ⟨n, s, rfl⟩ := row8_cover y0
  obtain ⟨g, l, rfl⟩ := col_cover y1
  refine (dv_at h t n s g l).trans ?_
  refine (rowsOf_apply _ _ _ _ _ _ ?_ ?_).symm
  all_goals blk_simp [(idx t).2.2.2.2.2.2.1]
  all_goals simp only [row8, col, chunk, pt]
  all_goals omega

theorem final_dw {c : Dev nD} (h : Finite m c) : (dats m 0 c).arrAt 7 cfg0.N = dwOf (data m c) := by
  refine (dats m 0 c).arrAt_eq_of_after_last 7 tLast (by decide +kernel) _ fun j => ?_
  blk_simp
  rw [after0_7]
  refine (dw_acc h tLast _).trans ((sum_upTo _ _ rfl).trans ?_)
  idx_vars j
  exact congrArg _ (dw_whole (data m c) j0 j1 j2)

theorem final_db {c : Dev nD} (h : Finite m c) : (dats m 0 c).arrAt 8 cfg0.N = dbOf (data m c) := by
  refine (dats m 0 c).arrAt_eq_of_after_last 8 tLast (by decide +kernel) _ fun j => ?_
  blk_simp
  rw [after0_8]
  refine (db_acc h tLast _).trans ((sum_upTo _ _ rfl).trans ?_)
  idx_vars j
  exact congrArg _ (db_whole (data m c) j0 j1)

variable (m)

/-- What a run of the kernel leaves where its operands are real: the four gradients, and its arguments as they were. -/
theorem run (h : ∀ c, Finite m c) : θ_run defs (onTc (τ := τ) (main (F := Ideal))) ⟨m, fun _ => 0, ρ⟩ fun r => ∀ c : Dev nD,
      r.2.mem ((c.tc : Thread nD τ).loc main_v2_0) = rowsOf (du (data m c))
      ∧ r.2.mem ((c.tc : Thread nD τ).loc main_v2_1) = rowsOf (dv (data m c))
      ∧ r.2.mem ((c.tc : Thread nD τ).loc main_v2_2) = dwOf (data m c)
      ∧ r.2.mem ((c.tc : Thread nD τ).loc main_v2_3) = dbOf (data m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ r c => ⟨(r c).1.trans (final_du (h c)), (r c).2.1.trans (final_dv (h c)), (r c).2.2.1.trans (final_dw (h c)),
    (r c).2.2.2.1.trans (final_db (h c)), (r c).2.2.2.2⟩) (Value.run_blocks m ρ)

end Cert.SpatialBackKernel

end
-- ==== Proof.SpatialBack.Reference.lean ====
/- What the reference for the gradient of the gating unit computes, read at an index. -/
module

public import proofs.«01_k».proof.Proof.SpatialBack.Spec
public import proofs.«01_k».proof.Proof.Gen.SpatialBackRefIdeal.Run

@[expose] public section

set_option maxRecDepth 16384

noncomputable section

open Idealize.ShloMosaic Idealize.ShloMosaic.TcCoe Idealize.SL.Sem

namespace Cert.SpatialBackReference

open Cert.SpatialBackRefIdeal Cert.SpatialBackRefIdeal.Gen Cert.SpatialBackSpec

/-- A number everywhere. -/
def cst (b : BitVec 32) : FVec Ideal S8192x512 .f32 := broadcastInDim S8192x512 ![] bcast_S_S8192x512 (constant (F := Ideal) S_ .f32 b)

/-- The activation, its hyperbolic tangent and what it makes of a gradient. -/
def thR (x : FVec Ideal S8192x512 .f32) : FVec Ideal S8192x512 .f32 :=
  Host.tanh (mulf (cst 0x3F4C422A#32) (addf x (Host.divf (mulf (cst 0x472EAB00#32) (mulf (mulf x x) x)) (cst 0x49742400#32))))
def geluR (x : FVec Ideal S8192x512 .f32) : FVec Ideal S8192x512 .f32 :=
  mulf x (mulf (cst 0x3F000000#32) (addf (cst 0x3F800000#32) (thR x)))
def innerR (x g : FVec Ideal S8192x512 .f32) : FVec Ideal S8192x512 .f32 :=
  mulf (cst 0x3F4C422A#32) (mulf (mulf (cst 0x3F000000#32) (mulf x g)) (mulf (addf (cst 0x3F800000#32) (thR x)) (subf (cst 0x3F800000#32) (thR x))))
def backR (x g : FVec Ideal S8192x512 .f32) : FVec Ideal S8192x512 .bf16 :=
  truncf .bf16 (addf (addf (mulf g (mulf (cst 0x3F000000#32) (addf (cst 0x3F800000#32) (thR x)))) (innerR x g))
    (mulf (mulf (cst 0x472EAB00#32) (Host.divf (innerR x g) (cst 0x49742400#32))) (mulf (cst 0x40400000#32) (mulf x x)))) bitsLt_bf16_f32

theorem thR_apply {x : FVec Ideal S8192x512 .f32} {r : Fin 8192} {l : Fin 512} {a : ℝ} (h : x (ix2 r l) = (a : EReal)) :
    thR x (ix2 r l) = (th a : EReal) := by
  pointwise [thR, cst]
  simp only [h, ofBits_K, ofBits_44715, ofBits_million]
  simp only [Ideal.div_coe (by norm_num : (1000000 : ℝ) ≠ 0), ← EReal.coe_mul, ← EReal.coe_add, Ideal.tanh_coe]
  unfold th
  congr 3
  ring

theorem geluR_apply {x : FVec Ideal S8192x512 .f32} {r : Fin 8192} {l : Fin 512} {a : ℝ} (h : x (ix2 r l) = (a : EReal)) :
    geluR x (ix2 r l) = (gelu a : EReal) := by
  have key := thR_apply h
  pointwise [geluR, cst]
  simp only [key, h, ofBits_half]
  simp only [← EReal.coe_mul, ← EReal.coe_add, ← EReal.coe_one]
  unfold gelu
  congr 1
  ring

theorem innerR_apply {x g : FVec Ideal S8192x512 .f32} {r : Fin 8192} {l : Fin 512} {a b : ℝ} (h : x (ix2 r l) = (a : EReal))
    (hg : g (ix2 r l) = (b : EReal)) : innerR x g (ix2 r l) = ((K * (1 / 2 * (a * b) * ((1 + th a) * (1 - th a))) : ℝ) : EReal) := by
  have key := thR_apply h
  pointwise [innerR, cst]
  simp only [key, h, hg, ofBits_half, ofBits_K]
  simp only [← EReal.coe_mul, ← EReal.coe_add, ← EReal.coe_sub, ← EReal.coe_one]

theorem backR_apply {x g : FVec Ideal S8192x512 .f32} {r : Fin 8192} {l : Fin 512} {a b : ℝ} (h : x (ix2 r l) = (a : EReal))
    (hg : g (ix2 r l) = (b : EReal)) : backR x g (ix2 r l) = ((b * dgelu a : ℝ) : EReal) := by
  have key := thR_apply h
  have inner := innerR_apply h hg
  pointwise [backR, cst]
  simp only [key, inner, h, hg, ofBits_half, ofBits_44715, ofBits_million, ofBits_three]
  simp only [Ideal.div_coe (by norm_num : (1000000 : ℝ) ≠ 0), ← EReal.coe_mul, ← EReal.coe_add, ← EReal.coe_one]
  unfold dgelu
  congr 1
  ring

/-- Rows and columns taken apart into chunks and groups, and put together. -/
def parts (x : FVec Ideal S8192x512 .f32) : FVec Ideal S64x128x4x128 .f32 := shapeCast S64x128x4x128 x shapeCasts_S8192x512_S64x128x4x128
def whole (x : FVec Ideal S64x128x4x128 .f32) : FVec Ideal S8192x512 .f32 := shapeCast S8192x512 x shapeCasts_S64x128x4x128_S8192x512

theorem parts_apply (x : FVec Ideal S8192x512 .f32) (q : Fin 64) (t : Fin 128) (g : Fin 4) (c : Fin 128) :
    parts x (ix4 q t g c) = x (ix2 (row q t) (col g c)) := by
  refine shapeCast_apply _ _ _ _ ?_
  rw [Shape.rowMajor_val_two, Shape.rowMajor_val_four]
  simp [row, col]
  omega

theorem whole_apply (x : FVec Ideal S64x128x4x128 .f32) (q : Fin 64) (t : Fin 128) (g : Fin 4) (c : Fin 128) :
    whole x (ix2 (row q t) (col g c)) = x (ix4 q t g c) := by
  refine shapeCast_apply _ _ _ _ ?_
  rw [Shape.rowMajor_val_two, Shape.rowMajor_val_four]
  simp [row, col]
  omega

/-- Ones at and below the diagonal, and the weight under it. -/
def maskR : FVec Ideal S1x128x128 .f32 :=
  broadcastInDim S1x128x128 ![1, 2] bcast_S128x128_S1x128x128_1_2
    (select (cmpi .sge (addi (iotaInDim S128x128 32 0) (broadcastInDim S128x128 ![] bcast_S_S128x128 (constantI S_ 32 0#32))) (iotaInDim S128x128 32 1))
      (broadcastInDim S128x128 ![] bcast_S_S128x128 (constant (F := Ideal) S_ .f32 0x3F800000#32))
      (broadcastInDim S128x128 ![] bcast_S_S128x128 (constant (F := Ideal) S_ .f32 0x00000000#32)))
def masks : FVec Ideal S4x128x128 .f32 := broadcastInDim S4x128x128 ![0, 1, 2] bcast_S1x128x128_S4x128x128_0_1_2 maskR
def weight (w : FVec Ideal S4x128x128 .f32) : FVec Ideal S4x128x128 .f32 := mulf w masks

theorem select_apply (t s : Fin 128) (a b : EReal) :
    Scalar.select (IntOp.cmpi CmpIPredicate.sge (IntOp.addi (BitVec.ofNat 32 t.val) 0#32) (BitVec.ofNat 32 s.val)) a b = if s ≤ t then a else b := by
  have hs : (BitVec.ofNat 32 s.val).toInt = s.val := by rw [BitVec.toInt_ofNat']; exact Int.bmod_eq_of_le (by omega) (by omega)
  have ht : (BitVec.ofNat 32 t.val).toInt = t.val := by rw [BitVec.toInt_ofNat']; exact Int.bmod_eq_of_le (by omega) (by omega)
  by_cases hst : s ≤ t
  · have : s.val ≤ t.val := hst
    simp [Scalar.select, IntOp.cmpi, IntOp.addi, BitVec.sle, hs, ht, this, hst]
  · have : ¬s.val ≤ t.val := hst
    simp [Scalar.select, IntOp.cmpi, IntOp.addi, BitVec.sle, hs, ht, this, hst]

/-- A sum over the first and the last of four axes. -/
theorem sum_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (z : EReal) (i : Fin n1) (j : Fin n2) :
    Ideal.hostReduceAdd h v z (ix2 i j) = z + ∑ a : Fin n0, ∑ b : Fin n3, v (ix4 a i j b) := by
  refine congrArg (z + ·) ((Finset.sum_filter_eq_sum_of_fiber _ (fun k : Fin n0 × Fin n3 => (ix4 k.1 i j k.2 : (⟨4, ![n0, n1, n2, n3]⟩ : Shape).Idx))
    (fun _ _ e => Prod.ext (congrFun e 0) (congrFun e 3)) (fun x => ⟨fun e => ?_, ?_⟩) v).trans ?_)
  · refine ⟨(x 0, x 3), funext fun a => Fin.ext ?_⟩
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    refine funext fun a => Fin.ext ?_
    match a with
    | ⟨0, _⟩ => rfl
    | ⟨1, _⟩ => rfl
  · simp only [Fintype.sum_prod_type]

theorem masks_apply (g : Fin 4) (t s : Fin 128) : masks (ix3 g t s) = ((if s ≤ t then 1 else 0 : ℝ) : EReal) := by
  pointwise [masks, maskR]
  rw [select_apply]
  split <;> simp

/-- The mixed half; what reaches it; what reaches the second half; the gradients of the weight and of the bias. -/
def mixR (v : FVec Ideal S8192x512 .f32) (w : FVec Ideal S4x128x128 .f32) (b : FVec Ideal S4x128 .f32) : FVec Ideal S64x128x4x128 .f32 :=
  addf (transpose S64x128x4x128 [1, 3, 0, 2] (Host.dotGeneral dot_S64x128x4x128_S4x128x128_S4x64x128x128_1_2_03_1_2_0 none (parts (geluR v)) (weight w))
      transposes_S4x64x128x128_S64x128x4x128_1_3_0_2)
    (broadcastInDim S64x128x4x128 ![0, 1, 2, 3] bcast_S1x128x4x1_S64x128x4x128_0_1_2_3 (broadcastInDim S1x128x4x1 ![1, 2, 3] bcast_S128x4x1_S1x128x4x1_1_2_3
      (broadcastInDim S128x4x1 ![0, 1] bcast_S128x4_S128x4x1_0_1 (transpose S128x4 [1, 0] b transposes_S4x128_S128x4_1_0))))
def dmR (u o : FVec Ideal S8192x512 .f32) : FVec Ideal S64x128x4x128 .f32 := mulf (parts (geluR u)) (parts o)
def dmT (u o : FVec Ideal S8192x512 .f32) : FVec Ideal S4x64x128x128 .f32 :=
  transpose S4x64x128x128 [2, 0, 3, 1] (dmR u o) transposes_S64x128x4x128_S4x64x128x128_2_0_3_1
def duR (u v o : FVec Ideal S8192x512 .f32) (w : FVec Ideal S4x128x128 .f32) (b : FVec Ideal S4x128 .f32) : FVec Ideal S8192x512 .bf16 :=
  backR u (whole (mulf (parts o) (mixR v w b)))
def dvR (u v o : FVec Ideal S8192x512 .f32) (w : FVec Ideal S4x128x128 .f32) : FVec Ideal S8192x512 .bf16 :=
  backR v (whole (transpose S64x128x4x128 [1, 3, 0, 2]
    (Host.dotGeneral dot_S4x64x128x128_S4x128x128_S4x64x128x128_3_1_12_2_0_0 none (dmT u o) (weight w)) transposes_S4x64x128x128_S64x128x4x128_1_3_0_2))
def dwR (u v o : FVec Ideal S8192x512 .f32) : FVec Ideal S4x128x128 .f32 :=
  mulf (Host.dotGeneral dot_S4x64x128x128_S64x128x4x128_S4x128x128_12_03_3_1_0_2 none (dmT u o) (parts (geluR v))) masks
def dbR (u o : FVec Ideal S8192x512 .f32) : FVec Ideal S4x128x128 .f32 :=
  broadcastInDim S4x128x128 ![0, 1, 2] bcast_S4x128x1_S4x128x128_0_1_2 (broadcastInDim S4x128x1 ![0, 1] bcast_S4x128_S4x128x1_0_1
    (transpose S4x128 [1, 0] (Host.reduceAdd (broadcastInDim S128x4x1 ![0, 1] bcast_S128x4_S128x4x1_0_1 (Host.reduceAdd (shapeCast S1x128x4x1
      (Host.reduceAdd (dmR u o) (constant (F := Ideal) S_ .f32 0x00000000#32) reducesTo_S64x128x4x128_S128x4_d0_3 h_S_) shapeCasts_S128x4_S1x128x4x1)
      (constant (F := Ideal) S_ .f32 0x00000000#32) reducesTo_S1x128x4x1_S128x4_d0_3 h_S_)) (constant (F := Ideal) S_ .f32 0x00000000#32) reducesTo_S128x4x1_S128x4_d2 h_S_)
      transposes_S128x4_S4x128_1_0))

/-- The parts of the arguments the unit reads, in float32. -/
def uOf (X : Vec Ideal S8192x5632 .bf16) : FVec Ideal S8192x512 .f32 :=
  extf .f32 (extractStridedSlice S8192x512 ![0, 4608] X slices_S8192x5632_S8192x512_0_4608) bitsLt_bf16_f32
def vOf (X : Vec Ideal S8192x5632 .bf16) : FVec Ideal S8192x512 .f32 :=
  extf .f32 (extractStridedSlice S8192x512 ![0, 5120] X slices_S8192x5632_S8192x512_0_5120) bitsLt_bf16_f32
def oOf (X : Vec Ideal S8192x2048 .bf16) : FVec Ideal S8192x512 .f32 :=
  extf .f32 (extractStridedSlice S8192x512 ![0, 1536] X slices_S8192x2048_S8192x512_0_1536) bitsLt_bf16_f32

theorem uOf_apply (X : Vec Ideal S8192x5632 .bf16) (r : Fin 8192) (l : Fin 512) : uOf X (ix2 r l) = X (ix2 r ⟨4608 + l.val, by omega⟩) := by
  pointwise [uOf]
theorem vOf_apply (X : Vec Ideal S8192x5632 .bf16) (r : Fin 8192) (l : Fin 512) : vOf X (ix2 r l) = X (ix2 r ⟨5120 + l.val, by omega⟩) := by
  pointwise [vOf]
theorem oOf_apply (X : Vec Ideal S8192x2048 .bf16) (r : Fin 8192) (l : Fin 512) : oOf X (ix2 r l) = X (ix2 r ⟨1536 + l.val, by omega⟩) := by
  pointwise [oOf]

/-- The operands hold the numbers of `d`. -/
structure Reads (d : Data) (u v o : FVec Ideal S8192x512 .f32) (w : FVec Ideal S4x128x128 .f32) (b : FVec Ideal S4x128 .f32) : Prop where
  u : ∀ q t g c, u (ix2 (row q t) (col g c)) = (d.u q t g c : EReal)
  v : ∀ q t g c, v (ix2 (row q t) (col g c)) = (d.v q t g c : EReal)
  o : ∀ q t g c, o (ix2 (row q t) (col g c)) = (d.o q t g c : EReal)
  w : ∀ g t s, w (ix3 g t s) = (d.w g t s : EReal)
  b : ∀ g t, b (ix2 g t) = (d.b g t : EReal)

variable {d : Data} {u v o : FVec Ideal S8192x512 .f32} {w : FVec Ideal S4x128x128 .f32} {b : FVec Ideal S4x128 .f32}

theorem weight_apply (h : Reads d u v o w b) (g : Fin 4) (t s : Fin 128) : weight w (ix3 g t s) = (wm d g t s : EReal) := by
  have key := masks_apply g t s
  pointwise [weight]
  rw [key, h.w, ← EReal.coe_mul]
  unfold wm
  congr 1
  split <;> ring

theorem dmR_apply (h : Reads d u v o w b) (q : Fin 64) (t : Fin 128) (g : Fin 4) (c : Fin 128) :
    dmR u o (ix4 q t g c) = (dm d q t g c : EReal) := by
  have ku := (parts_apply (geluR u) q t g c).trans (geluR_apply (h.u q t g c))
  have ko := (parts_apply o q t g c).trans (h.o q t g c)
  pointwise [dmR]
  rw [ku, ko, ← EReal.coe_mul]
  unfold dm
  congr 1
  ring

theorem mixR_apply (h : Reads d u v o w b) (q : Fin 64) (t : Fin 128) (g : Fin 4) (c : Fin 128) :
    mixR v w b (ix4 q t g c) = (mixed d q t g c : EReal) := by
  have kv := fun s => (parts_apply (geluR v) q s g c).trans (geluR_apply (h.v q s g c))
  have kw := weight_apply h g t
  pointwise [mixR]
  simp only [kv, kw, h.b]
  simp only [← EReal.coe_mul, ← coe_sum, ← EReal.coe_add]
  unfold mixed
  simp only [mul_comm]

theorem duR_apply (h : Reads d u v o w b) (q : Fin 64) (t : Fin 128) (g : Fin 4) (c : Fin 128) :
    duR u v o w b (ix2 (row q t) (col g c)) = (du d q t g c : EReal) := by
  refine backR_apply (h.u q t g c) ((whole_apply _ q t g c).trans ?_)
  have ko := (parts_apply o q t g c).trans (h.o q t g c)
  have km := mixR_apply h q t g c
  pointwise []
  rw [ko, km, ← EReal.coe_mul]

theorem dvR_apply (h : Reads d u v o w b) (q : Fin 64) (s : Fin 128) (g : Fin 4) (c : Fin 128) :
    dvR u v o w (ix2 (row q s) (col g c)) = (dv d q s g c : EReal) := by
  refine backR_apply (h.v q s g c) ((whole_apply _ q s g c).trans ?_)
  have km := fun t => dmR_apply h q t g c
  have kw := fun t => weight_apply h g t s
  pointwise [dmT]
  simp only [km, kw]
  simp only [← EReal.coe_mul, ← coe_sum]
  simp only [mul_comm]

theorem dwR_apply (h : Reads d u v o w b) (g : Fin 4) (t s : Fin 128) : dwR u v o (ix3 g t s) = (dw d g t s : EReal) := by
  have km := fun q c => dmR_apply h q t g c
  have kv := fun q c => (parts_apply (geluR v) q s g c).trans (geluR_apply (h.v q s g c))
  have key := masks_apply g t s
  pointwise [dwR, dmT]
  simp only [km, kv, key]
  simp only [← EReal.coe_mul, ← coe_sum]
  unfold dw dwChunk
  congr 1
  split <;> ring

theorem dbR_apply (h : Reads d u v o w b) (g : Fin 4) (t s : Fin 128) : dbR u o (ix3 g t s) = (db d g t : EReal) := by
  have km := fun q c => dmR_apply h q t g c
  pointwise [dbR]
  simp only [sum_outer, Fin.sum_univ_one]
  pointwise []
  simp only [sum_outer, km, zero_add]
  simp only [← coe_sum]
  rfl

end Cert.SpatialBackReference

end
-- ==== Proof.SpatialBack.Claims.lean ====
/- The claims about the gradient of the spatial gating unit. -/
module

public import proofs.«01_k».proof.Defs
public import proofs.«01_k».proof.Proof.SpatialBack.Kernel
public import proofs.«01_k».proof.Proof.SpatialBack.Reference
public import proofs.«01_k».proof.Proof.Gen.SpatialBack.Frame
public import proofs.«01_k».proof.Proof.Gen.SpatialBackRefIdeal.Run

@[expose] public section

set_option maxRecDepth 16384

noncomputable section

open Idealize.ShloMosaic Idealize.ShloMosaic.TcCoe Idealize.SL.Sem

namespace Cert.SpatialBackClaims

open Cert.SpatialBackSpec Cert.GateAlgebra Cert.SpatialBackKernel Cert.SpatialBackReference

/-- What the precondition's own text asks of shapes and formats. -/
instance preFacts : Cert.Pre_spatial_finite.Facts where
  slices_S8192x5632_S8192x1024_0_4608 := by decide
  slices_S8192x2048_S8192x512_0_1536 := by decide
  bitsLt_bf16_f32 := by decide
  bcast_S_S8192x1024 := by decide
  bcast_S_S4x128x128 := by decide
  bcast_S_S4x128 := by decide
  bcast_S_S8192x512 := by decide

theorem frame_kernel : Cert.quiescent_SpatialBack := fun m ρ _ => Cert.SpatialBack.Gen.frame m ρ

theorem frame_ideal : Cert.quiescent_SpatialBackIdeal := fun m ρ _ => Cert.SpatialBackIdeal.Gen.frame m ρ

theorem frame_ref : Cert.quiescent_SpatialBackRefIdeal := fun m ρ _ =>
  (θ_run Cert.SpatialBackRefIdeal.defs _ _).mono
    (fun r h => ⟨fun c => (h c).2.2.2.2, sem_eq_zero_of_no_sems (by decide) r.2⟩)
    (Cert.SpatialBackRefIdeal.Value.run (F := Ideal) m ρ)

theorem frame_ideal_pre : Cert.quiescent_SpatialBackIdeal_pre_spatial_finite := fun m ρ _ => frame_ideal m ρ trivial

theorem frame_ref_pre : Cert.quiescent_SpatialBackRefIdeal_pre_spatial_finite := fun m ρ _ => frame_ref m ρ trivial

/-- The two named constants round to the kernel's own. -/
theorem preserves : Cert.preserves_SpatialBack_SpatialBackIdeal :=
  ⟨IdealRules.named_const.statement Cert.SpatialBackIdeal.κ "c" .f32 0x3D372713#32 _ rfl,
    IdealRules.named_const.statement Cert.SpatialBackIdeal.κ "c3" .f32 0x3E095D4F#32 _ rfl⟩

/-- The columns the precondition asks about are those the kernel reads. -/
theorem halves_low (X : FVec Ideal Cert.Pre_spatial_finite.S8192x5632 .bf16) (h) (h') (r : Fin 8192) (l : Fin 512) :
    extf (F := Ideal) .f32 (extractStridedSlice Cert.Pre_spatial_finite.S8192x1024 ![0, 4608] X h) h' (ix2 r (⟨l.val, by omega⟩ : Fin 1024))
      = X (ix2 r (ucol l)) := by
  unfold ucol
  pointwise []
theorem halves_high (X : FVec Ideal Cert.Pre_spatial_finite.S8192x5632 .bf16) (h) (h') (r : Fin 8192) (l : Fin 512) :
    extf (F := Ideal) .f32 (extractStridedSlice Cert.Pre_spatial_finite.S8192x1024 ![0, 4608] X h) h' (ix2 r (⟨512 + l.val, by omega⟩ : Fin 1024))
      = X (ix2 r (vcol l)) := by
  unfold vcol
  pointwise []
  exact congrArg (fun a => X (ix2 r a)) (Fin.ext (by simp only; omega))
theorem grads (X : FVec Ideal Cert.Pre_spatial_finite.S8192x2048 .bf16) (h) (h') (r : Fin 8192) (l : Fin 512) :
    extf (F := Ideal) .f32 (extractStridedSlice Cert.Pre_spatial_finite.S8192x512 ![0, 1536] X h) h' (ix2 r l) = X (ix2 r (ocol l)) := by
  unfold ocol
  pointwise []

theorem finite (m : (ℓ : Loc Cert.SpatialBackIdeal.nD Cert.SpatialBackIdeal.τ Cert.SpatialBackIdeal.sig) → Buf (Elt Ideal) ℓ)
    (h : Cert.Pre_SpatialBackIdeal_spatial_finite m) (c : Dev Cert.SpatialBackIdeal.nD) : Finite m c := by
  obtain ⟨hz, hw, hb, ho⟩ := h c
  refine ⟨fun r l => ?_, fun r l => ?_, fun r l => ?_, fun g t s => fin_of_abs (congrFun hw (ix3 g t s)), fun g t => fin_of_abs (congrFun hb (ix2 g t))⟩
  · exact (congrArg IsReal (halves_low _ _ _ r l)).mp <| fin_of_abs (congrFun hz (ix2 r (⟨l.val, by omega⟩ : Fin 1024)))
  · exact (congrArg IsReal (halves_high _ _ _ r l)).mp <| fin_of_abs (congrFun hz (ix2 r (⟨512 + l.val, by omega⟩ : Fin 1024)))
  · exact (congrArg IsReal (grads _ _ _ r l)).mp <| fin_of_abs (congrFun ho (ix2 r l))

section Reference

variable (m : (ℓ : Loc Cert.SpatialBackIdeal.nD Cert.SpatialBackIdeal.τ Cert.SpatialBackIdeal.sig) → Buf (Elt Ideal) ℓ)
  (c : Dev Cert.SpatialBackIdeal.nD)

/-- The arguments. -/
def arg0 : Vec Ideal Cert.SpatialBackRefIdeal.S8192x5632 .bf16 := m ((c.tc : Thread Cert.SpatialBackIdeal.nD Cert.SpatialBackIdeal.τ).loc Cert.SpatialBackIdeal.main_arg0)
def arg1 : FVec Ideal Cert.SpatialBackRefIdeal.S4x128x128 .f32 := m ((c.tc : Thread Cert.SpatialBackIdeal.nD Cert.SpatialBackIdeal.τ).loc Cert.SpatialBackIdeal.main_arg1)
def arg2 : FVec Ideal Cert.SpatialBackRefIdeal.S4x128 .f32 := m ((c.tc : Thread Cert.SpatialBackIdeal.nD Cert.SpatialBackIdeal.τ).loc Cert.SpatialBackIdeal.main_arg2)
def arg3 : Vec Ideal Cert.SpatialBackRefIdeal.S8192x2048 .bf16 := m ((c.tc : Thread Cert.SpatialBackIdeal.nD Cert.SpatialBackIdeal.τ).loc Cert.SpatialBackIdeal.main_arg3)

variable {m c}

theorem reads (h : Finite m c) : Reads (data m c) (uOf (arg0 m c)) (vOf (arg0 m c)) (oOf (arg3 m c)) (arg1 m c) (arg2 m c) where
  u q t g l := (uOf_apply _ _ _).trans (coe_toReal (h.u _ _))
  v q t g l := (vOf_apply _ _ _).trans (coe_toReal (h.v _ _))
  o q t g l := (oOf_apply _ _ _).trans (coe_toReal (h.o _ _))
  w g t s := coe_toReal (h.w g t s)
  b g t := coe_toReal (h.b g t)

theorem ref_du (h : Finite m c) : duR (uOf (arg0 m c)) (vOf (arg0 m c)) (oOf (arg3 m c)) (arg1 m c) (arg2 m c) = rowsOf (du (data m c)) := by
  funext i
  idx_vars i
  obtain ⟨q, t, rfl⟩ := row_cover i0
  obtain ⟨g, l, rfl⟩ := col_cover i1
  exact (duR_apply (reads h) q t g l).trans (rowsOf_apply _ _ q t g l rfl rfl).symm

theorem ref_dv (h : Finite m c) : dvR (uOf (arg0 m c)) (vOf (arg0 m c)) (oOf (arg3 m c)) (arg1 m c) = rowsOf (dv (data m c)) := by
  funext i
  idx_vars i
  obtain ⟨q, t, rfl⟩ := row_cover i0
  obtain ⟨g, l, rfl⟩ := col_cover i1
  exact (dvR_apply (reads h) q t g l).trans (rowsOf_apply _ _ q t g l rfl rfl).symm

theorem ref_dw (h : Finite m c) : dwR (uOf (arg0 m c)) (vOf (arg0 m c)) (oOf (arg3 m c)) = dwOf (data m c) := by
  funext i
  idx_vars i
  exact dwR_apply (reads h) i0 i1 i2

theorem ref_db (h : Finite m c) : dbR (uOf (arg0 m c)) (oOf (arg3 m c)) = dbOf (data m c) := by
  funext i
  idx_vars i
  exact dbR_apply (reads h) i0 i1 i2

end Reference

/-- On the same arguments, with the parts the kernel reads finite, the two programs end with the same four gradients. -/
theorem algebraic : Cert.algebraic_SpatialBackIdeal_SpatialBackRefIdeal_pre_spatial_finite := by
  intro m ρ m' ρ' hpre hag
  refine ⟨fun c => rowsOf (du (data m c)), fun c => rowsOf (dv (data m c)), fun c => dwOf (data m c), fun c => dbOf (data m c),
    run m ρ (finite m hpre), (θ_run Cert.SpatialBackRefIdeal.defs _ _).mono
      (fun _ h c => ⟨(h c).1.trans ?_, (h c).2.1.trans ?_, (h c).2.2.1.trans ?_, (h c).2.2.2.1.trans ?_, (h c).2.2.2.2⟩)
      (Cert.SpatialBackRefIdeal.Value.run (F := Ideal) m' ρ')⟩
  all_goals clear h
  all_goals
    obtain ⟨a0, a1, a2, a3⟩ := hag c
    have hf := finite m hpre c
  · unfold Cert.SpatialBackRefIdeal.Value.res_main_v114
    rw [a0, a1, a2, a3]
    exact ref_du hf
  · unfold Cert.SpatialBackRefIdeal.Value.res_main_v98
    rw [a0, a1, a3]
    exact ref_dv hf
  · rw [a0, a3]
    exact ref_dw hf
  · rw [a0, a3]
    exact ref_db hf

end Cert.SpatialBackClaims

end
-- ==== Proof.Spatial.Kernel.lean ====
/- What the gating unit's kernel leaves in its result array. -/
module

public import proofs.«01_k».proof.Proof.SpatialBack.Point
public import proofs.«01_k».proof.Proof.Gen.SpatialIdeal.Value

@[expose] public section

set_option maxRecDepth 16384

noncomputable section

open Idealize.ShloMosaic Idealize.ShloMosaic.TcCoe Idealize.SL.Sem
open Idealize.ShloMosaic.Pipeline (Dat)

namespace Cert.SpatialKernel

open Cert.SpatialIdeal Cert.SpatialIdeal.Gen Cert.SpatialBackSpec
open Cert.SpatialBackBlock (ldT ldW ldT_apply ldW_apply all_tiles)

/-- The activation on extended real numbers. -/
def act (x : EReal) : EReal :=
  Ideal.ofBits .f32 0x3F000000#32 * x * (1 + Ideal.tanh (Ideal.ofBits .f32 0x3F4C422A#32 * (x + Ideal.ofBits .f32 0x3D372713#32 * x * x * x)))

/-- One entry of the unit's output: the activated first half times the mixed second half, at position `t` of its chunk. -/
def entry (t : Fin 128) (u : EReal) (v w : Fin 128 → EReal) (b : EReal) : EReal :=
  act u * (∑ s, (if s ≤ t then w s else 0) * act (v s) + b)

theorem entry_congr {t : Fin 128} {u u' b b' : EReal} {v v' w w' : Fin 128 → EReal} (hu : u = u') (hv : ∀ s, v s = v' s) (hw : ∀ s, w s = w' s)
    (hb : b = b') : entry t u v w b = entry t u' v' w' b' := by
  rw [hu, hb, funext hv, funext hw]

theorem mask_apply (w : Vec Ideal S1x128x128 .f32) (t s : Fin 128) : k0_pay2 (F := Ideal) w (ix2 t s) = if s ≤ t then w (ix3 0 t s) else 0 := by
  pointwise [k0_pay2]
  exact Cert.SpatialBackBlock.select_apply t s _ _

theorem pay13_apply (w : Vec Ideal S1x128x128 .f32) (v u : Vec Ideal S128x128 .bf16) (b : Vec Ideal S1x128x128 .f32) (t c : Fin 128) :
    k0_pay13 (F := Ideal) (k0_pay2 w) v b u (ix2 t c) = entry t (u (ix2 t c)) (fun s => v (ix2 s c)) (fun s => w (ix3 0 t s)) (b (ix3 0 t c)) := by
  have key := mask_apply w t
  pointwise [k0_pay13]
  simp only [key]
  rfl

/-- The kernel's store for chunk `n` of a point and group `g`. -/
def store (x0 x1 : Vec Ideal S1024x512 .bf16) (x2 x3 : Vec Ideal S4x128x128 .f32) (n : Fin 8) (g : Fin 4) : Vec Ideal S128x128 .bf16 :=
  k0_pay13 (F := Ideal) (k0_pay2 (F := Ideal) (ldW x2 g)) (ldT x1 n g) (ldW x3 g) (ldT x0 n g)

/-- Every row and column is one of a chunk's or of a group's. -/
def rowChunk (r : Fin 1024) : Fin 8 := ⟨r.val / 128, by omega⟩
def rowPos (r : Fin 1024) : Fin 128 := ⟨r.val % 128, by omega⟩
def colGroup (l : Fin 512) : Fin 4 := ⟨l.val / 128, by omega⟩
def colPos (l : Fin 512) : Fin 128 := ⟨l.val % 128, by omega⟩

theorem rowChunk_row8 (n : Fin 8) (t : Fin 128) : rowChunk (row8 n t) = n := Fin.ext (by simp only [rowChunk, row8]; omega)
theorem rowPos_row8 (n : Fin 8) (t : Fin 128) : rowPos (row8 n t) = t := Fin.ext (by simp only [rowPos, row8]; omega)
theorem colGroup_col (g : Fin 4) (c : Fin 128) : colGroup (col g c) = g := Fin.ext (by simp only [colGroup, col]; omega)

/-- The block a point leaves. -/
def blockAt (x0 x1 : Vec Ideal S1024x512 .bf16) (x2 x3 : Vec Ideal S4x128x128 .f32) (r : Fin 1024) (l : Fin 512) : EReal :=
  entry (rowPos r) (x0 (ix2 r l)) (fun s => x1 (ix2 (row8 (rowChunk r) s) l)) (fun s => x2 (ix3 (colGroup l) (rowPos r) s))
    (x3 (ix3 (colGroup l) (rowPos r) (colPos l)))
def blockFn (x0 x1 : Vec Ideal S1024x512 .bf16) (x2 x3 : Vec Ideal S4x128x128 .f32) (y : S1024x512.Idx) : EReal := blockAt x0 x1 x2 x3 (y 0) (y 1)

theorem colPos_col (g : Fin 4) (c : Fin 128) : colPos (col g c) = c := Fin.ext (by simp only [colPos, col]; omega)

theorem blockFn_apply (x0 x1 : Vec Ideal S1024x512 .bf16) (x2 x3 : Vec Ideal S4x128x128 .f32) (n : Fin 8) (t : Fin 128) (g : Fin 4) (c : Fin 128) :
    blockFn x0 x1 x2 x3 (ix2 (row8 n t) (col g c))
      = entry t (x0 (ix2 (row8 n t) (col g c))) (fun s => x1 (ix2 (row8 n s) (col g c))) (fun s => x2 (ix3 g t s)) (x3 (ix3 g t c)) := by
  show blockAt x0 x1 x2 x3 (row8 n t) (col g c) = _
  unfold blockAt
  rw [rowChunk_row8, rowPos_row8, colGroup_col, colPos_col]

theorem store_apply (x0 x1 : Vec Ideal S1024x512 .bf16) (x2 x3 : Vec Ideal S4x128x128 .f32) (n : Fin 8) (g : Fin 4) (t c : Fin 128) :
    store x0 x1 x2 x3 n g (ix2 t c) = blockFn x0 x1 x2 x3 (ix2 (row8 n t) (col g c)) := by
  rw [blockFn_apply]
  exact (pay13_apply _ _ _ _ t c).trans (entry_congr (ldT_apply x0 n g t c) (fun s => ldT_apply x1 n g s c) (fun s => ldW_apply x2 g t s) (ldW_apply x3 g t c))

theorem out_apply (x0 x1 : Vec Ideal S1024x512 .bf16) (x2 x3 : Vec Ideal S4x128x128 .f32) (n : Fin 8) (t : Fin 128) (g : Fin 4) (c : Fin 128) :
    out0_4 (F := Ideal) x0 x1 x2 x3 (ix2 (row8 n t) (col g c))
      = entry t (x0 (ix2 (row8 n t) (col g c))) (fun s => x1 (ix2 (row8 n s) (col g c))) (fun s => x2 (ix3 g t s)) (x3 (ix3 g t c)) := by
  rw [← blockFn_apply]
  frame_out
  exact all_tiles (blockFn x0 x1 x2 x3) (store x0 x1 x2 x3) (store_apply x0 x1 x2 x3) _

variable (m : (ℓ : Loc nD τ sig) → Buf (Elt Ideal) ℓ) (ρ : Dev nD → PrngReg)

/-- The columns of the unit's halves in the projection. -/
def ucol (l : Fin 512) : Fin 5632 := ⟨4608 + l.val, by omega⟩
def vcol (l : Fin 512) : Fin 5632 := ⟨5120 + l.val, by omega⟩

/-- The operands, as the arguments hold them. -/
abbrev argZ (c : Dev nD) : Vec Ideal S8192x5632 .bf16 := m ((c.tc : Thread nD τ).loc main_arg0)
abbrev argW (c : Dev nD) : Vec Ideal S4x128x128 .f32 := m ((c.tc : Thread nD τ).loc main_arg1)
abbrev argB (c : Dev nD) : Vec Ideal S4x128 .f32 := m ((c.tc : Thread nD τ).loc main_arg2)

/-- The grid point. -/
def pt (t : Fin cfg0.N) : Fin 8 := ⟨t.val, lt_of_lt_of_eq t.isLt N_0⟩

/-- Where each window's block lies. -/
theorem idx (t : Fin cfg0.N) : win0_0.index t = ![t.val, 9] ∧ win0_1.index t = ![t.val, 10] ∧ win0_2.index t = ![0, 0, 0]
    ∧ win0_3.index t = ![0, 0, 0] ∧ win0_4.index t = ![t.val, 0] :=
  (by decide +kernel : ∀ t : Fin grid0.N, win0_0.index t = ![t.val, 9] ∧ win0_1.index t = ![t.val, 10] ∧ win0_2.index t = ![0, 0, 0]
    ∧ win0_3.index t = ![0, 0, 0] ∧ win0_4.index t = ![t.val, 0]) t

theorem blk_u (c : Dev nD) (t : Fin cfg0.N) (n : Fin 8) (s : Fin 128) (l : Fin 512) : (iblk m c 0 t : Vec Ideal S1024x512 .bf16) (ix2 (row8 n s) l)
    = argZ m c (ix2 (row (chunk (pt t) n) s) (ucol l)) := by
  unfold row8 row chunk pt ucol; dsimp only; blk_ext [iblk, V, idx t]
theorem blk_v (c : Dev nD) (t : Fin cfg0.N) (n : Fin 8) (s : Fin 128) (l : Fin 512) : (iblk m c 1 t : Vec Ideal S1024x512 .bf16) (ix2 (row8 n s) l)
    = argZ m c (ix2 (row (chunk (pt t) n) s) (vcol l)) := by
  unfold row8 row chunk pt vcol; dsimp only; blk_ext [iblk, V, idx t]
theorem blk_w (c : Dev nD) (t : Fin cfg0.N) (g : Fin 4) (i s : Fin 128) : (iblk m c 2 t : Vec Ideal S4x128x128 .f32) (ix3 g i s)
    = argW m c (ix3 g i s) := by
  blk_ext [iblk, V, idx t]

/-- The bias, spread over the columns of a tile. -/
theorem spread (c : Dev nD) : (V m c main_v1 : Vec Ideal S4x128x128 .f32)
    = broadcastInDim S4x128x128 ![0, 1, 2] bcast_S4x128x1_S4x128x128_0_1_2
      (broadcastInDim S4x128x1 ![0, 1] bcast_S4x128_S4x128x1_0_1 (argB m c)) := rfl

theorem blk_b (c : Dev nD) (t : Fin cfg0.N) (g : Fin 4) (i s : Fin 128) : (iblk m c 3 t : Vec Ideal S4x128x128 .f32) (ix3 g i s)
    = argB m c (ix2 g i) := by
  have e : (iblk m c 3 t : Vec Ideal S4x128x128 .f32) (ix3 g i s) = (V m c main_v1 : Vec Ideal S4x128x128 .f32) (ix3 g i s) := by
    blk_ext [iblk, idx t]
  rw [e, spread]
  pointwise []

/-- Every row is a position of a chunk. -/
def chunkOf (r : Fin 8192) : Fin 64 := ⟨r.val / 128, by omega⟩
def posOf (r : Fin 8192) : Fin 128 := ⟨r.val % 128, by omega⟩
theorem chunkOf_row (q : Fin 64) (t : Fin 128) : chunkOf (row q t) = q := Fin.ext (by simp only [chunkOf, row]; omega)
theorem posOf_row (q : Fin 64) (t : Fin 128) : posOf (row q t) = t := Fin.ext (by simp only [posOf, row]; omega)

/-- The whole output of the unit. -/
def resultAt (z : Vec Ideal S8192x5632 .bf16) (w : Vec Ideal S4x128x128 .f32) (b : Vec Ideal S4x128 .f32) (r : Fin 8192) (l : Fin 512) : EReal :=
  entry (posOf r) (z (ix2 r (ucol l))) (fun s => z (ix2 (row (chunkOf r) s) (vcol l))) (fun s => w (ix3 (colGroup l) (posOf r) s))
    (b (ix2 (colGroup l) (posOf r)))
def result (z : Vec Ideal S8192x5632 .bf16) (w : Vec Ideal S4x128x128 .f32) (b : Vec Ideal S4x128 .f32) : Vec Ideal S8192x512 .bf16 := fun y =>
  resultAt z w b (y 0) (y 1)

theorem result_apply (z : Vec Ideal S8192x5632 .bf16) (w : Vec Ideal S4x128x128 .f32) (b : Vec Ideal S4x128 .f32)
    (q : Fin 64) (t : Fin 128) (g : Fin 4) (c : Fin 128) : result z w b (ix2 (row q t) (col g c))
      = entry t (z (ix2 (row q t) (ucol (col g c)))) (fun s => z (ix2 (row q s) (vcol (col g c)))) (fun s => w (ix3 g t s)) (b (ix2 g t)) := by
  show resultAt z w b (row q t) (col g c) = _
  unfold resultAt
  rw [chunkOf_row, posOf_row, colGroup_col]

theorem final (c : Dev nD) : (dats m 0 c).arrAt 4 cfg0.N = result (argZ m c) (argW m c) (argB m c) := by
  refine (dats m 0 c).arrAt_eq_of_covers 4 _ (by decide +kernel) fun t hf y => ?_
  blk_simp
  rw [after0_4]
  idx_vars y
  obtain ⟨n, s, rfl⟩ := row8_cover y0
  obtain ⟨g, l, rfl⟩ := col_cover y1
  refine (out_apply _ _ _ _ n s g l).trans ((entry_congr (blk_u m c t n s _) (fun i => blk_v m c t n i _) (fun i => blk_w m c t g s i) (blk_b m c t g s l)).trans
    ((result_apply _ _ _ (chunk (pt t) n) s g l).symm.trans ?_))
  unfold row8 row chunk pt
  dsimp only
  blk_ext [idx t]

/-- What a run of the kernel leaves: the gated output, and its arguments as they were. -/
theorem run : θ_run defs (onTc (τ := τ) (main (F := Ideal))) ⟨m, fun _ => 0, ρ⟩ fun r => ∀ c : Dev nD,
      r.2.mem ((c.tc : Thread nD τ).loc main_v2) = result (argZ m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

end Cert.SpatialKernel

end
-- ==== Proof.Spatial.Reference.lean ====
/- What the reference for the gating unit computes, read at an index. -/
module

public import proofs.«01_k».proof.Proof.Spatial.Kernel
public import proofs.«01_k».proof.Proof.SpatialBack.Reference
public import proofs.«01_k».proof.Proof.Gen.SpatialRefIdeal.Run

@[expose] public section

set_option maxRecDepth 16384

noncomputable section

open Idealize.ShloMosaic Idealize.ShloMosaic.TcCoe Idealize.SL.Sem

namespace Cert.SpatialReference

open Cert.SpatialRefIdeal Cert.SpatialRefIdeal.Gen Cert.SpatialBackSpec
open Cert.SpatialBackReference (cst parts whole weight masks uOf vOf parts_apply whole_apply masks_apply uOf_apply vOf_apply)
open Cert.SpatialKernel (act entry entry_congr result result_apply)

/-- The reference's activation. -/
def actR (x : FVec Ideal S8192x512 .f32) : FVec Ideal S8192x512 .f32 :=
  mulf x (mulf (cst 0x3F000000#32) (addf (cst 0x3F800000#32) (Host.tanh (mulf (cst 0x3F4C422A#32) (addf x (mulf (cst 0x3D372713#32) (mulf (mulf x x) x)))))))

theorem actR_apply (x : FVec Ideal S8192x512 .f32) (r : Fin 8192) (l : Fin 512) : actR x (ix2 r l) = act (x (ix2 r l)) := by
  pointwise [actR, cst]
  unfold act
  simp only [mul_assoc, mul_left_comm]

/-- The mixed half. -/
def mix (v : FVec Ideal S8192x512 .f32) (w : FVec Ideal S4x128x128 .f32) (b : FVec Ideal S4x128 .f32) : FVec Ideal S64x128x4x128 .f32 :=
  addf (transpose S64x128x4x128 [1, 3, 0, 2] (Host.dotGeneral dot_S64x128x4x128_S4x128x128_S4x64x128x128_1_2_03_1_2_0 none (parts (actR v)) (weight w))
      transposes_S4x64x128x128_S64x128x4x128_1_3_0_2)
    (broadcastInDim S64x128x4x128 ![0, 1, 2, 3] bcast_S1x128x4x1_S64x128x4x128_0_1_2_3 (broadcastInDim S1x128x4x1 ![1, 2, 3] bcast_S128x4x1_S1x128x4x1_1_2_3
      (broadcastInDim S128x4x1 ![0, 1] bcast_S128x4_S128x4x1_0_1 (transpose S128x4 [1, 0] b transposes_S4x128_S128x4_1_0))))

theorem weight_apply (w : FVec Ideal S4x128x128 .f32) (g : Fin 4) (t s : Fin 128) : weight w (ix3 g t s) = if s ≤ t then w (ix3 g t s) else 0 := by
  have key := masks_apply g t s
  pointwise [weight]
  rw [key]
  split <;> simp

theorem mix_apply (v : FVec Ideal S8192x512 .f32) (w : FVec Ideal S4x128x128 .f32) (b : FVec Ideal S4x128 .f32) (q : Fin 64) (t : Fin 128) (g : Fin 4) (c : Fin 128) :
    mix v w b (ix4 q t g c) = ∑ s, (if s ≤ t then w (ix3 g t s) else 0) * act (v (ix2 (row q s) (col g c))) + b (ix2 g t) := by
  have kw := weight_apply w g t
  have kp := fun s => (parts_apply (actR v) q s g c).trans (actR_apply v _ _)
  pointwise [mix]
  simp only [kw, kp]
  simp only [mul_comm]

/-- The whole result. -/
def outR (X : Vec Ideal S8192x5632 .bf16) (w : FVec Ideal S4x128x128 .f32) (b : FVec Ideal S4x128 .f32) : FVec Ideal S8192x512 .bf16 :=
  truncf .bf16 (whole (mulf (parts (actR (uOf X))) (mix (vOf X) w b))) bitsLt_bf16_f32

theorem outR_apply (X : Vec Ideal S8192x5632 .bf16) (w : FVec Ideal S4x128x128 .f32) (b : FVec Ideal S4x128 .f32) (q : Fin 64) (t : Fin 128) (g : Fin 4) (c : Fin 128) :
    outR X w b (ix2 (row q t) (col g c)) = result X w b (ix2 (row q t) (col g c)) := by
  have kw := whole_apply (mulf (parts (actR (uOf X))) (mix (vOf X) w b)) q t g c
  have km := mix_apply (vOf X) w b q t g c
  have ku := (parts_apply (actR (uOf X)) q t g c).trans ((actR_apply _ _ _).trans (congrArg act (uOf_apply X _ _)))
  rw [result_apply]
  refine Eq.trans (b := parts (actR (uOf X)) (ix4 q t g c) * mix (vOf X) w b (ix4 q t g c)) kw ?_
  rw [ku, km]
  simp only [vOf_apply]
  rfl

theorem out_eq (X : Vec Ideal S8192x5632 .bf16) (w : FVec Ideal S4x128x128 .f32) (b : FVec Ideal S4x128 .f32) : outR X w b = result X w b := by
  funext i
  idx_vars i
  obtain ⟨q, t, rfl⟩ := row_cover i0
  obtain ⟨g, l, rfl⟩ := col_cover i1
  exact outR_apply X w b q t g l

end Cert.SpatialReference

end
-- ==== Proof.Spatial.Claims.lean ====
/- The claims about the gating unit. -/
module

public import proofs.«01_k».proof.Defs
public import proofs.«01_k».proof.Proof.Spatial.Kernel
public import proofs.«01_k».proof.Proof.Spatial.Reference
public import proofs.«01_k».proof.Proof.Gen.Spatial.Frame

@[expose] public section

set_option maxRecDepth 16384

noncomputable section

open Idealize.ShloMosaic Idealize.ShloMosaic.TcCoe Idealize.SL.Sem

namespace Cert.SpatialClaims

open Cert.SpatialBackSpec Cert.SpatialKernel

theorem frame_kernel : Cert.quiescent_Spatial := fun m ρ _ => Cert.Spatial.Gen.frame m ρ

theorem frame_ideal : Cert.quiescent_SpatialIdeal := fun m ρ _ => Cert.SpatialIdeal.Gen.frame m ρ

theorem frame_ref : Cert.quiescent_SpatialRefIdeal := fun m ρ _ =>
  (θ_run Cert.SpatialRefIdeal.defs _ _).mono
    (fun r h => ⟨fun c => (h c).2, sem_eq_zero_of_no_sems (by decide) r.2⟩)
    (Cert.SpatialRefIdeal.Value.run (F := Ideal) m ρ)

/-- On the same arguments the two programs end with the same gated output. -/
theorem algebraic : Cert.algebraic_SpatialIdeal_SpatialRefIdeal := by
  intro m ρ m' ρ' _ hag
  refine ⟨fun c => result (argZ m c) (argW m c) (argB m c), Cert.SpatialKernel.run m ρ, (θ_run Cert.SpatialRefIdeal.defs _ _).mono
      (fun _ h c => ⟨(h c).1.trans ?_, (h c).2⟩)
      (Cert.SpatialRefIdeal.Value.run (F := Ideal) m' ρ')⟩
  clear h
  rw [(hag c).1, (hag c).2.1, (hag c).2.2]
  exact Cert.SpatialReference.out_eq _ _ _

end Cert.SpatialClaims

end
-- ==== Proof.ShortConv.Kernel.lean ====
/- What the gated convolution's kernel leaves in its result array. -/
module

public import proofs.«01_k».proof.Proof.Conv.Spec
public import proofs.«01_k».proof.Proof.Conv.Block
public import proofs.«01_k».proof.Proof.Gen.ShortConvIdeal.Value

@[expose] public section

set_option maxRecDepth 16384

noncomputable section

open Idealize.ShloMosaic Idealize.ShloMosaic.TcCoe Idealize.SL.Sem
open Idealize.ShloMosaic.Pipeline (Dat)

namespace Cert.ShortConvKernel

open Cert.ShortConvIdeal Cert.ShortConvIdeal.Gen Cert.ConvSpec Cert.ConvBlock

/-- The three input blocks at grid point `n`: 256 rows of `z`, the eight rows before them where there are any, and the taps. -/
structure Holds (d : Data) (n : ℕ) (x0 : Vec Ideal S256x6144 .bf16) (x1 : Vec Ideal S8x6144 .bf16) (x2 : Vec Ideal S3x2048 .f32) : Prop where
  z : ∀ (r : Fin 256) (c : Fin 6144), x0 (ix2 r c) = at0 d.z (256 * n + r) c
  zp : 0 < n → ∀ (s : Fin 8) (c : Fin 6144), x1 (ix2 s c) = at0 d.z (256 * n - 8 + s) c
  w : ∀ (j : Fin 3) (l : Fin 2048), x2 (ix2 j l) = at0 d.w j l

variable {d : Data} {n : ℕ} {x0 : Vec Ideal S256x6144 .bf16} {x1 : Vec Ideal S8x6144 .bf16} {x2 : Vec Ideal S3x2048 .f32}

/-- The convolution's output, gated. -/
def gated (d : Data) (r l : ℕ) : EReal := at0 d.z r l * conv d r l

/-- The printed test `i > 0` on the grid coordinate. -/
theorem sgt_zero {i : grid0.Coords} (hi : (i 0).val = n) (hn : n < 32) :
    Scalar.cmpi CmpIPredicate.sgt (BitVec.ofNat 32 (i 0).val) 0#32 = if 0 < n then 1#1 else 0#1 := by
  rw [hi]
  have key : ∀ k < 32, Scalar.cmpi CmpIPredicate.sgt (BitVec.ofNat 32 k) 0#32 = if 0 < k then 1#1 else 0#1 := by
    decide
  exact key n hn

/-- A product on the eight rows before the block, zero before the first row. -/
theorem halo (h : Holds d n x0 x1 x2) {i : grid0.Coords} (hi : (i 0).val = n) (hn : n < 32) (s : Fin 8) (l : Fin 2048) :
    Scalar.select (Scalar.cmpi CmpIPredicate.sgt (BitVec.ofNat 32 (i 0).val) 0#32)
      (Scalar.select (Scalar.cmpi CmpIPredicate.sgt (BitVec.ofNat 32 (i 0).val) 0#32)
        (x1 (ix2 s ⟨2048 + l, by omega⟩) * x1 (ix2 s ⟨4096 + l, by omega⟩)) 0) (0 : EReal) = if 0 < n then y d (256 * n - 8 + s) l else 0 := by
  rw [sgt_zero hi hn]
  by_cases h0 : 0 < n
  · rw [if_pos h0, if_pos h0, select_one', select_one', h.zp h0, h.zp h0]; rfl
  · rw [if_neg h0, if_neg h0]; simp [Scalar.select]

/-- The product `k` rows up, from the halo or from the block's own rows. -/
theorem rows_up (h : Holds d n x0 x1 x2) {i : grid0.Coords} (hi : (i 0).val = n) (hn : n < 32) (k : ℕ) (hk : 0 < k ∧ k ≤ 8) (r : Fin 256) (l : Fin 2048) :
    (if h : (8 + r.val + 264 - k) % 264 < 8 then
      Scalar.select (Scalar.cmpi CmpIPredicate.sgt (BitVec.ofNat 32 (i 0).val) 0#32)
        (Scalar.select (Scalar.cmpi CmpIPredicate.sgt (BitVec.ofNat 32 (i 0).val) 0#32)
          (x1 (ix2 ⟨(8 + r.val + 264 - k) % 264, h⟩ ⟨2048 + l, by omega⟩) * x1 (ix2 ⟨(8 + r.val + 264 - k) % 264, h⟩ ⟨4096 + l, by omega⟩)) 0) (0 : EReal)
    else x0 (ix2 ⟨(8 + r.val + 264 - k) % 264 - 8, by omega⟩ ⟨2048 + l, by omega⟩) * x0 (ix2 ⟨(8 + r.val + 264 - k) % 264 - 8, by omega⟩ ⟨4096 + l, by omega⟩))
      = ysh d k (256 * n + r) l := by
  have hr := r.isLt
  unfold ysh
  split
  next hlt =>
    rw [halo h hi hn]
    by_cases h0 : 0 < n
    · exact (if_pos h0).trans ((y_congr (by dsimp only; omega)).trans (if_pos (by omega)).symm)
    · exact (if_neg h0).trans (if_neg (by omega)).symm
  next hge =>
    rw [h.z, h.z]
    exact (y_congr (d := d) (l := l) (by dsimp only; omega)).trans (if_pos (by omega)).symm

theorem pay1_apply (h : Holds d n x0 x1 x2) {i : grid0.Coords} (hi : (i 0).val = n) (hn : n < 32) (r : Fin 256) (l : Fin 2048) :
    k0_pay1 i x0 x1 x2 (ix2 r l) = gated d (256 * n + r) l := by
  have up2 := rows_up h hi hn 2 (by omega) r l
  have up1 := rows_up h hi hn 1 (by omega) r l
  pointwise [k0_pay1]
  unfold gated conv
  refine congrArg₂ (· * ·) (h.z _ _) (congrArg₂ (· + ·) (congrArg₂ (· + ·) (congrArg₂ (· * ·) (h.w 0 l) up2) (congrArg₂ (· * ·) (h.w 1 l) up1)) (congrArg₂ (· * ·) (h.w 2 l) ?_))
  rw [h.z, h.z]; rfl

theorem out_apply (h : Holds d n x0 x1 x2) {i : grid0.Coords} (hi : (i 0).val = n) (hn : n < 32) (r : Fin 256) (l : Fin 2048) :
    out0_3 (F := Ideal) i x0 x1 x2 (ix2 r l) = gated d (256 * n + r) l := by
  frame_out
  exact pay1_apply h hi hn r l

variable (m : (ℓ : Loc nD τ sig) → Buf (Elt Ideal) ℓ) (ρ : Dev nD → PrngReg)

/-- The convolution's operands, read off two arrays; no gradient takes part, so its place holds zero. -/
def operands (z : Vec Ideal S8192x6144 .bf16) (w : Vec Ideal S3x2048 .f32) : Data where
  z r e := z (ix2 r e)
  da _ _ := 0
  w j l := w (ix2 j l)

abbrev argZ (c : Dev nD) : Vec Ideal S8192x6144 .bf16 := m ((c.tc : Thread nD τ).loc main_arg0)
abbrev argW (c : Dev nD) : Vec Ideal S3x2048 .f32 := m ((c.tc : Thread nD τ).loc main_arg1)

/-- The whole result. -/
def result (z : Vec Ideal S8192x6144 .bf16) (w : Vec Ideal S3x2048 .f32) : Vec Ideal S8192x2048 .bf16 := fun i =>
  gated (operands z w) (i 0).val (i 1).val

theorem N_32 (t : Fin cfg0.N) : t.val < 32 := lt_of_lt_of_eq t.isLt N_0

theorem coord (t : Fin cfg0.N) : (grid0.coords t 0).val = t.val := by
  have h : (grid0.coords t 0).val = t.val / 1 % 32 := Pipeline.Grid.coords_val t 0 (by decide) rfl
  have := N_32 t
  omega

/-- Where each window's block lies. -/
theorem idx (t : Fin cfg0.N) : win0_0.index t = ![t.val, 0] ∧ win0_1.index t = ![32 * t.val - 1, 0] ∧ win0_2.index t = ![0, 0]
    ∧ win0_3.index t = ![t.val, 0] :=
  (by decide +kernel : ∀ t : Fin grid0.N, win0_0.index t = ![t.val, 0] ∧ win0_1.index t = ![32 * t.val - 1, 0] ∧ win0_2.index t = ![0, 0]
    ∧ win0_3.index t = ![t.val, 0]) t

theorem holds (c : Dev nD) (t : Fin cfg0.N) : Holds (operands (argZ m c) (argW m c)) t.val (iblk m c 0 t) (iblk m c 1 t) (iblk m c 2 t) where
  z r e := by
    have ht := N_32 t
    rw [at0_in _ (by omega) e.isLt]; unfold operands; dsimp only
    blk_ext [iblk, V, idx t]
  zp h0 s e := by
    have ht := N_32 t
    rw [at0_in _ (by omega) e.isLt]; unfold operands; dsimp only
    blk_ext [iblk, V, idx t]
  w j l := by
    rw [at0_in _ j.isLt l.isLt]; unfold operands; dsimp only
    blk_ext [iblk, V, idx t]

theorem final (c : Dev nD) : (dats m 0 c).arrAt 3 cfg0.N = result (argZ m c) (argW m c) := by
  refine (dats m 0 c).arrAt_eq_of_covers 3 _ (by decide +kernel) fun t hf y => ?_
  blk_simp
  rw [after0_3]
  idx_vars y
  refine (out_apply (holds m c t) (coord t) (N_32 t) y0 y1).trans ?_
  unfold result
  rw [Nat.mul_comm 256]
  blk_ext [idx t]

/-- What a run of the kernel leaves: the gated convolution, and its arguments as they were. -/
theorem run : θ_run defs (onTc (τ := τ) (main (F := Ideal))) ⟨m, fun _ => 0, ρ⟩ fun r => ∀ c : Dev nD,
      r.2.mem ((c.tc : Thread nD τ).loc main_v0) = result (argZ m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.ShortConvKernel

end
-- ==== Proof.ShortConv.Claims.lean ====
/- The claims about the gated convolution. -/
module

public import proofs.«01_k».proof.Defs
public import proofs.«01_k».proof.Proof.ShortConv.Kernel
public import proofs.«01_k».proof.Proof.Conv.Ref
public import proofs.«01_k».proof.Proof.Gen.ShortConv.Frame
public import proofs.«01_k».proof.Proof.Gen.ShortConvRefIdeal.Run

@[expose] public section

set_option maxRecDepth 16384

noncomputable section

open Idealize.ShloMosaic Idealize.ShloMosaic.TcCoe Idealize.SL.Sem

namespace Cert.ShortConvClaims

open Cert.ConvSpec Cert.ShortConvKernel

theorem frame_kernel : Cert.quiescent_ShortConv := fun m ρ _ => Cert.ShortConv.Gen.frame m ρ

theorem frame_ideal : Cert.quiescent_ShortConvIdeal := fun m ρ _ => Cert.ShortConvIdeal.Gen.frame m ρ

theorem frame_ref : Cert.quiescent_ShortConvRefIdeal := fun m ρ _ =>
  (θ_run Cert.ShortConvRefIdeal.defs _ _).mono
    (fun r h => ⟨fun c => (h c).2, sem_eq_zero_of_no_sems (by decide) r.2⟩)
    (Cert.ShortConvRefIdeal.Value.run (F := Ideal) m ρ)

/-- The reference's entry: the gate is the first part of `z`. -/
theorem gate_first (z : Vec Ideal Cert.ShortConvIdeal.S8192x6144 .bf16) (w : Vec Ideal Cert.ShortConvIdeal.S3x2048 .f32) (r e : ℕ) (hr : r < 8192) (h : e < 2048) :
    (operands z w).z ⟨r, hr⟩ ⟨e, by omega⟩ *
        ((((operands z w).w 0 ⟨e, h⟩ * if h₁ : r < 2 then 0 else
              (operands z w).z ⟨r - 2, by omega⟩ ⟨2048 + e, by omega⟩ * (operands z w).z ⟨r - 2, by omega⟩ ⟨4096 + e, by omega⟩)
          + (operands z w).w 1 ⟨e, h⟩ * if h₁ : 1 + r < 2 then 0 else
              (operands z w).z ⟨1 + r - 2, by omega⟩ ⟨2048 + e, by omega⟩ * (operands z w).z ⟨1 + r - 2, by omega⟩ ⟨4096 + e, by omega⟩)
          + (operands z w).w 2 ⟨e, h⟩ * ((operands z w).z ⟨r, hr⟩ ⟨2048 + e, by omega⟩ * (operands z w).z ⟨r, hr⟩ ⟨4096 + e, by omega⟩))
      = gated (operands z w) r e := by
  have key := Cert.ConvRef.first { operands z w with da := fun i l => (operands z w).z i ⟨l.val, by omega⟩ } r e hr h
  refine key.trans (congrArg₂ (· * ·) ?_ rfl)
  rw [at0_in _ hr h, at0_in _ hr (by omega)]

/-- On the same arguments the two programs end with the same gated convolution. -/
theorem algebraic : Cert.algebraic_ShortConvIdeal_ShortConvRefIdeal := by
  intro m ρ m' ρ' _ hag
  refine ⟨fun c => result (argZ m c) (argW m c), Cert.ShortConvKernel.run m ρ, (θ_run Cert.ShortConvRefIdeal.defs _ _).mono
      (fun _ h c => ⟨(h c).1.trans ?_, (h c).2⟩)
      (Cert.ShortConvRefIdeal.Value.run (F := Ideal) m' ρ')⟩
  clear h
  rw [(hag c).1, (hag c).2]
  funext i
  idx_vars i
  have hr := i0.isLt
  have hl := i1.isLt
  pointwise [result]
  exact gate_first _ _ i0.val i1.val hr hl

end Cert.ShortConvClaims

end
-- ==== Proof.NormFirst.Block.lean ====
/- What one grid point of the first norm's gradient kernel computes, read at an index: the gated kernel's lemmas, with no branch and two sums. -/
module

public import proofs.«01_k».proof.Proof.NormBack.Point
public import proofs.«01_k».proof.Proof.Gen.NormFirstIdeal.Frame

@[expose] public section

set_option maxRecDepth 16384

noncomputable section

open Idealize.ShloMosaic Idealize.ShloMosaic.TcCoe Idealize.SL.Sem

namespace Cert.NormFirstBlock

open Cert.NormFirstIdeal Cert.NormFirstIdeal.Gen Cert.Norm Cert.NormBackSpec
open Cert.NormBackBlock (rows slab ldF ldH ldW ldA ldF_apply ldH_apply ldW_apply ldA_apply rows_emb slab_emb rows_mem slab_mem four_parts)

/-- The five input blocks at grid point `n`. -/
structure Holds (d : Data) (n : Fin 32) (x0 : Vec Ideal S256x2048 .f32) (x1 : Vec Ideal S256x2048 .bf16) (x2 x3 : Vec Ideal S1x2048 .f32)
    (x4 : Vec Ideal S256x2048 .f32) : Prop where
  x : ∀ i l, x0 (ix2 i l) = d.x (rowAt n i) l
  dh : ∀ i l, x1 (ix2 i l) = d.dh (rowAt n i) l
  w : ∀ l, x2 (ix2 0 l) = d.w l
  sc : ∀ l, x3 (ix2 0 l) = d.sc l
  dres : ∀ i l, x4 (ix2 i l) = d.dres (rowAt n i) l

variable {d : Data} {n : Fin 32} {x0 : Vec Ideal S256x2048 .f32} {x1 : Vec Ideal S256x2048 .bf16} {x2 x3 : Vec Ideal S1x2048 .f32}
  {x4 : Vec Ideal S256x2048 .f32} {xs : Vec Ideal S3x8x2048 .f32}

/-- The mean squares, their reciprocal roots and the coefficients of the block's rows. -/
def sqV (x0 : Vec Ideal S256x2048 .f32) : Vec Ideal S256x1 .f32 := k0_pay14 (F := Ideal) (k0_pay11 (F := Ideal) (ldF x0 0) (ldF x0 1)) (ldF x0 2) (ldF x0 3)
def rV (x0 : Vec Ideal S256x2048 .f32) : Vec Ideal S256x1 .f32 := k0_pay16 (F := Ideal) (sqV x0)
def mV (x0 : Vec Ideal S256x2048 .f32) (x1 : Vec Ideal S256x2048 .bf16) (x2 x3 : Vec Ideal S1x2048 .f32) : Vec Ideal S256x1 .f32 :=
  k0_pay17 (F := Ideal) (k0_pay12 (F := Ideal) (k0_pay9 (F := Ideal) (ldF x0 0) (ldW x2 0) (ldW x3 0) (ldH x1 0)) (ldF x0 1) (k0_pay10 (F := Ideal) (ldW x2 1) (ldW x3 1)) (ldH x1 1)
    (ldF x0 2) (ldW x2 2) (ldW x3 2) (ldH x1 2)) (ldF x0 3) (k0_pay13 (F := Ideal) (ldW x2 3) (ldW x3 3)) (sqV x0) (k0_pay15 (F := Ideal) (ldH x1 3))

/-- A part's gradient of the stream, and its two running sums. -/
def dxV (x0 : Vec Ideal S256x2048 .f32) (x1 : Vec Ideal S256x2048 .bf16) (x2 x3 : Vec Ideal S1x2048 .f32) (x4 : Vec Ideal S256x2048 .f32)
    (b : Fin 4) : Vec Ideal S256x512 .f32 :=
  k0_pay1 (F := Ideal) (rV x0) (mV x0 x1 x2 x3) (k0_pay37 (F := Ideal) (rV x0) (ldF x0 b)) (k0_pay38 (F := Ideal) (ldH x1 b)) (ldF x4 b) (ldW x2 b) (k0_pay39 (F := Ideal) (ldW x3 b))
def a0V (x1 : Vec Ideal S256x2048 .bf16) (xs : Vec Ideal S3x8x2048 .f32) (b : Fin 4) : Vec Ideal S1x8x512 .f32 :=
  k0_pay2 (F := Ideal) (k0_pay38 (F := Ideal) (ldH x1 b)) (ldA xs 0 b)
def a1V (x0 : Vec Ideal S256x2048 .f32) (x1 : Vec Ideal S256x2048 .bf16) (xs : Vec Ideal S3x8x2048 .f32) (b : Fin 4) :
    Vec Ideal S1x8x512 .f32 := k0_pay3 (F := Ideal) (k0_pay37 (F := Ideal) (rV x0) (ldF x0 b)) (k0_pay38 (F := Ideal) (ldH x1 b)) (ldA xs 1 b)

theorem rV_apply (h : Holds d n x0 x1 x2 x3 x4) (i : Fin 256) : rV x0 (ix2 i 0) = rinv (d.x (rowAt n i)) := by
  pointwise [rV, sqV, k0_pay16, k0_pay14, k0_pay11]
  unfold rinv ms
  rw [mul_inv2048, ← sum_four]
  simp only [ldF_apply, h.x]

theorem mV_apply (h : Holds d n x0 x1 x2 x3 x4) (i : Fin 256) :
    mV x0 x1 x2 x3 (ix2 i 0) = m2 (d.x (rowAt n i)) (d.dh (rowAt n i)) d.w d.sc := by
  have key := rV_apply h i
  unfold rV at key
  pointwise [mV, k0_pay17, k0_pay12, k0_pay9, k0_pay10, k0_pay13, k0_pay15]
  rw [key]
  unfold m2
  rw [← sum_four]
  simp only [ldF_apply, ldH_apply, ldW_apply, h.x, h.dh, h.w, h.sc]

theorem dxV_apply (h : Holds d n x0 x1 x2 x3 x4) (b : Fin 4) (i : Fin 256) (k : Fin 512) :
    dxV x0 x1 x2 x3 x4 b (ix2 i k) = dx d (rowAt n i) (at4 b k) := by
  have kr := rV_apply h i
  have km := mV_apply h i
  pointwise [dxV, k0_pay1, k0_pay37, k0_pay38, k0_pay39]
  rw [kr, km]
  unfold dx dn
  simp only [ldF_apply, ldH_apply, ldW_apply, h.x, h.dh, h.w, h.sc, h.dres]

theorem a0V_apply (h : Holds d n x0 x1 x2 x3 x4) (b : Fin 4) (s : Fin 8) (k : Fin 512) :
    a0V x1 xs b (ix3 0 s k) = xs (ix3 0 s (at4 b k)) + part d n 0 s (at4 b k) := by
  pointwise [a0V, k0_pay2, k0_pay38]
  unfold part term
  simp only [ldH_apply, ldA_apply, h.dh]
  rfl

theorem a1V_apply (h : Holds d n x0 x1 x2 x3 x4) (b : Fin 4) (s : Fin 8) (k : Fin 512) :
    a1V x0 x1 xs b (ix3 0 s k) = xs (ix3 1 s (at4 b k)) + part d n 1 s (at4 b k) := by
  have kr := rV_apply h
  pointwise [a1V, k0_pay3, k0_pay37, k0_pay38]
  unfold part term
  simp only [kr, ldF_apply, ldH_apply, ldA_apply, h.dh, h.x]
  rfl

/-- The last point's rows: a sum over the eight sublanes, times the weight or the scale. -/
theorem pay4_apply (v : Vec Ideal S1x8x2048 .f32) (l : Fin 2048) : k0_pay4 v (ix2 0 l) = ∑ s : Fin 8, v (ix3 0 s l) := by
  pointwise [k0_pay4]

theorem pay6_apply (v : Vec Ideal S1x8x2048 .f32) (w : Vec Ideal S1x2048 .f32) (l : Fin 2048) :
    k0_pay6 v w (ix2 0 l) = Product.mul (∑ s : Fin 8, v (ix3 0 s l)) (w (ix2 0 l)) := by
  pointwise [k0_pay6, k0_pay5]

theorem pay7_apply (v : Vec Ideal S1x8x2048 .f32) (sc : Vec Ideal S1x2048 .f32) (l : Fin 2048) :
    k0_pay7 v sc (ix2 0 l) = Product.mul (∑ s : Fin 8, v (ix3 0 s l)) ((1 : EReal) + sc (ix2 0 l)) := by
  pointwise [k0_pay7, k0_pay5]

/-- The scratch starts from zero. -/
theorem pay8_apply (y : S3x8x2048.Idx) : k0_pay8 (F := Ideal) y = 0 := by
  idx_vars y
  pointwise [k0_pay8]

end Cert.NormFirstBlock

end
-- ==== Proof.NormFirst.Point.lean ====
/- What one grid point of the first norm's gradient kernel leaves in its output blocks and its scratch. -/
module

public import proofs.«01_k».proof.Proof.NormFirst.Block
public import Idealize.ShloMosaic.Lib.Pipeline.ReadBack

@[expose] public section

set_option maxRecDepth 16384

noncomputable section

open Idealize.ShloMosaic Idealize.ShloMosaic.TcCoe Idealize.SL.Sem

namespace Cert.NormFirstBlock

open Cert.NormFirstIdeal Cert.NormFirstIdeal.Gen Cert.Norm Cert.NormBackSpec
open Cert.NormBackBlock (rows slab rows_emb slab_emb rows_mem slab_mem four_parts row_emb)

variable (c : Dev nD) (i : grid0.Coords)
  (arg1 : Memref sig .tc .vmem S256x2048 .f32) (harg1 : arg1.IsWhole)
  (arg2 : Memref sig .tc .vmem S256x2048 .bf16) (harg2 : arg2.IsWhole)
  (arg3 : Memref sig .tc .vmem S1x2048 .f32) (harg3 : arg3.IsWhole)
  (arg4 : Memref sig .tc .vmem S1x2048 .f32) (harg4 : arg4.IsWhole)
  (arg5 : Memref sig .tc .vmem S256x2048 .f32) (harg5 : arg5.IsWhole)
  (arg6 : Memref sig .tc .vmem S256x2048 .f32) (harg6 : arg6.IsWhole)
  (arg7 : Memref sig .tc .vmem S1x2048 .f32) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S3x8x2048 .f32) (harg10 : arg10.IsWhole)
  {d : Data} {n : Fin 32} {x0 : Vec Ideal S256x2048 .f32} {x1 : Vec Ideal S256x2048 .bf16} {x2 x3 : Vec Ideal S1x2048 .f32}
  {x4 : Vec Ideal S256x2048 .f32} (xs0 : Vec Ideal S3x8x2048 .f32)

/-- The point's eight stores to the scratch, the last first. -/
def stores (x0 : Vec Ideal S256x2048 .f32) (x1 : Vec Ideal S256x2048 .bf16) (xs : Vec Ideal S3x8x2048 .f32) : List (View.Piece (Elt Ideal) S3x8x2048 .f32) :=
  [⟨slab 1 3, a1V x0 x1 xs 3⟩, ⟨slab 0 3, a0V x1 xs 3⟩, ⟨slab 1 2, a1V x0 x1 xs 2⟩, ⟨slab 0 2, a0V x1 xs 2⟩,
   ⟨slab 1 1, a1V x0 x1 xs 1⟩, ⟨slab 0 1, a0V x1 xs 1⟩, ⟨slab 1 0, a1V x0 x1 xs 0⟩, ⟨slab 0 0, a0V x1 xs 0⟩]

/-- The first two sums' parts of the scratch are stored to. -/
theorem stores_mem (x0 : Vec Ideal S256x2048 .f32) (x1 : Vec Ideal S256x2048 .bf16) (xs : Vec Ideal S3x8x2048 .f32) (j : Fin 2) (b : Fin 4) :
    ∃ p ∈ stores x0 x1 xs, p.1 = slab j.castSucc b := by
  have key : ∀ (q : Fin 8), (stores x0 x1 xs)[q.val]'(lt_of_lt_of_eq q.isLt rfl) ∈ stores x0 x1 xs := fun q => List.getElem_mem _
  match b, j with
  | 3, 1 => exact ⟨_, key 0, rfl⟩
  | 3, 0 => exact ⟨_, key 1, rfl⟩
  | 2, 1 => exact ⟨_, key 2, rfl⟩
  | 2, 0 => exact ⟨_, key 3, rfl⟩
  | 1, 1 => exact ⟨_, key 4, rfl⟩
  | 1, 0 => exact ⟨_, key 5, rfl⟩
  | 0, 1 => exact ⟨_, key 6, rfl⟩
  | 0, 0 => exact ⟨_, key 7, rfl⟩

/-- So every index of the first two sums is under a store. -/
theorem stores_cover (x0 : Vec Ideal S256x2048 .f32) (x1 : Vec Ideal S256x2048 .bf16) (xs : Vec Ideal S3x8x2048 .f32) (j : Fin 2) (s : Fin 8) (l : Fin 2048) :
    ∃ p ∈ stores x0 x1 xs, (ix3 j.castSucc s l : S3x8x2048.Idx) ∈ p.1.set := by
  obtain ⟨b, k, rfl⟩ := at4_cover l
  have mem := slab_mem j.castSucc b s k
  obtain ⟨p, hp, e⟩ := stores_mem x0 x1 xs j b
  exact ⟨p, hp, e ▸ mem⟩

/-- The first two sums in the scratch after the point: what they held plus the point's own part, whatever was stored before. -/
theorem acc_block (h : Holds d n x0 x1 x2 x3 x4) (T : List (View.Piece (Elt Ideal) S3x8x2048 .f32))
    (j : Fin 2) (s : Fin 8) (l : Fin 2048) :
    View.canon (Val := Elt Ideal) (s := S3x8x2048) (e := .f32) (stores x0 x1 xs0 ++ T) (ix3 j.castSucc s l)
      = xs0 (ix3 j.castSucc s l) + part d n j.castSucc s l := by
  let G : S3x8x2048.Idx → EReal := fun y => xs0 y + part d n (y 0) (y 1) (y 2)
  have m0 : ∀ b (x : (slab 0 b).shape.Idx), a0V x1 xs0 b x = G ((slab 0 b).emb x) := fun b x => by
    idx_vars x
    obtain rfl := Subsingleton.elim x0 0
    exact (a0V_apply h b x1 x2).trans (congrArg G (slab_emb 0 b x1 x2).symm)
  have m1 : ∀ b (x : (slab 1 b).shape.Idx), a1V x0 x1 xs0 b x = G ((slab 1 b).emb x) := fun b x => by
    idx_vars x
    obtain rfl := Subsingleton.elim x0 0
    exact (a1V_apply h b x1 x2).trans (congrArg G (slab_emb 1 b x1 x2).symm)
  exact View.canon_append_of_piecesOf G T (stores x0 x1 xs0)
    ⟨m1 3, m0 3, m1 2, m0 2, m1 1, m0 1, m1 0, m0 0, trivial⟩ _ (stores_cover x0 x1 xs0 j s l)

theorem out_A_5 (hc0 : cond0_0 i) (hc1 : ¬cond0_1 i) (h : Holds d n x0 x1 x2 x3 x4) (r : Fin 256) (l : Fin 2048) :
    out0_A_5 (F := Ideal) c i arg1 harg1 arg2 harg2 arg3 harg3 arg4 harg4 arg5 harg5 arg6 harg6 arg7 harg7 arg8 harg8 arg9 harg9 arg10 harg10 hc0 hc1 x0 x1 x2 x3 x4
      (ix2 r l) = dx d (rowAt n r) l := by
  frame_out
  exact four_parts (e := .f32) (fun y => dx d (rowAt n (y 0)) (y 1)) (dxV x0 x1 x2 x3 x4) (dxV_apply h) (ix2 r l)

theorem out_B_5 (hc0 : ¬cond0_0 i) (hc1 : ¬cond0_1 i) (h : Holds d n x0 x1 x2 x3 x4) (r : Fin 256) (l : Fin 2048) :
    out0_B_5 (F := Ideal) c i arg1 harg1 arg2 harg2 arg3 harg3 arg4 harg4 arg5 harg5 arg6 harg6 arg7 harg7 arg8 harg8 arg9 harg9 arg10 harg10 hc0 hc1 x0 x1 x2 x3 x4 xs0
      (ix2 r l) = dx d (rowAt n r) l := by
  frame_out
  exact four_parts (e := .f32) (fun y => dx d (rowAt n (y 0)) (y 1)) (dxV x0 x1 x2 x3 x4) (dxV_apply h) (ix2 r l)

theorem out_C_5 (hc0 : ¬cond0_0 i) (hc1 : cond0_1 i) (h : Holds d n x0 x1 x2 x3 x4) (r : Fin 256) (l : Fin 2048) :
    out0_C_5 (F := Ideal) c i arg1 harg1 arg2 harg2 arg3 harg3 arg4 harg4 arg5 harg5 arg6 harg6 arg7 harg7 arg8 harg8 arg9 harg9 arg10 harg10 hc0 hc1 x0 x1 x2 x3 x4 xs0
      (ix2 r l) = dx d (rowAt n r) l := by
  frame_out
  exact four_parts (e := .f32) (fun y => dx d (rowAt n (y 0)) (y 1)) (dxV x0 x1 x2 x3 x4) (dxV_apply h) (ix2 r l)

theorem sout_B (hc0 : ¬cond0_0 i) (hc1 : ¬cond0_1 i) (h : Holds d n x0 x1 x2 x3 x4) (j : Fin 2) (s : Fin 8) (l : Fin 2048) :
    sout0_B_0 (F := Ideal) c i arg1 harg1 arg2 harg2 arg3 harg3 arg4 harg4 arg5 harg5 arg6 harg6 arg7 harg7 arg8 harg8 arg9 harg9 arg10 harg10 hc0 hc1 x0 x1 x2 x3 x4 xs0
      (ix3 j.castSucc s l) = xs0 (ix3 j.castSucc s l) + part d n j.castSucc s l := by
  frame_out
  refine (View.read_writes_apply_eq_canon _ _ _ _ (stores_cover x0 x1 xs0 j s l)).trans ?_
  exact acc_block xs0 h [] j s l

theorem sout_C (hc0 : ¬cond0_0 i) (hc1 : cond0_1 i) (h : Holds d n x0 x1 x2 x3 x4) (j : Fin 2) (s : Fin 8) (l : Fin 2048) :
    sout0_C_0 (F := Ideal) c i arg1 harg1 arg2 harg2 arg3 harg3 arg4 harg4 arg5 harg5 arg6 harg6 arg7 harg7 arg8 harg8 arg9 harg9 arg10 harg10 hc0 hc1 x0 x1 x2 x3 x4 xs0
      (ix3 j.castSucc s l) = xs0 (ix3 j.castSucc s l) + part d n j.castSucc s l := by
  frame_out
  refine (View.read_writes_apply_eq_canon _ _ _ _ (stores_cover x0 x1 xs0 j s l)).trans ?_
  exact acc_block xs0 h [] j s l

theorem sout_A (hc0 : cond0_0 i) (hc1 : ¬cond0_1 i) (h : Holds d n x0 x1 x2 x3 x4) (j : Fin 2) (s : Fin 8) (l : Fin 2048) :
    sout0_A_0 (F := Ideal) c i arg1 harg1 arg2 harg2 arg3 harg3 arg4 harg4 arg5 harg5 arg6 harg6 arg7 harg7 arg8 harg8 arg9 harg9 arg10 harg10 hc0 hc1 x0 x1 x2 x3 x4
      (ix3 j.castSucc s l) = part d n j.castSucc s l := by
  frame_out
  simp (disch := decide +kernel) only [↓View.readCov_skip, View.readCov_fill]
  exact (acc_block (k0_pay8 (F := Ideal)) h [⟨Rect.unit ![0, 0, 0] ![3, 8, 2048] inb_S3x8x2048_S3x8x2048_0_0_0, k0_pay8 (F := Ideal)⟩] j s l).trans
    ((congrArg (· + part d n j.castSucc s l) (pay8_apply _)).trans (zero_add _))

theorem out_C_6 (hc0 : ¬cond0_0 i) (hc1 : cond0_1 i) (h : Holds d n x0 x1 x2 x3 x4) (l : Fin 2048) :
    out0_C_6 (F := Ideal) c i arg1 harg1 arg2 harg2 arg3 harg3 arg4 harg4 arg5 harg5 arg6 harg6 arg7 harg7 arg8 harg8 arg9 harg9 arg10 harg10 hc0 hc1 x0 x1 x2 x3 x4 xs0
      (ix2 0 l) = ∑ s : Fin 8, (xs0 (ix3 0 s l) + part d n 0 s l) := by
  have key := fun s => (congrArg _ (row_emb 0 inb_S3x8x2048_S1x8x2048_0_0_0 s l)).trans (acc_block xs0 h [] 0 s l)
  frame_out
  rw [View.readCov_eq_canon']
  exact (pay4_apply _ l).trans (Finset.sum_congr rfl fun s _ => key s)

theorem out_C_7 (hc0 : ¬cond0_0 i) (hc1 : cond0_1 i) (h : Holds d n x0 x1 x2 x3 x4) (l : Fin 2048) :
    out0_C_7 (F := Ideal) c i arg1 harg1 arg2 harg2 arg3 harg3 arg4 harg4 arg5 harg5 arg6 harg6 arg7 harg7 arg8 harg8 arg9 harg9 arg10 harg10 hc0 hc1 x0 x1 x2 x3 x4 xs0
      (ix2 0 l) = Product.mul (∑ s : Fin 8, (xs0 (ix3 1 s l) + part d n 1 s l)) (d.w l) := by
  have key := fun s => (congrArg _ (row_emb 1 inb_S3x8x2048_S1x8x2048_1_0_0 s l)).trans (acc_block xs0 h [] 1 s l)
  frame_out
  rw [View.readCov_eq_canon']
  exact (pay6_apply _ x2 l).trans (congrArg₂ Product.mul (Finset.sum_congr rfl fun s _ => key s) (h.w l))

theorem out_C_8 (hc0 : ¬cond0_0 i) (hc1 : cond0_1 i) (h : Holds d n x0 x1 x2 x3 x4) (l : Fin 2048) :
    out0_C_8 (F := Ideal) c i arg1 harg1 arg2 harg2 arg3 harg3 arg4 harg4 arg5 harg5 arg6 harg6 arg7 harg7 arg8 harg8 arg9 harg9 arg10 harg10 hc0 hc1 x0 x1 x2 x3 x4 xs0
      (ix2 0 l) = Product.mul (∑ s : Fin 8, (xs0 (ix3 1 s l) + part d n 1 s l)) ((1 : EReal) + d.sc l) := by
  have key := fun s => (congrArg _ (row_emb 1 inb_S3x8x2048_S1x8x2048_1_0_0 s l)).trans (acc_block xs0 h [] 1 s l)
  frame_out
  rw [View.readCov_eq_canon']
  exact (pay7_apply _ x3 l).trans (congrArg₂ Product.mul (Finset.sum_congr rfl fun s _ => key s) (congrArg _ (h.sc l)))

end Cert.NormFirstBlock

end
-- ==== Proof.NormFirst.Kernel.lean ====
/- What the kernel for the gradient of the first adaLN norm leaves in its four result arrays. -/
module

public import proofs.«01_k».proof.Proof.NormFirst.Point
public import proofs.«01_k».proof.Proof.NormBack.Kernel
public import proofs.«01_k».proof.Proof.Gen.NormFirstIdeal.Value

@[expose] public section

set_option maxRecDepth 16384

noncomputable section

open Idealize.ShloMosaic Idealize.ShloMosaic.TcCoe Idealize.SL.Sem
open Idealize.ShloMosaic.Pipeline (Dat)

namespace Cert.NormFirstKernel

open Cert.NormFirstIdeal Cert.NormFirstIdeal.Gen Cert.Norm Cert.NormBackSpec Cert.NormFirstBlock
open Cert.NormBackKernel (dxOf dshOf dscOf dwOf dxOf_apply dscOf_apply dwOf_apply)

variable (m : (ℓ : Loc nD τ sig) → Buf (Elt Ideal) ℓ) (ρ : Dev nD → PrngReg)

/-- The five operands, read off the argument arrays; no branch. -/
def data (c : Dev nD) : Data where
  x r l := (m ((c.tc : Thread nD τ).loc main_arg0) : Vec Ideal S8192x2048 .f32) (ix2 r l)
  dh r l := (m ((c.tc : Thread nD τ).loc main_arg1) : Vec Ideal S8192x2048 .bf16) (ix2 r l)
  w l := (m ((c.tc : Thread nD τ).loc main_arg2) : Vec Ideal S1x2048 .f32) (ix2 0 l)
  sc l := (m ((c.tc : Thread nD τ).loc main_arg3) : Vec Ideal S1x2048 .f32) (ix2 0 l)
  dres r l := (m ((c.tc : Thread nD τ).loc main_arg4) : Vec Ideal S8192x2048 .f32) (ix2 r l)
  br _ _ := 0
  g _ := 0

/-- The block of rows of a grid point. -/
def blockOf (t : Fin cfg0.N) : Fin 32 := ⟨t.val, lt_of_lt_of_eq t.isLt N_0⟩

/-- Where each window's block lies. -/
theorem idx (t : Fin cfg0.N) : win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![0, 0] ∧ win0_8.index t = ![0, 0] :=
  (by decide +kernel : ∀ t : Fin grid0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![0, 0] ∧ win0_8.index t = ![0, 0]) t

/-- The blocks the point finds are the ones the block lemmas speak of. -/
theorem holds (c : Dev nD) (t : Fin cfg0.N) :
    Holds (data m c) (blockOf t) (iblk m c 0 t) (iblk m c 1 t) (iblk m c 2 t) (iblk m c 3 t) (iblk m c 4 t) where
  x i l := by unfold data rowAt blockOf; dsimp only; blk_ext [iblk, V, idx t]
  dh i l := by unfold data rowAt blockOf; dsimp only; blk_ext [iblk, V, idx t]
  w l := by unfold data; dsimp only; blk_ext [iblk, V, idx t]
  sc l := by unfold data; dsimp only; blk_ext [iblk, V, idx t]
  dres i l := by unfold data rowAt blockOf; dsimp only; blk_ext [iblk, V, idx t]

theorem dx_A (c : Dev nD) (t : Fin cfg0.N) (h0 : t.val % 32 = 0) (h1 : ¬t.val % 32 = 31) (r : Fin 256) (l : Fin 2048) :
    (outsAt0 m c t.val t.isLt).1 (ix2 r l) = dx (data m c) (rowAt (blockOf t) r) l := by
  have e := out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (holds m c t) r l
  rw [outsAt0_A m c t h0 h1]
  dsimp only
  rw [e]

theorem acc_A (c : Dev nD) (t : Fin cfg0.N) (h0 : t.val % 32 = 0) (h1 : ¬t.val % 32 = 31) (j : Fin 2) (s : Fin 8) (l : Fin 2048) :
    (outsAt0 m c t.val t.isLt).2.2.2.2 (ix3 j.castSucc s l) = part (data m c) (blockOf t) j.castSucc s l := by
  have e := sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (holds m c t) j s l
  rw [outsAt0_A m c t h0 h1]
  dsimp only
  rw [e]

theorem dx_B (c : Dev nD) (t : Fin cfg0.N) (h0 : ¬t.val % 32 = 0) (h1 : ¬t.val % 32 = 31) (r : Fin 256) (l : Fin 2048) :
    (outsAt0 m c t.val t.isLt).1 (ix2 r l) = dx (data m c) (rowAt (blockOf t) r) l := by
  have e := out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (outsAt0 m c (t.val - 1) (Nat.lt_of_le_of_lt (Nat.sub_le _ _) t.isLt)).2.2.2.2 (fun h => h0 ((hcond0_0 t).mp h)) (fun h => h1 ((hcond0_1 t).mp h)) (holds m c t) r l
  rw [outsAt0_B m c t h0 h1]
  dsimp only
  rw [e]

theorem acc_B (c : Dev nD) (t : Fin cfg0.N) (h0 : ¬t.val % 32 = 0) (h1 : ¬t.val % 32 = 31) (j : Fin 2) (s : Fin 8) (l : Fin 2048) :
    (outsAt0 m c t.val t.isLt).2.2.2.2 (ix3 j.castSucc s l) = (outsAt0 m c (t.val - 1) (Nat.lt_of_le_of_lt (Nat.sub_le _ _) t.isLt)).2.2.2.2 (ix3 j.castSucc s l) + part (data m c) (blockOf t) j.castSucc s l := by
  have e := sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (outsAt0 m c (t.val - 1) (Nat.lt_of_le_of_lt (Nat.sub_le _ _) t.isLt)).2.2.2.2 (fun h => h0 ((hcond0_0 t).mp h)) (fun h => h1 ((hcond0_1 t).mp h)) (holds m c t) j s l
  rw [outsAt0_B m c t h0 h1]
  dsimp only
  rw [e]

theorem dx_C (c : Dev nD) (t : Fin cfg0.N) (h0 : ¬t.val % 32 = 0) (h1 : t.val % 32 = 31) (r : Fin 256) (l : Fin 2048) :
    (outsAt0 m c t.val t.isLt).1 (ix2 r l) = dx (data m c) (rowAt (blockOf t) r) l := by
  have e := out_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (outsAt0 m c (t.val - 1) (Nat.lt_of_le_of_lt (Nat.sub_le _ _) t.isLt)).2.2.2.2 (fun h => h0 ((hcond0_0 t).mp h)) ((hcond0_1 t).mpr h1) (holds m c t) r l
  rw [outsAt0_C m c t h0 h1]
  dsimp only
  rw [e]

theorem acc_C (c : Dev nD) (t : Fin cfg0.N) (h0 : ¬t.val % 32 = 0) (h1 : t.val % 32 = 31) (j : Fin 2) (s : Fin 8) (l : Fin 2048) :
    (outsAt0 m c t.val t.isLt).2.2.2.2 (ix3 j.castSucc s l) = (outsAt0 m c (t.val - 1) (Nat.lt_of_le_of_lt (Nat.sub_le _ _) t.isLt)).2.2.2.2 (ix3 j.castSucc s l) + part (data m c) (blockOf t) j.castSucc s l := by
  have e := sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (outsAt0 m c (t.val - 1) (Nat.lt_of_le_of_lt (Nat.sub_le _ _) t.isLt)).2.2.2.2 (fun h => h0 ((hcond0_0 t).mp h)) ((hcond0_1 t).mpr h1) (holds m c t) j s l
  rw [outsAt0_C m c t h0 h1]
  dsimp only
  rw [e]

theorem sum_C_6 (c : Dev nD) (t : Fin cfg0.N) (h0 : ¬t.val % 32 = 0) (h1 : t.val % 32 = 31) (l : Fin 2048) :
    (outsAt0 m c t.val t.isLt).2.1 (ix2 0 l) = (∑ s : Fin 8, ((outsAt0 m c (t.val - 1) (Nat.lt_of_le_of_lt (Nat.sub_le _ _) t.isLt)).2.2.2.2 (ix3 0 s l) + part (data m c) (blockOf t) 0 s l)) := by
  have e := out_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (outsAt0 m c (t.val - 1) (Nat.lt_of_le_of_lt (Nat.sub_le _ _) t.isLt)).2.2.2.2 (fun h => h0 ((hcond0_0 t).mp h)) ((hcond0_1 t).mpr h1) (holds m c t) l
  rw [outsAt0_C m c t h0 h1]
  dsimp only
  rw [e]

theorem sum_C_7 (c : Dev nD) (t : Fin cfg0.N) (h0 : ¬t.val % 32 = 0) (h1 : t.val % 32 = 31) (l : Fin 2048) :
    (outsAt0 m c t.val t.isLt).2.2.1 (ix2 0 l) = Product.mul (∑ s : Fin 8, ((outsAt0 m c (t.val - 1) (Nat.lt_of_le_of_lt (Nat.sub_le _ _) t.isLt)).2.2.2.2 (ix3 1 s l) + part (data m c) (blockOf t) 1 s l)) ((data m c).w l) := by
  have e := out_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (outsAt0 m c (t.val - 1) (Nat.lt_of_le_of_lt (Nat.sub_le _ _) t.isLt)).2.2.2.2 (fun h => h0 ((hcond0_0 t).mp h)) ((hcond0_1 t).mpr h1) (holds m c t) l
  rw [outsAt0_C m c t h0 h1]
  dsimp only
  rw [e]

theorem sum_C_8 (c : Dev nD) (t : Fin cfg0.N) (h0 : ¬t.val % 32 = 0) (h1 : t.val % 32 = 31) (l : Fin 2048) :
    (outsAt0 m c t.val t.isLt).2.2.2.1 (ix2 0 l) = Product.mul (∑ s : Fin 8, ((outsAt0 m c (t.val - 1) (Nat.lt_of_le_of_lt (Nat.sub_le _ _) t.isLt)).2.2.2.2 (ix3 1 s l) + part (data m c) (blockOf t) 1 s l)) ((1 : EReal) + (data m c).sc l) := by
  have e := out_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (outsAt0 m c (t.val - 1) (Nat.lt_of_le_of_lt (Nat.sub_le _ _) t.isLt)).2.2.2.2 (fun h => h0 ((hcond0_0 t).mp h)) ((hcond0_1 t).mpr h1) (holds m c t) l
  rw [outsAt0_C m c t h0 h1]
  dsimp only
  rw [e]

/-- The block of rows after point `t`. -/
theorem dx_at (c : Dev nD) (t : Fin cfg0.N) (r : Fin 256) (l : Fin 2048) :
    (outsAt0 m c t.val t.isLt).1 (ix2 r l) = dx (data m c) (rowAt (blockOf t) r) l := by
  by_cases h0 : t.val % 32 = 0
  · exact dx_A m c t h0 (by omega) r l
  · by_cases h1 : t.val % 32 = 31
    · exact dx_C m c t h0 h1 r l
    · exact dx_B m c t h0 h1 r l

theorem part0_at (d : Data) (t : Fin cfg0.N) (j : Fin 3) (s : Fin 8) (l : Fin 2048) :
    part0 d t.val j s l = part d (blockOf t) j s l := dif_pos _

/-- The first two sums in the scratch after point `t`: the sum of the parts of the points so far. -/
theorem acc (c : Dev nD) (t : Fin cfg0.N) (y : Fin 2 × Fin 8 × Fin 2048) :
    ((outsAt0 m c t.val t.isLt).2.2.2.2 : Vec Ideal S3x8x2048 .f32) (ix3 y.1.castSucc y.2.1 y.2.2)
      = ∑ k ∈ Finset.range (t.val + 1), part0 (data m c) k y.1.castSucc y.2.1 y.2.2 := by
  refine (Pipeline.eq_sum_of_reset_step_apply_single (M := EReal) (ι := Fin 2 × Fin 8 × Fin 2048) (N := cfg0.N)
    (fun n h y => ((outsAt0 m c n h).2.2.2.2 : Vec Ideal S3x8x2048 .f32) (ix3 y.1.castSucc y.2.1 y.2.2)) 32 (fun _ => 0)
    (fun k y => part0 (data m c) k y.1.castSucc y.2.1 y.2.2) (fun t h0 y => ?_) (fun t h0 y => ?_) (le_of_eq N_0) t y).trans (zero_add _)
  · exact ((acc_A m c t h0 (by omega) y.1 y.2.1 y.2.2).trans (part0_at _ t _ _ _).symm).trans (zero_add _).symm
  · by_cases h1 : t.val % 32 = 31
    · exact (acc_C m c t h0 h1 y.1 y.2.1 y.2.2).trans (congrArg _ (part0_at _ t _ _ _).symm)
    · exact (acc_B m c t h0 h1 y.1 y.2.1 y.2.2).trans (congrArg _ (part0_at _ t _ _ _).symm)

/-- The last grid point. -/
def tLast : Fin cfg0.N := ⟨31, lt_of_lt_of_eq (by decide : 31 < 32) N_0.symm⟩

/-- The running sums of the eight sublanes at the last point are the sums over all rows. -/
theorem whole (c : Dev nD) (t : Fin cfg0.N) (ht : t.val = 31) (j : Fin 2) (l : Fin 2048) :
    (∑ s : Fin 8, ((outsAt0 m c (t.val - 1) (Nat.lt_of_le_of_lt (Nat.sub_le _ _) t.isLt)).2.2.2.2 (ix3 j.castSucc s l) + part (data m c) (blockOf t) j.castSucc s l)) = total (data m c) j.castSucc l := by
  refine Eq.trans ?_ (sum_parts (data m c) j.castSucc l)
  refine Finset.sum_congr rfl fun s _ => ?_
  rw [Finset.sum_range_succ]
  refine congrArg₂ (· + ·) ?_ ((part0_at _ t j.castSucc s l).symm.trans (by rw [ht]))
  exact (acc m c ⟨t.val - 1, Nat.lt_of_le_of_lt (Nat.sub_le _ _) t.isLt⟩ (j, s, l)).trans
    (Finset.sum_congr (by rw [show t.val - 1 + 1 = 31 by omega]) fun _ _ => rfl)

theorem final_dx (c : Dev nD) : (dats m 0 c).arrAt 5 cfg0.N = dxOf (data m c) := by
  refine (dats m 0 c).arrAt_eq_of_covers 5 _ (by decide +kernel) fun t hf y => ?_
  blk_simp
  rw [after0_5]
  idx_vars y
  refine (dx_at m c t y0 y1).trans ?_
  refine (dxOf_apply _ _ _ _ ?_ ?_).symm
  all_goals refine Fin.ext ?_
  all_goals blk_simp [(idx t).2.2.2.2.2.1]
  · exact (congrArg (· + y0.val) (Nat.mul_comm _ _))

theorem final_dsh (c : Dev nD) : (dats m 0 c).arrAt 6 cfg0.N = dshOf (data m c) := by
  refine (dats m 0 c).arrAt_eq_of_after_last 6 tLast (by decide +kernel) _ fun j => ?_
  blk_simp
  rw [after0_6]
  idx_vars j
  obtain rfl := Subsingleton.elim j0 0
  exact (sum_C_6 m c tLast (by decide) (by decide) j1).trans (whole m c tLast rfl 0 j1)

theorem final_dsc (c : Dev nD) : (dats m 0 c).arrAt 7 cfg0.N = dscOf (data m c) := by
  refine (dats m 0 c).arrAt_eq_of_after_last 7 tLast (by decide +kernel) _ fun j => ?_
  blk_simp
  rw [after0_7]
  idx_vars j
  obtain rfl := Subsingleton.elim j0 0
  refine (sum_C_7 m c tLast (by decide) (by decide) j1).trans ?_
  exact (congrArg (Product.mul · _) (whole m c tLast rfl 1 j1)).trans (dscOf_apply _ _ j1 rfl).symm

theorem final_dw (c : Dev nD) : (dats m 0 c).arrAt 8 cfg0.N = dwOf (data m c) := by
  refine (dats m 0 c).arrAt_eq_of_after_last 8 tLast (by decide +kernel) _ fun j => ?_
  blk_simp
  rw [after0_8]
  idx_vars j
  obtain rfl := Subsingleton.elim j0 0
  refine (sum_C_8 m c tLast (by decide) (by decide) j1).trans ?_
  exact (congrArg (Product.mul · _) (whole m c tLast rfl 1 j1)).trans (dwOf_apply _ _ j1 rfl).symm

/-- What a run of the kernel leaves: the four gradients, and its arguments as they were. -/
theorem run : θ_run defs (onTc (τ := τ) (main (F := Ideal))) ⟨m, fun _ => 0, ρ⟩ fun r => ∀ c : Dev nD,
      r.2.mem ((c.tc : Thread nD τ).loc main_v0_0) = dxOf (data m c)
      ∧ r.2.mem ((c.tc : Thread nD τ).loc main_v0_1) = dshOf (data m c)
      ∧ r.2.mem ((c.tc : Thread nD τ).loc main_v0_2) = dscOf (data m c)
      ∧ r.2.mem ((c.tc : Thread nD τ).loc main_v0_3) = dwOf (data m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final_dx m c), (h c).2.1.trans (final_dsh m c), (h c).2.2.1.trans (final_dsc m c),
    (h c).2.2.2.1.trans (final_dw m c), (h c).2.2.2.2⟩) (Value.run_blocks m ρ)

end Cert.NormFirstKernel

end
-- ==== Proof.NormFirst.Claims.lean ====
/- The claims about the gradient of the first adaLN norm, which no branch comes before. -/
module

public import proofs.«01_k».proof.Defs
public import proofs.«01_k».proof.Proof.NormFirst.Kernel
public import proofs.«01_k».proof.Proof.NormBack.Claims
public import proofs.«01_k».proof.Proof.Gen.NormFirst.Frame
public import proofs.«01_k».proof.Proof.Gen.NormFirstRefIdeal.Run

@[expose] public section

set_option maxRecDepth 16384

noncomputable section

open Idealize.ShloMosaic Idealize.ShloMosaic.TcCoe Idealize.SL.Sem

namespace Cert.NormFirstClaims

open Cert.NormBackSpec Cert.NormBackAlgebra Cert.GateAlgebra Cert.Norm Cert.NormFirstKernel
open Cert.NormBackKernel (dxOf dshOf dscOf dwOf)
open Cert.NormBackClaims (Finite dx_ref dsc_ref dw_ref)

/-- What the precondition's own text asks of shapes and formats. -/
instance preFacts : Cert.Pre_norm_first_finite.Facts where
  bitsLt_bf16_f32 := by decide
  bcast_S_S8192x2048 := by decide
  bcast_S_S1x2048 := by decide

theorem frame_kernel : Cert.quiescent_NormFirst := fun m ρ _ => Cert.NormFirst.Gen.frame m ρ

theorem frame_ideal : Cert.quiescent_NormFirstIdeal := fun m ρ _ => Cert.NormFirstIdeal.Gen.frame m ρ

theorem frame_ref : Cert.quiescent_NormFirstRefIdeal := fun m ρ _ =>
  (θ_run Cert.NormFirstRefIdeal.defs _ _).mono
    (fun r h => ⟨fun c => (h c).2.2.2.2, sem_eq_zero_of_no_sems (by decide) r.2⟩)
    (Cert.NormFirstRefIdeal.Value.run (F := Ideal) m ρ)

theorem frame_ideal_pre : Cert.quiescent_NormFirstIdeal_pre_norm_first_finite := fun m ρ _ => frame_ideal m ρ trivial

theorem frame_ref_pre : Cert.quiescent_NormFirstRefIdeal_pre_norm_first_finite := fun m ρ _ => frame_ref m ρ trivial

theorem finite (m : (ℓ : Loc Cert.NormFirstIdeal.nD Cert.NormFirstIdeal.τ Cert.NormFirstIdeal.sig) → Buf (Elt Ideal) ℓ)
    (h : Cert.Pre_NormFirstIdeal_norm_first_finite m) (c : Dev Cert.NormFirstIdeal.nD) : Finite (data m c) := by
  obtain ⟨hd, hw, hs⟩ := h c
  exact ⟨fun r l => fin_of_abs (congrFun hd (ix2 r l)), fun l => fin_of_abs (congrFun hw (ix2 0 l)), fun l => fin_of_abs (congrFun hs (ix2 0 l))⟩

/-- On the same arguments, with the gradient of the norm's output, the weight and the scale finite, the two programs end with the same four gradients. -/
theorem algebraic : Cert.algebraic_NormFirstIdeal_NormFirstRefIdeal_pre_norm_first_finite := by
  intro m ρ m' ρ' hpre hag
  refine ⟨fun c => dxOf (data m c), fun c => dshOf (data m c), fun c => dscOf (data m c), fun c => dwOf (data m c),
    run m ρ, (θ_run Cert.NormFirstRefIdeal.defs _ _).mono
      (fun _ h c => ⟨(h c).1.trans ?_, (h c).2.1.trans ?_, (h c).2.2.1.trans ?_, (h c).2.2.2.1.trans ?_, (h c).2.2.2.2⟩)
      (Cert.NormFirstRefIdeal.Value.run (F := Ideal) m' ρ')⟩
  all_goals clear h
  all_goals
    obtain ⟨a0, a1, a2, a3, a4⟩ := hag c
    have hf := finite m hpre c
  · unfold Cert.NormFirstRefIdeal.Value.res_main_v50
    rw [a0, a1, a2, a3, a4]
    funext i
    idx_vars i
    refine Eq.trans ?_ (dx_ref hf i0 i1).symm
    pointwise [dnRef, shareRef, rinv, ms, data]
    rw [Fin.sum_univ_one]
  · rw [a1]
    funext i
    idx_vars i
    obtain rfl := Subsingleton.elim i0 0
    pointwise []
    rfl
  · rw [a0, a1, a2]
    funext i
    idx_vars i
    obtain rfl := Subsingleton.elim i0 0
    refine Eq.trans ?_ (dsc_ref hf i1).symm
    pointwise []
    rfl
  · rw [a0, a1, a3]
    funext i
    idx_vars i
    obtain rfl := Subsingleton.elim i0 0
    refine Eq.trans ?_ (dw_ref hf i1).symm
    pointwise []
    rfl

end Cert.NormFirstClaims

end
-- ==== Proof.Adam.Spec.lean ====
/- The optimiser's step, entry by entry and on whole arrays of any size. -/
module

public import Idealize.ShloMosaic.Lib.Pointwise

@[expose] public section

noncomputable section

open Idealize.ShloMosaic Idealize.ShloMosaic.TcCoe Idealize.SL.Sem

namespace Cert.AdamSpec

/-- The two running means after a step, and the step itself, of one entry with gradient `g`. -/
def newM (g m : EReal) : EReal := Ideal.ofBits .f32 0x3F666666#32 * m + Ideal.ofBits .f32 0x3DCCCCCD#32 * g
def newV (g v : EReal) : EReal := Ideal.ofBits .f32 0x3F7FBE77#32 * v + Ideal.ofBits .f32 0x3A83126F#32 * (g * g)
def delta (g w m v : EReal) : EReal :=
  Ideal.ofBits .f32 0xBA83126F#32 *
    (Ideal.div (Ideal.div (newM g m) (Ideal.ofBits .f32 0x3F26BD02#32))
      (Ideal.sqrt (Ideal.div (newV g v) (Ideal.ofBits .f32 0x3C231ACC#32)) + Ideal.ofBits .f32 0x322BCC77#32)
    + Ideal.ofBits .f32 0x3C23D70A#32 * w)

variable {R C : ℕ}

/-- The gradient, the sum of the eight devices' pieces. -/
def gradOf (p : (⟨3, ![8, R, C]⟩ : Shape).Idx → EReal) : Vec Ideal (⟨2, ![R, C]⟩ : Shape) .f32 := fun i => ∑ k : Fin 8, p (ix3 k (i 0) (i 1))

/-- The step and the two running means of a whole array. -/
def deltaOf (p : (⟨3, ![8, R, C]⟩ : Shape).Idx → EReal) (w m v : Vec Ideal (⟨2, ![R, C]⟩ : Shape) .f32) : Vec Ideal (⟨2, ![R, C]⟩ : Shape) .f32 :=
  fun i => delta (gradOf p i) (w i) (m i) (v i)
def newMOf (p : (⟨3, ![8, R, C]⟩ : Shape).Idx → EReal) (m : Vec Ideal (⟨2, ![R, C]⟩ : Shape) .f32) : Vec Ideal (⟨2, ![R, C]⟩ : Shape) .f32 :=
  fun i => newM (gradOf p i) (m i)
def newVOf (p : (⟨3, ![8, R, C]⟩ : Shape).Idx → EReal) (v : Vec Ideal (⟨2, ![R, C]⟩ : Shape) .f32) : Vec Ideal (⟨2, ![R, C]⟩ : Shape) .f32 :=
  fun i => newV (gradOf p i) (v i)

end Cert.AdamSpec

end
-- ==== Proof.Adam.Kernel.lean ====
/- What the optimiser's kernel leaves, at the shapes of the feed-forward's output weight, in its four result arrays. -/
module

public import proofs.«01_k».proof.Proof.Gen.AdamIdeal.Value
public import proofs.«01_k».proof.Proof.Adam.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamKernel

open Cert.AdamIdeal Cert.AdamIdeal.Gen Cert.AdamSpec

variable (x0 : Vec Ideal S8x256x2048 .bf16) (x1 x2 x3 : Vec Ideal S256x2048 .f32) (r : Fin 256) (l : Fin 2048)

/-- The eight pieces' sum at one entry. -/
def sum8 : EReal := ∑ k : Fin 8, x0 (ix3 k r l)

theorem sum_apply : k0_pay5 x0 x1 x2 x3 (ix2 r l) = sum8 x0 r l := by
  pointwise [k0_pay5, k0_pay4, sum8]
  rw [Fin.sum_univ_eight]

theorem newM_apply : k0_pay1 (k0_pay5 x0 x1 x2 x3) x2 (Ideal.ofBits .f32 0x3F666666#32) (ix2 r l) = newM (sum8 x0 r l) (x2 (ix2 r l)) := by
  have key := sum_apply x0 x1 x2 x3 r l
  pointwise [k0_pay1]
  rw [key]
  rfl

theorem newV_apply : k0_pay2 (k0_pay5 x0 x1 x2 x3) x3 (ix2 r l) = newV (sum8 x0 r l) (x3 (ix2 r l)) := by
  have key := sum_apply x0 x1 x2 x3 r l
  pointwise [k0_pay2]
  rw [key]
  rfl

theorem out_4 : out0_4 (F := Ideal) x0 x1 x2 x3 (ix2 r l) = sum8 x0 r l := by
  frame_out
  exact sum_apply x0 x1 x2 x3 r l

theorem out_5 : out0_5 (F := Ideal) x0 x1 x2 x3 (ix2 r l) = delta (sum8 x0 r l) (x1 (ix2 r l)) (x2 (ix2 r l)) (x3 (ix2 r l)) := by
  have hm := newM_apply x0 x1 x2 x3 r l
  have hv := newV_apply x0 x1 x2 x3 r l
  frame_out
  pointwise [k0_pay3]
  rw [hm, hv]
  rfl

theorem out_6 : out0_6 (F := Ideal) x0 x1 x2 x3 (ix2 r l) = newM (sum8 x0 r l) (x2 (ix2 r l)) := by
  frame_out
  exact newM_apply x0 x1 x2 x3 r l

theorem out_7 : out0_7 (F := Ideal) x0 x1 x2 x3 (ix2 r l) = newV (sum8 x0 r l) (x3 (ix2 r l)) := by
  frame_out
  exact newV_apply x0 x1 x2 x3 r l

variable (m : (ℓ : Loc nD τ sig) → Buf (Elt Ideal) ℓ) (ρ : Dev nD → PrngReg)

abbrev argP (c : Dev nD) : Vec Ideal S8x2816x2048 .bf16 := m ((c.tc : Thread nD τ).loc main_arg0)
abbrev argW (c : Dev nD) : Vec Ideal S2816x2048 .f32 := m ((c.tc : Thread nD τ).loc main_arg1)
abbrev argM (c : Dev nD) : Vec Ideal S2816x2048 .f32 := m ((c.tc : Thread nD τ).loc main_arg2)
abbrev argV (c : Dev nD) : Vec Ideal S2816x2048 .f32 := m ((c.tc : Thread nD τ).loc main_arg3)

/-- Where each window's block lies. -/
theorem idx (t : Fin cfg0.N) : win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0]) t

theorem N_11 (t : Fin cfg0.N) : t.val < 11 := lt_of_lt_of_eq t.isLt N_0

/-- Row `r` of the point's block. -/
def rowOf (t : Fin cfg0.N) (r : Fin 256) : Fin 2816 := ⟨256 * t.val + r.val, by have := N_11 t; omega⟩

theorem sum_blk (c : Dev nD) (t : Fin cfg0.N) (r : Fin 256) (l : Fin 2048) : sum8 (iblk m c 0 t) r l = gradOf (argP m c) (ix2 (rowOf t r) l) :=
  Finset.sum_congr rfl fun k _ => by unfold rowOf; blk_ext [iblk, V, idx t]

theorem w_blk (c : Dev nD) (t : Fin cfg0.N) (r : Fin 256) (l : Fin 2048) : iblk m c 1 t (ix2 r l) = argW m c (ix2 (rowOf t r) l) := by
  unfold rowOf; blk_ext [iblk, V, idx t]

theorem m_blk (c : Dev nD) (t : Fin cfg0.N) (r : Fin 256) (l : Fin 2048) : iblk m c 2 t (ix2 r l) = argM m c (ix2 (rowOf t r) l) := by
  unfold rowOf; blk_ext [iblk, V, idx t]

theorem v_blk (c : Dev nD) (t : Fin cfg0.N) (r : Fin 256) (l : Fin 2048) : iblk m c 3 t (ix2 r l) = argV m c (ix2 (rowOf t r) l) := by
  unfold rowOf; blk_ext [iblk, V, idx t]

/-- An entry of a result array, under the block that holds it. -/
theorem at_row {f : Vec Ideal S2816x2048 .f32} {t : Fin cfg0.N} {r : Fin 256} {l : Fin 2048} (y : S2816x2048.Idx)
    (h0 : (y 0).val = t.val * 256 + r.val) (h1 : (y 1).val = l.val) : f (ix2 (rowOf t r) l) = f y :=
  congrArg f (funext fun a => Fin.ext (by fin_cases a <;> simp [rowOf, h0, h1]; omega))

theorem final_4 (c : Dev nD) : (dats m 0 c).arrAt 4 cfg0.N = gradOf (argP m c) := by
  refine (dats m 0 c).arrAt_eq_of_covers 4 _ (by decide +kernel) fun t hf y => ?_
  blk_simp
  rw [after0_4]
  idx_vars y
  refine ((out_4 _ _ _ _ y0 y1).trans (sum_blk m c t y0 y1)).trans (at_row _ ?_ ?_)
  all_goals blk_simp [idx t]

theorem final_5 (c : Dev nD) : (dats m 0 c).arrAt 5 cfg0.N = deltaOf (argP m c) (argW m c) (argM m c) (argV m c) := by
  refine (dats m 0 c).arrAt_eq_of_covers 5 _ (by decide +kernel) fun t hf y => ?_
  blk_simp
  rw [after0_5]
  idx_vars y
  refine (out_5 _ _ _ _ y0 y1).trans ?_
  rw [sum_blk m c t, w_blk m c t, m_blk m c t, v_blk m c t]
  refine at_row (f := deltaOf (argP m c) (argW m c) (argM m c) (argV m c)) _ ?_ ?_
  all_goals blk_simp [idx t]

theorem final_6 (c : Dev nD) : (dats m 0 c).arrAt 6 cfg0.N = newMOf (argP m c) (argM m c) := by
  refine (dats m 0 c).arrAt_eq_of_covers 6 _ (by decide +kernel) fun t hf y => ?_
  blk_simp
  rw [after0_6]
  idx_vars y
  refine (out_6 _ _ _ _ y0 y1).trans ?_
  rw [sum_blk m c t, m_blk m c t]
  refine at_row (f := newMOf (argP m c) (argM m c)) _ ?_ ?_
  all_goals blk_simp [idx t]

theorem final_7 (c : Dev nD) : (dats m 0 c).arrAt 7 cfg0.N = newVOf (argP m c) (argV m c) := by
  refine (dats m 0 c).arrAt_eq_of_covers 7 _ (by decide +kernel) fun t hf y => ?_
  blk_simp
  rw [after0_7]
  idx_vars y
  refine (out_7 _ _ _ _ y0 y1).trans ?_
  rw [sum_blk m c t, v_blk m c t]
  refine at_row (f := newVOf (argP m c) (argV m c)) _ ?_ ?_
  all_goals blk_simp [idx t]

/-- What a run of the kernel leaves: the gradient, the step and the two running means, and its arguments as they were. -/
theorem run : θ_run defs (onTc (τ := τ) (main (F := Ideal))) ⟨m, fun _ => 0, ρ⟩ fun r => ∀ c : Dev nD,
      r.2.mem ((c.tc : Thread nD τ).loc main_v0_0) = gradOf (argP m c)
      ∧ r.2.mem ((c.tc : Thread nD τ).loc main_v0_1) = deltaOf (argP m c) (argW m c) (argM m c) (argV m c)
      ∧ r.2.mem ((c.tc : Thread nD τ).loc main_v0_2) = newMOf (argP m c) (argM m c)
      ∧ r.2.mem ((c.tc : Thread nD τ).loc main_v0_3) = newVOf (argP m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_4 m c), (h c).2.1.trans (final_5 m c), (h c).2.2.1.trans (final_6 m c),
    (h c).2.2.2.1.trans (final_7 m c), (h c).2.2.2.2⟩) (Value.run_blocks m ρ)

end Cert.AdamKernel

end
-- ==== Proof.Adam.Claims.lean ====
/- The claims about the optimiser's step on the feed-forward's output weight. -/
module

public import proofs.«01_k».proof.Defs
public import proofs.«01_k».proof.Proof.Adam.Kernel
public import proofs.«01_k».proof.Proof.Gen.Adam.Frame
public import proofs.«01_k».proof.Proof.Gen.AdamRefIdeal.Run

@[expose] public section

set_option maxRecDepth 16384

noncomputable section

open Idealize.ShloMosaic Idealize.ShloMosaic.TcCoe Idealize.SL.Sem

namespace Cert.AdamClaims

open Cert.AdamSpec Cert.AdamKernel

theorem frame_kernel : Cert.quiescent_Adam := fun m ρ _ => Cert.Adam.Gen.frame m ρ

theorem frame_ideal : Cert.quiescent_AdamIdeal := fun m ρ _ => Cert.AdamIdeal.Gen.frame m ρ

theorem frame_ref : Cert.quiescent_AdamRefIdeal := fun m ρ _ =>
  (θ_run Cert.AdamRefIdeal.defs _ _).mono
    (fun r h => ⟨fun c => (h c).2.2.2.2, sem_eq_zero_of_no_sems (by decide) r.2⟩)
    (Cert.AdamRefIdeal.Value.run (F := Ideal) m ρ)

/-- On the same arguments the two programs end with the same gradient, step and running means. -/
theorem algebraic : Cert.algebraic_AdamIdeal_AdamRefIdeal := by
  intro m ρ m' ρ' _ hag
  refine ⟨fun c => gradOf (argP m c), fun c => deltaOf (argP m c) (argW m c) (argM m c) (argV m c), fun c => newMOf (argP m c) (argM m c),
    fun c => newVOf (argP m c) (argV m c), Cert.AdamKernel.run m ρ, (θ_run Cert.AdamRefIdeal.defs _ _).mono
      (fun _ h c => ⟨(h c).1.trans ?_, (h c).2.1.trans ?_, (h c).2.2.1.trans ?_, (h c).2.2.2.1.trans ?_, (h c).2.2.2.2⟩)
      (Cert.AdamRefIdeal.Value.run (F := Ideal) m' ρ')⟩
  all_goals clear h
  all_goals
    obtain ⟨a0, a1, a2, a3⟩ := hag c
    funext i
    idx_vars i
  · rw [a0]
    pointwise [gradOf]
  · rw [a0, a1, a2, a3]
    pointwise [deltaOf, delta, newM, newV, gradOf]
  · rw [a0, a2]
    pointwise [newMOf, newM, gradOf]
  · rw [a0, a3]
    pointwise [newVOf, newV, gradOf]

end Cert.AdamClaims

end
-- ==== Proof.AdamOut.Kernel.lean ====
/- What the optimiser's kernel leaves, at the shapes of the mixers' output projections, in its four result arrays. -/
module

public import proofs.«01_k».proof.Proof.Gen.AdamOutIdeal.Value
public import proofs.«01_k».proof.Proof.Adam.Kernel
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamOutKernel

open Cert.AdamOutIdeal Cert.AdamOutIdeal.Gen Cert.AdamSpec
open Cert.AdamKernel (sum8)

variable (x0 : Vec Ideal S8x256x2048 .bf16) (x1 x2 x3 : Vec Ideal S256x2048 .f32) (r : Fin 256) (l : Fin 2048)

/-- A block's four results are those of the feed-forward's call, whose blocks have the same shape. -/
theorem out_4 : out0_4 (F := Ideal) x0 x1 x2 x3 (ix2 r l) = sum8 x0 r l := AdamKernel.out_4 x0 x1 x2 x3 r l

theorem out_5 : out0_5 (F := Ideal) x0 x1 x2 x3 (ix2 r l) = delta (sum8 x0 r l) (x1 (ix2 r l)) (x2 (ix2 r l)) (x3 (ix2 r l)) :=
  AdamKernel.out_5 x0 x1 x2 x3 r l

theorem out_6 : out0_6 (F := Ideal) x0 x1 x2 x3 (ix2 r l) = newM (sum8 x0 r l) (x2 (ix2 r l)) := AdamKernel.out_6 x0 x1 x2 x3 r l

theorem out_7 : out0_7 (F := Ideal) x0 x1 x2 x3 (ix2 r l) = newV (sum8 x0 r l) (x3 (ix2 r l)) := AdamKernel.out_7 x0 x1 x2 x3 r l

variable (m : (ℓ : Loc nD τ sig) → Buf (Elt Ideal) ℓ) (ρ : Dev nD → PrngReg)

abbrev argP (c : Dev nD) : Vec Ideal S8x512x2048 .bf16 := m ((c.tc : Thread nD τ).loc main_arg0)
abbrev argW (c : Dev nD) : Vec Ideal S512x2048 .f32 := m ((c.tc : Thread nD τ).loc main_arg1)
abbrev argM (c : Dev nD) : Vec Ideal S512x2048 .f32 := m ((c.tc : Thread nD τ).loc main_arg2)
abbrev argV (c : Dev nD) : Vec Ideal S512x2048 .f32 := m ((c.tc : Thread nD τ).loc main_arg3)

/-- Where each window's block lies. -/
theorem idx (t : Fin cfg0.N) : win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0]) t

theorem N_2 (t : Fin cfg0.N) : t.val < 2 := lt_of_lt_of_eq t.isLt N_0

/-- Row `r` of the point's block. -/
def rowOf (t : Fin cfg0.N) (r : Fin 256) : Fin 512 := ⟨256 * t.val + r.val, by have := N_2 t; omega⟩

theorem sum_blk (c : Dev nD) (t : Fin cfg0.N) (r : Fin 256) (l : Fin 2048) : sum8 (iblk m c 0 t) r l = gradOf (argP m c) (ix2 (rowOf t r) l) :=
  Finset.sum_congr rfl fun k _ => by unfold rowOf; blk_ext [iblk, V, idx t]

theorem w_blk (c : Dev nD) (t : Fin cfg0.N) (r : Fin 256) (l : Fin 2048) : iblk m c 1 t (ix2 r l) = argW m c (ix2 (rowOf t r) l) := by
  unfold rowOf; blk_ext [iblk, V, idx t]

theorem m_blk (c : Dev nD) (t : Fin cfg0.N) (r : Fin 256) (l : Fin 2048) : iblk m c 2 t (ix2 r l) = argM m c (ix2 (rowOf t r) l) := by
  unfold rowOf; blk_ext [iblk, V, idx t]

theorem v_blk (c : Dev nD) (t : Fin cfg0.N) (r : Fin 256) (l : Fin 2048) : iblk m c 3 t (ix2 r l) = argV m c (ix2 (rowOf t r) l) := by
  unfold rowOf; blk_ext [iblk, V, idx t]

/-- An entry of a result array, under the block that holds it. -/
theorem at_row {f : Vec Ideal S512x2048 .f32} {t : Fin cfg0.N} {r : Fin 256} {l : Fin 2048} (y : S512x2048.Idx)
    (h0 : (y 0).val = t.val * 256 + r.val) (h1 : (y 1).val = l.val) : f (ix2 (rowOf t r) l) = f y :=
  congrArg f (funext fun a => Fin.ext (by fin_cases a <;> simp [rowOf, h0, h1]; omega))

theorem final_4 (c : Dev nD) : (dats m 0 c).arrAt 4 cfg0.N = gradOf (argP m c) := by
  refine (dats m 0 c).arrAt_eq_of_covers 4 _ (by decide +kernel) fun t hf y => ?_
  blk_simp
  rw [after0_4]
  idx_vars y
  refine ((out_4 _ _ _ _ y0 y1).trans (sum_blk m c t y0 y1)).trans (at_row _ ?_ ?_)
  all_goals blk_simp [idx t]

theorem final_5 (c : Dev nD) : (dats m 0 c).arrAt 5 cfg0.N = deltaOf (argP m c) (argW m c) (argM m c) (argV m c) := by
  refine (dats m 0 c).arrAt_eq_of_covers 5 _ (by decide +kernel) fun t hf y => ?_
  blk_simp
  rw [after0_5]
  idx_vars y
  refine (out_5 _ _ _ _ y0 y1).trans ?_
  rw [sum_blk m c t, w_blk m c t, m_blk m c t, v_blk m c t]
  refine at_row (f := deltaOf (argP m c) (argW m c) (argM m c) (argV m c)) _ ?_ ?_
  all_goals blk_simp [idx t]

theorem final_6 (c : Dev nD) : (dats m 0 c).arrAt 6 cfg0.N = newMOf (argP m c) (argM m c) := by
  refine (dats m 0 c).arrAt_eq_of_covers 6 _ (by decide +kernel) fun t hf y => ?_
  blk_simp
  rw [after0_6]
  idx_vars y
  refine (out_6 _ _ _ _ y0 y1).trans ?_
  rw [sum_blk m c t, m_blk m c t]
  refine at_row (f := newMOf (argP m c) (argM m c)) _ ?_ ?_
  all_goals blk_simp [idx t]

theorem final_7 (c : Dev nD) : (dats m 0 c).arrAt 7 cfg0.N = newVOf (argP m c) (argV m c) := by
  refine (dats m 0 c).arrAt_eq_of_covers 7 _ (by decide +kernel) fun t hf y => ?_
  blk_simp
  rw [after0_7]
  idx_vars y
  refine (out_7 _ _ _ _ y0 y1).trans ?_
  rw [sum_blk m c t, v_blk m c t]
  refine at_row (f := newVOf (argP m c) (argV m c)) _ ?_ ?_
  all_goals blk_simp [idx t]

/-- What a run of the kernel leaves: the gradient, the step and the two running means, and its arguments as they were. -/
theorem run : θ_run defs (onTc (τ := τ) (main (F := Ideal))) ⟨m, fun _ => 0, ρ⟩ fun r => ∀ c : Dev nD,
      r.2.mem ((c.tc : Thread nD τ).loc main_v0_0) = gradOf (argP m c)
      ∧ r.2.mem ((c.tc : Thread nD τ).loc main_v0_1) = deltaOf (argP m c) (argW m c) (argM m c) (argV m c)
      ∧ r.2.mem ((c.tc : Thread nD τ).loc main_v0_2) = newMOf (argP m c) (argM m c)
      ∧ r.2.mem ((c.tc : Thread nD τ).loc main_v0_3) = newVOf (argP m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_4 m c), (h c).2.1.trans (final_5 m c), (h c).2.2.1.trans (final_6 m c),
    (h c).2.2.2.1.trans (final_7 m c), (h c).2.2.2.2⟩) (Value.run_blocks m ρ)

end Cert.AdamOutKernel

end
-- ==== Proof.AdamOut.Claims.lean ====
/- The claims about the optimiser's step on the mixers' output projections. -/
module

public import proofs.«01_k».proof.Defs
public import proofs.«01_k».proof.Proof.AdamOut.Kernel
public import proofs.«01_k».proof.Proof.Gen.AdamOut.Frame
public import proofs.«01_k».proof.Proof.Gen.AdamOutRefIdeal.Run

@[expose] public section

set_option maxRecDepth 16384

noncomputable section

open Idealize.ShloMosaic Idealize.ShloMosaic.TcCoe Idealize.SL.Sem

namespace Cert.AdamOutClaims

open Cert.AdamSpec Cert.AdamOutKernel

theorem frame_kernel : Cert.quiescent_AdamOut := fun m ρ _ => Cert.AdamOut.Gen.frame m ρ

theorem frame_ideal : Cert.quiescent_AdamOutIdeal := fun m ρ _ => Cert.AdamOutIdeal.Gen.frame m ρ

theorem frame_ref : Cert.quiescent_AdamOutRefIdeal := fun m ρ _ =>
  (θ_run Cert.AdamOutRefIdeal.defs _ _).mono
    (fun r h => ⟨fun c => (h c).2.2.2.2, sem_eq_zero_of_no_sems (by decide) r.2⟩)
    (Cert.AdamOutRefIdeal.Value.run (F := Ideal) m ρ)

/-- On the same arguments the two programs end with the same gradient, step and running means. -/
theorem algebraic : Cert.algebraic_AdamOutIdeal_AdamOutRefIdeal := by
  intro m ρ m' ρ' _ hag
  refine ⟨fun c => gradOf (argP m c), fun c => deltaOf (argP m c) (argW m c) (argM m c) (argV m c), fun c => newMOf (argP m c) (argM m c),
    fun c => newVOf (argP m c) (argV m c), Cert.AdamOutKernel.run m ρ, (θ_run Cert.AdamOutRefIdeal.defs _ _).mono
      (fun _ h c => ⟨(h c).1.trans ?_, (h c).2.1.trans ?_, (h c).2.2.1.trans ?_, (h c).2.2.2.1.trans ?_, (h c).2.2.2.2⟩)
      (Cert.AdamOutRefIdeal.Value.run (F := Ideal) m' ρ')⟩
  all_goals clear h
  all_goals
    obtain ⟨a0, a1, a2, a3⟩ := hag c
    funext i
    idx_vars i
  · rw [a0]
    pointwise [gradOf]
  · rw [a0, a1, a2, a3]
    pointwise [deltaOf, delta, newM, newV, gradOf]
  · rw [a0, a2]
    pointwise [newMOf, newM, gradOf]
  · rw [a0, a3]
    pointwise [newVOf, newV, gradOf]

end Cert.AdamOutClaims

end
-- ==== Proof.AdamNorm.Kernel.lean ====
/- What the optimiser's kernel leaves, at the shapes of the layers' norms, in its four result arrays. -/
module

public import proofs.«01_k».proof.Proof.Gen.AdamNormIdeal.Value
public import proofs.«01_k».proof.Proof.Adam.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamNormKernel

open Cert.AdamNormIdeal Cert.AdamNormIdeal.Gen Cert.AdamSpec

variable (x0 : Vec Ideal S8x4x2048 .f32) (x1 x2 x3 : Vec Ideal S4x2048 .f32)

theorem sum_apply (r : Fin 4) (l : Fin 2048) : k0_pay5 (F := Ideal) x0 x1 x2 x3 (ix2 r l) = gradOf x0 (ix2 r l) := by
  pointwise [k0_pay5, k0_pay3, gradOf]
  rw [Fin.sum_univ_eight]

theorem newM_apply (r : Fin 4) (l : Fin 2048) : k0_pay6 (F := Ideal) x0 x1 x2 x3 (ix2 r l) = newMOf x0 x2 (ix2 r l) := by
  pointwise [k0_pay6, k0_pay4, k0_pay3, newMOf, newM, gradOf]
  rw [Fin.sum_univ_eight]

theorem newV_apply (r : Fin 4) (l : Fin 2048) : k0_pay1 (F := Ideal) (k0_pay5 x0 x1 x2 x3) x3 (ix2 r l) = newVOf x0 x3 (ix2 r l) := by
  have key := sum_apply x0 x1 x2 x3 r l
  pointwise [k0_pay1]
  rw [key]
  rfl

theorem out_4 (r : Fin 4) (l : Fin 2048) : out0_4 (F := Ideal) x0 x1 x2 x3 (ix2 r l) = gradOf x0 (ix2 r l) := by
  frame_out
  exact sum_apply x0 x1 x2 x3 r l

theorem out_5 (r : Fin 4) (l : Fin 2048) : out0_5 (F := Ideal) x0 x1 x2 x3 (ix2 r l) = deltaOf x0 x1 x2 x3 (ix2 r l) := by
  have hm := newM_apply x0 x1 x2 x3 r l
  have hv := newV_apply x0 x1 x2 x3 r l
  frame_out
  pointwise [k0_pay2]
  rw [hm, hv]
  rfl

theorem out_6 (r : Fin 4) (l : Fin 2048) : out0_6 (F := Ideal) x0 x1 x2 x3 (ix2 r l) = newMOf x0 x2 (ix2 r l) := by
  frame_out
  exact newM_apply x0 x1 x2 x3 r l

theorem out_7 (r : Fin 4) (l : Fin 2048) : out0_7 (F := Ideal) x0 x1 x2 x3 (ix2 r l) = newVOf x0 x3 (ix2 r l) := by
  frame_out
  exact newV_apply x0 x1 x2 x3 r l

variable (m : (ℓ : Loc nD τ sig) → Buf (Elt Ideal) ℓ) (ρ : Dev nD → PrngReg)

abbrev argP (c : Dev nD) : Vec Ideal S8x4x2048 .f32 := m ((c.tc : Thread nD τ).loc main_arg0)
abbrev argW (c : Dev nD) : Vec Ideal S4x2048 .f32 := m ((c.tc : Thread nD τ).loc main_arg1)
abbrev argM (c : Dev nD) : Vec Ideal S4x2048 .f32 := m ((c.tc : Thread nD τ).loc main_arg2)
abbrev argV (c : Dev nD) : Vec Ideal S4x2048 .f32 := m ((c.tc : Thread nD τ).loc main_arg3)

/-- The one grid point, whose blocks are the whole arrays. -/
def tOnly : Fin cfg0.N := ⟨0, lt_of_lt_of_eq (by decide : 0 < 1) N_0.symm⟩

theorem idx : win0_0.index tOnly = ![0, 0, 0] ∧ win0_1.index tOnly = ![0, 0] ∧ win0_2.index tOnly = ![0, 0] ∧ win0_3.index tOnly = ![0, 0] := by
  decide +kernel

theorem p_blk (c : Dev nD) : iblk m c 0 tOnly = argP m c := by
  funext i
  idx_vars i
  blk_ext [iblk, V, idx]

theorem w_blk (c : Dev nD) : iblk m c 1 tOnly = argW m c := by
  funext i
  idx_vars i
  blk_ext [iblk, V, idx]

theorem m_blk (c : Dev nD) : iblk m c 2 tOnly = argM m c := by
  funext i
  idx_vars i
  blk_ext [iblk, V, idx]

theorem v_blk (c : Dev nD) : iblk m c 3 tOnly = argV m c := by
  funext i
  idx_vars i
  blk_ext [iblk, V, idx]

theorem final_4 (c : Dev nD) : (dats m 0 c).arrAt 4 cfg0.N = gradOf (argP m c) := by
  refine (dats m 0 c).arrAt_eq_of_after_last 4 tOnly (by decide +kernel) _ fun j => ?_
  blk_simp
  rw [after0_4]
  idx_vars j
  rw [p_blk, w_blk, m_blk, v_blk]
  exact out_4 _ _ _ _ j0 j1

theorem final_5 (c : Dev nD) : (dats m 0 c).arrAt 5 cfg0.N = deltaOf (argP m c) (argW m c) (argM m c) (argV m c) := by
  refine (dats m 0 c).arrAt_eq_of_after_last 5 tOnly (by decide +kernel) _ fun j => ?_
  blk_simp
  rw [after0_5]
  idx_vars j
  rw [p_blk, w_blk, m_blk, v_blk]
  exact out_5 _ _ _ _ j0 j1

theorem final_6 (c : Dev nD) : (dats m 0 c).arrAt 6 cfg0.N = newMOf (argP m c) (argM m c) := by
  refine (dats m 0 c).arrAt_eq_of_after_last 6 tOnly (by decide +kernel) _ fun j => ?_
  blk_simp
  rw [after0_6]
  idx_vars j
  rw [p_blk, w_blk, m_blk, v_blk]
  exact out_6 _ _ _ _ j0 j1

theorem final_7 (c : Dev nD) : (dats m 0 c).arrAt 7 cfg0.N = newVOf (argP m c) (argV m c) := by
  refine (dats m 0 c).arrAt_eq_of_after_last 7 tOnly (by decide +kernel) _ fun j => ?_
  blk_simp
  rw [after0_7]
  idx_vars j
  rw [p_blk, w_blk, m_blk, v_blk]
  exact out_7 _ _ _ _ j0 j1

/-- What a run of the kernel leaves: the gradient, the step and the two running means, and its arguments as they were. -/
theorem run : θ_run defs (onTc (τ := τ) (main (F := Ideal))) ⟨m, fun _ => 0, ρ⟩ fun r => ∀ c : Dev nD,
      r.2.mem ((c.tc : Thread nD τ).loc main_v0_0) = gradOf (argP m c)
      ∧ r.2.mem ((c.tc : Thread nD τ).loc main_v0_1) = deltaOf (argP m c) (argW m c) (argM m c) (argV m c)
      ∧ r.2.mem ((c.tc : Thread nD τ).loc main_v0_2) = newMOf (argP m c) (argM m c)
      ∧ r.2.mem ((c.tc : Thread nD τ).loc main_v0_3) = newVOf (argP m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_4 m c), (h c).2.1.trans (final_5 m c), (h c).2.2.1.trans (final_6 m c),
    (h c).2.2.2.1.trans (final_7 m c), (h c).2.2.2.2⟩) (Value.run_blocks m ρ)

end Cert.AdamNormKernel

end
-- ==== Proof.AdamNorm.Claims.lean ====
/- The claims about the optimiser's step on the layers' norms. -/
module

public import proofs.«01_k».proof.Defs
public import proofs.«01_k».proof.Proof.AdamNorm.Kernel
public import proofs.«01_k».proof.Proof.Gen.AdamNorm.Frame
public import proofs.«01_k».proof.Proof.Gen.AdamNormRefIdeal.Run

@[expose] public section

set_option maxRecDepth 16384

noncomputable section

open Idealize.ShloMosaic Idealize.ShloMosaic.TcCoe Idealize.SL.Sem

namespace Cert.AdamNormClaims

open Cert.AdamSpec Cert.AdamNormKernel

theorem frame_kernel : Cert.quiescent_AdamNorm := fun m ρ _ => Cert.AdamNorm.Gen.frame m ρ

theorem frame_ideal : Cert.quiescent_AdamNormIdeal := fun m ρ _ => Cert.AdamNormIdeal.Gen.frame m ρ

theorem frame_ref : Cert.quiescent_AdamNormRefIdeal := fun m ρ _ =>
  (θ_run Cert.AdamNormRefIdeal.defs _ _).mono
    (fun r h => ⟨fun c => (h c).2.2.2.2, sem_eq_zero_of_no_sems (by decide) r.2⟩)
    (Cert.AdamNormRefIdeal.Value.run (F := Ideal) m ρ)

/-- On the same arguments the two programs end with the same gradient, step and running means. -/
theorem algebraic : Cert.algebraic_AdamNormIdeal_AdamNormRefIdeal := by
  intro m ρ m' ρ' _ hag
  refine ⟨fun c => gradOf (argP m c), fun c => deltaOf (argP m c) (argW m c) (argM m c) (argV m c), fun c => newMOf (argP m c) (argM m c),
    fun c => newVOf (argP m c) (argV m c), Cert.AdamNormKernel.run m ρ, (θ_run Cert.AdamNormRefIdeal.defs _ _).mono
      (fun _ h c => ⟨(h c).1.trans ?_, (h c).2.1.trans ?_, (h c).2.2.1.trans ?_, (h c).2.2.2.1.trans ?_, (h c).2.2.2.2⟩)
      (Cert.AdamNormRefIdeal.Value.run (F := Ideal) m' ρ')⟩
  all_goals clear h
  all_goals
    obtain ⟨a0, a1, a2, a3⟩ := hag c
    funext i
    idx_vars i
  · rw [a0]
    pointwise [gradOf]
  · rw [a0, a1, a2, a3]
    pointwise [deltaOf, delta, newM, newV, gradOf]
  · rw [a0, a2]
    pointwise [newMOf, newM, gradOf]
  · rw [a0, a3]
    pointwise [newVOf, newV, gradOf]

end Cert.AdamNormClaims

end
-- ==== Proof.lean ====
/- The proof of the certificate's claims (proofs.«01_k».proof.Defs): of each program the three frames and that kernel
   and reference compute the same values. Each claim is proved in its part's own Claims module. -/
module

public import proofs.«01_k».proof.Defs
public import proofs.«01_k».proof.Proof.Conv.Claims
public import proofs.«01_k».proof.Proof.Gate.Claims
public import proofs.«01_k».proof.Proof.Input.Claims
public import proofs.«01_k».proof.Proof.InWeight.Claims
public import proofs.«01_k».proof.Proof.DownWeight.Claims
public import proofs.«01_k».proof.Proof.OutWeight.Claims
public import proofs.«01_k».proof.Proof.OutInput.Claims
public import proofs.«01_k».proof.Proof.MixInput.Claims
public import proofs.«01_k».proof.Proof.ConvInput.Claims
public import proofs.«01_k».proof.Proof.ConvWeight.Claims
public import proofs.«01_k».proof.Proof.Act.Claims
public import proofs.«01_k».proof.Proof.Down.Claims
public import proofs.«01_k».proof.Proof.MixIn.Claims
public import proofs.«01_k».proof.Proof.ConvIn.Claims
public import proofs.«01_k».proof.Proof.MixOut.Claims
public import proofs.«01_k».proof.Proof.NormBack.Claims
public import proofs.«01_k».proof.Proof.NormIn.Claims
public import proofs.«01_k».proof.Proof.SpatialBack.Claims
public import proofs.«01_k».proof.Proof.Spatial.Claims
public import proofs.«01_k».proof.Proof.ShortConv.Claims
public import proofs.«01_k».proof.Proof.NormFirst.Claims
public import proofs.«01_k».proof.Proof.Adam.Claims
public import proofs.«01_k».proof.Proof.AdamOut.Claims
public import proofs.«01_k».proof.Proof.AdamNorm.Claims

@[expose] public section

noncomputable section

namespace Cert.Proof

/-- Every claim of the certificate, each proved in its own module. -/
theorem claim : Cert.Claim := ⟨
  Cert.Conv.Gen.facts, Cert.ConvIdeal.Gen.facts, Cert.ConvRefIdeal.Gen.facts,
  Cert.Gate.Gen.facts, Cert.GateIdeal.Gen.facts, Cert.GateRefIdeal.Gen.facts,
  Cert.Input.Gen.facts, Cert.InputIdeal.Gen.facts, Cert.InputRefIdeal.Gen.facts,
  Cert.InWeight.Gen.facts, Cert.InWeightIdeal.Gen.facts, Cert.InWeightRefIdeal.Gen.facts,
  Cert.DownWeight.Gen.facts, Cert.DownWeightIdeal.Gen.facts, Cert.DownWeightRefIdeal.Gen.facts,
  Cert.OutWeight.Gen.facts, Cert.OutWeightIdeal.Gen.facts, Cert.OutWeightRefIdeal.Gen.facts,
  Cert.OutInput.Gen.facts, Cert.OutInputIdeal.Gen.facts, Cert.OutInputRefIdeal.Gen.facts,
  Cert.MixInput.Gen.facts, Cert.MixInputIdeal.Gen.facts, Cert.MixInputRefIdeal.Gen.facts,
  Cert.ConvInput.Gen.facts, Cert.ConvInputIdeal.Gen.facts, Cert.ConvInputRefIdeal.Gen.facts,
  Cert.ConvWeight.Gen.facts, Cert.ConvWeightIdeal.Gen.facts, Cert.ConvWeightRefIdeal.Gen.facts,
  Cert.Act.Gen.facts, Cert.ActIdeal.Gen.facts, Cert.ActRefIdeal.Gen.facts,
  Cert.Down.Gen.facts, Cert.DownIdeal.Gen.facts, Cert.DownRefIdeal.Gen.facts,
  Cert.MixIn.Gen.facts, Cert.MixInIdeal.Gen.facts, Cert.MixInRefIdeal.Gen.facts,
  Cert.ConvIn.Gen.facts, Cert.ConvInIdeal.Gen.facts, Cert.ConvInRefIdeal.Gen.facts,
  Cert.MixOut.Gen.facts, Cert.MixOutIdeal.Gen.facts, Cert.MixOutRefIdeal.Gen.facts,
  Cert.NormBack.Gen.facts, Cert.NormBackIdeal.Gen.facts, Cert.NormBackRefIdeal.Gen.facts,
  Cert.NormIn.Gen.facts, Cert.NormInIdeal.Gen.facts, Cert.NormInRefIdeal.Gen.facts,
  Cert.SpatialBack.Gen.facts, Cert.SpatialBackIdeal.Gen.facts, Cert.SpatialBackRefIdeal.Gen.facts,
  Cert.Spatial.Gen.facts, Cert.SpatialIdeal.Gen.facts, Cert.SpatialRefIdeal.Gen.facts,
  Cert.ShortConv.Gen.facts, Cert.ShortConvIdeal.Gen.facts, Cert.ShortConvRefIdeal.Gen.facts,
  Cert.NormFirst.Gen.facts, Cert.NormFirstIdeal.Gen.facts, Cert.NormFirstRefIdeal.Gen.facts,
  Cert.Adam.Gen.facts, Cert.AdamIdeal.Gen.facts, Cert.AdamRefIdeal.Gen.facts,
  Cert.AdamOut.Gen.facts, Cert.AdamOutIdeal.Gen.facts, Cert.AdamOutRefIdeal.Gen.facts,
  Cert.AdamNorm.Gen.facts, Cert.AdamNormIdeal.Gen.facts, Cert.AdamNormRefIdeal.Gen.facts,
  GateClaims.preFacts,
  NormBackClaims.preFacts,
  SpatialBackClaims.preFacts,
  NormFirstClaims.preFacts,
  ConvClaims.frame_kernel, ConvClaims.frame_ideal, ConvClaims.frame_ref,
  GateClaims.frame_kernel, GateClaims.frame_ideal, GateClaims.frame_ideal_pre, GateClaims.frame_ref, GateClaims.frame_ref_pre,
  InputClaims.frame_kernel, InputClaims.frame_ideal, InputClaims.frame_ref,
  InWeightClaims.frame_kernel, InWeightClaims.frame_ideal, InWeightClaims.frame_ref,
  DownWeightClaims.frame_kernel, DownWeightClaims.frame_ideal, DownWeightClaims.frame_ref,
  OutWeightClaims.frame_kernel, OutWeightClaims.frame_ideal, OutWeightClaims.frame_ref,
  OutInputClaims.frame_kernel, OutInputClaims.frame_ideal, OutInputClaims.frame_ref,
  MixInputClaims.frame_kernel, MixInputClaims.frame_ideal, MixInputClaims.frame_ref,
  ConvInputClaims.frame_kernel, ConvInputClaims.frame_ideal, ConvInputClaims.frame_ref,
  ConvWeightClaims.frame_kernel, ConvWeightClaims.frame_ideal, ConvWeightClaims.frame_ref,
  ActClaims.frame_kernel, ActClaims.frame_ideal, ActClaims.frame_ref,
  DownClaims.frame_kernel, DownClaims.frame_ideal, DownClaims.frame_ref,
  MixInClaims.frame_kernel, MixInClaims.frame_ideal, MixInClaims.frame_ref,
  ConvInClaims.frame_kernel, ConvInClaims.frame_ideal, ConvInClaims.frame_ref,
  MixOutClaims.frame_kernel, MixOutClaims.frame_ideal, MixOutClaims.frame_ref,
  NormBackClaims.frame_kernel, NormBackClaims.frame_ideal, NormBackClaims.frame_ideal_pre, NormBackClaims.frame_ref, NormBackClaims.frame_ref_pre,
  NormInClaims.frame_kernel, NormInClaims.frame_ideal, NormInClaims.frame_ref,
  SpatialBackClaims.frame_kernel, SpatialBackClaims.frame_ideal, SpatialBackClaims.frame_ideal_pre, SpatialBackClaims.frame_ref, SpatialBackClaims.frame_ref_pre,
  SpatialClaims.frame_kernel, SpatialClaims.frame_ideal, SpatialClaims.frame_ref,
  ShortConvClaims.frame_kernel, ShortConvClaims.frame_ideal, ShortConvClaims.frame_ref,
  NormFirstClaims.frame_kernel, NormFirstClaims.frame_ideal, NormFirstClaims.frame_ideal_pre, NormFirstClaims.frame_ref, NormFirstClaims.frame_ref_pre,
  AdamClaims.frame_kernel, AdamClaims.frame_ideal, AdamClaims.frame_ref,
  AdamOutClaims.frame_kernel, AdamOutClaims.frame_ideal, AdamOutClaims.frame_ref,
  AdamNormClaims.frame_kernel, AdamNormClaims.frame_ideal, AdamNormClaims.frame_ref,
  trivial, ConvClaims.algebraic,
  trivial, GateClaims.algebraic,
  trivial, InputClaims.algebraic,
  trivial, InWeightClaims.algebraic,
  trivial, DownWeightClaims.algebraic,
  trivial, OutWeightClaims.algebraic,
  trivial, OutInputClaims.algebraic,
  trivial, MixInputClaims.algebraic,
  trivial, ConvInputClaims.algebraic,
  trivial, ConvWeightClaims.algebraic,
  trivial, ActClaims.algebraic,
  trivial, DownClaims.algebraic,
  trivial, MixInClaims.algebraic,
  trivial, ConvInClaims.algebraic,
  trivial, MixOutClaims.algebraic,
  trivial, NormBackClaims.algebraic,
  trivial, NormInClaims.algebraic,
  SpatialBackClaims.preserves, SpatialBackClaims.algebraic,
  trivial, SpatialClaims.algebraic,
  trivial, ShortConvClaims.algebraic,
  trivial, NormFirstClaims.algebraic,
  trivial, AdamClaims.algebraic,
  trivial, AdamOutClaims.algebraic,
  trivial, AdamNormClaims.algebraic⟩

end Cert.Proof

end
